-- ==== Defs.lean ====
def Pre_Kernel [hPre_lens_fit : Cert.Pre_lens_fit.Facts] (m : (ℓ : Loc Cert.Kernel.nD Cert.Kernel.τ Cert.Kernel.sig) → Buf (Elt Bits) ℓ) : Prop :=
  ∀ c : Dev Cert.Kernel.nD,
    (Cert.Pre_lens_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_lens_fit : Cert.Pre_lens_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lens_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_hits_fit [hPre_hits_fit : Cert.Pre_hits_fit.Facts] (m : (ℓ : Loc Cert.KernelIdeal.nD Cert.KernelIdeal.τ Cert.KernelIdeal.sig) → Buf (Elt Ideal) ℓ) : Prop :=
  ∀ c : Dev Cert.KernelIdeal.nD,
    (Cert.Pre_hits_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hits_fit [hPre_hits_fit : Cert.Pre_hits_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hits_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_lens_fit : Cert.Pre_lens_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_lens_fit : Cert.Pre_lens_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_hits_fit [hKernelIdeal : Cert.KernelIdeal.Facts] [hPre_hits_fit : Cert.Pre_hits_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hits_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_hits_fit [hReferenceIdeal : Cert.ReferenceIdeal.Facts] [hPre_hits_fit : Cert.Pre_hits_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hits_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_hits_fit [hKernelIdeal : Cert.KernelIdeal.Facts] [hReferenceIdeal : Cert.ReferenceIdeal.Facts] [hPre_hits_fit : Cert.Pre_hits_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hits_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lens_fit : Cert.Pre_lens_fit.Facts) (hPre_hits_fit : Cert.Pre_hits_fit.Facts),
    quiescent_Kernel (hKernel := hKernel) (hPre_lens_fit := hPre_lens_fit)
    ∧ quiescent_KernelIdeal (hKernelIdeal := hKernelIdeal) (hPre_lens_fit := hPre_lens_fit)
    ∧ quiescent_KernelIdeal_pre_hits_fit (hKernelIdeal := hKernelIdeal) (hPre_hits_fit := hPre_hits_fit)
    ∧ quiescent_ReferenceIdeal (hReferenceIdeal := hReferenceIdeal)
    ∧ quiescent_ReferenceIdeal_pre_hits_fit (hReferenceIdeal := hReferenceIdeal) (hPre_hits_fit := hPre_hits_fit)
    ∧ preserves_Kernel_KernelIdeal
    ∧ algebraic_KernelIdeal_ReferenceIdeal_pre_hits_fit (hKernelIdeal := hKernelIdeal) (hReferenceIdeal := hReferenceIdeal) (hPre_hits_fit := hPre_hits_fit)
-- ==== Pre_hits_fit.lean ====
abbrev S112x32x128 : Shape := ⟨3, ![112, 32, 128]⟩
abbrev S112x32x4 : Shape := ⟨3, ![112, 32, 4]⟩
abbrev S172032x128 : Shape := ⟨2, ![172032, 128]⟩
abbrev S172032x4 : Shape := ⟨2, ![172032, 4]⟩
abbrev S336 : Shape := ⟨1, ![336]⟩
abbrev S112x336x32 : Shape := ⟨3, ![112, 336, 32]⟩
abbrev S112x336 : Shape := ⟨2, ![112, 336]⟩
abbrev S_ : Shape := ⟨0, ![]⟩
abbrev S1x336x1 : Shape := ⟨3, ![1, 336, 1]⟩

class Facts : Prop where
  bcast_S_S112x336x32 : S_.BroadcastsInDim S112x336x32 (![] : Fin 0 → Fin S112x336x32.rank)
  bcast_S336_S1x336x1_1 : S336.BroadcastsInDim S1x336x1 (![1] : Fin 1 → Fin S1x336x1.rank)
  bcast_S1x336x1_S112x336x32_0_1_2 : S1x336x1.BroadcastsInDim S112x336x32 (![0, 1, 2] : Fin 3 → Fin S112x336x32.rank)
  bcast_S_S1x336x1 : S_.BroadcastsInDim S1x336x1 (![] : Fin 0 → Fin S1x336x1.rank)

variable [Facts]

def fn {F : FTy → Type} [FloatOps F] (main_arg0 : FVec F S112x32x128 .fp8e4m3) (main_arg1 : FVec F S112x32x4 .f32) (main_arg2 : FVec F S172032x128 .fp8e4m3) (main_arg3 : FVec F S172032x4 .f32) (main_arg4 : IVec S336 32) (main_arg5 : IVec S112x336x32 32) (main_arg6 : FVec F S112x336 .bf16) : IVec S112x336x32 1 :=
  let main_c : IVec S_ 32 := constantI S_ 32 0#32
  let main_v0 : IVec S112x336x32 32 := broadcastInDim S112x336x32 ![] bcast_S_S112x336x32 main_c
  let main_v1 : IVec S112x336x32 1 := cmpi .sge main_arg5 main_v0
  let main_v2 : IVec S1x336x1 32 := broadcastInDim S1x336x1 ![1] bcast_S336_S1x336x1_1 main_arg4
  let main_v3 : IVec S112x336x32 32 := broadcastInDim S112x336x32 ![0, 1, 2] bcast_S1x336x1_S112x336x32_0_1_2 main_v2
  let main_v4 : IVec S112x336x32 1 := cmpi .slt main_arg5 main_v3
  let main_v5 : IVec S112x336x32 1 := andi main_v1 main_v4
  let main_v6 : IVec S1x336x1 32 := broadcastInDim S1x336x1 ![1] bcast_S336_S1x336x1_1 main_arg4
  let main_c_0 : IVec S_ 32 := constantI S_ 32 512#32
  let main_v7 : IVec S1x336x1 32 := broadcastInDim S1x336x1 ![] bcast_S_S1x336x1 main_c_0
  let main_v8 : IVec S1x336x1 1 := cmpi .sle main_v6 main_v7
  let main_v9 : IVec S112x336x32 1 := broadcastInDim S112x336x32 ![0, 1, 2] bcast_S1x336x1_S112x336x32_0_1_2 main_v8
  let main_v10 : IVec S112x336x32 1 := andi main_v5 main_v9
  main_v10
-- ==== Pre_lens_fit.lean ====
abbrev S112x32x128 : Shape := ⟨3, ![112, 32, 128]⟩
abbrev S112x32x4 : Shape := ⟨3, ![112, 32, 4]⟩
abbrev S172032x128 : Shape := ⟨2, ![172032, 128]⟩
abbrev S172032x4 : Shape := ⟨2, ![172032, 4]⟩
abbrev S336 : Shape := ⟨1, ![336]⟩
abbrev S112x336x32 : Shape := ⟨3, ![112, 336, 32]⟩
abbrev S112x336 : Shape := ⟨2, ![112, 336]⟩
abbrev S_ : Shape := ⟨0, ![]⟩

class Facts : Prop where
  bcast_S_S336 : S_.BroadcastsInDim S336 (![] : Fin 0 → Fin S336.rank)

variable [Facts]

def fn {F : FTy → Type} [FloatOps F] (main_arg0 : FVec F S112x32x128 .fp8e4m3) (main_arg1 : FVec F S112x32x4 .f32) (main_arg2 : FVec F S172032x128 .fp8e4m3) (main_arg3 : FVec F S172032x4 .f32) (main_arg4 : IVec S336 32) (main_arg5 : IVec S112x336x32 32) (main_arg6 : FVec F S112x336 .bf16) : IVec S336 1 :=
  let main_c : IVec S_ 32 := constantI S_ 32 0#32
  let main_v0 : IVec S336 32 := broadcastInDim S336 ![] bcast_S_S336 main_c
  let main_v1 : IVec S336 1 := cmpi .sge main_arg4 main_v0
  let main_c_0 : IVec S_ 32 := constantI S_ 32 512#32
  let main_v2 : IVec S336 32 := broadcastInDim S336 ![] bcast_S_S336 main_c_0
  let main_v3 : IVec S336 1 := cmpi .sle main_arg4 main_v2
  let main_v4 : IVec S336 1 := andi main_v1 main_v3
  main_v4
-- ==== Kernel.lean ====
abbrev S112x32x128 : Shape := ⟨3, ![112, 32, 128]⟩
abbrev S112x32x4 : Shape := ⟨3, ![112, 32, 4]⟩
abbrev S172032x128 : Shape := ⟨2, ![172032, 128]⟩
abbrev S172032x4 : Shape := ⟨2, ![172032, 4]⟩
abbrev S336 : Shape := ⟨1, ![336]⟩
abbrev S112x336x32 : Shape := ⟨3, ![112, 336, 32]⟩
abbrev S112x336 : Shape := ⟨2, ![112, 336]⟩
abbrev S_ : Shape := ⟨0, ![]⟩
abbrev S1 : Shape := ⟨1, ![1]⟩
abbrev S337 : Shape := ⟨1, ![337]⟩
abbrev S336x112x32 : Shape := ⟨3, ![336, 112, 32]⟩
abbrev S336x28x128 : Shape := ⟨3, ![336, 28, 128]⟩
abbrev S336x112 : Shape := ⟨2, ![336, 112]⟩
abbrev S336x112x1 : Shape := ⟨3, ![336, 112, 1]⟩
abbrev S3584x128 : Shape := ⟨2, ![3584, 128]⟩
abbrev S3584x4x1 : Shape := ⟨3, ![3584, 4, 1]⟩
abbrev S3584x4x32 : Shape := ⟨3, ![3584, 4, 32]⟩
abbrev S4x172032 : Shape := ⟨2, ![4, 172032]⟩
abbrev S1x28x128 : Shape := ⟨3, ![1, 28, 128]⟩
abbrev S2x640x128 : Shape := ⟨3, ![2, 640, 128]⟩
abbrev S2x4x640 : Shape := ⟨3, ![2, 4, 640]⟩
abbrev S640x3584 : Shape := ⟨2, ![640, 3584]⟩
abbrev S128x3584 : Shape := ⟨2, ![128, 3584]⟩
abbrev S640x128 : Shape := ⟨2, ![640, 128]⟩
abbrev S128x128 : Shape := ⟨2, ![128, 128]⟩
abbrev S2 : Shape := ⟨1, ![2]⟩
abbrev S1x128x128 : Shape := ⟨3, ![1, 128, 128]⟩
abbrev S1x4x128 : Shape := ⟨3, ![1, 4, 128]⟩
abbrev S4x128 : Shape := ⟨2, ![4, 128]⟩
abbrev S28x128 : Shape := ⟨2, ![28, 128]⟩
abbrev S1x128 : Shape := ⟨2, ![1, 128]⟩
abbrev S1x640x128 : Shape := ⟨3, ![1, 640, 128]⟩
abbrev S128x640 : Shape := ⟨2, ![128, 640]⟩
abbrev S1x4x640 : Shape := ⟨3, ![1, 4, 640]⟩
abbrev S4x640 : Shape := ⟨2, ![4, 640]⟩
abbrev S1x640 : Shape := ⟨2, ![1, 640]⟩
abbrev S32x640 : Shape := ⟨2, ![32, 640]⟩

abbrev nBuf : Space → Nat
  | .hbm => 26
  | .vmem => 14
  | .smem => 1
  | _ => 0

abbrev bufTy : (tb : Table) → Fin (tcTables nBuf tb) → BufTy
  | .hbm, ⟨0, _⟩ => ⟨S112x32x128, .fp8e4m3⟩
  | .hbm, ⟨1, _⟩ => ⟨S112x32x4, .f32⟩
  | .hbm, ⟨2, _⟩ => ⟨S172032x128, .fp8e4m3⟩
  | .hbm, ⟨3, _⟩ => ⟨S172032x4, .f32⟩
  | .hbm, ⟨4, _⟩ => ⟨S336, .i32⟩
  | .hbm, ⟨5, _⟩ => ⟨S112x336x32, .i32⟩
  | .hbm, ⟨6, _⟩ => ⟨S112x336, .bf16⟩
  | .hbm, ⟨7, _⟩ => ⟨S_, .i32⟩
  | .hbm, ⟨8, _⟩ => ⟨S_, .i32⟩
  | .hbm, ⟨9, _⟩ => ⟨S336, .i32⟩
  | .hbm, ⟨10, _⟩ => ⟨S_, .i32⟩
  | .hbm, ⟨11, _⟩ => ⟨S1, .i32⟩
  | .hbm, ⟨12, _⟩ => ⟨S336x112x32, .i32⟩
  | .hbm, ⟨13, _⟩ => ⟨S336x28x128, .i32⟩
  | .hbm, ⟨14, _⟩ => ⟨S112x336, .f32⟩
  | .hbm, ⟨15, _⟩ => ⟨S336x112, .f32⟩
  | .hbm, ⟨16, _⟩ => ⟨S336x112x1, .f32⟩
  | .hbm, ⟨17, _⟩ => ⟨S336x112x32, .f32⟩
  | .hbm, ⟨18, _⟩ => ⟨S336x28x128, .f32⟩
  | .hbm, ⟨19, _⟩ => ⟨S3584x128, .fp8e4m3⟩
  | .hbm, ⟨20, _⟩ => ⟨S3584x4x1, .f32⟩
  | .hbm, ⟨21, _⟩ => ⟨S3584x4x32, .f32⟩
  | .hbm, ⟨22, _⟩ => ⟨S3584x128, .f32⟩
  | .hbm, ⟨23, _⟩ => ⟨S4x172032, .f32⟩
  | .hbm, ⟨24, _⟩ => ⟨S3584x128, .bf16⟩
  | .hbm, ⟨25, _⟩ => ⟨S172032x128, .bf16⟩
  | .local _ .vmem, ⟨0, _⟩ => ⟨S1x28x128, .i32⟩
  | .local _ .vmem, ⟨1, _⟩ => ⟨S1x28x128, .i32⟩
  | .local _ .vmem, ⟨2, _⟩ => ⟨S1x28x128, .f32⟩
  | .local _ .vmem, ⟨3, _⟩ => ⟨S1x28x128, .f32⟩
  | .local _ .vmem, ⟨4, _⟩ => ⟨S3584x128, .fp8e4m3⟩
  | .local _ .vmem, ⟨5, _⟩ => ⟨S3584x128, .f32⟩
  | .local _ .vmem, ⟨6, _⟩ => ⟨S3584x128, .bf16⟩
  | .local _ .vmem, ⟨7, _⟩ => ⟨S2x640x128, .fp8e4m3⟩
  | .local _ .vmem, ⟨8, _⟩ => ⟨S2x4x640, .f32⟩
  | .local _ .vmem, ⟨9, _⟩ => ⟨S640x3584, .bf16⟩
  | .local _ .vmem, ⟨10, _⟩ => ⟨S128x3584, .f32⟩
  | .local _ .vmem, ⟨11, _⟩ => ⟨S640x128, .bf16⟩
  | .local _ .vmem, ⟨12, _⟩ => ⟨S128x128, .bf16⟩
  | .local _ .vmem, ⟨13, _⟩ => ⟨S128x128, .bf16⟩
  | .local _ .smem, ⟨0, _⟩ => ⟨S337, .i32⟩
  | _, _ => ⟨S112x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![336], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_6 : BitVec 32 := 0#32
  let v20 : BitVec 1 := Scalar.cmpi .eq arg0 c0_i32_6
  let v21 : BitVec 32 := Scalar.extui v20
  let c0_i32_7 : BitVec 32 := 0#32
  let v22 : BitVec 1 := Scalar.cmpi .ne v21 c0_i32_7
  v22

def k0_mult1 (v676 : BitVec 32) : BitVec 32 :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c0_i32_239 : BitVec 32 := 0#32
  let v694 : BitVec 32 := Scalar.addi v693 c0_i32_239
  let c128_i32_240 : BitVec 32 := 128#32
  let v695 : BitVec 32 := Scalar.muli v694 c128_i32_240
  v695
def k0_cond2 (v612 : BitVec 32) (v630 : BitVec 32) : BitVec 1 :=
  let c0_i32_197 : BitVec 32 := 0#32
  let v614 : BitVec 1 := Scalar.cmpi .sgt v612 c0_i32_197
  let v615 : BitVec 32 := Scalar.extui v614
  let c0_i32_198 : BitVec 32 := 0#32
  let v616 : BitVec 1 := Scalar.cmpi .slt v612 c0_i32_198
  let v617 : BitVec 32 := Scalar.extui v616
  let v618 : BitVec 32 := Scalar.subi v615 v617
  let c128_i32_196 : BitVec 32 := 128#32
  let c0_i32_199 : BitVec 32 := 0#32
  let v619 : BitVec 1 := Scalar.cmpi .sgt c128_i32_196 c0_i32_199
  let v620 : BitVec 32 := Scalar.extui v619
  let c0_i32_200 : BitVec 32 := 0#32
  let v621 : BitVec 1 := Scalar.cmpi .slt c128_i32_196 c0_i32_200
  let v622 : BitVec 32 := Scalar.extui v621
  let v623 : BitVec 32 := Scalar.subi v620 v622
  let v624 : BitVec 1 := Scalar.cmpi .ne v618 v623
  let v625 : BitVec 32 := Scalar.remsi v612 c128_i32_196
  let c0_i32_201 : BitVec 32 := 0#32
  let v626 : BitVec 1 := Scalar.cmpi .ne v625 c0_i32_201
  let v627 : BitVec 1 := Scalar.andi v624 v626
  let v613 : BitVec 32 := Scalar.divsi v612 c128_i32_196
  let c1_i32_202 : BitVec 32 := 1#32
  let v628 : BitVec 32 := Scalar.subi v613 c1_i32_202
  let v629 : BitVec 32 := Scalar.select v627 v628 v613
  let c128_i32_203 : BitVec 32 := 128#32
  let v631 : BitVec 32 := Scalar.muli v629 c128_i32_203
  let v632 : BitVec 32 := Scalar.subi v630 v631
  let c128_i32_204 : BitVec 32 := 128#32
  let v633 : BitVec 32 := Scalar.addi v632 c128_i32_204
  let c1_i32_205 : BitVec 32 := 1#32
  let v634 : BitVec 32 := Scalar.subi v633 c1_i32_205
  let c0_i32_207 : BitVec 32 := 0#32
  let v636 : BitVec 1 := Scalar.cmpi .sgt v634 c0_i32_207
  let v637 : BitVec 32 := Scalar.extui v636
  let c0_i32_208 : BitVec 32 := 0#32
  let v638 : BitVec 1 := Scalar.cmpi .slt v634 c0_i32_208
  let v639 : BitVec 32 := Scalar.extui v638
  let v640 : BitVec 32 := Scalar.subi v637 v639
  let c128_i32_206 : BitVec 32 := 128#32
  let c0_i32_209 : BitVec 32 := 0#32
  let v641 : BitVec 1 := Scalar.cmpi .sgt c128_i32_206 c0_i32_209
  let v642 : BitVec 32 := Scalar.extui v641
  let c0_i32_210 : BitVec 32 := 0#32
  let v643 : BitVec 1 := Scalar.cmpi .slt c128_i32_206 c0_i32_210
  let v644 : BitVec 32 := Scalar.extui v643
  let v645 : BitVec 32 := Scalar.subi v642 v644
  let v646 : BitVec 1 := Scalar.cmpi .ne v640 v645
  let v647 : BitVec 32 := Scalar.remsi v634 c128_i32_206
  let c0_i32_211 : BitVec 32 := 0#32
  let v648 : BitVec 1 := Scalar.cmpi .ne v647 c0_i32_211
  let v649 : BitVec 1 := Scalar.andi v646 v648
  let v635 : BitVec 32 := Scalar.divsi v634 c128_i32_206
  let c1_i32_212 : BitVec 32 := 1#32
  let v650 : BitVec 32 := Scalar.subi v635 c1_i32_212
  let v651 : BitVec 32 := Scalar.select v649 v650 v635
  let c0_i32_213 : BitVec 32 := 0#32
  let v652 : BitVec 1 := Scalar.cmpi .sgt v651 c0_i32_213
  let v653 : BitVec 32 := Scalar.extui v652
  let c0_i32_214 : BitVec 32 := 0#32
  let v654 : BitVec 1 := Scalar.cmpi .ne v653 c0_i32_214
  v654

def k0_off1 (v676 : BitVec 32) : Fin 2 → Nat :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c0_i32_239 : BitVec 32 := 0#32
  let v694 : BitVec 32 := Scalar.addi v693 c0_i32_239
  let c128_i32_240 : BitVec 32 := 128#32
  let v695 : BitVec 32 := Scalar.muli v694 c128_i32_240
  let v696 : BitVec 32 := v695
  let c0_i32_245 : BitVec 32 := 0#32
  ![v696.toNat, 0]
def k0_off2 (v676 : BitVec 32) : Fin 2 → Nat :=
  let c0_i32_250 : BitVec 32 := 0#32
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c0_i32_239 : BitVec 32 := 0#32
  let v694 : BitVec 32 := Scalar.addi v693 c0_i32_239
  let c128_i32_240 : BitVec 32 := 128#32
  let v695 : BitVec 32 := Scalar.muli v694 c128_i32_240
  let v696 : BitVec 32 := v695
  ![0, v696.toNat]

def k0_chk1 (i : grid0.Coords) (v612 : BitVec 32) (v630 : BitVec 32) (v676 : BitVec 32) : Prop :=
  (∀ (k0_h1 : k0_cond1 i = 1#1), ∀ (k0_h2 : k0_cond2 v612 v630 = 1#1), 128 ∣ (k0_mult1 v676).toNat) ∧
  (∀ (k0_h1 : k0_cond1 i = 1#1), ∀ (k0_h2 : k0_cond2 v612 v630 = 1#1), ∀ a, (k0_off1 v676) a + S128x128.size a ≤ S172032x128.size a) ∧
  (∀ (k0_h1 : k0_cond1 i = 1#1), ∀ (k0_h2 : k0_cond2 v612 v630 = 1#1), ∀ (hinb : ∀ a, (k0_off1 v676) a + S128x128.size a ≤ S172032x128.size a), (Rect.unit (s := S172032x128) (k0_off1 v676) S128x128.size hinb).WholeWords (EltTy.packing .fp8e4m3)) ∧
  (∀ (k0_h1 : k0_cond1 i = 1#1), ∀ (k0_h2 : k0_cond2 v612 v630 = 1#1), ∀ a, (k0_off2 v676) a + S4x128.size a ≤ S4x172032.size a)
theorem k0_mult1_dvd : ∀ (i : grid0.Coords) (v612 : BitVec 32) (v630 : BitVec 32) (v676 : BitVec 32) (k0_hw1 : k0_chk1 i v612 v630 v676), ∀ (k0_h1 : k0_cond1 i = 1#1), ∀ (k0_h2 : k0_cond2 v612 v630 = 1#1), 128 ∣ (k0_mult1 v676).toNat := fun i v612 v630 v676 k0_hw1 k0_h1 k0_h2 => k0_hw1.1 k0_h1 k0_h2
theorem k0_off1_inb : ∀ (i : grid0.Coords) (v612 : BitVec 32) (v630 : BitVec 32) (v676 : BitVec 32) (k0_hw1 : k0_chk1 i v612 v630 v676), ∀ (k0_h1 : k0_cond1 i = 1#1), ∀ (k0_h2 : k0_cond2 v612 v630 = 1#1), ∀ a, (k0_off1 v676) a + S128x128.size a ≤ S172032x128.size a := fun i v612 v630 v676 k0_hw1 k0_h1 k0_h2 => k0_hw1.2.1 k0_h1 k0_h2
theorem k0_off1_wordsfp8e4m3 : ∀ (i : grid0.Coords) (v612 : BitVec 32) (v630 : BitVec 32) (v676 : BitVec 32) (k0_hw1 : k0_chk1 i v612 v630 v676), ∀ (k0_h1 : k0_cond1 i = 1#1), ∀ (k0_h2 : k0_cond2 v612 v630 = 1#1), (Rect.unit (s := S172032x128) (k0_off1 v676) S128x128.size (k0_off1_inb i v612 v630 v676 k0_hw1 k0_h1 k0_h2)).WholeWords (EltTy.packing .fp8e4m3) := fun i v612 v630 v676 k0_hw1 k0_h1 k0_h2 => k0_hw1.2.2.1 k0_h1 k0_h2 (k0_off1_inb i v612 v630 v676 k0_hw1 k0_h1 k0_h2)
theorem k0_off2_inb : ∀ (i : grid0.Coords) (v612 : BitVec 32) (v630 : BitVec 32) (v676 : BitVec 32) (k0_hw1 : k0_chk1 i v612 v630 v676), ∀ (k0_h1 : k0_cond1 i = 1#1), ∀ (k0_h2 : k0_cond2 v612 v630 = 1#1), ∀ a, (k0_off2 v676) a + S4x128.size a ≤ S4x172032.size a := fun i v612 v630 v676 k0_hw1 k0_h1 k0_h2 => k0_hw1.2.2.2 k0_h1 k0_h2

def k0_mult2 (v676 : BitVec 32) : BitVec 32 :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c1_i32_239 : BitVec 32 := 1#32
  let v694 : BitVec 32 := Scalar.addi v693 c1_i32_239
  let c128_i32_240 : BitVec 32 := 128#32
  let v695 : BitVec 32 := Scalar.muli v694 c128_i32_240
  v695
def k0_cond3 (v612 : BitVec 32) (v630 : BitVec 32) : BitVec 1 :=
  let c0_i32_197 : BitVec 32 := 0#32
  let v614 : BitVec 1 := Scalar.cmpi .sgt v612 c0_i32_197
  let v615 : BitVec 32 := Scalar.extui v614
  let c0_i32_198 : BitVec 32 := 0#32
  let v616 : BitVec 1 := Scalar.cmpi .slt v612 c0_i32_198
  let v617 : BitVec 32 := Scalar.extui v616
  let v618 : BitVec 32 := Scalar.subi v615 v617
  let c128_i32_196 : BitVec 32 := 128#32
  let c0_i32_199 : BitVec 32 := 0#32
  let v619 : BitVec 1 := Scalar.cmpi .sgt c128_i32_196 c0_i32_199
  let v620 : BitVec 32 := Scalar.extui v619
  let c0_i32_200 : BitVec 32 := 0#32
  let v621 : BitVec 1 := Scalar.cmpi .slt c128_i32_196 c0_i32_200
  let v622 : BitVec 32 := Scalar.extui v621
  let v623 : BitVec 32 := Scalar.subi v620 v622
  let v624 : BitVec 1 := Scalar.cmpi .ne v618 v623
  let v625 : BitVec 32 := Scalar.remsi v612 c128_i32_196
  let c0_i32_201 : BitVec 32 := 0#32
  let v626 : BitVec 1 := Scalar.cmpi .ne v625 c0_i32_201
  let v627 : BitVec 1 := Scalar.andi v624 v626
  let v613 : BitVec 32 := Scalar.divsi v612 c128_i32_196
  let c1_i32_202 : BitVec 32 := 1#32
  let v628 : BitVec 32 := Scalar.subi v613 c1_i32_202
  let v629 : BitVec 32 := Scalar.select v627 v628 v613
  let c128_i32_203 : BitVec 32 := 128#32
  let v631 : BitVec 32 := Scalar.muli v629 c128_i32_203
  let v632 : BitVec 32 := Scalar.subi v630 v631
  let c128_i32_204 : BitVec 32 := 128#32
  let v633 : BitVec 32 := Scalar.addi v632 c128_i32_204
  let c1_i32_205 : BitVec 32 := 1#32
  let v634 : BitVec 32 := Scalar.subi v633 c1_i32_205
  let c0_i32_207 : BitVec 32 := 0#32
  let v636 : BitVec 1 := Scalar.cmpi .sgt v634 c0_i32_207
  let v637 : BitVec 32 := Scalar.extui v636
  let c0_i32_208 : BitVec 32 := 0#32
  let v638 : BitVec 1 := Scalar.cmpi .slt v634 c0_i32_208
  let v639 : BitVec 32 := Scalar.extui v638
  let v640 : BitVec 32 := Scalar.subi v637 v639
  let c128_i32_206 : BitVec 32 := 128#32
  let c0_i32_209 : BitVec 32 := 0#32
  let v641 : BitVec 1 := Scalar.cmpi .sgt c128_i32_206 c0_i32_209
  let v642 : BitVec 32 := Scalar.extui v641
  let c0_i32_210 : BitVec 32 := 0#32
  let v643 : BitVec 1 := Scalar.cmpi .slt c128_i32_206 c0_i32_210
  let v644 : BitVec 32 := Scalar.extui v643
  let v645 : BitVec 32 := Scalar.subi v642 v644
  let v646 : BitVec 1 := Scalar.cmpi .ne v640 v645
  let v647 : BitVec 32 := Scalar.remsi v634 c128_i32_206
  let c0_i32_211 : BitVec 32 := 0#32
  let v648 : BitVec 1 := Scalar.cmpi .ne v647 c0_i32_211
  let v649 : BitVec 1 := Scalar.andi v646 v648
  let v635 : BitVec 32 := Scalar.divsi v634 c128_i32_206
  let c1_i32_212 : BitVec 32 := 1#32
  let v650 : BitVec 32 := Scalar.subi v635 c1_i32_212
  let v651 : BitVec 32 := Scalar.select v649 v650 v635
  let c1_i32_215 : BitVec 32 := 1#32
  let v655 : BitVec 1 := Scalar.cmpi .sgt v651 c1_i32_215
  let v656 : BitVec 32 := Scalar.extui v655
  let c0_i32_216 : BitVec 32 := 0#32
  let v657 : BitVec 1 := Scalar.cmpi .ne v656 c0_i32_216
  v657

def k0_off3 (v676 : BitVec 32) : Fin 2 → Nat :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c1_i32_239 : BitVec 32 := 1#32
  let v694 : BitVec 32 := Scalar.addi v693 c1_i32_239
  let c128_i32_240 : BitVec 32 := 128#32
  let v695 : BitVec 32 := Scalar.muli v694 c128_i32_240
  let v696 : BitVec 32 := v695
  let c0_i32_245 : BitVec 32 := 0#32
  ![v696.toNat, 0]
def k0_off4 (v676 : BitVec 32) : Fin 2 → Nat :=
  let c0_i32_250 : BitVec 32 := 0#32
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c1_i32_239 : BitVec 32 := 1#32
  let v694 : BitVec 32 := Scalar.addi v693 c1_i32_239
  let c128_i32_240 : BitVec 32 := 128#32
  let v695 : BitVec 32 := Scalar.muli v694 c128_i32_240
  let v696 : BitVec 32 := v695
  ![0, v696.toNat]

def k0_chk2 (i : grid0.Coords) (v612 : BitVec 32) (v630 : BitVec 32) (v676 : BitVec 32) : Prop :=
  (∀ (k0_h1 : k0_cond1 i = 1#1), ∀ (k0_h3 : k0_cond3 v612 v630 = 1#1), 128 ∣ (k0_mult2 v676).toNat) ∧
  (∀ (k0_h1 : k0_cond1 i = 1#1), ∀ (k0_h3 : k0_cond3 v612 v630 = 1#1), ∀ a, (k0_off3 v676) a + S128x128.size a ≤ S172032x128.size a) ∧
  (∀ (k0_h1 : k0_cond1 i = 1#1), ∀ (k0_h3 : k0_cond3 v612 v630 = 1#1), ∀ (hinb : ∀ a, (k0_off3 v676) a + S128x128.size a ≤ S172032x128.size a), (Rect.unit (s := S172032x128) (k0_off3 v676) S128x128.size hinb).WholeWords (EltTy.packing .fp8e4m3)) ∧
  (∀ (k0_h1 : k0_cond1 i = 1#1), ∀ (k0_h3 : k0_cond3 v612 v630 = 1#1), ∀ a, (k0_off4 v676) a + S4x128.size a ≤ S4x172032.size a)
theorem k0_mult2_dvd : ∀ (i : grid0.Coords) (v612 : BitVec 32) (v630 : BitVec 32) (v676 : BitVec 32) (k0_hw2 : k0_chk2 i v612 v630 v676), ∀ (k0_h1 : k0_cond1 i = 1#1), ∀ (k0_h3 : k0_cond3 v612 v630 = 1#1), 128 ∣ (k0_mult2 v676).toNat := fun i v612 v630 v676 k0_hw2 k0_h1 k0_h3 => k0_hw2.1 k0_h1 k0_h3
theorem k0_off3_inb : ∀ (i : grid0.Coords) (v612 : BitVec 32) (v630 : BitVec 32) (v676 : BitVec 32) (k0_hw2 : k0_chk2 i v612 v630 v676), ∀ (k0_h1 : k0_cond1 i = 1#1), ∀ (k0_h3 : k0_cond3 v612 v630 = 1#1), ∀ a, (k0_off3 v676) a + S128x128.size a ≤ S172032x128.size a := fun i v612 v630 v676 k0_hw2 k0_h1 k0_h3 => k0_hw2.2.1 k0_h1 k0_h3
theorem k0_off3_wordsfp8e4m3 : ∀ (i : grid0.Coords) (v612 : BitVec 32) (v630 : BitVec 32) (v676 : BitVec 32) (k0_hw2 : k0_chk2 i v612 v630 v676), ∀ (k0_h1 : k0_cond1 i = 1#1), ∀ (k0_h3 : k0_cond3 v612 v630 = 1#1), (Rect.unit (s := S172032x128) (k0_off3 v676) S128x128.size (k0_off3_inb i v612 v630 v676 k0_hw2 k0_h1 k0_h3)).WholeWords (EltTy.packing .fp8e4m3) := fun i v612 v630 v676 k0_hw2 k0_h1 k0_h3 => k0_hw2.2.2.1 k0_h1 k0_h3 (k0_off3_inb i v612 v630 v676 k0_hw2 k0_h1 k0_h3)
theorem k0_off4_inb : ∀ (i : grid0.Coords) (v612 : BitVec 32) (v630 : BitVec 32) (v676 : BitVec 32) (k0_hw2 : k0_chk2 i v612 v630 v676), ∀ (k0_h1 : k0_cond1 i = 1#1), ∀ (k0_h3 : k0_cond3 v612 v630 = 1#1), ∀ a, (k0_off4 v676) a + S4x128.size a ≤ S4x172032.size a := fun i v612 v630 v676 k0_hw2 k0_h1 k0_h3 => k0_hw2.2.2.2 k0_h1 k0_h3

def k0_mult3 (v676 : BitVec 32) : BitVec 32 :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c2_i32_239 : BitVec 32 := 2#32
  let v694 : BitVec 32 := Scalar.addi v693 c2_i32_239
  let c128_i32_240 : BitVec 32 := 128#32
  let v695 : BitVec 32 := Scalar.muli v694 c128_i32_240
  v695
def k0_cond4 (v612 : BitVec 32) (v630 : BitVec 32) : BitVec 1 :=
  let c0_i32_197 : BitVec 32 := 0#32
  let v614 : BitVec 1 := Scalar.cmpi .sgt v612 c0_i32_197
  let v615 : BitVec 32 := Scalar.extui v614
  let c0_i32_198 : BitVec 32 := 0#32
  let v616 : BitVec 1 := Scalar.cmpi .slt v612 c0_i32_198
  let v617 : BitVec 32 := Scalar.extui v616
  let v618 : BitVec 32 := Scalar.subi v615 v617
  let c128_i32_196 : BitVec 32 := 128#32
  let c0_i32_199 : BitVec 32 := 0#32
  let v619 : BitVec 1 := Scalar.cmpi .sgt c128_i32_196 c0_i32_199
  let v620 : BitVec 32 := Scalar.extui v619
  let c0_i32_200 : BitVec 32 := 0#32
  let v621 : BitVec 1 := Scalar.cmpi .slt c128_i32_196 c0_i32_200
  let v622 : BitVec 32 := Scalar.extui v621
  let v623 : BitVec 32 := Scalar.subi v620 v622
  let v624 : BitVec 1 := Scalar.cmpi .ne v618 v623
  let v625 : BitVec 32 := Scalar.remsi v612 c128_i32_196
  let c0_i32_201 : BitVec 32 := 0#32
  let v626 : BitVec 1 := Scalar.cmpi .ne v625 c0_i32_201
  let v627 : BitVec 1 := Scalar.andi v624 v626
  let v613 : BitVec 32 := Scalar.divsi v612 c128_i32_196
  let c1_i32_202 : BitVec 32 := 1#32
  let v628 : BitVec 32 := Scalar.subi v613 c1_i32_202
  let v629 : BitVec 32 := Scalar.select v627 v628 v613
  let c128_i32_203 : BitVec 32 := 128#32
  let v631 : BitVec 32 := Scalar.muli v629 c128_i32_203
  let v632 : BitVec 32 := Scalar.subi v630 v631
  let c128_i32_204 : BitVec 32 := 128#32
  let v633 : BitVec 32 := Scalar.addi v632 c128_i32_204
  let c1_i32_205 : BitVec 32 := 1#32
  let v634 : BitVec 32 := Scalar.subi v633 c1_i32_205
  let c0_i32_207 : BitVec 32 := 0#32
  let v636 : BitVec 1 := Scalar.cmpi .sgt v634 c0_i32_207
  let v637 : BitVec 32 := Scalar.extui v636
  let c0_i32_208 : BitVec 32 := 0#32
  let v638 : BitVec 1 := Scalar.cmpi .slt v634 c0_i32_208
  let v639 : BitVec 32 := Scalar.extui v638
  let v640 : BitVec 32 := Scalar.subi v637 v639
  let c128_i32_206 : BitVec 32 := 128#32
  let c0_i32_209 : BitVec 32 := 0#32
  let v641 : BitVec 1 := Scalar.cmpi .sgt c128_i32_206 c0_i32_209
  let v642 : BitVec 32 := Scalar.extui v641
  let c0_i32_210 : BitVec 32 := 0#32
  let v643 : BitVec 1 := Scalar.cmpi .slt c128_i32_206 c0_i32_210
  let v644 : BitVec 32 := Scalar.extui v643
  let v645 : BitVec 32 := Scalar.subi v642 v644
  let v646 : BitVec 1 := Scalar.cmpi .ne v640 v645
  let v647 : BitVec 32 := Scalar.remsi v634 c128_i32_206
  let c0_i32_211 : BitVec 32 := 0#32
  let v648 : BitVec 1 := Scalar.cmpi .ne v647 c0_i32_211
  let v649 : BitVec 1 := Scalar.andi v646 v648
  let v635 : BitVec 32 := Scalar.divsi v634 c128_i32_206
  let c1_i32_212 : BitVec 32 := 1#32
  let v650 : BitVec 32 := Scalar.subi v635 c1_i32_212
  let v651 : BitVec 32 := Scalar.select v649 v650 v635
  let c2_i32_217 : BitVec 32 := 2#32
  let v658 : BitVec 1 := Scalar.cmpi .sgt v651 c2_i32_217
  let v659 : BitVec 32 := Scalar.extui v658
  let c0_i32_218 : BitVec 32 := 0#32
  let v660 : BitVec 1 := Scalar.cmpi .ne v659 c0_i32_218
  v660

def k0_off5 (v676 : BitVec 32) : Fin 2 → Nat :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c2_i32_239 : BitVec 32 := 2#32
  let v694 : BitVec 32 := Scalar.addi v693 c2_i32_239
  let c128_i32_240 : BitVec 32 := 128#32
  let v695 : BitVec 32 := Scalar.muli v694 c128_i32_240
  let v696 : BitVec 32 := v695
  let c0_i32_244 : BitVec 32 := 0#32
  ![v696.toNat, 0]
def k0_off6 (v676 : BitVec 32) : Fin 2 → Nat :=
  let c0_i32_249 : BitVec 32 := 0#32
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c2_i32_239 : BitVec 32 := 2#32
  let v694 : BitVec 32 := Scalar.addi v693 c2_i32_239
  let c128_i32_240 : BitVec 32 := 128#32
  let v695 : BitVec 32 := Scalar.muli v694 c128_i32_240
  let v696 : BitVec 32 := v695
  ![0, v696.toNat]

def k0_chk3 (i : grid0.Coords) (v612 : BitVec 32) (v630 : BitVec 32) (v676 : BitVec 32) : Prop :=
  (∀ (k0_h1 : k0_cond1 i = 1#1), ∀ (k0_h4 : k0_cond4 v612 v630 = 1#1), 128 ∣ (k0_mult3 v676).toNat) ∧
  (∀ (k0_h1 : k0_cond1 i = 1#1), ∀ (k0_h4 : k0_cond4 v612 v630 = 1#1), ∀ a, (k0_off5 v676) a + S128x128.size a ≤ S172032x128.size a) ∧
  (∀ (k0_h1 : k0_cond1 i = 1#1), ∀ (k0_h4 : k0_cond4 v612 v630 = 1#1), ∀ (hinb : ∀ a, (k0_off5 v676) a + S128x128.size a ≤ S172032x128.size a), (Rect.unit (s := S172032x128) (k0_off5 v676) S128x128.size hinb).WholeWords (EltTy.packing .fp8e4m3)) ∧
  (∀ (k0_h1 : k0_cond1 i = 1#1), ∀ (k0_h4 : k0_cond4 v612 v630 = 1#1), ∀ a, (k0_off6 v676) a + S4x128.size a ≤ S4x172032.size a)
theorem k0_mult3_dvd : ∀ (i : grid0.Coords) (v612 : BitVec 32) (v630 : BitVec 32) (v676 : BitVec 32) (k0_hw3 : k0_chk3 i v612 v630 v676), ∀ (k0_h1 : k0_cond1 i = 1#1), ∀ (k0_h4 : k0_cond4 v612 v630 = 1#1), 128 ∣ (k0_mult3 v676).toNat := fun i v612 v630 v676 k0_hw3 k0_h1 k0_h4 => k0_hw3.1 k0_h1 k0_h4
theorem k0_off5_inb : ∀ (i : grid0.Coords) (v612 : BitVec 32) (v630 : BitVec 32) (v676 : BitVec 32) (k0_hw3 : k0_chk3 i v612 v630 v676), ∀ (k0_h1 : k0_cond1 i = 1#1), ∀ (k0_h4 : k0_cond4 v612 v630 = 1#1), ∀ a, (k0_off5 v676) a + S128x128.size a ≤ S172032x128.size a := fun i v612 v630 v676 k0_hw3 k0_h1 k0_h4 => k0_hw3.2.1 k0_h1 k0_h4
theorem k0_off5_wordsfp8e4m3 : ∀ (i : grid0.Coords) (v612 : BitVec 32) (v630 : BitVec 32) (v676 : BitVec 32) (k0_hw3 : k0_chk3 i v612 v630 v676), ∀ (k0_h1 : k0_cond1 i = 1#1), ∀ (k0_h4 : k0_cond4 v612 v630 = 1#1), (Rect.unit (s := S172032x128) (k0_off5 v676) S128x128.size (k0_off5_inb i v612 v630 v676 k0_hw3 k0_h1 k0_h4)).WholeWords (EltTy.packing .fp8e4m3) := fun i v612 v630 v676 k0_hw3 k0_h1 k0_h4 => k0_hw3.2.2.1 k0_h1 k0_h4 (k0_off5_inb i v612 v630 v676 k0_hw3 k0_h1 k0_h4)
theorem k0_off6_inb : ∀ (i : grid0.Coords) (v612 : BitVec 32) (v630 : BitVec 32) (v676 : BitVec 32) (k0_hw3 : k0_chk3 i v612 v630 v676), ∀ (k0_h1 : k0_cond1 i = 1#1), ∀ (k0_h4 : k0_cond4 v612 v630 = 1#1), ∀ a, (k0_off6 v676) a + S4x128.size a ≤ S4x172032.size a := fun i v612 v630 v676 k0_hw3 k0_h1 k0_h4 => k0_hw3.2.2.2 k0_h1 k0_h4

def k0_mult4 (v676 : BitVec 32) : BitVec 32 :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c3_i32_239 : BitVec 32 := 3#32
  let v694 : BitVec 32 := Scalar.addi v693 c3_i32_239
  let c128_i32_240 : BitVec 32 := 128#32
  let v695 : BitVec 32 := Scalar.muli v694 c128_i32_240
  v695
def k0_cond5 (v612 : BitVec 32) (v630 : BitVec 32) : BitVec 1 :=
  let c0_i32_197 : BitVec 32 := 0#32
  let v614 : BitVec 1 := Scalar.cmpi .sgt v612 c0_i32_197
  let v615 : BitVec 32 := Scalar.extui v614
  let c0_i32_198 : BitVec 32 := 0#32
  let v616 : BitVec 1 := Scalar.cmpi .slt v612 c0_i32_198
  let v617 : BitVec 32 := Scalar.extui v616
  let v618 : BitVec 32 := Scalar.subi v615 v617
  let c128_i32_196 : BitVec 32 := 128#32
  let c0_i32_199 : BitVec 32 := 0#32
  let v619 : BitVec 1 := Scalar.cmpi .sgt c128_i32_196 c0_i32_199
  let v620 : BitVec 32 := Scalar.extui v619
  let c0_i32_200 : BitVec 32 := 0#32
  let v621 : BitVec 1 := Scalar.cmpi .slt c128_i32_196 c0_i32_200
  let v622 : BitVec 32 := Scalar.extui v621
  let v623 : BitVec 32 := Scalar.subi v620 v622
  let v624 : BitVec 1 := Scalar.cmpi .ne v618 v623
  let v625 : BitVec 32 := Scalar.remsi v612 c128_i32_196
  let c0_i32_201 : BitVec 32 := 0#32
  let v626 : BitVec 1 := Scalar.cmpi .ne v625 c0_i32_201
  let v627 : BitVec 1 := Scalar.andi v624 v626
  let v613 : BitVec 32 := Scalar.divsi v612 c128_i32_196
  let c1_i32_202 : BitVec 32 := 1#32
  let v628 : BitVec 32 := Scalar.subi v613 c1_i32_202
  let v629 : BitVec 32 := Scalar.select v627 v628 v613
  let c128_i32_203 : BitVec 32 := 128#32
  let v631 : BitVec 32 := Scalar.muli v629 c128_i32_203
  let v632 : BitVec 32 := Scalar.subi v630 v631
  let c128_i32_204 : BitVec 32 := 128#32
  let v633 : BitVec 32 := Scalar.addi v632 c128_i32_204
  let c1_i32_205 : BitVec 32 := 1#32
  let v634 : BitVec 32 := Scalar.subi v633 c1_i32_205
  let c0_i32_207 : BitVec 32 := 0#32
  let v636 : BitVec 1 := Scalar.cmpi .sgt v634 c0_i32_207
  let v637 : BitVec 32 := Scalar.extui v636
  let c0_i32_208 : BitVec 32 := 0#32
  let v638 : BitVec 1 := Scalar.cmpi .slt v634 c0_i32_208
  let v639 : BitVec 32 := Scalar.extui v638
  let v640 : BitVec 32 := Scalar.subi v637 v639
  let c128_i32_206 : BitVec 32 := 128#32
  let c0_i32_209 : BitVec 32 := 0#32
  let v641 : BitVec 1 := Scalar.cmpi .sgt c128_i32_206 c0_i32_209
  let v642 : BitVec 32 := Scalar.extui v641
  let c0_i32_210 : BitVec 32 := 0#32
  let v643 : BitVec 1 := Scalar.cmpi .slt c128_i32_206 c0_i32_210
  let v644 : BitVec 32 := Scalar.extui v643
  let v645 : BitVec 32 := Scalar.subi v642 v644
  let v646 : BitVec 1 := Scalar.cmpi .ne v640 v645
  let v647 : BitVec 32 := Scalar.remsi v634 c128_i32_206
  let c0_i32_211 : BitVec 32 := 0#32
  let v648 : BitVec 1 := Scalar.cmpi .ne v647 c0_i32_211
  let v649 : BitVec 1 := Scalar.andi v646 v648
  let v635 : BitVec 32 := Scalar.divsi v634 c128_i32_206
  let c1_i32_212 : BitVec 32 := 1#32
  let v650 : BitVec 32 := Scalar.subi v635 c1_i32_212
  let v651 : BitVec 32 := Scalar.select v649 v650 v635
  let c3_i32_219 : BitVec 32 := 3#32
  let v661 : BitVec 1 := Scalar.cmpi .sgt v651 c3_i32_219
  let v662 : BitVec 32 := Scalar.extui v661
  let c0_i32_220 : BitVec 32 := 0#32
  let v663 : BitVec 1 := Scalar.cmpi .ne v662 c0_i32_220
  v663

def k0_off7 (v676 : BitVec 32) : Fin 2 → Nat :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c3_i32_239 : BitVec 32 := 3#32
  let v694 : BitVec 32 := Scalar.addi v693 c3_i32_239
  let c128_i32_240 : BitVec 32 := 128#32
  let v695 : BitVec 32 := Scalar.muli v694 c128_i32_240
  let v696 : BitVec 32 := v695
  let c0_i32_244 : BitVec 32 := 0#32
  ![v696.toNat, 0]
def k0_off8 (v676 : BitVec 32) : Fin 2 → Nat :=
  let c0_i32_249 : BitVec 32 := 0#32
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c3_i32_239 : BitVec 32 := 3#32
  let v694 : BitVec 32 := Scalar.addi v693 c3_i32_239
  let c128_i32_240 : BitVec 32 := 128#32
  let v695 : BitVec 32 := Scalar.muli v694 c128_i32_240
  let v696 : BitVec 32 := v695
  ![0, v696.toNat]

def k0_chk4 (i : grid0.Coords) (v612 : BitVec 32) (v630 : BitVec 32) (v676 : BitVec 32) : Prop :=
  (∀ (k0_h1 : k0_cond1 i = 1#1), ∀ (k0_h5 : k0_cond5 v612 v630 = 1#1), 128 ∣ (k0_mult4 v676).toNat) ∧
  (∀ (k0_h1 : k0_cond1 i = 1#1), ∀ (k0_h5 : k0_cond5 v612 v630 = 1#1), ∀ a, (k0_off7 v676) a + S128x128.size a ≤ S172032x128.size a) ∧
  (∀ (k0_h1 : k0_cond1 i = 1#1), ∀ (k0_h5 : k0_cond5 v612 v630 = 1#1), ∀ (hinb : ∀ a, (k0_off7 v676) a + S128x128.size a ≤ S172032x128.size a), (Rect.unit (s := S172032x128) (k0_off7 v676) S128x128.size hinb).WholeWords (EltTy.packing .fp8e4m3)) ∧
  (∀ (k0_h1 : k0_cond1 i = 1#1), ∀ (k0_h5 : k0_cond5 v612 v630 = 1#1), ∀ a, (k0_off8 v676) a + S4x128.size a ≤ S4x172032.size a)
theorem k0_mult4_dvd : ∀ (i : grid0.Coords) (v612 : BitVec 32) (v630 : BitVec 32) (v676 : BitVec 32) (k0_hw4 : k0_chk4 i v612 v630 v676), ∀ (k0_h1 : k0_cond1 i = 1#1), ∀ (k0_h5 : k0_cond5 v612 v630 = 1#1), 128 ∣ (k0_mult4 v676).toNat := fun i v612 v630 v676 k0_hw4 k0_h1 k0_h5 => k0_hw4.1 k0_h1 k0_h5
theorem k0_off7_inb : ∀ (i : grid0.Coords) (v612 : BitVec 32) (v630 : BitVec 32) (v676 : BitVec 32) (k0_hw4 : k0_chk4 i v612 v630 v676), ∀ (k0_h1 : k0_cond1 i = 1#1), ∀ (k0_h5 : k0_cond5 v612 v630 = 1#1), ∀ a, (k0_off7 v676) a + S128x128.size a ≤ S172032x128.size a := fun i v612 v630 v676 k0_hw4 k0_h1 k0_h5 => k0_hw4.2.1 k0_h1 k0_h5
theorem k0_off7_wordsfp8e4m3 : ∀ (i : grid0.Coords) (v612 : BitVec 32) (v630 : BitVec 32) (v676 : BitVec 32) (k0_hw4 : k0_chk4 i v612 v630 v676), ∀ (k0_h1 : k0_cond1 i = 1#1), ∀ (k0_h5 : k0_cond5 v612 v630 = 1#1), (Rect.unit (s := S172032x128) (k0_off7 v676) S128x128.size (k0_off7_inb i v612 v630 v676 k0_hw4 k0_h1 k0_h5)).WholeWords (EltTy.packing .fp8e4m3) := fun i v612 v630 v676 k0_hw4 k0_h1 k0_h5 => k0_hw4.2.2.1 k0_h1 k0_h5 (k0_off7_inb i v612 v630 v676 k0_hw4 k0_h1 k0_h5)
theorem k0_off8_inb : ∀ (i : grid0.Coords) (v612 : BitVec 32) (v630 : BitVec 32) (v676 : BitVec 32) (k0_hw4 : k0_chk4 i v612 v630 v676), ∀ (k0_h1 : k0_cond1 i = 1#1), ∀ (k0_h5 : k0_cond5 v612 v630 = 1#1), ∀ a, (k0_off8 v676) a + S4x128.size a ≤ S4x172032.size a := fun i v612 v630 v676 k0_hw4 k0_h1 k0_h5 => k0_hw4.2.2.2 k0_h1 k0_h5

def k0_mult5 (v676 : BitVec 32) : BitVec 32 :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c4_i32_239 : BitVec 32 := 4#32
  let v694 : BitVec 32 := Scalar.addi v693 c4_i32_239
  let c128_i32_240 : BitVec 32 := 128#32
  let v695 : BitVec 32 := Scalar.muli v694 c128_i32_240
  v695
def k0_cond6 (v612 : BitVec 32) (v630 : BitVec 32) : BitVec 1 :=
  let c0_i32_197 : BitVec 32 := 0#32
  let v614 : BitVec 1 := Scalar.cmpi .sgt v612 c0_i32_197
  let v615 : BitVec 32 := Scalar.extui v614
  let c0_i32_198 : BitVec 32 := 0#32
  let v616 : BitVec 1 := Scalar.cmpi .slt v612 c0_i32_198
  let v617 : BitVec 32 := Scalar.extui v616
  let v618 : BitVec 32 := Scalar.subi v615 v617
  let c128_i32_196 : BitVec 32 := 128#32
  let c0_i32_199 : BitVec 32 := 0#32
  let v619 : BitVec 1 := Scalar.cmpi .sgt c128_i32_196 c0_i32_199
  let v620 : BitVec 32 := Scalar.extui v619
  let c0_i32_200 : BitVec 32 := 0#32
  let v621 : BitVec 1 := Scalar.cmpi .slt c128_i32_196 c0_i32_200
  let v622 : BitVec 32 := Scalar.extui v621
  let v623 : BitVec 32 := Scalar.subi v620 v622
  let v624 : BitVec 1 := Scalar.cmpi .ne v618 v623
  let v625 : BitVec 32 := Scalar.remsi v612 c128_i32_196
  let c0_i32_201 : BitVec 32 := 0#32
  let v626 : BitVec 1 := Scalar.cmpi .ne v625 c0_i32_201
  let v627 : BitVec 1 := Scalar.andi v624 v626
  let v613 : BitVec 32 := Scalar.divsi v612 c128_i32_196
  let c1_i32_202 : BitVec 32 := 1#32
  let v628 : BitVec 32 := Scalar.subi v613 c1_i32_202
  let v629 : BitVec 32 := Scalar.select v627 v628 v613
  let c128_i32_203 : BitVec 32 := 128#32
  let v631 : BitVec 32 := Scalar.muli v629 c128_i32_203
  let v632 : BitVec 32 := Scalar.subi v630 v631
  let c128_i32_204 : BitVec 32 := 128#32
  let v633 : BitVec 32 := Scalar.addi v632 c128_i32_204
  let c1_i32_205 : BitVec 32 := 1#32
  let v634 : BitVec 32 := Scalar.subi v633 c1_i32_205
  let c0_i32_207 : BitVec 32 := 0#32
  let v636 : BitVec 1 := Scalar.cmpi .sgt v634 c0_i32_207
  let v637 : BitVec 32 := Scalar.extui v636
  let c0_i32_208 : BitVec 32 := 0#32
  let v638 : BitVec 1 := Scalar.cmpi .slt v634 c0_i32_208
  let v639 : BitVec 32 := Scalar.extui v638
  let v640 : BitVec 32 := Scalar.subi v637 v639
  let c128_i32_206 : BitVec 32 := 128#32
  let c0_i32_209 : BitVec 32 := 0#32
  let v641 : BitVec 1 := Scalar.cmpi .sgt c128_i32_206 c0_i32_209
  let v642 : BitVec 32 := Scalar.extui v641
  let c0_i32_210 : BitVec 32 := 0#32
  let v643 : BitVec 1 := Scalar.cmpi .slt c128_i32_206 c0_i32_210
  let v644 : BitVec 32 := Scalar.extui v643
  let v645 : BitVec 32 := Scalar.subi v642 v644
  let v646 : BitVec 1 := Scalar.cmpi .ne v640 v645
  let v647 : BitVec 32 := Scalar.remsi v634 c128_i32_206
  let c0_i32_211 : BitVec 32 := 0#32
  let v648 : BitVec 1 := Scalar.cmpi .ne v647 c0_i32_211
  let v649 : BitVec 1 := Scalar.andi v646 v648
  let v635 : BitVec 32 := Scalar.divsi v634 c128_i32_206
  let c1_i32_212 : BitVec 32 := 1#32
  let v650 : BitVec 32 := Scalar.subi v635 c1_i32_212
  let v651 : BitVec 32 := Scalar.select v649 v650 v635
  let c4_i32_221 : BitVec 32 := 4#32
  let v664 : BitVec 1 := Scalar.cmpi .sgt v651 c4_i32_221
  let v665 : BitVec 32 := Scalar.extui v664
  let c0_i32_222 : BitVec 32 := 0#32
  let v666 : BitVec 1 := Scalar.cmpi .ne v665 c0_i32_222
  v666

def k0_off9 (v676 : BitVec 32) : Fin 2 → Nat :=
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c4_i32_239 : BitVec 32 := 4#32
  let v694 : BitVec 32 := Scalar.addi v693 c4_i32_239
  let c128_i32_240 : BitVec 32 := 128#32
  let v695 : BitVec 32 := Scalar.muli v694 c128_i32_240
  let v696 : BitVec 32 := v695
  let c0_i32_244 : BitVec 32 := 0#32
  ![v696.toNat, 0]
def k0_off10 (v676 : BitVec 32) : Fin 2 → Nat :=
  let c0_i32_249 : BitVec 32 := 0#32
  let c0_i32_233 : BitVec 32 := 0#32
  let v678 : BitVec 1 := Scalar.cmpi .sgt v676 c0_i32_233
  let v679 : BitVec 32 := Scalar.extui v678
  let c0_i32_234 : BitVec 32 := 0#32
  let v680 : BitVec 1 := Scalar.cmpi .slt v676 c0_i32_234
  let v681 : BitVec 32 := Scalar.extui v680
  let v682 : BitVec 32 := Scalar.subi v679 v681
  let c128_i32_232 : BitVec 32 := 128#32
  let c0_i32_235 : BitVec 32 := 0#32
  let v683 : BitVec 1 := Scalar.cmpi .sgt c128_i32_232 c0_i32_235
  let v684 : BitVec 32 := Scalar.extui v683
  let c0_i32_236 : BitVec 32 := 0#32
  let v685 : BitVec 1 := Scalar.cmpi .slt c128_i32_232 c0_i32_236
  let v686 : BitVec 32 := Scalar.extui v685
  let v687 : BitVec 32 := Scalar.subi v684 v686
  let v688 : BitVec 1 := Scalar.cmpi .ne v682 v687
  let v689 : BitVec 32 := Scalar.remsi v676 c128_i32_232
  let c0_i32_237 : BitVec 32 := 0#32
  let v690 : BitVec 1 := Scalar.cmpi .ne v689 c0_i32_237
  let v691 : BitVec 1 := Scalar.andi v688 v690
  let v677 : BitVec 32 := Scalar.divsi v676 c128_i32_232
  let c1_i32_238 : BitVec 32 := 1#32
  let v692 : BitVec 32 := Scalar.subi v677 c1_i32_238
  let v693 : BitVec 32 := Scalar.select v691 v692 v677
  let c4_i32_239 : BitVec 32 := 4#32
  let v694 : BitVec 32 := Scalar.addi v693 c4_i32_239
  let c128_i32_240 : BitVec 32 := 128#32
  let v695 : BitVec 32 := Scalar.muli v694 c128_i32_240
  let v696 : BitVec 32 := v695
  ![0, v696.toNat]

def k0_chk5 (i : grid0.Coords) (v612 : BitVec 32) (v630 : BitVec 32) (v676 : BitVec 32) : Prop :=
  (∀ (k0_h1 : k0_cond1 i = 1#1), ∀ (k0_h6 : k0_cond6 v612 v630 = 1#1), 128 ∣ (k0_mult5 v676).toNat) ∧
  (∀ (k0_h1 : k0_cond1 i = 1#1), ∀ (k0_h6 : k0_cond6 v612 v630 = 1#1), ∀ a, (k0_off9 v676) a + S128x128.size a ≤ S172032x128.size a) ∧
  (∀ (k0_h1 : k0_cond1 i = 1#1), ∀ (k0_h6 : k0_cond6 v612 v630 = 1#1), ∀ (hinb : ∀ a, (k0_off9 v676) a + S128x128.size a ≤ S172032x128.size a), (Rect.unit (s := S172032x128) (k0_off9 v676) S128x128.size hinb).WholeWords (EltTy.packing .fp8e4m3)) ∧
  (∀ (k0_h1 : k0_cond1 i = 1#1), ∀ (k0_h6 : k0_cond6 v612 v630 = 1#1), ∀ a, (k0_off10 v676) a + S4x128.size a ≤ S4x172032.size a)
theorem k0_mult5_dvd : ∀ (i : grid0.Coords) (v612 : BitVec 32) (v630 : BitVec 32) (v676 : BitVec 32) (k0_hw5 : k0_chk5 i v612 v630 v676), ∀ (k0_h1 : k0_cond1 i = 1#1), ∀ (k0_h6 : k0_cond6 v612 v630 = 1#1), 128 ∣ (k0_mult5 v676).toNat := fun i v612 v630 v676 k0_hw5 k0_h1 k0_h6 => k0_hw5.1 k0_h1 k0_h6
theorem k0_off9_inb : ∀ (i : grid0.Coords) (v612 : BitVec 32) (v630 : BitVec 32) (v676 : BitVec 32) (k0_hw5 : k0_chk5 i v612 v630 v676), ∀ (k0_h1 : k0_cond1 i = 1#1), ∀ (k0_h6 : k0_cond6 v612 v630 = 1#1), ∀ a, (k0_off9 v676) a + S128x128.size a ≤ S172032x128.size a := fun i v612 v630 v676 k0_hw5 k0_h1 k0_h6 => k0_hw5.2.1 k0_h1 k0_h6
theorem k0_off9_wordsfp8e4m3 : ∀ (i : grid0.Coords) (v612 : BitVec 32) (v630 : BitVec 32) (v676 : BitVec 32) (k0_hw5 : k0_chk5 i v612 v630 v676), ∀ (k0_h1 : k0_cond1 i = 1#1), ∀ (k0_h6 : k0_cond6 v612 v630 = 1#1), (Rect.unit (s := S172032x128) (k0_off9 v676) S128x128.size (k0_off9_inb i v612 v630 v676 k0_hw5 k0_h1 k0_h6)).WholeWords (EltTy.packing .fp8e4m3) := fun i v612 v630 v676 k0_hw5 k0_h1 k0_h6 => k0_hw5.2.2.1 k0_h1 k0_h6 (k0_off9_inb i v612 v630 v676 k0_hw5 k0_h1 k0_h6)
theorem k0_off10_inb : ∀ (i : grid0.Coords) (v612 : BitVec 32) (v630 : BitVec 32) (v676 : BitVec 32) (k0_hw5 : k0_chk5 i v612 v630 v676), ∀ (k0_h1 : k0_cond1 i = 1#1), ∀ (k0_h6 : k0_cond6 v612 v630 = 1#1), ∀ a, (k0_off10 v676) a + S4x128.size a ≤ S4x172032.size a := fun i v612 v630 v676 k0_hw5 k0_h1 k0_h6 => k0_hw5.2.2.2 k0_h1 k0_h6

@[reducible] def k0_t1_loop (v0 : BitVec 32) : Scf.Loop 32 :=
  let c0_i32_227 : BitVec 32 := 0#32
  let c1344_i32 : BitVec 32 := 1344#32
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let v667 : BitVec 32 := Scalar.subi c1344_i32 v19
  let c1_i32_223 : BitVec 32 := 1#32
  let c1_i32_224 : BitVec 32 := 1#32
  let v668 : BitVec 32 := Scalar.subi c1_i32_223 c1_i32_224
  let v669 : BitVec 32 := Scalar.addi v667 v668
  let c1_i32_225 : BitVec 32 := 1#32
  let v670 : BitVec 32 := Scalar.divsi v669 c1_i32_225
  let v671 : BitVec 32 := Scalar.subi v670 c0_i32_227
  let c1_i32_228 : BitVec 32 := 1#32
  let v673 : BitVec 32 := Scalar.divsi v671 c1_i32_228
  let v674 : BitVec 32 := Scalar.muli v673 c1_i32_228
  let v675 : BitVec 32 := Scalar.addi c0_i32_227 v674
  let c1_i32_229 : BitVec 32 := 1#32
  ⟨c0_i32_227, v675, c1_i32_229⟩

def k0_mult6 (v0 : BitVec 32) (k0_t1 : Fin (k0_t1_loop v0).trips) : BitVec 32 :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_227 : BitVec 32 := 0#32
  let c1_i32_229 : BitVec 32 := 1#32
  let arg21 : BitVec 32 := Scf.iv c0_i32_227 c1_i32_229 k0_t1
  let c1_i32_226 : BitVec 32 := 1#32
  let v676 : BitVec 32 := Scalar.muli arg21 c1_i32_226
  let v677 : BitVec 32 := Scalar.addi v19 v676
  let c128_i32_231 : BitVec 32 := 128#32
  let v678 : BitVec 32 := Scalar.muli v677 c128_i32_231
  v678
def k0_off11 (v0 : BitVec 32) (k0_t1 : Fin (k0_t1_loop v0).trips) : Fin 2 → Nat :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_227 : BitVec 32 := 0#32
  let c1_i32_229 : BitVec 32 := 1#32
  let arg21 : BitVec 32 := Scf.iv c0_i32_227 c1_i32_229 k0_t1
  let c1_i32_226 : BitVec 32 := 1#32
  let v676 : BitVec 32 := Scalar.muli arg21 c1_i32_226
  let v677 : BitVec 32 := Scalar.addi v19 v676
  let c128_i32_231 : BitVec 32 := 128#32
  let v678 : BitVec 32 := Scalar.muli v677 c128_i32_231
  let v679 : BitVec 32 := v678
  let c0_i32_232 : BitVec 32 := 0#32
  ![v679.toNat, 0]
@[reducible] def k0_t2_loop (v0 : BitVec 32) : Scf.Loop 32 :=
  let c0_i32_227 : BitVec 32 := 0#32
  let c1344_i32 : BitVec 32 := 1344#32
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let v667 : BitVec 32 := Scalar.subi c1344_i32 v19
  let c1_i32_223 : BitVec 32 := 1#32
  let c1_i32_224 : BitVec 32 := 1#32
  let v668 : BitVec 32 := Scalar.subi c1_i32_223 c1_i32_224
  let v669 : BitVec 32 := Scalar.addi v667 v668
  let c1_i32_225 : BitVec 32 := 1#32
  let v670 : BitVec 32 := Scalar.divsi v669 c1_i32_225
  let v671 : BitVec 32 := Scalar.subi v670 c0_i32_227
  let c1_i32_228 : BitVec 32 := 1#32
  let v673 : BitVec 32 := Scalar.divsi v671 c1_i32_228
  let v674 : BitVec 32 := Scalar.muli v673 c1_i32_228
  let v675 : BitVec 32 := Scalar.addi c0_i32_227 v674
  let v672 : BitVec 32 := Scalar.addi c0_i32_227 v671
  let c1_i32_230 : BitVec 32 := 1#32
  ⟨v675, v672, c1_i32_230⟩
def k0_mult7 (v0 : BitVec 32) (k0_t2 : Fin (k0_t2_loop v0).trips) : BitVec 32 :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_227 : BitVec 32 := 0#32
  let c1344_i32 : BitVec 32 := 1344#32
  let v667 : BitVec 32 := Scalar.subi c1344_i32 v19
  let c1_i32_223 : BitVec 32 := 1#32
  let c1_i32_224 : BitVec 32 := 1#32
  let v668 : BitVec 32 := Scalar.subi c1_i32_223 c1_i32_224
  let v669 : BitVec 32 := Scalar.addi v667 v668
  let c1_i32_225 : BitVec 32 := 1#32
  let v670 : BitVec 32 := Scalar.divsi v669 c1_i32_225
  let v671 : BitVec 32 := Scalar.subi v670 c0_i32_227
  let c1_i32_228 : BitVec 32 := 1#32
  let v673 : BitVec 32 := Scalar.divsi v671 c1_i32_228
  let v674 : BitVec 32 := Scalar.muli v673 c1_i32_228
  let v675 : BitVec 32 := Scalar.addi c0_i32_227 v674
  let c1_i32_230 : BitVec 32 := 1#32
  let arg21 : BitVec 32 := Scf.iv v675 c1_i32_230 k0_t2
  let c1_i32_226 : BitVec 32 := 1#32
  let v676 : BitVec 32 := Scalar.muli arg21 c1_i32_226
  let v677 : BitVec 32 := Scalar.addi v19 v676
  let c128_i32_231 : BitVec 32 := 128#32
  let v678 : BitVec 32 := Scalar.muli v677 c128_i32_231
  v678
def k0_off12 (v0 : BitVec 32) (k0_t2 : Fin (k0_t2_loop v0).trips) : Fin 2 → Nat :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_227 : BitVec 32 := 0#32
  let c1344_i32 : BitVec 32 := 1344#32
  let v667 : BitVec 32 := Scalar.subi c1344_i32 v19
  let c1_i32_223 : BitVec 32 := 1#32
  let c1_i32_224 : BitVec 32 := 1#32
  let v668 : BitVec 32 := Scalar.subi c1_i32_223 c1_i32_224
  let v669 : BitVec 32 := Scalar.addi v667 v668
  let c1_i32_225 : BitVec 32 := 1#32
  let v670 : BitVec 32 := Scalar.divsi v669 c1_i32_225
  let v671 : BitVec 32 := Scalar.subi v670 c0_i32_227
  let c1_i32_228 : BitVec 32 := 1#32
  let v673 : BitVec 32 := Scalar.divsi v671 c1_i32_228
  let v674 : BitVec 32 := Scalar.muli v673 c1_i32_228
  let v675 : BitVec 32 := Scalar.addi c0_i32_227 v674
  let c1_i32_230 : BitVec 32 := 1#32
  let arg21 : BitVec 32 := Scf.iv v675 c1_i32_230 k0_t2
  let c1_i32_226 : BitVec 32 := 1#32
  let v676 : BitVec 32 := Scalar.muli arg21 c1_i32_226
  let v677 : BitVec 32 := Scalar.addi v19 v676
  let c128_i32_231 : BitVec 32 := 128#32
  let v678 : BitVec 32 := Scalar.muli v677 c128_i32_231
  let v679 : BitVec 32 := v678
  let c0_i32_232 : BitVec 32 := 0#32
  ![v679.toNat, 0]
def k0_cond7 (i : grid0.Coords) : BitVec 1 :=
  let arg0 : BitVec 32 := BitVec.ofNat 32 (i 0).val
  let c1_i32_8 : BitVec 32 := 1#32
  let v24 : BitVec 32 := Scalar.addi arg0 c1_i32_8
  let c336_i32 : BitVec 32 := 336#32
  let v25 : BitVec 1 := Scalar.cmpi .slt v24 c336_i32
  let v26 : BitVec 32 := Scalar.extui v25
  let c0_i32_9 : BitVec 32 := 0#32
  let v27 : BitVec 1 := Scalar.cmpi .ne v26 c0_i32_9
  v27

def k0_off13 (i : grid0.Coords) : Fin 1 → Nat :=
  let arg0 : BitVec 32 := BitVec.ofNat 32 (i 0).val
  let c1_i32_178 : BitVec 32 := 1#32
  let v592 : BitVec 32 := Scalar.addi arg0 c1_i32_178
  let v594 : Index := Scalar.indexCast v592
  ![v594.toNat]
def k0_off14 (i : grid0.Coords) : Fin 1 → Nat :=
  let arg0 : BitVec 32 := BitVec.ofNat 32 (i 0).val
  let c1_i32_178 : BitVec 32 := 1#32
  let v592 : BitVec 32 := Scalar.addi arg0 c1_i32_178
  let c1_i32_187 : BitVec 32 := 1#32
  let v613 : BitVec 32 := Scalar.addi v592 c1_i32_187
  let v614 : Index := Scalar.indexCast v613
  ![v614.toNat]
def k0_off15 (i : grid0.Coords) : Fin 1 → Nat :=
  let arg0 : BitVec 32 := BitVec.ofNat 32 (i 0).val
  let c1_i32_178 : BitVec 32 := 1#32
  let v592 : BitVec 32 := Scalar.addi arg0 c1_i32_178
  let v652 : Index := Scalar.indexCast v592
  ![v652.toNat]
def k0_mult8 (v653 : BitVec 32) : BitVec 32 :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c0_i32_215 : BitVec 32 := 0#32
  let v671 : BitVec 32 := Scalar.addi v670 c0_i32_215
  let c128_i32_216 : BitVec 32 := 128#32
  let v672 : BitVec 32 := Scalar.muli v671 c128_i32_216
  v672
def k0_cond8 (v595 : BitVec 32) (v615 : BitVec 32) : BitVec 1 :=
  let c0_i32_181 : BitVec 32 := 0#32
  let v597 : BitVec 1 := Scalar.cmpi .sgt v595 c0_i32_181
  let v598 : BitVec 32 := Scalar.extui v597
  let c0_i32_182 : BitVec 32 := 0#32
  let v599 : BitVec 1 := Scalar.cmpi .slt v595 c0_i32_182
  let v600 : BitVec 32 := Scalar.extui v599
  let v601 : BitVec 32 := Scalar.subi v598 v600
  let c128_i32_180 : BitVec 32 := 128#32
  let c0_i32_183 : BitVec 32 := 0#32
  let v602 : BitVec 1 := Scalar.cmpi .sgt c128_i32_180 c0_i32_183
  let v603 : BitVec 32 := Scalar.extui v602
  let c0_i32_184 : BitVec 32 := 0#32
  let v604 : BitVec 1 := Scalar.cmpi .slt c128_i32_180 c0_i32_184
  let v605 : BitVec 32 := Scalar.extui v604
  let v606 : BitVec 32 := Scalar.subi v603 v605
  let v607 : BitVec 1 := Scalar.cmpi .ne v601 v606
  let v608 : BitVec 32 := Scalar.remsi v595 c128_i32_180
  let c0_i32_185 : BitVec 32 := 0#32
  let v609 : BitVec 1 := Scalar.cmpi .ne v608 c0_i32_185
  let v610 : BitVec 1 := Scalar.andi v607 v609
  let v596 : BitVec 32 := Scalar.divsi v595 c128_i32_180
  let c1_i32_186 : BitVec 32 := 1#32
  let v611 : BitVec 32 := Scalar.subi v596 c1_i32_186
  let v612 : BitVec 32 := Scalar.select v610 v611 v596
  let c128_i32_188 : BitVec 32 := 128#32
  let v616 : BitVec 32 := Scalar.muli v612 c128_i32_188
  let v617 : BitVec 32 := Scalar.subi v615 v616
  let c128_i32_189 : BitVec 32 := 128#32
  let v618 : BitVec 32 := Scalar.addi v617 c128_i32_189
  let c1_i32_190 : BitVec 32 := 1#32
  let v619 : BitVec 32 := Scalar.subi v618 c1_i32_190
  let c0_i32_192 : BitVec 32 := 0#32
  let v621 : BitVec 1 := Scalar.cmpi .sgt v619 c0_i32_192
  let v622 : BitVec 32 := Scalar.extui v621
  let c0_i32_193 : BitVec 32 := 0#32
  let v623 : BitVec 1 := Scalar.cmpi .slt v619 c0_i32_193
  let v624 : BitVec 32 := Scalar.extui v623
  let v625 : BitVec 32 := Scalar.subi v622 v624
  let c128_i32_191 : BitVec 32 := 128#32
  let c0_i32_194 : BitVec 32 := 0#32
  let v626 : BitVec 1 := Scalar.cmpi .sgt c128_i32_191 c0_i32_194
  let v627 : BitVec 32 := Scalar.extui v626
  let c0_i32_195 : BitVec 32 := 0#32
  let v628 : BitVec 1 := Scalar.cmpi .slt c128_i32_191 c0_i32_195
  let v629 : BitVec 32 := Scalar.extui v628
  let v630 : BitVec 32 := Scalar.subi v627 v629
  let v631 : BitVec 1 := Scalar.cmpi .ne v625 v630
  let v632 : BitVec 32 := Scalar.remsi v619 c128_i32_191
  let c0_i32_196 : BitVec 32 := 0#32
  let v633 : BitVec 1 := Scalar.cmpi .ne v632 c0_i32_196
  let v634 : BitVec 1 := Scalar.andi v631 v633
  let v620 : BitVec 32 := Scalar.divsi v619 c128_i32_191
  let c1_i32_197 : BitVec 32 := 1#32
  let v635 : BitVec 32 := Scalar.subi v620 c1_i32_197
  let v636 : BitVec 32 := Scalar.select v634 v635 v620
  let c0_i32_198 : BitVec 32 := 0#32
  let v637 : BitVec 1 := Scalar.cmpi .sgt v636 c0_i32_198
  let v638 : BitVec 32 := Scalar.extui v637
  let c0_i32_199 : BitVec 32 := 0#32
  let v639 : BitVec 1 := Scalar.cmpi .ne v638 c0_i32_199
  v639

def k0_off16 (i : grid0.Coords) : Fin 1 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  ![v593.toNat]
def k0_off17 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_217 : BitVec 32 := 0#32
  let c0_i32_218 : BitVec 32 := 0#32
  ![v593.toNat, 0, 0]
def k0_off18 (v653 : BitVec 32) : Fin 2 → Nat :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c0_i32_215 : BitVec 32 := 0#32
  let v671 : BitVec 32 := Scalar.addi v670 c0_i32_215
  let c128_i32_216 : BitVec 32 := 128#32
  let v672 : BitVec 32 := Scalar.muli v671 c128_i32_216
  let v673 : BitVec 32 := v672
  let c0_i32_219 : BitVec 32 := 0#32
  ![v673.toNat, 0]
def k0_off19 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_220 : BitVec 32 := 0#32
  let c0_i32_221 : BitVec 32 := 0#32
  ![v593.toNat, 0, 0]
def k0_off20 (v653 : BitVec 32) : Fin 2 → Nat :=
  let c0_i32_222 : BitVec 32 := 0#32
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c0_i32_215 : BitVec 32 := 0#32
  let v671 : BitVec 32 := Scalar.addi v670 c0_i32_215
  let c128_i32_216 : BitVec 32 := 128#32
  let v672 : BitVec 32 := Scalar.muli v671 c128_i32_216
  let v673 : BitVec 32 := v672
  ![0, v673.toNat]

def k0_chk7 (i : grid0.Coords) (v595 : BitVec 32) (v615 : BitVec 32) (v653 : BitVec 32) : Prop :=
  (∀ (k0_h7 : k0_cond7 i = 1#1), ∀ (k0_h8 : k0_cond8 v595 v615 = 1#1), 128 ∣ (k0_mult8 v653).toNat) ∧
  (∀ (k0_h7 : k0_cond7 i = 1#1), ∀ (k0_h8 : k0_cond8 v595 v615 = 1#1), ∀ a, (k0_off18 v653) a + S128x128.size a ≤ S172032x128.size a) ∧
  (∀ (k0_h7 : k0_cond7 i = 1#1), ∀ (k0_h8 : k0_cond8 v595 v615 = 1#1), ∀ (hinb : ∀ a, (k0_off18 v653) a + S128x128.size a ≤ S172032x128.size a), (Rect.unit (s := S172032x128) (k0_off18 v653) S128x128.size hinb).WholeWords (EltTy.packing .fp8e4m3)) ∧
  (∀ (k0_h7 : k0_cond7 i = 1#1), ∀ (k0_h8 : k0_cond8 v595 v615 = 1#1), ∀ a, (k0_off20 v653) a + S4x128.size a ≤ S4x172032.size a)
theorem k0_mult8_dvd : ∀ (i : grid0.Coords) (v595 : BitVec 32) (v615 : BitVec 32) (v653 : BitVec 32) (k0_hw7 : k0_chk7 i v595 v615 v653), ∀ (k0_h7 : k0_cond7 i = 1#1), ∀ (k0_h8 : k0_cond8 v595 v615 = 1#1), 128 ∣ (k0_mult8 v653).toNat := fun i v595 v615 v653 k0_hw7 k0_h7 k0_h8 => k0_hw7.1 k0_h7 k0_h8
theorem k0_off18_inb : ∀ (i : grid0.Coords) (v595 : BitVec 32) (v615 : BitVec 32) (v653 : BitVec 32) (k0_hw7 : k0_chk7 i v595 v615 v653), ∀ (k0_h7 : k0_cond7 i = 1#1), ∀ (k0_h8 : k0_cond8 v595 v615 = 1#1), ∀ a, (k0_off18 v653) a + S128x128.size a ≤ S172032x128.size a := fun i v595 v615 v653 k0_hw7 k0_h7 k0_h8 => k0_hw7.2.1 k0_h7 k0_h8
theorem k0_off18_wordsfp8e4m3 : ∀ (i : grid0.Coords) (v595 : BitVec 32) (v615 : BitVec 32) (v653 : BitVec 32) (k0_hw7 : k0_chk7 i v595 v615 v653), ∀ (k0_h7 : k0_cond7 i = 1#1), ∀ (k0_h8 : k0_cond8 v595 v615 = 1#1), (Rect.unit (s := S172032x128) (k0_off18 v653) S128x128.size (k0_off18_inb i v595 v615 v653 k0_hw7 k0_h7 k0_h8)).WholeWords (EltTy.packing .fp8e4m3) := fun i v595 v615 v653 k0_hw7 k0_h7 k0_h8 => k0_hw7.2.2.1 k0_h7 k0_h8 (k0_off18_inb i v595 v615 v653 k0_hw7 k0_h7 k0_h8)
theorem k0_off20_inb : ∀ (i : grid0.Coords) (v595 : BitVec 32) (v615 : BitVec 32) (v653 : BitVec 32) (k0_hw7 : k0_chk7 i v595 v615 v653), ∀ (k0_h7 : k0_cond7 i = 1#1), ∀ (k0_h8 : k0_cond8 v595 v615 = 1#1), ∀ a, (k0_off20 v653) a + S4x128.size a ≤ S4x172032.size a := fun i v595 v615 v653 k0_hw7 k0_h7 k0_h8 => k0_hw7.2.2.2 k0_h7 k0_h8

def k0_off21 (i : grid0.Coords) : Fin 1 → Nat :=
  let arg0 : BitVec 32 := BitVec.ofNat 32 (i 0).val
  let c1_i32_178 : BitVec 32 := 1#32
  let v592 : BitVec 32 := Scalar.addi arg0 c1_i32_178
  let v652 : Index := Scalar.indexCast v592
  ![v652.toNat]
def k0_mult9 (v653 : BitVec 32) : BitVec 32 :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c1_i32_215 : BitVec 32 := 1#32
  let v671 : BitVec 32 := Scalar.addi v670 c1_i32_215
  let c128_i32_216 : BitVec 32 := 128#32
  let v672 : BitVec 32 := Scalar.muli v671 c128_i32_216
  v672
def k0_cond9 (v595 : BitVec 32) (v615 : BitVec 32) : BitVec 1 :=
  let c0_i32_181 : BitVec 32 := 0#32
  let v597 : BitVec 1 := Scalar.cmpi .sgt v595 c0_i32_181
  let v598 : BitVec 32 := Scalar.extui v597
  let c0_i32_182 : BitVec 32 := 0#32
  let v599 : BitVec 1 := Scalar.cmpi .slt v595 c0_i32_182
  let v600 : BitVec 32 := Scalar.extui v599
  let v601 : BitVec 32 := Scalar.subi v598 v600
  let c128_i32_180 : BitVec 32 := 128#32
  let c0_i32_183 : BitVec 32 := 0#32
  let v602 : BitVec 1 := Scalar.cmpi .sgt c128_i32_180 c0_i32_183
  let v603 : BitVec 32 := Scalar.extui v602
  let c0_i32_184 : BitVec 32 := 0#32
  let v604 : BitVec 1 := Scalar.cmpi .slt c128_i32_180 c0_i32_184
  let v605 : BitVec 32 := Scalar.extui v604
  let v606 : BitVec 32 := Scalar.subi v603 v605
  let v607 : BitVec 1 := Scalar.cmpi .ne v601 v606
  let v608 : BitVec 32 := Scalar.remsi v595 c128_i32_180
  let c0_i32_185 : BitVec 32 := 0#32
  let v609 : BitVec 1 := Scalar.cmpi .ne v608 c0_i32_185
  let v610 : BitVec 1 := Scalar.andi v607 v609
  let v596 : BitVec 32 := Scalar.divsi v595 c128_i32_180
  let c1_i32_186 : BitVec 32 := 1#32
  let v611 : BitVec 32 := Scalar.subi v596 c1_i32_186
  let v612 : BitVec 32 := Scalar.select v610 v611 v596
  let c128_i32_188 : BitVec 32 := 128#32
  let v616 : BitVec 32 := Scalar.muli v612 c128_i32_188
  let v617 : BitVec 32 := Scalar.subi v615 v616
  let c128_i32_189 : BitVec 32 := 128#32
  let v618 : BitVec 32 := Scalar.addi v617 c128_i32_189
  let c1_i32_190 : BitVec 32 := 1#32
  let v619 : BitVec 32 := Scalar.subi v618 c1_i32_190
  let c0_i32_192 : BitVec 32 := 0#32
  let v621 : BitVec 1 := Scalar.cmpi .sgt v619 c0_i32_192
  let v622 : BitVec 32 := Scalar.extui v621
  let c0_i32_193 : BitVec 32 := 0#32
  let v623 : BitVec 1 := Scalar.cmpi .slt v619 c0_i32_193
  let v624 : BitVec 32 := Scalar.extui v623
  let v625 : BitVec 32 := Scalar.subi v622 v624
  let c128_i32_191 : BitVec 32 := 128#32
  let c0_i32_194 : BitVec 32 := 0#32
  let v626 : BitVec 1 := Scalar.cmpi .sgt c128_i32_191 c0_i32_194
  let v627 : BitVec 32 := Scalar.extui v626
  let c0_i32_195 : BitVec 32 := 0#32
  let v628 : BitVec 1 := Scalar.cmpi .slt c128_i32_191 c0_i32_195
  let v629 : BitVec 32 := Scalar.extui v628
  let v630 : BitVec 32 := Scalar.subi v627 v629
  let v631 : BitVec 1 := Scalar.cmpi .ne v625 v630
  let v632 : BitVec 32 := Scalar.remsi v619 c128_i32_191
  let c0_i32_196 : BitVec 32 := 0#32
  let v633 : BitVec 1 := Scalar.cmpi .ne v632 c0_i32_196
  let v634 : BitVec 1 := Scalar.andi v631 v633
  let v620 : BitVec 32 := Scalar.divsi v619 c128_i32_191
  let c1_i32_197 : BitVec 32 := 1#32
  let v635 : BitVec 32 := Scalar.subi v620 c1_i32_197
  let v636 : BitVec 32 := Scalar.select v634 v635 v620
  let c1_i32_200 : BitVec 32 := 1#32
  let v640 : BitVec 1 := Scalar.cmpi .sgt v636 c1_i32_200
  let v641 : BitVec 32 := Scalar.extui v640
  let c0_i32_201 : BitVec 32 := 0#32
  let v642 : BitVec 1 := Scalar.cmpi .ne v641 c0_i32_201
  v642

def k0_off22 (i : grid0.Coords) : Fin 1 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  ![v593.toNat]
def k0_off23 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c128_i32_217 : BitVec 32 := 128#32
  let c0_i32_218 : BitVec 32 := 0#32
  ![v593.toNat, 128, 0]
def k0_off24 (v653 : BitVec 32) : Fin 2 → Nat :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c1_i32_215 : BitVec 32 := 1#32
  let v671 : BitVec 32 := Scalar.addi v670 c1_i32_215
  let c128_i32_216 : BitVec 32 := 128#32
  let v672 : BitVec 32 := Scalar.muli v671 c128_i32_216
  let v673 : BitVec 32 := v672
  let c0_i32_219 : BitVec 32 := 0#32
  ![v673.toNat, 0]
def k0_off25 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_220 : BitVec 32 := 0#32
  let c128_i32_221 : BitVec 32 := 128#32
  ![v593.toNat, 0, 128]
def k0_off26 (v653 : BitVec 32) : Fin 2 → Nat :=
  let c0_i32_222 : BitVec 32 := 0#32
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c1_i32_215 : BitVec 32 := 1#32
  let v671 : BitVec 32 := Scalar.addi v670 c1_i32_215
  let c128_i32_216 : BitVec 32 := 128#32
  let v672 : BitVec 32 := Scalar.muli v671 c128_i32_216
  let v673 : BitVec 32 := v672
  ![0, v673.toNat]

def k0_chk8 (i : grid0.Coords) (v595 : BitVec 32) (v615 : BitVec 32) (v653 : BitVec 32) : Prop :=
  (∀ (k0_h7 : k0_cond7 i = 1#1), ∀ (k0_h9 : k0_cond9 v595 v615 = 1#1), 128 ∣ (k0_mult9 v653).toNat) ∧
  (∀ (k0_h7 : k0_cond7 i = 1#1), ∀ (k0_h9 : k0_cond9 v595 v615 = 1#1), ∀ a, (k0_off24 v653) a + S128x128.size a ≤ S172032x128.size a) ∧
  (∀ (k0_h7 : k0_cond7 i = 1#1), ∀ (k0_h9 : k0_cond9 v595 v615 = 1#1), ∀ (hinb : ∀ a, (k0_off24 v653) a + S128x128.size a ≤ S172032x128.size a), (Rect.unit (s := S172032x128) (k0_off24 v653) S128x128.size hinb).WholeWords (EltTy.packing .fp8e4m3)) ∧
  (∀ (k0_h7 : k0_cond7 i = 1#1), ∀ (k0_h9 : k0_cond9 v595 v615 = 1#1), ∀ a, (k0_off26 v653) a + S4x128.size a ≤ S4x172032.size a)
theorem k0_mult9_dvd : ∀ (i : grid0.Coords) (v595 : BitVec 32) (v615 : BitVec 32) (v653 : BitVec 32) (k0_hw8 : k0_chk8 i v595 v615 v653), ∀ (k0_h7 : k0_cond7 i = 1#1), ∀ (k0_h9 : k0_cond9 v595 v615 = 1#1), 128 ∣ (k0_mult9 v653).toNat := fun i v595 v615 v653 k0_hw8 k0_h7 k0_h9 => k0_hw8.1 k0_h7 k0_h9
theorem k0_off24_inb : ∀ (i : grid0.Coords) (v595 : BitVec 32) (v615 : BitVec 32) (v653 : BitVec 32) (k0_hw8 : k0_chk8 i v595 v615 v653), ∀ (k0_h7 : k0_cond7 i = 1#1), ∀ (k0_h9 : k0_cond9 v595 v615 = 1#1), ∀ a, (k0_off24 v653) a + S128x128.size a ≤ S172032x128.size a := fun i v595 v615 v653 k0_hw8 k0_h7 k0_h9 => k0_hw8.2.1 k0_h7 k0_h9
theorem k0_off24_wordsfp8e4m3 : ∀ (i : grid0.Coords) (v595 : BitVec 32) (v615 : BitVec 32) (v653 : BitVec 32) (k0_hw8 : k0_chk8 i v595 v615 v653), ∀ (k0_h7 : k0_cond7 i = 1#1), ∀ (k0_h9 : k0_cond9 v595 v615 = 1#1), (Rect.unit (s := S172032x128) (k0_off24 v653) S128x128.size (k0_off24_inb i v595 v615 v653 k0_hw8 k0_h7 k0_h9)).WholeWords (EltTy.packing .fp8e4m3) := fun i v595 v615 v653 k0_hw8 k0_h7 k0_h9 => k0_hw8.2.2.1 k0_h7 k0_h9 (k0_off24_inb i v595 v615 v653 k0_hw8 k0_h7 k0_h9)
theorem k0_off26_inb : ∀ (i : grid0.Coords) (v595 : BitVec 32) (v615 : BitVec 32) (v653 : BitVec 32) (k0_hw8 : k0_chk8 i v595 v615 v653), ∀ (k0_h7 : k0_cond7 i = 1#1), ∀ (k0_h9 : k0_cond9 v595 v615 = 1#1), ∀ a, (k0_off26 v653) a + S4x128.size a ≤ S4x172032.size a := fun i v595 v615 v653 k0_hw8 k0_h7 k0_h9 => k0_hw8.2.2.2 k0_h7 k0_h9

def k0_off27 (i : grid0.Coords) : Fin 1 → Nat :=
  let arg0 : BitVec 32 := BitVec.ofNat 32 (i 0).val
  let c1_i32_178 : BitVec 32 := 1#32
  let v592 : BitVec 32 := Scalar.addi arg0 c1_i32_178
  let v652 : Index := Scalar.indexCast v592
  ![v652.toNat]
def k0_mult10 (v653 : BitVec 32) : BitVec 32 :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c2_i32_215 : BitVec 32 := 2#32
  let v671 : BitVec 32 := Scalar.addi v670 c2_i32_215
  let c128_i32_216 : BitVec 32 := 128#32
  let v672 : BitVec 32 := Scalar.muli v671 c128_i32_216
  v672
def k0_cond10 (v595 : BitVec 32) (v615 : BitVec 32) : BitVec 1 :=
  let c0_i32_181 : BitVec 32 := 0#32
  let v597 : BitVec 1 := Scalar.cmpi .sgt v595 c0_i32_181
  let v598 : BitVec 32 := Scalar.extui v597
  let c0_i32_182 : BitVec 32 := 0#32
  let v599 : BitVec 1 := Scalar.cmpi .slt v595 c0_i32_182
  let v600 : BitVec 32 := Scalar.extui v599
  let v601 : BitVec 32 := Scalar.subi v598 v600
  let c128_i32_180 : BitVec 32 := 128#32
  let c0_i32_183 : BitVec 32 := 0#32
  let v602 : BitVec 1 := Scalar.cmpi .sgt c128_i32_180 c0_i32_183
  let v603 : BitVec 32 := Scalar.extui v602
  let c0_i32_184 : BitVec 32 := 0#32
  let v604 : BitVec 1 := Scalar.cmpi .slt c128_i32_180 c0_i32_184
  let v605 : BitVec 32 := Scalar.extui v604
  let v606 : BitVec 32 := Scalar.subi v603 v605
  let v607 : BitVec 1 := Scalar.cmpi .ne v601 v606
  let v608 : BitVec 32 := Scalar.remsi v595 c128_i32_180
  let c0_i32_185 : BitVec 32 := 0#32
  let v609 : BitVec 1 := Scalar.cmpi .ne v608 c0_i32_185
  let v610 : BitVec 1 := Scalar.andi v607 v609
  let v596 : BitVec 32 := Scalar.divsi v595 c128_i32_180
  let c1_i32_186 : BitVec 32 := 1#32
  let v611 : BitVec 32 := Scalar.subi v596 c1_i32_186
  let v612 : BitVec 32 := Scalar.select v610 v611 v596
  let c128_i32_188 : BitVec 32 := 128#32
  let v616 : BitVec 32 := Scalar.muli v612 c128_i32_188
  let v617 : BitVec 32 := Scalar.subi v615 v616
  let c128_i32_189 : BitVec 32 := 128#32
  let v618 : BitVec 32 := Scalar.addi v617 c128_i32_189
  let c1_i32_190 : BitVec 32 := 1#32
  let v619 : BitVec 32 := Scalar.subi v618 c1_i32_190
  let c0_i32_192 : BitVec 32 := 0#32
  let v621 : BitVec 1 := Scalar.cmpi .sgt v619 c0_i32_192
  let v622 : BitVec 32 := Scalar.extui v621
  let c0_i32_193 : BitVec 32 := 0#32
  let v623 : BitVec 1 := Scalar.cmpi .slt v619 c0_i32_193
  let v624 : BitVec 32 := Scalar.extui v623
  let v625 : BitVec 32 := Scalar.subi v622 v624
  let c128_i32_191 : BitVec 32 := 128#32
  let c0_i32_194 : BitVec 32 := 0#32
  let v626 : BitVec 1 := Scalar.cmpi .sgt c128_i32_191 c0_i32_194
  let v627 : BitVec 32 := Scalar.extui v626
  let c0_i32_195 : BitVec 32 := 0#32
  let v628 : BitVec 1 := Scalar.cmpi .slt c128_i32_191 c0_i32_195
  let v629 : BitVec 32 := Scalar.extui v628
  let v630 : BitVec 32 := Scalar.subi v627 v629
  let v631 : BitVec 1 := Scalar.cmpi .ne v625 v630
  let v632 : BitVec 32 := Scalar.remsi v619 c128_i32_191
  let c0_i32_196 : BitVec 32 := 0#32
  let v633 : BitVec 1 := Scalar.cmpi .ne v632 c0_i32_196
  let v634 : BitVec 1 := Scalar.andi v631 v633
  let v620 : BitVec 32 := Scalar.divsi v619 c128_i32_191
  let c1_i32_197 : BitVec 32 := 1#32
  let v635 : BitVec 32 := Scalar.subi v620 c1_i32_197
  let v636 : BitVec 32 := Scalar.select v634 v635 v620
  let c2_i32_202 : BitVec 32 := 2#32
  let v643 : BitVec 1 := Scalar.cmpi .sgt v636 c2_i32_202
  let v644 : BitVec 32 := Scalar.extui v643
  let c0_i32_203 : BitVec 32 := 0#32
  let v645 : BitVec 1 := Scalar.cmpi .ne v644 c0_i32_203
  v645

def k0_off28 (i : grid0.Coords) : Fin 1 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  ![v593.toNat]
def k0_off29 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c256_i32 : BitVec 32 := 256#32
  let c0_i32_217 : BitVec 32 := 0#32
  ![v593.toNat, 256, 0]
def k0_off30 (v653 : BitVec 32) : Fin 2 → Nat :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c2_i32_215 : BitVec 32 := 2#32
  let v671 : BitVec 32 := Scalar.addi v670 c2_i32_215
  let c128_i32_216 : BitVec 32 := 128#32
  let v672 : BitVec 32 := Scalar.muli v671 c128_i32_216
  let v673 : BitVec 32 := v672
  let c0_i32_218 : BitVec 32 := 0#32
  ![v673.toNat, 0]
def k0_off31 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_219 : BitVec 32 := 0#32
  let c256_i32_220 : BitVec 32 := 256#32
  ![v593.toNat, 0, 256]
def k0_off32 (v653 : BitVec 32) : Fin 2 → Nat :=
  let c0_i32_221 : BitVec 32 := 0#32
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c2_i32_215 : BitVec 32 := 2#32
  let v671 : BitVec 32 := Scalar.addi v670 c2_i32_215
  let c128_i32_216 : BitVec 32 := 128#32
  let v672 : BitVec 32 := Scalar.muli v671 c128_i32_216
  let v673 : BitVec 32 := v672
  ![0, v673.toNat]

def k0_chk9 (i : grid0.Coords) (v595 : BitVec 32) (v615 : BitVec 32) (v653 : BitVec 32) : Prop :=
  (∀ (k0_h7 : k0_cond7 i = 1#1), ∀ (k0_h10 : k0_cond10 v595 v615 = 1#1), 128 ∣ (k0_mult10 v653).toNat) ∧
  (∀ (k0_h7 : k0_cond7 i = 1#1), ∀ (k0_h10 : k0_cond10 v595 v615 = 1#1), ∀ a, (k0_off30 v653) a + S128x128.size a ≤ S172032x128.size a) ∧
  (∀ (k0_h7 : k0_cond7 i = 1#1), ∀ (k0_h10 : k0_cond10 v595 v615 = 1#1), ∀ (hinb : ∀ a, (k0_off30 v653) a + S128x128.size a ≤ S172032x128.size a), (Rect.unit (s := S172032x128) (k0_off30 v653) S128x128.size hinb).WholeWords (EltTy.packing .fp8e4m3)) ∧
  (∀ (k0_h7 : k0_cond7 i = 1#1), ∀ (k0_h10 : k0_cond10 v595 v615 = 1#1), ∀ a, (k0_off32 v653) a + S4x128.size a ≤ S4x172032.size a)
theorem k0_mult10_dvd : ∀ (i : grid0.Coords) (v595 : BitVec 32) (v615 : BitVec 32) (v653 : BitVec 32) (k0_hw9 : k0_chk9 i v595 v615 v653), ∀ (k0_h7 : k0_cond7 i = 1#1), ∀ (k0_h10 : k0_cond10 v595 v615 = 1#1), 128 ∣ (k0_mult10 v653).toNat := fun i v595 v615 v653 k0_hw9 k0_h7 k0_h10 => k0_hw9.1 k0_h7 k0_h10
theorem k0_off30_inb : ∀ (i : grid0.Coords) (v595 : BitVec 32) (v615 : BitVec 32) (v653 : BitVec 32) (k0_hw9 : k0_chk9 i v595 v615 v653), ∀ (k0_h7 : k0_cond7 i = 1#1), ∀ (k0_h10 : k0_cond10 v595 v615 = 1#1), ∀ a, (k0_off30 v653) a + S128x128.size a ≤ S172032x128.size a := fun i v595 v615 v653 k0_hw9 k0_h7 k0_h10 => k0_hw9.2.1 k0_h7 k0_h10
theorem k0_off30_wordsfp8e4m3 : ∀ (i : grid0.Coords) (v595 : BitVec 32) (v615 : BitVec 32) (v653 : BitVec 32) (k0_hw9 : k0_chk9 i v595 v615 v653), ∀ (k0_h7 : k0_cond7 i = 1#1), ∀ (k0_h10 : k0_cond10 v595 v615 = 1#1), (Rect.unit (s := S172032x128) (k0_off30 v653) S128x128.size (k0_off30_inb i v595 v615 v653 k0_hw9 k0_h7 k0_h10)).WholeWords (EltTy.packing .fp8e4m3) := fun i v595 v615 v653 k0_hw9 k0_h7 k0_h10 => k0_hw9.2.2.1 k0_h7 k0_h10 (k0_off30_inb i v595 v615 v653 k0_hw9 k0_h7 k0_h10)
theorem k0_off32_inb : ∀ (i : grid0.Coords) (v595 : BitVec 32) (v615 : BitVec 32) (v653 : BitVec 32) (k0_hw9 : k0_chk9 i v595 v615 v653), ∀ (k0_h7 : k0_cond7 i = 1#1), ∀ (k0_h10 : k0_cond10 v595 v615 = 1#1), ∀ a, (k0_off32 v653) a + S4x128.size a ≤ S4x172032.size a := fun i v595 v615 v653 k0_hw9 k0_h7 k0_h10 => k0_hw9.2.2.2 k0_h7 k0_h10

def k0_off33 (i : grid0.Coords) : Fin 1 → Nat :=
  let arg0 : BitVec 32 := BitVec.ofNat 32 (i 0).val
  let c1_i32_178 : BitVec 32 := 1#32
  let v592 : BitVec 32 := Scalar.addi arg0 c1_i32_178
  let v652 : Index := Scalar.indexCast v592
  ![v652.toNat]
def k0_mult11 (v653 : BitVec 32) : BitVec 32 :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c3_i32_215 : BitVec 32 := 3#32
  let v671 : BitVec 32 := Scalar.addi v670 c3_i32_215
  let c128_i32_216 : BitVec 32 := 128#32
  let v672 : BitVec 32 := Scalar.muli v671 c128_i32_216
  v672
def k0_cond11 (v595 : BitVec 32) (v615 : BitVec 32) : BitVec 1 :=
  let c0_i32_181 : BitVec 32 := 0#32
  let v597 : BitVec 1 := Scalar.cmpi .sgt v595 c0_i32_181
  let v598 : BitVec 32 := Scalar.extui v597
  let c0_i32_182 : BitVec 32 := 0#32
  let v599 : BitVec 1 := Scalar.cmpi .slt v595 c0_i32_182
  let v600 : BitVec 32 := Scalar.extui v599
  let v601 : BitVec 32 := Scalar.subi v598 v600
  let c128_i32_180 : BitVec 32 := 128#32
  let c0_i32_183 : BitVec 32 := 0#32
  let v602 : BitVec 1 := Scalar.cmpi .sgt c128_i32_180 c0_i32_183
  let v603 : BitVec 32 := Scalar.extui v602
  let c0_i32_184 : BitVec 32 := 0#32
  let v604 : BitVec 1 := Scalar.cmpi .slt c128_i32_180 c0_i32_184
  let v605 : BitVec 32 := Scalar.extui v604
  let v606 : BitVec 32 := Scalar.subi v603 v605
  let v607 : BitVec 1 := Scalar.cmpi .ne v601 v606
  let v608 : BitVec 32 := Scalar.remsi v595 c128_i32_180
  let c0_i32_185 : BitVec 32 := 0#32
  let v609 : BitVec 1 := Scalar.cmpi .ne v608 c0_i32_185
  let v610 : BitVec 1 := Scalar.andi v607 v609
  let v596 : BitVec 32 := Scalar.divsi v595 c128_i32_180
  let c1_i32_186 : BitVec 32 := 1#32
  let v611 : BitVec 32 := Scalar.subi v596 c1_i32_186
  let v612 : BitVec 32 := Scalar.select v610 v611 v596
  let c128_i32_188 : BitVec 32 := 128#32
  let v616 : BitVec 32 := Scalar.muli v612 c128_i32_188
  let v617 : BitVec 32 := Scalar.subi v615 v616
  let c128_i32_189 : BitVec 32 := 128#32
  let v618 : BitVec 32 := Scalar.addi v617 c128_i32_189
  let c1_i32_190 : BitVec 32 := 1#32
  let v619 : BitVec 32 := Scalar.subi v618 c1_i32_190
  let c0_i32_192 : BitVec 32 := 0#32
  let v621 : BitVec 1 := Scalar.cmpi .sgt v619 c0_i32_192
  let v622 : BitVec 32 := Scalar.extui v621
  let c0_i32_193 : BitVec 32 := 0#32
  let v623 : BitVec 1 := Scalar.cmpi .slt v619 c0_i32_193
  let v624 : BitVec 32 := Scalar.extui v623
  let v625 : BitVec 32 := Scalar.subi v622 v624
  let c128_i32_191 : BitVec 32 := 128#32
  let c0_i32_194 : BitVec 32 := 0#32
  let v626 : BitVec 1 := Scalar.cmpi .sgt c128_i32_191 c0_i32_194
  let v627 : BitVec 32 := Scalar.extui v626
  let c0_i32_195 : BitVec 32 := 0#32
  let v628 : BitVec 1 := Scalar.cmpi .slt c128_i32_191 c0_i32_195
  let v629 : BitVec 32 := Scalar.extui v628
  let v630 : BitVec 32 := Scalar.subi v627 v629
  let v631 : BitVec 1 := Scalar.cmpi .ne v625 v630
  let v632 : BitVec 32 := Scalar.remsi v619 c128_i32_191
  let c0_i32_196 : BitVec 32 := 0#32
  let v633 : BitVec 1 := Scalar.cmpi .ne v632 c0_i32_196
  let v634 : BitVec 1 := Scalar.andi v631 v633
  let v620 : BitVec 32 := Scalar.divsi v619 c128_i32_191
  let c1_i32_197 : BitVec 32 := 1#32
  let v635 : BitVec 32 := Scalar.subi v620 c1_i32_197
  let v636 : BitVec 32 := Scalar.select v634 v635 v620
  let c3_i32_204 : BitVec 32 := 3#32
  let v646 : BitVec 1 := Scalar.cmpi .sgt v636 c3_i32_204
  let v647 : BitVec 32 := Scalar.extui v646
  let c0_i32_205 : BitVec 32 := 0#32
  let v648 : BitVec 1 := Scalar.cmpi .ne v647 c0_i32_205
  v648

def k0_off34 (i : grid0.Coords) : Fin 1 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  ![v593.toNat]
def k0_off35 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c384_i32 : BitVec 32 := 384#32
  let c0_i32_217 : BitVec 32 := 0#32
  ![v593.toNat, 384, 0]
def k0_off36 (v653 : BitVec 32) : Fin 2 → Nat :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c3_i32_215 : BitVec 32 := 3#32
  let v671 : BitVec 32 := Scalar.addi v670 c3_i32_215
  let c128_i32_216 : BitVec 32 := 128#32
  let v672 : BitVec 32 := Scalar.muli v671 c128_i32_216
  let v673 : BitVec 32 := v672
  let c0_i32_218 : BitVec 32 := 0#32
  ![v673.toNat, 0]
def k0_off37 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_219 : BitVec 32 := 0#32
  let c384_i32_220 : BitVec 32 := 384#32
  ![v593.toNat, 0, 384]
def k0_off38 (v653 : BitVec 32) : Fin 2 → Nat :=
  let c0_i32_221 : BitVec 32 := 0#32
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c3_i32_215 : BitVec 32 := 3#32
  let v671 : BitVec 32 := Scalar.addi v670 c3_i32_215
  let c128_i32_216 : BitVec 32 := 128#32
  let v672 : BitVec 32 := Scalar.muli v671 c128_i32_216
  let v673 : BitVec 32 := v672
  ![0, v673.toNat]

def k0_chk10 (i : grid0.Coords) (v595 : BitVec 32) (v615 : BitVec 32) (v653 : BitVec 32) : Prop :=
  (∀ (k0_h7 : k0_cond7 i = 1#1), ∀ (k0_h11 : k0_cond11 v595 v615 = 1#1), 128 ∣ (k0_mult11 v653).toNat) ∧
  (∀ (k0_h7 : k0_cond7 i = 1#1), ∀ (k0_h11 : k0_cond11 v595 v615 = 1#1), ∀ a, (k0_off36 v653) a + S128x128.size a ≤ S172032x128.size a) ∧
  (∀ (k0_h7 : k0_cond7 i = 1#1), ∀ (k0_h11 : k0_cond11 v595 v615 = 1#1), ∀ (hinb : ∀ a, (k0_off36 v653) a + S128x128.size a ≤ S172032x128.size a), (Rect.unit (s := S172032x128) (k0_off36 v653) S128x128.size hinb).WholeWords (EltTy.packing .fp8e4m3)) ∧
  (∀ (k0_h7 : k0_cond7 i = 1#1), ∀ (k0_h11 : k0_cond11 v595 v615 = 1#1), ∀ a, (k0_off38 v653) a + S4x128.size a ≤ S4x172032.size a)
theorem k0_mult11_dvd : ∀ (i : grid0.Coords) (v595 : BitVec 32) (v615 : BitVec 32) (v653 : BitVec 32) (k0_hw10 : k0_chk10 i v595 v615 v653), ∀ (k0_h7 : k0_cond7 i = 1#1), ∀ (k0_h11 : k0_cond11 v595 v615 = 1#1), 128 ∣ (k0_mult11 v653).toNat := fun i v595 v615 v653 k0_hw10 k0_h7 k0_h11 => k0_hw10.1 k0_h7 k0_h11
theorem k0_off36_inb : ∀ (i : grid0.Coords) (v595 : BitVec 32) (v615 : BitVec 32) (v653 : BitVec 32) (k0_hw10 : k0_chk10 i v595 v615 v653), ∀ (k0_h7 : k0_cond7 i = 1#1), ∀ (k0_h11 : k0_cond11 v595 v615 = 1#1), ∀ a, (k0_off36 v653) a + S128x128.size a ≤ S172032x128.size a := fun i v595 v615 v653 k0_hw10 k0_h7 k0_h11 => k0_hw10.2.1 k0_h7 k0_h11
theorem k0_off36_wordsfp8e4m3 : ∀ (i : grid0.Coords) (v595 : BitVec 32) (v615 : BitVec 32) (v653 : BitVec 32) (k0_hw10 : k0_chk10 i v595 v615 v653), ∀ (k0_h7 : k0_cond7 i = 1#1), ∀ (k0_h11 : k0_cond11 v595 v615 = 1#1), (Rect.unit (s := S172032x128) (k0_off36 v653) S128x128.size (k0_off36_inb i v595 v615 v653 k0_hw10 k0_h7 k0_h11)).WholeWords (EltTy.packing .fp8e4m3) := fun i v595 v615 v653 k0_hw10 k0_h7 k0_h11 => k0_hw10.2.2.1 k0_h7 k0_h11 (k0_off36_inb i v595 v615 v653 k0_hw10 k0_h7 k0_h11)
theorem k0_off38_inb : ∀ (i : grid0.Coords) (v595 : BitVec 32) (v615 : BitVec 32) (v653 : BitVec 32) (k0_hw10 : k0_chk10 i v595 v615 v653), ∀ (k0_h7 : k0_cond7 i = 1#1), ∀ (k0_h11 : k0_cond11 v595 v615 = 1#1), ∀ a, (k0_off38 v653) a + S4x128.size a ≤ S4x172032.size a := fun i v595 v615 v653 k0_hw10 k0_h7 k0_h11 => k0_hw10.2.2.2 k0_h7 k0_h11

def k0_off39 (i : grid0.Coords) : Fin 1 → Nat :=
  let arg0 : BitVec 32 := BitVec.ofNat 32 (i 0).val
  let c1_i32_178 : BitVec 32 := 1#32
  let v592 : BitVec 32 := Scalar.addi arg0 c1_i32_178
  let v652 : Index := Scalar.indexCast v592
  ![v652.toNat]
def k0_mult12 (v653 : BitVec 32) : BitVec 32 :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c4_i32_215 : BitVec 32 := 4#32
  let v671 : BitVec 32 := Scalar.addi v670 c4_i32_215
  let c128_i32_216 : BitVec 32 := 128#32
  let v672 : BitVec 32 := Scalar.muli v671 c128_i32_216
  v672
def k0_cond12 (v595 : BitVec 32) (v615 : BitVec 32) : BitVec 1 :=
  let c0_i32_181 : BitVec 32 := 0#32
  let v597 : BitVec 1 := Scalar.cmpi .sgt v595 c0_i32_181
  let v598 : BitVec 32 := Scalar.extui v597
  let c0_i32_182 : BitVec 32 := 0#32
  let v599 : BitVec 1 := Scalar.cmpi .slt v595 c0_i32_182
  let v600 : BitVec 32 := Scalar.extui v599
  let v601 : BitVec 32 := Scalar.subi v598 v600
  let c128_i32_180 : BitVec 32 := 128#32
  let c0_i32_183 : BitVec 32 := 0#32
  let v602 : BitVec 1 := Scalar.cmpi .sgt c128_i32_180 c0_i32_183
  let v603 : BitVec 32 := Scalar.extui v602
  let c0_i32_184 : BitVec 32 := 0#32
  let v604 : BitVec 1 := Scalar.cmpi .slt c128_i32_180 c0_i32_184
  let v605 : BitVec 32 := Scalar.extui v604
  let v606 : BitVec 32 := Scalar.subi v603 v605
  let v607 : BitVec 1 := Scalar.cmpi .ne v601 v606
  let v608 : BitVec 32 := Scalar.remsi v595 c128_i32_180
  let c0_i32_185 : BitVec 32 := 0#32
  let v609 : BitVec 1 := Scalar.cmpi .ne v608 c0_i32_185
  let v610 : BitVec 1 := Scalar.andi v607 v609
  let v596 : BitVec 32 := Scalar.divsi v595 c128_i32_180
  let c1_i32_186 : BitVec 32 := 1#32
  let v611 : BitVec 32 := Scalar.subi v596 c1_i32_186
  let v612 : BitVec 32 := Scalar.select v610 v611 v596
  let c128_i32_188 : BitVec 32 := 128#32
  let v616 : BitVec 32 := Scalar.muli v612 c128_i32_188
  let v617 : BitVec 32 := Scalar.subi v615 v616
  let c128_i32_189 : BitVec 32 := 128#32
  let v618 : BitVec 32 := Scalar.addi v617 c128_i32_189
  let c1_i32_190 : BitVec 32 := 1#32
  let v619 : BitVec 32 := Scalar.subi v618 c1_i32_190
  let c0_i32_192 : BitVec 32 := 0#32
  let v621 : BitVec 1 := Scalar.cmpi .sgt v619 c0_i32_192
  let v622 : BitVec 32 := Scalar.extui v621
  let c0_i32_193 : BitVec 32 := 0#32
  let v623 : BitVec 1 := Scalar.cmpi .slt v619 c0_i32_193
  let v624 : BitVec 32 := Scalar.extui v623
  let v625 : BitVec 32 := Scalar.subi v622 v624
  let c128_i32_191 : BitVec 32 := 128#32
  let c0_i32_194 : BitVec 32 := 0#32
  let v626 : BitVec 1 := Scalar.cmpi .sgt c128_i32_191 c0_i32_194
  let v627 : BitVec 32 := Scalar.extui v626
  let c0_i32_195 : BitVec 32 := 0#32
  let v628 : BitVec 1 := Scalar.cmpi .slt c128_i32_191 c0_i32_195
  let v629 : BitVec 32 := Scalar.extui v628
  let v630 : BitVec 32 := Scalar.subi v627 v629
  let v631 : BitVec 1 := Scalar.cmpi .ne v625 v630
  let v632 : BitVec 32 := Scalar.remsi v619 c128_i32_191
  let c0_i32_196 : BitVec 32 := 0#32
  let v633 : BitVec 1 := Scalar.cmpi .ne v632 c0_i32_196
  let v634 : BitVec 1 := Scalar.andi v631 v633
  let v620 : BitVec 32 := Scalar.divsi v619 c128_i32_191
  let c1_i32_197 : BitVec 32 := 1#32
  let v635 : BitVec 32 := Scalar.subi v620 c1_i32_197
  let v636 : BitVec 32 := Scalar.select v634 v635 v620
  let c4_i32_206 : BitVec 32 := 4#32
  let v649 : BitVec 1 := Scalar.cmpi .sgt v636 c4_i32_206
  let v650 : BitVec 32 := Scalar.extui v649
  let c0_i32_207 : BitVec 32 := 0#32
  let v651 : BitVec 1 := Scalar.cmpi .ne v650 c0_i32_207
  v651

def k0_off40 (i : grid0.Coords) : Fin 1 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  ![v593.toNat]
def k0_off41 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c512_i32 : BitVec 32 := 512#32
  let c0_i32_217 : BitVec 32 := 0#32
  ![v593.toNat, 512, 0]
def k0_off42 (v653 : BitVec 32) : Fin 2 → Nat :=
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c4_i32_215 : BitVec 32 := 4#32
  let v671 : BitVec 32 := Scalar.addi v670 c4_i32_215
  let c128_i32_216 : BitVec 32 := 128#32
  let v672 : BitVec 32 := Scalar.muli v671 c128_i32_216
  let v673 : BitVec 32 := v672
  let c0_i32_218 : BitVec 32 := 0#32
  ![v673.toNat, 0]
def k0_off43 (i : grid0.Coords) : Fin 3 → Nat :=
  let c1_i32_179 : BitVec 32 := 1#32
  let arg0 : BitVec 32 := BitVec.ofNat 32 (i 0).val
  let c2_i32 : BitVec 32 := 2#32
  let v23 : BitVec 32 := Scalar.remsi arg0 c2_i32
  let v593 : BitVec 32 := Scalar.subi c1_i32_179 v23
  let c0_i32_219 : BitVec 32 := 0#32
  let c512_i32_220 : BitVec 32 := 512#32
  ![v593.toNat, 0, 512]
def k0_off44 (v653 : BitVec 32) : Fin 2 → Nat :=
  let c0_i32_221 : BitVec 32 := 0#32
  let c0_i32_209 : BitVec 32 := 0#32
  let v655 : BitVec 1 := Scalar.cmpi .sgt v653 c0_i32_209
  let v656 : BitVec 32 := Scalar.extui v655
  let c0_i32_210 : BitVec 32 := 0#32
  let v657 : BitVec 1 := Scalar.cmpi .slt v653 c0_i32_210
  let v658 : BitVec 32 := Scalar.extui v657
  let v659 : BitVec 32 := Scalar.subi v656 v658
  let c128_i32_208 : BitVec 32 := 128#32
  let c0_i32_211 : BitVec 32 := 0#32
  let v660 : BitVec 1 := Scalar.cmpi .sgt c128_i32_208 c0_i32_211
  let v661 : BitVec 32 := Scalar.extui v660
  let c0_i32_212 : BitVec 32 := 0#32
  let v662 : BitVec 1 := Scalar.cmpi .slt c128_i32_208 c0_i32_212
  let v663 : BitVec 32 := Scalar.extui v662
  let v664 : BitVec 32 := Scalar.subi v661 v663
  let v665 : BitVec 1 := Scalar.cmpi .ne v659 v664
  let v666 : BitVec 32 := Scalar.remsi v653 c128_i32_208
  let c0_i32_213 : BitVec 32 := 0#32
  let v667 : BitVec 1 := Scalar.cmpi .ne v666 c0_i32_213
  let v668 : BitVec 1 := Scalar.andi v665 v667
  let v654 : BitVec 32 := Scalar.divsi v653 c128_i32_208
  let c1_i32_214 : BitVec 32 := 1#32
  let v669 : BitVec 32 := Scalar.subi v654 c1_i32_214
  let v670 : BitVec 32 := Scalar.select v668 v669 v654
  let c4_i32_215 : BitVec 32 := 4#32
  let v671 : BitVec 32 := Scalar.addi v670 c4_i32_215
  let c128_i32_216 : BitVec 32 := 128#32
  let v672 : BitVec 32 := Scalar.muli v671 c128_i32_216
  let v673 : BitVec 32 := v672
  ![0, v673.toNat]

def k0_chk11 (i : grid0.Coords) (v595 : BitVec 32) (v615 : BitVec 32) (v653 : BitVec 32) : Prop :=
  (∀ (k0_h7 : k0_cond7 i = 1#1), ∀ (k0_h12 : k0_cond12 v595 v615 = 1#1), 128 ∣ (k0_mult12 v653).toNat) ∧
  (∀ (k0_h7 : k0_cond7 i = 1#1), ∀ (k0_h12 : k0_cond12 v595 v615 = 1#1), ∀ a, (k0_off42 v653) a + S128x128.size a ≤ S172032x128.size a) ∧
  (∀ (k0_h7 : k0_cond7 i = 1#1), ∀ (k0_h12 : k0_cond12 v595 v615 = 1#1), ∀ (hinb : ∀ a, (k0_off42 v653) a + S128x128.size a ≤ S172032x128.size a), (Rect.unit (s := S172032x128) (k0_off42 v653) S128x128.size hinb).WholeWords (EltTy.packing .fp8e4m3)) ∧
  (∀ (k0_h7 : k0_cond7 i = 1#1), ∀ (k0_h12 : k0_cond12 v595 v615 = 1#1), ∀ a, (k0_off44 v653) a + S4x128.size a ≤ S4x172032.size a)
theorem k0_mult12_dvd : ∀ (i : grid0.Coords) (v595 : BitVec 32) (v615 : BitVec 32) (v653 : BitVec 32) (k0_hw11 : k0_chk11 i v595 v615 v653), ∀ (k0_h7 : k0_cond7 i = 1#1), ∀ (k0_h12 : k0_cond12 v595 v615 = 1#1), 128 ∣ (k0_mult12 v653).toNat := fun i v595 v615 v653 k0_hw11 k0_h7 k0_h12 => k0_hw11.1 k0_h7 k0_h12
theorem k0_off42_inb : ∀ (i : grid0.Coords) (v595 : BitVec 32) (v615 : BitVec 32) (v653 : BitVec 32) (k0_hw11 : k0_chk11 i v595 v615 v653), ∀ (k0_h7 : k0_cond7 i = 1#1), ∀ (k0_h12 : k0_cond12 v595 v615 = 1#1), ∀ a, (k0_off42 v653) a + S128x128.size a ≤ S172032x128.size a := fun i v595 v615 v653 k0_hw11 k0_h7 k0_h12 => k0_hw11.2.1 k0_h7 k0_h12
theorem k0_off42_wordsfp8e4m3 : ∀ (i : grid0.Coords) (v595 : BitVec 32) (v615 : BitVec 32) (v653 : BitVec 32) (k0_hw11 : k0_chk11 i v595 v615 v653), ∀ (k0_h7 : k0_cond7 i = 1#1), ∀ (k0_h12 : k0_cond12 v595 v615 = 1#1), (Rect.unit (s := S172032x128) (k0_off42 v653) S128x128.size (k0_off42_inb i v595 v615 v653 k0_hw11 k0_h7 k0_h12)).WholeWords (EltTy.packing .fp8e4m3) := fun i v595 v615 v653 k0_hw11 k0_h7 k0_h12 => k0_hw11.2.2.1 k0_h7 k0_h12 (k0_off42_inb i v595 v615 v653 k0_hw11 k0_h7 k0_h12)
theorem k0_off44_inb : ∀ (i : grid0.Coords) (v595 : BitVec 32) (v615 : BitVec 32) (v653 : BitVec 32) (k0_hw11 : k0_chk11 i v595 v615 v653), ∀ (k0_h7 : k0_cond7 i = 1#1), ∀ (k0_h12 : k0_cond12 v595 v615 = 1#1), ∀ a, (k0_off44 v653) a + S4x128.size a ≤ S4x172032.size a := fun i v595 v615 v653 k0_hw11 k0_h7 k0_h12 => k0_hw11.2.2.2 k0_h7 k0_h12

def k0_off45 (i : grid0.Coords) : Fin 1 → Nat :=
  let arg0 : BitVec 32 := BitVec.ofNat 32 (i 0).val
  let v28 : Index := Scalar.indexCast arg0
  ![v28.toNat]
def k0_off46 (i : grid0.Coords) : Fin 1 → Nat :=
  let arg0 : BitVec 32 := BitVec.ofNat 32 (i 0).val
  let c1_i32_17 : BitVec 32 := 1#32
  let v47 : BitVec 32 := Scalar.addi arg0 c1_i32_17
  let v48 : Index := Scalar.indexCast v47
  ![v48.toNat]
def k0_off47 (i : grid0.Coords) : Fin 1 → Nat :=
  let arg0 : BitVec 32 := BitVec.ofNat 32 (i 0).val
  let v592 : Index := Scalar.indexCast arg0
  ![v592.toNat]
def k0_mult13 (v593 : BitVec 32) : BitVec 32 :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c0_i32_185 : BitVec 32 := 0#32
  let v611 : BitVec 32 := Scalar.addi v610 c0_i32_185
  let c128_i32_186 : BitVec 32 := 128#32
  let v612 : BitVec 32 := Scalar.muli v611 c128_i32_186
  v612
def k0_cond13 (v29 : BitVec 32) (v49 : BitVec 32) : BitVec 1 :=
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32_10 : BitVec 32 := 128#32
  let c0_i32_13 : BitVec 32 := 0#32
  let v36 : BitVec 1 := Scalar.cmpi .sgt c128_i32_10 c0_i32_13
  let v37 : BitVec 32 := Scalar.extui v36
  let c0_i32_14 : BitVec 32 := 0#32
  let v38 : BitVec 1 := Scalar.cmpi .slt c128_i32_10 c0_i32_14
  let v39 : BitVec 32 := Scalar.extui v38
  let v40 : BitVec 32 := Scalar.subi v37 v39
  let v41 : BitVec 1 := Scalar.cmpi .ne v35 v40
  let v42 : BitVec 32 := Scalar.remsi v29 c128_i32_10
  let c0_i32_15 : BitVec 32 := 0#32
  let v43 : BitVec 1 := Scalar.cmpi .ne v42 c0_i32_15
  let v44 : BitVec 1 := Scalar.andi v41 v43
  let v30 : BitVec 32 := Scalar.divsi v29 c128_i32_10
  let c1_i32_16 : BitVec 32 := 1#32
  let v45 : BitVec 32 := Scalar.subi v30 c1_i32_16
  let v46 : BitVec 32 := Scalar.select v44 v45 v30
  let c128_i32_18 : BitVec 32 := 128#32
  let v50 : BitVec 32 := Scalar.muli v46 c128_i32_18
  let v51 : BitVec 32 := Scalar.subi v49 v50
  let c128_i32_19 : BitVec 32 := 128#32
  let v52 : BitVec 32 := Scalar.addi v51 c128_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c0_i32_28 : BitVec 32 := 0#32
  let v71 : BitVec 1 := Scalar.cmpi .sgt v70 c0_i32_28
  let v72 : BitVec 32 := Scalar.extui v71
  let c0_i32_29 : BitVec 32 := 0#32
  let v73 : BitVec 1 := Scalar.cmpi .ne v72 c0_i32_29
  v73

def k0_off48 (i : grid0.Coords) : Fin 1 → Nat :=
  let arg0 : BitVec 32 := BitVec.ofNat 32 (i 0).val
  let c2_i32 : BitVec 32 := 2#32
  let v23 : BitVec 32 := Scalar.remsi arg0 c2_i32
  ![v23.toNat]
def k0_off49 (i : grid0.Coords) : Fin 3 → Nat :=
  let arg0 : BitVec 32 := BitVec.ofNat 32 (i 0).val
  let c2_i32 : BitVec 32 := 2#32
  let v23 : BitVec 32 := Scalar.remsi arg0 c2_i32
  let c0_i32_187 : BitVec 32 := 0#32
  let c0_i32_188 : BitVec 32 := 0#32
  ![v23.toNat, 0, 0]
def k0_off50 (v593 : BitVec 32) : Fin 2 → Nat :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c0_i32_185 : BitVec 32 := 0#32
  let v611 : BitVec 32 := Scalar.addi v610 c0_i32_185
  let c128_i32_186 : BitVec 32 := 128#32
  let v612 : BitVec 32 := Scalar.muli v611 c128_i32_186
  let v613 : BitVec 32 := v612
  let c0_i32_189 : BitVec 32 := 0#32
  ![v613.toNat, 0]
def k0_off51 (i : grid0.Coords) : Fin 3 → Nat :=
  let arg0 : BitVec 32 := BitVec.ofNat 32 (i 0).val
  let c2_i32 : BitVec 32 := 2#32
  let v23 : BitVec 32 := Scalar.remsi arg0 c2_i32
  let c0_i32_190 : BitVec 32 := 0#32
  let c0_i32_191 : BitVec 32 := 0#32
  ![v23.toNat, 0, 0]
def k0_off52 (v593 : BitVec 32) : Fin 2 → Nat :=
  let c0_i32_192 : BitVec 32 := 0#32
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c0_i32_185 : BitVec 32 := 0#32
  let v611 : BitVec 32 := Scalar.addi v610 c0_i32_185
  let c128_i32_186 : BitVec 32 := 128#32
  let v612 : BitVec 32 := Scalar.muli v611 c128_i32_186
  let v613 : BitVec 32 := v612
  ![0, v613.toNat]

def k0_chk12 (v29 : BitVec 32) (v49 : BitVec 32) (v593 : BitVec 32) : Prop :=
  (∀ (k0_h13 : k0_cond13 v29 v49 = 1#1), 128 ∣ (k0_mult13 v593).toNat) ∧
  (∀ (k0_h13 : k0_cond13 v29 v49 = 1#1), ∀ a, (k0_off50 v593) a + S128x128.size a ≤ S172032x128.size a) ∧
  (∀ (k0_h13 : k0_cond13 v29 v49 = 1#1), ∀ (hinb : ∀ a, (k0_off50 v593) a + S128x128.size a ≤ S172032x128.size a), (Rect.unit (s := S172032x128) (k0_off50 v593) S128x128.size hinb).WholeWords (EltTy.packing .fp8e4m3)) ∧
  (∀ (k0_h13 : k0_cond13 v29 v49 = 1#1), ∀ a, (k0_off52 v593) a + S4x128.size a ≤ S4x172032.size a)
theorem k0_mult13_dvd : ∀ (v29 : BitVec 32) (v49 : BitVec 32) (v593 : BitVec 32) (k0_hw12 : k0_chk12 v29 v49 v593), ∀ (k0_h13 : k0_cond13 v29 v49 = 1#1), 128 ∣ (k0_mult13 v593).toNat := fun v29 v49 v593 k0_hw12 k0_h13 => k0_hw12.1 k0_h13
theorem k0_off50_inb : ∀ (v29 : BitVec 32) (v49 : BitVec 32) (v593 : BitVec 32) (k0_hw12 : k0_chk12 v29 v49 v593), ∀ (k0_h13 : k0_cond13 v29 v49 = 1#1), ∀ a, (k0_off50 v593) a + S128x128.size a ≤ S172032x128.size a := fun v29 v49 v593 k0_hw12 k0_h13 => k0_hw12.2.1 k0_h13
theorem k0_off50_wordsfp8e4m3 : ∀ (v29 : BitVec 32) (v49 : BitVec 32) (v593 : BitVec 32) (k0_hw12 : k0_chk12 v29 v49 v593), ∀ (k0_h13 : k0_cond13 v29 v49 = 1#1), (Rect.unit (s := S172032x128) (k0_off50 v593) S128x128.size (k0_off50_inb v29 v49 v593 k0_hw12 k0_h13)).WholeWords (EltTy.packing .fp8e4m3) := fun v29 v49 v593 k0_hw12 k0_h13 => k0_hw12.2.2.1 k0_h13 (k0_off50_inb v29 v49 v593 k0_hw12 k0_h13)
theorem k0_off52_inb : ∀ (v29 : BitVec 32) (v49 : BitVec 32) (v593 : BitVec 32) (k0_hw12 : k0_chk12 v29 v49 v593), ∀ (k0_h13 : k0_cond13 v29 v49 = 1#1), ∀ a, (k0_off52 v593) a + S4x128.size a ≤ S4x172032.size a := fun v29 v49 v593 k0_hw12 k0_h13 => k0_hw12.2.2.2 k0_h13

def k0_off53 (i : grid0.Coords) : Fin 1 → Nat :=
  let arg0 : BitVec 32 := BitVec.ofNat 32 (i 0).val
  let v592 : Index := Scalar.indexCast arg0
  ![v592.toNat]
def k0_mult14 (v593 : BitVec 32) : BitVec 32 :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c1_i32_185 : BitVec 32 := 1#32
  let v611 : BitVec 32 := Scalar.addi v610 c1_i32_185
  let c128_i32_186 : BitVec 32 := 128#32
  let v612 : BitVec 32 := Scalar.muli v611 c128_i32_186
  v612
def k0_cond14 (v29 : BitVec 32) (v49 : BitVec 32) : BitVec 1 :=
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32_10 : BitVec 32 := 128#32
  let c0_i32_13 : BitVec 32 := 0#32
  let v36 : BitVec 1 := Scalar.cmpi .sgt c128_i32_10 c0_i32_13
  let v37 : BitVec 32 := Scalar.extui v36
  let c0_i32_14 : BitVec 32 := 0#32
  let v38 : BitVec 1 := Scalar.cmpi .slt c128_i32_10 c0_i32_14
  let v39 : BitVec 32 := Scalar.extui v38
  let v40 : BitVec 32 := Scalar.subi v37 v39
  let v41 : BitVec 1 := Scalar.cmpi .ne v35 v40
  let v42 : BitVec 32 := Scalar.remsi v29 c128_i32_10
  let c0_i32_15 : BitVec 32 := 0#32
  let v43 : BitVec 1 := Scalar.cmpi .ne v42 c0_i32_15
  let v44 : BitVec 1 := Scalar.andi v41 v43
  let v30 : BitVec 32 := Scalar.divsi v29 c128_i32_10
  let c1_i32_16 : BitVec 32 := 1#32
  let v45 : BitVec 32 := Scalar.subi v30 c1_i32_16
  let v46 : BitVec 32 := Scalar.select v44 v45 v30
  let c128_i32_18 : BitVec 32 := 128#32
  let v50 : BitVec 32 := Scalar.muli v46 c128_i32_18
  let v51 : BitVec 32 := Scalar.subi v49 v50
  let c128_i32_19 : BitVec 32 := 128#32
  let v52 : BitVec 32 := Scalar.addi v51 c128_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c1_i32_30 : BitVec 32 := 1#32
  let v74 : BitVec 1 := Scalar.cmpi .sgt v70 c1_i32_30
  let v75 : BitVec 32 := Scalar.extui v74
  let c0_i32_31 : BitVec 32 := 0#32
  let v76 : BitVec 1 := Scalar.cmpi .ne v75 c0_i32_31
  v76

def k0_off54 (i : grid0.Coords) : Fin 1 → Nat :=
  let arg0 : BitVec 32 := BitVec.ofNat 32 (i 0).val
  let c2_i32 : BitVec 32 := 2#32
  let v23 : BitVec 32 := Scalar.remsi arg0 c2_i32
  ![v23.toNat]
def k0_off55 (i : grid0.Coords) : Fin 3 → Nat :=
  let arg0 : BitVec 32 := BitVec.ofNat 32 (i 0).val
  let c2_i32 : BitVec 32 := 2#32
  let v23 : BitVec 32 := Scalar.remsi arg0 c2_i32
  let c128_i32_187 : BitVec 32 := 128#32
  let c0_i32_188 : BitVec 32 := 0#32
  ![v23.toNat, 128, 0]
def k0_off56 (v593 : BitVec 32) : Fin 2 → Nat :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c1_i32_185 : BitVec 32 := 1#32
  let v611 : BitVec 32 := Scalar.addi v610 c1_i32_185
  let c128_i32_186 : BitVec 32 := 128#32
  let v612 : BitVec 32 := Scalar.muli v611 c128_i32_186
  let v613 : BitVec 32 := v612
  let c0_i32_189 : BitVec 32 := 0#32
  ![v613.toNat, 0]
def k0_off57 (i : grid0.Coords) : Fin 3 → Nat :=
  let arg0 : BitVec 32 := BitVec.ofNat 32 (i 0).val
  let c2_i32 : BitVec 32 := 2#32
  let v23 : BitVec 32 := Scalar.remsi arg0 c2_i32
  let c0_i32_190 : BitVec 32 := 0#32
  let c128_i32_191 : BitVec 32 := 128#32
  ![v23.toNat, 0, 128]
def k0_off58 (v593 : BitVec 32) : Fin 2 → Nat :=
  let c0_i32_192 : BitVec 32 := 0#32
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c1_i32_185 : BitVec 32 := 1#32
  let v611 : BitVec 32 := Scalar.addi v610 c1_i32_185
  let c128_i32_186 : BitVec 32 := 128#32
  let v612 : BitVec 32 := Scalar.muli v611 c128_i32_186
  let v613 : BitVec 32 := v612
  ![0, v613.toNat]

def k0_chk13 (v29 : BitVec 32) (v49 : BitVec 32) (v593 : BitVec 32) : Prop :=
  (∀ (k0_h14 : k0_cond14 v29 v49 = 1#1), 128 ∣ (k0_mult14 v593).toNat) ∧
  (∀ (k0_h14 : k0_cond14 v29 v49 = 1#1), ∀ a, (k0_off56 v593) a + S128x128.size a ≤ S172032x128.size a) ∧
  (∀ (k0_h14 : k0_cond14 v29 v49 = 1#1), ∀ (hinb : ∀ a, (k0_off56 v593) a + S128x128.size a ≤ S172032x128.size a), (Rect.unit (s := S172032x128) (k0_off56 v593) S128x128.size hinb).WholeWords (EltTy.packing .fp8e4m3)) ∧
  (∀ (k0_h14 : k0_cond14 v29 v49 = 1#1), ∀ a, (k0_off58 v593) a + S4x128.size a ≤ S4x172032.size a)
theorem k0_mult14_dvd : ∀ (v29 : BitVec 32) (v49 : BitVec 32) (v593 : BitVec 32) (k0_hw13 : k0_chk13 v29 v49 v593), ∀ (k0_h14 : k0_cond14 v29 v49 = 1#1), 128 ∣ (k0_mult14 v593).toNat := fun v29 v49 v593 k0_hw13 k0_h14 => k0_hw13.1 k0_h14
theorem k0_off56_inb : ∀ (v29 : BitVec 32) (v49 : BitVec 32) (v593 : BitVec 32) (k0_hw13 : k0_chk13 v29 v49 v593), ∀ (k0_h14 : k0_cond14 v29 v49 = 1#1), ∀ a, (k0_off56 v593) a + S128x128.size a ≤ S172032x128.size a := fun v29 v49 v593 k0_hw13 k0_h14 => k0_hw13.2.1 k0_h14
theorem k0_off56_wordsfp8e4m3 : ∀ (v29 : BitVec 32) (v49 : BitVec 32) (v593 : BitVec 32) (k0_hw13 : k0_chk13 v29 v49 v593), ∀ (k0_h14 : k0_cond14 v29 v49 = 1#1), (Rect.unit (s := S172032x128) (k0_off56 v593) S128x128.size (k0_off56_inb v29 v49 v593 k0_hw13 k0_h14)).WholeWords (EltTy.packing .fp8e4m3) := fun v29 v49 v593 k0_hw13 k0_h14 => k0_hw13.2.2.1 k0_h14 (k0_off56_inb v29 v49 v593 k0_hw13 k0_h14)
theorem k0_off58_inb : ∀ (v29 : BitVec 32) (v49 : BitVec 32) (v593 : BitVec 32) (k0_hw13 : k0_chk13 v29 v49 v593), ∀ (k0_h14 : k0_cond14 v29 v49 = 1#1), ∀ a, (k0_off58 v593) a + S4x128.size a ≤ S4x172032.size a := fun v29 v49 v593 k0_hw13 k0_h14 => k0_hw13.2.2.2 k0_h14

def k0_off59 (i : grid0.Coords) : Fin 1 → Nat :=
  let arg0 : BitVec 32 := BitVec.ofNat 32 (i 0).val
  let v592 : Index := Scalar.indexCast arg0
  ![v592.toNat]
def k0_mult15 (v593 : BitVec 32) : BitVec 32 :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c2_i32_185 : BitVec 32 := 2#32
  let v611 : BitVec 32 := Scalar.addi v610 c2_i32_185
  let c128_i32_186 : BitVec 32 := 128#32
  let v612 : BitVec 32 := Scalar.muli v611 c128_i32_186
  v612
def k0_cond15 (v29 : BitVec 32) (v49 : BitVec 32) : BitVec 1 :=
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32_10 : BitVec 32 := 128#32
  let c0_i32_13 : BitVec 32 := 0#32
  let v36 : BitVec 1 := Scalar.cmpi .sgt c128_i32_10 c0_i32_13
  let v37 : BitVec 32 := Scalar.extui v36
  let c0_i32_14 : BitVec 32 := 0#32
  let v38 : BitVec 1 := Scalar.cmpi .slt c128_i32_10 c0_i32_14
  let v39 : BitVec 32 := Scalar.extui v38
  let v40 : BitVec 32 := Scalar.subi v37 v39
  let v41 : BitVec 1 := Scalar.cmpi .ne v35 v40
  let v42 : BitVec 32 := Scalar.remsi v29 c128_i32_10
  let c0_i32_15 : BitVec 32 := 0#32
  let v43 : BitVec 1 := Scalar.cmpi .ne v42 c0_i32_15
  let v44 : BitVec 1 := Scalar.andi v41 v43
  let v30 : BitVec 32 := Scalar.divsi v29 c128_i32_10
  let c1_i32_16 : BitVec 32 := 1#32
  let v45 : BitVec 32 := Scalar.subi v30 c1_i32_16
  let v46 : BitVec 32 := Scalar.select v44 v45 v30
  let c128_i32_18 : BitVec 32 := 128#32
  let v50 : BitVec 32 := Scalar.muli v46 c128_i32_18
  let v51 : BitVec 32 := Scalar.subi v49 v50
  let c128_i32_19 : BitVec 32 := 128#32
  let v52 : BitVec 32 := Scalar.addi v51 c128_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c2_i32_32 : BitVec 32 := 2#32
  let v77 : BitVec 1 := Scalar.cmpi .sgt v70 c2_i32_32
  let v78 : BitVec 32 := Scalar.extui v77
  let c0_i32_33 : BitVec 32 := 0#32
  let v79 : BitVec 1 := Scalar.cmpi .ne v78 c0_i32_33
  v79

def k0_off60 (i : grid0.Coords) : Fin 1 → Nat :=
  let arg0 : BitVec 32 := BitVec.ofNat 32 (i 0).val
  let c2_i32 : BitVec 32 := 2#32
  let v23 : BitVec 32 := Scalar.remsi arg0 c2_i32
  ![v23.toNat]
def k0_off61 (i : grid0.Coords) : Fin 3 → Nat :=
  let arg0 : BitVec 32 := BitVec.ofNat 32 (i 0).val
  let c2_i32 : BitVec 32 := 2#32
  let v23 : BitVec 32 := Scalar.remsi arg0 c2_i32
  let c256_i32 : BitVec 32 := 256#32
  let c0_i32_187 : BitVec 32 := 0#32
  ![v23.toNat, 256, 0]
def k0_off62 (v593 : BitVec 32) : Fin 2 → Nat :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c2_i32_185 : BitVec 32 := 2#32
  let v611 : BitVec 32 := Scalar.addi v610 c2_i32_185
  let c128_i32_186 : BitVec 32 := 128#32
  let v612 : BitVec 32 := Scalar.muli v611 c128_i32_186
  let v613 : BitVec 32 := v612
  let c0_i32_188 : BitVec 32 := 0#32
  ![v613.toNat, 0]
def k0_off63 (i : grid0.Coords) : Fin 3 → Nat :=
  let arg0 : BitVec 32 := BitVec.ofNat 32 (i 0).val
  let c2_i32 : BitVec 32 := 2#32
  let v23 : BitVec 32 := Scalar.remsi arg0 c2_i32
  let c0_i32_189 : BitVec 32 := 0#32
  let c256_i32_190 : BitVec 32 := 256#32
  ![v23.toNat, 0, 256]
def k0_off64 (v593 : BitVec 32) : Fin 2 → Nat :=
  let c0_i32_191 : BitVec 32 := 0#32
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c2_i32_185 : BitVec 32 := 2#32
  let v611 : BitVec 32 := Scalar.addi v610 c2_i32_185
  let c128_i32_186 : BitVec 32 := 128#32
  let v612 : BitVec 32 := Scalar.muli v611 c128_i32_186
  let v613 : BitVec 32 := v612
  ![0, v613.toNat]

def k0_chk14 (v29 : BitVec 32) (v49 : BitVec 32) (v593 : BitVec 32) : Prop :=
  (∀ (k0_h15 : k0_cond15 v29 v49 = 1#1), 128 ∣ (k0_mult15 v593).toNat) ∧
  (∀ (k0_h15 : k0_cond15 v29 v49 = 1#1), ∀ a, (k0_off62 v593) a + S128x128.size a ≤ S172032x128.size a) ∧
  (∀ (k0_h15 : k0_cond15 v29 v49 = 1#1), ∀ (hinb : ∀ a, (k0_off62 v593) a + S128x128.size a ≤ S172032x128.size a), (Rect.unit (s := S172032x128) (k0_off62 v593) S128x128.size hinb).WholeWords (EltTy.packing .fp8e4m3)) ∧
  (∀ (k0_h15 : k0_cond15 v29 v49 = 1#1), ∀ a, (k0_off64 v593) a + S4x128.size a ≤ S4x172032.size a)
theorem k0_mult15_dvd : ∀ (v29 : BitVec 32) (v49 : BitVec 32) (v593 : BitVec 32) (k0_hw14 : k0_chk14 v29 v49 v593), ∀ (k0_h15 : k0_cond15 v29 v49 = 1#1), 128 ∣ (k0_mult15 v593).toNat := fun v29 v49 v593 k0_hw14 k0_h15 => k0_hw14.1 k0_h15
theorem k0_off62_inb : ∀ (v29 : BitVec 32) (v49 : BitVec 32) (v593 : BitVec 32) (k0_hw14 : k0_chk14 v29 v49 v593), ∀ (k0_h15 : k0_cond15 v29 v49 = 1#1), ∀ a, (k0_off62 v593) a + S128x128.size a ≤ S172032x128.size a := fun v29 v49 v593 k0_hw14 k0_h15 => k0_hw14.2.1 k0_h15
theorem k0_off62_wordsfp8e4m3 : ∀ (v29 : BitVec 32) (v49 : BitVec 32) (v593 : BitVec 32) (k0_hw14 : k0_chk14 v29 v49 v593), ∀ (k0_h15 : k0_cond15 v29 v49 = 1#1), (Rect.unit (s := S172032x128) (k0_off62 v593) S128x128.size (k0_off62_inb v29 v49 v593 k0_hw14 k0_h15)).WholeWords (EltTy.packing .fp8e4m3) := fun v29 v49 v593 k0_hw14 k0_h15 => k0_hw14.2.2.1 k0_h15 (k0_off62_inb v29 v49 v593 k0_hw14 k0_h15)
theorem k0_off64_inb : ∀ (v29 : BitVec 32) (v49 : BitVec 32) (v593 : BitVec 32) (k0_hw14 : k0_chk14 v29 v49 v593), ∀ (k0_h15 : k0_cond15 v29 v49 = 1#1), ∀ a, (k0_off64 v593) a + S4x128.size a ≤ S4x172032.size a := fun v29 v49 v593 k0_hw14 k0_h15 => k0_hw14.2.2.2 k0_h15

def k0_off65 (i : grid0.Coords) : Fin 1 → Nat :=
  let arg0 : BitVec 32 := BitVec.ofNat 32 (i 0).val
  let v592 : Index := Scalar.indexCast arg0
  ![v592.toNat]
def k0_mult16 (v593 : BitVec 32) : BitVec 32 :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c3_i32_185 : BitVec 32 := 3#32
  let v611 : BitVec 32 := Scalar.addi v610 c3_i32_185
  let c128_i32_186 : BitVec 32 := 128#32
  let v612 : BitVec 32 := Scalar.muli v611 c128_i32_186
  v612
def k0_cond16 (v29 : BitVec 32) (v49 : BitVec 32) : BitVec 1 :=
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32_10 : BitVec 32 := 128#32
  let c0_i32_13 : BitVec 32 := 0#32
  let v36 : BitVec 1 := Scalar.cmpi .sgt c128_i32_10 c0_i32_13
  let v37 : BitVec 32 := Scalar.extui v36
  let c0_i32_14 : BitVec 32 := 0#32
  let v38 : BitVec 1 := Scalar.cmpi .slt c128_i32_10 c0_i32_14
  let v39 : BitVec 32 := Scalar.extui v38
  let v40 : BitVec 32 := Scalar.subi v37 v39
  let v41 : BitVec 1 := Scalar.cmpi .ne v35 v40
  let v42 : BitVec 32 := Scalar.remsi v29 c128_i32_10
  let c0_i32_15 : BitVec 32 := 0#32
  let v43 : BitVec 1 := Scalar.cmpi .ne v42 c0_i32_15
  let v44 : BitVec 1 := Scalar.andi v41 v43
  let v30 : BitVec 32 := Scalar.divsi v29 c128_i32_10
  let c1_i32_16 : BitVec 32 := 1#32
  let v45 : BitVec 32 := Scalar.subi v30 c1_i32_16
  let v46 : BitVec 32 := Scalar.select v44 v45 v30
  let c128_i32_18 : BitVec 32 := 128#32
  let v50 : BitVec 32 := Scalar.muli v46 c128_i32_18
  let v51 : BitVec 32 := Scalar.subi v49 v50
  let c128_i32_19 : BitVec 32 := 128#32
  let v52 : BitVec 32 := Scalar.addi v51 c128_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c3_i32 : BitVec 32 := 3#32
  let v80 : BitVec 1 := Scalar.cmpi .sgt v70 c3_i32
  let v81 : BitVec 32 := Scalar.extui v80
  let c0_i32_34 : BitVec 32 := 0#32
  let v82 : BitVec 1 := Scalar.cmpi .ne v81 c0_i32_34
  v82

def k0_off66 (i : grid0.Coords) : Fin 1 → Nat :=
  let arg0 : BitVec 32 := BitVec.ofNat 32 (i 0).val
  let c2_i32 : BitVec 32 := 2#32
  let v23 : BitVec 32 := Scalar.remsi arg0 c2_i32
  ![v23.toNat]
def k0_off67 (i : grid0.Coords) : Fin 3 → Nat :=
  let arg0 : BitVec 32 := BitVec.ofNat 32 (i 0).val
  let c2_i32 : BitVec 32 := 2#32
  let v23 : BitVec 32 := Scalar.remsi arg0 c2_i32
  let c384_i32 : BitVec 32 := 384#32
  let c0_i32_187 : BitVec 32 := 0#32
  ![v23.toNat, 384, 0]
def k0_off68 (v593 : BitVec 32) : Fin 2 → Nat :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c3_i32_185 : BitVec 32 := 3#32
  let v611 : BitVec 32 := Scalar.addi v610 c3_i32_185
  let c128_i32_186 : BitVec 32 := 128#32
  let v612 : BitVec 32 := Scalar.muli v611 c128_i32_186
  let v613 : BitVec 32 := v612
  let c0_i32_188 : BitVec 32 := 0#32
  ![v613.toNat, 0]
def k0_off69 (i : grid0.Coords) : Fin 3 → Nat :=
  let arg0 : BitVec 32 := BitVec.ofNat 32 (i 0).val
  let c2_i32 : BitVec 32 := 2#32
  let v23 : BitVec 32 := Scalar.remsi arg0 c2_i32
  let c0_i32_189 : BitVec 32 := 0#32
  let c384_i32_190 : BitVec 32 := 384#32
  ![v23.toNat, 0, 384]
def k0_off70 (v593 : BitVec 32) : Fin 2 → Nat :=
  let c0_i32_191 : BitVec 32 := 0#32
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c3_i32_185 : BitVec 32 := 3#32
  let v611 : BitVec 32 := Scalar.addi v610 c3_i32_185
  let c128_i32_186 : BitVec 32 := 128#32
  let v612 : BitVec 32 := Scalar.muli v611 c128_i32_186
  let v613 : BitVec 32 := v612
  ![0, v613.toNat]

def k0_chk15 (v29 : BitVec 32) (v49 : BitVec 32) (v593 : BitVec 32) : Prop :=
  (∀ (k0_h16 : k0_cond16 v29 v49 = 1#1), 128 ∣ (k0_mult16 v593).toNat) ∧
  (∀ (k0_h16 : k0_cond16 v29 v49 = 1#1), ∀ a, (k0_off68 v593) a + S128x128.size a ≤ S172032x128.size a) ∧
  (∀ (k0_h16 : k0_cond16 v29 v49 = 1#1), ∀ (hinb : ∀ a, (k0_off68 v593) a + S128x128.size a ≤ S172032x128.size a), (Rect.unit (s := S172032x128) (k0_off68 v593) S128x128.size hinb).WholeWords (EltTy.packing .fp8e4m3)) ∧
  (∀ (k0_h16 : k0_cond16 v29 v49 = 1#1), ∀ a, (k0_off70 v593) a + S4x128.size a ≤ S4x172032.size a)
theorem k0_mult16_dvd : ∀ (v29 : BitVec 32) (v49 : BitVec 32) (v593 : BitVec 32) (k0_hw15 : k0_chk15 v29 v49 v593), ∀ (k0_h16 : k0_cond16 v29 v49 = 1#1), 128 ∣ (k0_mult16 v593).toNat := fun v29 v49 v593 k0_hw15 k0_h16 => k0_hw15.1 k0_h16
theorem k0_off68_inb : ∀ (v29 : BitVec 32) (v49 : BitVec 32) (v593 : BitVec 32) (k0_hw15 : k0_chk15 v29 v49 v593), ∀ (k0_h16 : k0_cond16 v29 v49 = 1#1), ∀ a, (k0_off68 v593) a + S128x128.size a ≤ S172032x128.size a := fun v29 v49 v593 k0_hw15 k0_h16 => k0_hw15.2.1 k0_h16
theorem k0_off68_wordsfp8e4m3 : ∀ (v29 : BitVec 32) (v49 : BitVec 32) (v593 : BitVec 32) (k0_hw15 : k0_chk15 v29 v49 v593), ∀ (k0_h16 : k0_cond16 v29 v49 = 1#1), (Rect.unit (s := S172032x128) (k0_off68 v593) S128x128.size (k0_off68_inb v29 v49 v593 k0_hw15 k0_h16)).WholeWords (EltTy.packing .fp8e4m3) := fun v29 v49 v593 k0_hw15 k0_h16 => k0_hw15.2.2.1 k0_h16 (k0_off68_inb v29 v49 v593 k0_hw15 k0_h16)
theorem k0_off70_inb : ∀ (v29 : BitVec 32) (v49 : BitVec 32) (v593 : BitVec 32) (k0_hw15 : k0_chk15 v29 v49 v593), ∀ (k0_h16 : k0_cond16 v29 v49 = 1#1), ∀ a, (k0_off70 v593) a + S4x128.size a ≤ S4x172032.size a := fun v29 v49 v593 k0_hw15 k0_h16 => k0_hw15.2.2.2 k0_h16

def k0_off71 (i : grid0.Coords) : Fin 1 → Nat :=
  let arg0 : BitVec 32 := BitVec.ofNat 32 (i 0).val
  let v592 : Index := Scalar.indexCast arg0
  ![v592.toNat]
def k0_mult17 (v593 : BitVec 32) : BitVec 32 :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c4_i32_185 : BitVec 32 := 4#32
  let v611 : BitVec 32 := Scalar.addi v610 c4_i32_185
  let c128_i32_186 : BitVec 32 := 128#32
  let v612 : BitVec 32 := Scalar.muli v611 c128_i32_186
  v612
def k0_cond17 (v29 : BitVec 32) (v49 : BitVec 32) : BitVec 1 :=
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c128_i32_10 : BitVec 32 := 128#32
  let c0_i32_13 : BitVec 32 := 0#32
  let v36 : BitVec 1 := Scalar.cmpi .sgt c128_i32_10 c0_i32_13
  let v37 : BitVec 32 := Scalar.extui v36
  let c0_i32_14 : BitVec 32 := 0#32
  let v38 : BitVec 1 := Scalar.cmpi .slt c128_i32_10 c0_i32_14
  let v39 : BitVec 32 := Scalar.extui v38
  let v40 : BitVec 32 := Scalar.subi v37 v39
  let v41 : BitVec 1 := Scalar.cmpi .ne v35 v40
  let v42 : BitVec 32 := Scalar.remsi v29 c128_i32_10
  let c0_i32_15 : BitVec 32 := 0#32
  let v43 : BitVec 1 := Scalar.cmpi .ne v42 c0_i32_15
  let v44 : BitVec 1 := Scalar.andi v41 v43
  let v30 : BitVec 32 := Scalar.divsi v29 c128_i32_10
  let c1_i32_16 : BitVec 32 := 1#32
  let v45 : BitVec 32 := Scalar.subi v30 c1_i32_16
  let v46 : BitVec 32 := Scalar.select v44 v45 v30
  let c128_i32_18 : BitVec 32 := 128#32
  let v50 : BitVec 32 := Scalar.muli v46 c128_i32_18
  let v51 : BitVec 32 := Scalar.subi v49 v50
  let c128_i32_19 : BitVec 32 := 128#32
  let v52 : BitVec 32 := Scalar.addi v51 c128_i32_19
  let c1_i32_20 : BitVec 32 := 1#32
  let v53 : BitVec 32 := Scalar.subi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c4_i32 : BitVec 32 := 4#32
  let v83 : BitVec 1 := Scalar.cmpi .sgt v70 c4_i32
  let v84 : BitVec 32 := Scalar.extui v83
  let c0_i32_35 : BitVec 32 := 0#32
  let v85 : BitVec 1 := Scalar.cmpi .ne v84 c0_i32_35
  v85

def k0_off72 (i : grid0.Coords) : Fin 1 → Nat :=
  let arg0 : BitVec 32 := BitVec.ofNat 32 (i 0).val
  let c2_i32 : BitVec 32 := 2#32
  let v23 : BitVec 32 := Scalar.remsi arg0 c2_i32
  ![v23.toNat]
def k0_off73 (i : grid0.Coords) : Fin 3 → Nat :=
  let arg0 : BitVec 32 := BitVec.ofNat 32 (i 0).val
  let c2_i32 : BitVec 32 := 2#32
  let v23 : BitVec 32 := Scalar.remsi arg0 c2_i32
  let c512_i32 : BitVec 32 := 512#32
  let c0_i32_187 : BitVec 32 := 0#32
  ![v23.toNat, 512, 0]
def k0_off74 (v593 : BitVec 32) : Fin 2 → Nat :=
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c4_i32_185 : BitVec 32 := 4#32
  let v611 : BitVec 32 := Scalar.addi v610 c4_i32_185
  let c128_i32_186 : BitVec 32 := 128#32
  let v612 : BitVec 32 := Scalar.muli v611 c128_i32_186
  let v613 : BitVec 32 := v612
  let c0_i32_188 : BitVec 32 := 0#32
  ![v613.toNat, 0]
def k0_off75 (i : grid0.Coords) : Fin 3 → Nat :=
  let arg0 : BitVec 32 := BitVec.ofNat 32 (i 0).val
  let c2_i32 : BitVec 32 := 2#32
  let v23 : BitVec 32 := Scalar.remsi arg0 c2_i32
  let c0_i32_189 : BitVec 32 := 0#32
  let c512_i32_190 : BitVec 32 := 512#32
  ![v23.toNat, 0, 512]
def k0_off76 (v593 : BitVec 32) : Fin 2 → Nat :=
  let c0_i32_191 : BitVec 32 := 0#32
  let c0_i32_179 : BitVec 32 := 0#32
  let v595 : BitVec 1 := Scalar.cmpi .sgt v593 c0_i32_179
  let v596 : BitVec 32 := Scalar.extui v595
  let c0_i32_180 : BitVec 32 := 0#32
  let v597 : BitVec 1 := Scalar.cmpi .slt v593 c0_i32_180
  let v598 : BitVec 32 := Scalar.extui v597
  let v599 : BitVec 32 := Scalar.subi v596 v598
  let c128_i32_178 : BitVec 32 := 128#32
  let c0_i32_181 : BitVec 32 := 0#32
  let v600 : BitVec 1 := Scalar.cmpi .sgt c128_i32_178 c0_i32_181
  let v601 : BitVec 32 := Scalar.extui v600
  let c0_i32_182 : BitVec 32 := 0#32
  let v602 : BitVec 1 := Scalar.cmpi .slt c128_i32_178 c0_i32_182
  let v603 : BitVec 32 := Scalar.extui v602
  let v604 : BitVec 32 := Scalar.subi v601 v603
  let v605 : BitVec 1 := Scalar.cmpi .ne v599 v604
  let v606 : BitVec 32 := Scalar.remsi v593 c128_i32_178
  let c0_i32_183 : BitVec 32 := 0#32
  let v607 : BitVec 1 := Scalar.cmpi .ne v606 c0_i32_183
  let v608 : BitVec 1 := Scalar.andi v605 v607
  let v594 : BitVec 32 := Scalar.divsi v593 c128_i32_178
  let c1_i32_184 : BitVec 32 := 1#32
  let v609 : BitVec 32 := Scalar.subi v594 c1_i32_184
  let v610 : BitVec 32 := Scalar.select v608 v609 v594
  let c4_i32_185 : BitVec 32 := 4#32
  let v611 : BitVec 32 := Scalar.addi v610 c4_i32_185
  let c128_i32_186 : BitVec 32 := 128#32
  let v612 : BitVec 32 := Scalar.muli v611 c128_i32_186
  let v613 : BitVec 32 := v612
  ![0, v613.toNat]

def k0_chk16 (v29 : BitVec 32) (v49 : BitVec 32) (v593 : BitVec 32) : Prop :=
  (∀ (k0_h17 : k0_cond17 v29 v49 = 1#1), 128 ∣ (k0_mult17 v593).toNat) ∧
  (∀ (k0_h17 : k0_cond17 v29 v49 = 1#1), ∀ a, (k0_off74 v593) a + S128x128.size a ≤ S172032x128.size a) ∧
  (∀ (k0_h17 : k0_cond17 v29 v49 = 1#1), ∀ (hinb : ∀ a, (k0_off74 v593) a + S128x128.size a ≤ S172032x128.size a), (Rect.unit (s := S172032x128) (k0_off74 v593) S128x128.size hinb).WholeWords (EltTy.packing .fp8e4m3)) ∧
  (∀ (k0_h17 : k0_cond17 v29 v49 = 1#1), ∀ a, (k0_off76 v593) a + S4x128.size a ≤ S4x172032.size a)
theorem k0_mult17_dvd : ∀ (v29 : BitVec 32) (v49 : BitVec 32) (v593 : BitVec 32) (k0_hw16 : k0_chk16 v29 v49 v593), ∀ (k0_h17 : k0_cond17 v29 v49 = 1#1), 128 ∣ (k0_mult17 v593).toNat := fun v29 v49 v593 k0_hw16 k0_h17 => k0_hw16.1 k0_h17
theorem k0_off74_inb : ∀ (v29 : BitVec 32) (v49 : BitVec 32) (v593 : BitVec 32) (k0_hw16 : k0_chk16 v29 v49 v593), ∀ (k0_h17 : k0_cond17 v29 v49 = 1#1), ∀ a, (k0_off74 v593) a + S128x128.size a ≤ S172032x128.size a := fun v29 v49 v593 k0_hw16 k0_h17 => k0_hw16.2.1 k0_h17
theorem k0_off74_wordsfp8e4m3 : ∀ (v29 : BitVec 32) (v49 : BitVec 32) (v593 : BitVec 32) (k0_hw16 : k0_chk16 v29 v49 v593), ∀ (k0_h17 : k0_cond17 v29 v49 = 1#1), (Rect.unit (s := S172032x128) (k0_off74 v593) S128x128.size (k0_off74_inb v29 v49 v593 k0_hw16 k0_h17)).WholeWords (EltTy.packing .fp8e4m3) := fun v29 v49 v593 k0_hw16 k0_h17 => k0_hw16.2.2.1 k0_h17 (k0_off74_inb v29 v49 v593 k0_hw16 k0_h17)
theorem k0_off76_inb : ∀ (v29 : BitVec 32) (v49 : BitVec 32) (v593 : BitVec 32) (k0_hw16 : k0_chk16 v29 v49 v593), ∀ (k0_h17 : k0_cond17 v29 v49 = 1#1), ∀ a, (k0_off76 v593) a + S4x128.size a ≤ S4x172032.size a := fun v29 v49 v593 k0_hw16 k0_h17 => k0_hw16.2.2.2 k0_h17

def k0_off77 (i : grid0.Coords) : Fin 1 → Nat :=
  let arg0 : BitVec 32 := BitVec.ofNat 32 (i 0).val
  let v86 : Index := Scalar.indexCast arg0
  ![v86.toNat]
def k0_off78 (i : grid0.Coords) : Fin 3 → Nat :=
  let arg0 : BitVec 32 := BitVec.ofNat 32 (i 0).val
  let c2_i32 : BitVec 32 := 2#32
  let v23 : BitVec 32 := Scalar.remsi arg0 c2_i32
  let v453 : Index := Scalar.indexCast v23
  let c0_107 : Index := 0#32
  let c0_108 : Index := 0#32
  ![v453.toNat, 0, 0]
def k0_off79 (i : grid0.Coords) : Fin 3 → Nat :=
  let arg0 : BitVec 32 := BitVec.ofNat 32 (i 0).val
  let c2_i32 : BitVec 32 := 2#32
  let v23 : BitVec 32 := Scalar.remsi arg0 c2_i32
  let v458 : Index := Scalar.indexCast v23
  let c0_109 : Index := 0#32
  let c0_110 : Index := 0#32
  ![v458.toNat, 0, 0]
def k0_off80 (i : grid0.Coords) : Fin 1 → Nat :=
  let arg0 : BitVec 32 := BitVec.ofNat 32 (i 0).val
  let c1_i32_121 : BitVec 32 := 1#32
  let v491 : BitVec 32 := Scalar.subi arg0 c1_i32_121
  let c0_i32_122 : BitVec 32 := 0#32
  let v492 : BitVec 32 := Scalar.maxsi v491 c0_i32_122
  let v493 : Index := Scalar.indexCast v492
  ![v493.toNat]
@[reducible] def k0_t3_loop (i : grid0.Coords) (v494 : BitVec 32) (v514 : BitVec 32) : Scf.Loop 32 :=
  let c0_i32_145 : BitVec 32 := 0#32
  let arg0 : BitVec 32 := BitVec.ofNat 32 (i 0).val
  let c0_i32_130 : BitVec 32 := 0#32
  let v512 : BitVec 1 := Scalar.cmpi .sgt arg0 c0_i32_130
  let c0_i32_132 : BitVec 32 := 0#32
  let v516 : BitVec 1 := Scalar.cmpi .sgt v514 c0_i32_132
  let v517 : BitVec 32 := Scalar.extui v516
  let c0_i32_133 : BitVec 32 := 0#32
  let v518 : BitVec 1 := Scalar.cmpi .slt v514 c0_i32_133
  let v519 : BitVec 32 := Scalar.extui v518
  let v520 : BitVec 32 := Scalar.subi v517 v519
  let c128_i32_131 : BitVec 32 := 128#32
  let c0_i32_134 : BitVec 32 := 0#32
  let v521 : BitVec 1 := Scalar.cmpi .sgt c128_i32_131 c0_i32_134
  let v522 : BitVec 32 := Scalar.extui v521
  let c0_i32_135 : BitVec 32 := 0#32
  let v523 : BitVec 1 := Scalar.cmpi .slt c128_i32_131 c0_i32_135
  let v524 : BitVec 32 := Scalar.extui v523
  let v525 : BitVec 32 := Scalar.subi v522 v524
  let v526 : BitVec 1 := Scalar.cmpi .ne v520 v525
  let v527 : BitVec 32 := Scalar.remsi v514 c128_i32_131
  let c0_i32_136 : BitVec 32 := 0#32
  let v528 : BitVec 1 := Scalar.cmpi .ne v527 c0_i32_136
  let v529 : BitVec 1 := Scalar.andi v526 v528
  let v515 : BitVec 32 := Scalar.divsi v514 c128_i32_131
  let c1_i32_137 : BitVec 32 := 1#32
  let v530 : BitVec 32 := Scalar.subi v515 c1_i32_137
  let v531 : BitVec 32 := Scalar.select v529 v530 v515
  let c0_i32_124 : BitVec 32 := 0#32
  let v496 : BitVec 1 := Scalar.cmpi .sgt v494 c0_i32_124
  let v497 : BitVec 32 := Scalar.extui v496
  let c0_i32_125 : BitVec 32 := 0#32
  let v498 : BitVec 1 := Scalar.cmpi .slt v494 c0_i32_125
  let v499 : BitVec 32 := Scalar.extui v498
  let v500 : BitVec 32 := Scalar.subi v497 v499
  let c128_i32_123 : BitVec 32 := 128#32
  let c0_i32_126 : BitVec 32 := 0#32
  let v501 : BitVec 1 := Scalar.cmpi .sgt c128_i32_123 c0_i32_126
  let v502 : BitVec 32 := Scalar.extui v501
  let c0_i32_127 : BitVec 32 := 0#32
  let v503 : BitVec 1 := Scalar.cmpi .slt c128_i32_123 c0_i32_127
  let v504 : BitVec 32 := Scalar.extui v503
  let v505 : BitVec 32 := Scalar.subi v502 v504
  let v506 : BitVec 1 := Scalar.cmpi .ne v500 v505
  let v507 : BitVec 32 := Scalar.remsi v494 c128_i32_123
  let c0_i32_128 : BitVec 32 := 0#32
  let v508 : BitVec 1 := Scalar.cmpi .ne v507 c0_i32_128
  let v509 : BitVec 1 := Scalar.andi v506 v508
  let v495 : BitVec 32 := Scalar.divsi v494 c128_i32_123
  let c1_i32_129 : BitVec 32 := 1#32
  let v510 : BitVec 32 := Scalar.subi v495 c1_i32_129
  let v511 : BitVec 32 := Scalar.select v509 v510 v495
  let v532 : BitVec 32 := Scalar.subi v531 v511
  let c0_i32_138 : BitVec 32 := 0#32
  let v533 : BitVec 32 := Scalar.select v512 v532 c0_i32_138
  let c0_i32_139 : BitVec 32 := 0#32
  let v534 : BitVec 32 := Scalar.subi v533 c0_i32_139
  let c1_i32_140 : BitVec 32 := 1#32
  let c1_i32_141 : BitVec 32 := 1#32
  let v535 : BitVec 32 := Scalar.subi c1_i32_140 c1_i32_141
  let v536 : BitVec 32 := Scalar.addi v534 v535
  let c1_i32_142 : BitVec 32 := 1#32
  let v537 : BitVec 32 := Scalar.divsi v536 c1_i32_142
  let v538 : BitVec 32 := Scalar.subi v537 c0_i32_145
  let c1_i32_146 : BitVec 32 := 1#32
  let v540 : BitVec 32 := Scalar.divsi v538 c1_i32_146
  let v541 : BitVec 32 := Scalar.muli v540 c1_i32_146
  let v542 : BitVec 32 := Scalar.addi c0_i32_145 v541
  let c1_i32_147 : BitVec 32 := 1#32
  ⟨c0_i32_145, v542, c1_i32_147⟩

def k0_mult18 : BitVec 32 :=
  let c0_i32_178 : BitVec 32 := 0#32
  c0_i32_178
def k0_mult19 : BitVec 32 :=
  let c0_i32_179 : BitVec 32 := 0#32
  c0_i32_179
@[reducible] def k0_t4_loop (i : grid0.Coords) (v494 : BitVec 32) (v514 : BitVec 32) : Scf.Loop 32 :=
  let c0_i32_145 : BitVec 32 := 0#32
  let arg0 : BitVec 32 := BitVec.ofNat 32 (i 0).val
  let c0_i32_130 : BitVec 32 := 0#32
  let v512 : BitVec 1 := Scalar.cmpi .sgt arg0 c0_i32_130
  let c0_i32_132 : BitVec 32 := 0#32
  let v516 : BitVec 1 := Scalar.cmpi .sgt v514 c0_i32_132
  let v517 : BitVec 32 := Scalar.extui v516
  let c0_i32_133 : BitVec 32 := 0#32
  let v518 : BitVec 1 := Scalar.cmpi .slt v514 c0_i32_133
  let v519 : BitVec 32 := Scalar.extui v518
  let v520 : BitVec 32 := Scalar.subi v517 v519
  let c128_i32_131 : BitVec 32 := 128#32
  let c0_i32_134 : BitVec 32 := 0#32
  let v521 : BitVec 1 := Scalar.cmpi .sgt c128_i32_131 c0_i32_134
  let v522 : BitVec 32 := Scalar.extui v521
  let c0_i32_135 : BitVec 32 := 0#32
  let v523 : BitVec 1 := Scalar.cmpi .slt c128_i32_131 c0_i32_135
  let v524 : BitVec 32 := Scalar.extui v523
  let v525 : BitVec 32 := Scalar.subi v522 v524
  let v526 : BitVec 1 := Scalar.cmpi .ne v520 v525
  let v527 : BitVec 32 := Scalar.remsi v514 c128_i32_131
  let c0_i32_136 : BitVec 32 := 0#32
  let v528 : BitVec 1 := Scalar.cmpi .ne v527 c0_i32_136
  let v529 : BitVec 1 := Scalar.andi v526 v528
  let v515 : BitVec 32 := Scalar.divsi v514 c128_i32_131
  let c1_i32_137 : BitVec 32 := 1#32
  let v530 : BitVec 32 := Scalar.subi v515 c1_i32_137
  let v531 : BitVec 32 := Scalar.select v529 v530 v515
  let c0_i32_124 : BitVec 32 := 0#32
  let v496 : BitVec 1 := Scalar.cmpi .sgt v494 c0_i32_124
  let v497 : BitVec 32 := Scalar.extui v496
  let c0_i32_125 : BitVec 32 := 0#32
  let v498 : BitVec 1 := Scalar.cmpi .slt v494 c0_i32_125
  let v499 : BitVec 32 := Scalar.extui v498
  let v500 : BitVec 32 := Scalar.subi v497 v499
  let c128_i32_123 : BitVec 32 := 128#32
  let c0_i32_126 : BitVec 32 := 0#32
  let v501 : BitVec 1 := Scalar.cmpi .sgt c128_i32_123 c0_i32_126
  let v502 : BitVec 32 := Scalar.extui v501
  let c0_i32_127 : BitVec 32 := 0#32
  let v503 : BitVec 1 := Scalar.cmpi .slt c128_i32_123 c0_i32_127
  let v504 : BitVec 32 := Scalar.extui v503
  let v505 : BitVec 32 := Scalar.subi v502 v504
  let v506 : BitVec 1 := Scalar.cmpi .ne v500 v505
  let v507 : BitVec 32 := Scalar.remsi v494 c128_i32_123
  let c0_i32_128 : BitVec 32 := 0#32
  let v508 : BitVec 1 := Scalar.cmpi .ne v507 c0_i32_128
  let v509 : BitVec 1 := Scalar.andi v506 v508
  let v495 : BitVec 32 := Scalar.divsi v494 c128_i32_123
  let c1_i32_129 : BitVec 32 := 1#32
  let v510 : BitVec 32 := Scalar.subi v495 c1_i32_129
  let v511 : BitVec 32 := Scalar.select v509 v510 v495
  let v532 : BitVec 32 := Scalar.subi v531 v511
  let c0_i32_138 : BitVec 32 := 0#32
  let v533 : BitVec 32 := Scalar.select v512 v532 c0_i32_138
  let c0_i32_139 : BitVec 32 := 0#32
  let v534 : BitVec 32 := Scalar.subi v533 c0_i32_139
  let c1_i32_140 : BitVec 32 := 1#32
  let c1_i32_141 : BitVec 32 := 1#32
  let v535 : BitVec 32 := Scalar.subi c1_i32_140 c1_i32_141
  let v536 : BitVec 32 := Scalar.addi v534 v535
  let c1_i32_142 : BitVec 32 := 1#32
  let v537 : BitVec 32 := Scalar.divsi v536 c1_i32_142
  let v538 : BitVec 32 := Scalar.subi v537 c0_i32_145
  let c1_i32_146 : BitVec 32 := 1#32
  let v540 : BitVec 32 := Scalar.divsi v538 c1_i32_146
  let v541 : BitVec 32 := Scalar.muli v540 c1_i32_146
  let v542 : BitVec 32 := Scalar.addi c0_i32_145 v541
  let v539 : BitVec 32 := Scalar.addi c0_i32_145 v538
  let c1_i32_148 : BitVec 32 := 1#32
  ⟨v542, v539, c1_i32_148⟩

def k0_chk17 (i : grid0.Coords) (v494 : BitVec 32) (v514 : BitVec 32) : Prop :=
  ((k0_t3_loop i v494 v514).OK) ∧
  ((k0_t4_loop i v494 v514).OK)
theorem k0_t3_ok : ∀ (i : grid0.Coords) (v494 : BitVec 32) (v514 : BitVec 32) (k0_hw17 : k0_chk17 i v494 v514), (k0_t3_loop i v494 v514).OK := fun i v494 v514 k0_hw17 => k0_hw17.1
theorem k0_t4_ok : ∀ (i : grid0.Coords) (v494 : BitVec 32) (v514 : BitVec 32) (k0_hw17 : k0_chk17 i v494 v514), (k0_t4_loop i v494 v514).OK := fun i v494 v514 k0_hw17 => k0_hw17.2

def k0_mult20 : BitVec 32 :=
  let c0_i32_178 : BitVec 32 := 0#32
  c0_i32_178
def k0_mult21 : BitVec 32 :=
  let c0_i32_179 : BitVec 32 := 0#32
  c0_i32_179
def k0_off81 (i : grid0.Coords) : Fin 1 → Nat :=
  let arg0 : BitVec 32 := BitVec.ofNat 32 (i 0).val
  let c1_i32_155 : BitVec 32 := 1#32
  let v552 : BitVec 32 := Scalar.addi arg0 c1_i32_155
  let v553 : Index := Scalar.indexCast v552
  ![v553.toNat]
def k0_mult22 (v87 : BitVec 32) (v554 : BitVec 32) : BitVec 32 :=
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c128_i32_163 : BitVec 32 := 128#32
  let v573 : BitVec 32 := Scalar.muli v572 c128_i32_163
  v573

def k0_off82 (v87 : BitVec 32) (v554 : BitVec 32) : Fin 2 → Nat :=
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c128_i32_163 : BitVec 32 := 128#32
  let v573 : BitVec 32 := Scalar.muli v572 c128_i32_163
  let v574 : BitVec 32 := v573
  let v575 : Index := Scalar.indexCast v574
  let c0_164 : Index := 0#32
  ![v575.toNat, 0]
@[reducible] def k0_t5_loop (v87 : BitVec 32) (v554 : BitVec 32) : Scf.Loop 32 :=
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let c1_i32_175 : BitVec 32 := 1#32
  ⟨c0_i32_173, v588, c1_i32_175⟩
def k0_mult23 (v87 : BitVec 32) (v554 : BitVec 32) (k0_t5 : Fin (k0_t5_loop v87 v554).trips) : BitVec 32 :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_172 : BitVec 32 := 0#32
  let c0_i32_173 : BitVec 32 := 0#32
  let c1_i32_175 : BitVec 32 := 1#32
  let arg21 : BitVec 32 := Scf.iv c0_i32_173 c1_i32_175 k0_t5
  let c1_i32_171 : BitVec 32 := 1#32
  let v592 : BitVec 32 := Scalar.muli arg21 c1_i32_171
  let v593 : BitVec 32 := Scalar.addi c0_i32_172 v592
  let v594 : BitVec 32 := Scalar.addi v104 v593
  let c128_i32_178 : BitVec 32 := 128#32
  let v595 : BitVec 32 := Scalar.muli v594 c128_i32_178
  v595
def k0_mult24 (v87 : BitVec 32) (v554 : BitVec 32) (k0_t5 : Fin (k0_t5_loop v87 v554).trips) : BitVec 32 :=
  let c0_i32_172 : BitVec 32 := 0#32
  let c0_i32_173 : BitVec 32 := 0#32
  let c1_i32_175 : BitVec 32 := 1#32
  let arg21 : BitVec 32 := Scf.iv c0_i32_173 c1_i32_175 k0_t5
  let c1_i32_171 : BitVec 32 := 1#32
  let v592 : BitVec 32 := Scalar.muli arg21 c1_i32_171
  let v593 : BitVec 32 := Scalar.addi c0_i32_172 v592
  let c128_i32_179 : BitVec 32 := 128#32
  let v597 : BitVec 32 := Scalar.muli v593 c128_i32_179
  v597
def k0_off83 (v87 : BitVec 32) (v554 : BitVec 32) (k0_t5 : Fin (k0_t5_loop v87 v554).trips) : Fin 2 → Nat :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_172 : BitVec 32 := 0#32
  let c0_i32_173 : BitVec 32 := 0#32
  let c1_i32_175 : BitVec 32 := 1#32
  let arg21 : BitVec 32 := Scf.iv c0_i32_173 c1_i32_175 k0_t5
  let c1_i32_171 : BitVec 32 := 1#32
  let v592 : BitVec 32 := Scalar.muli arg21 c1_i32_171
  let v593 : BitVec 32 := Scalar.addi c0_i32_172 v592
  let v594 : BitVec 32 := Scalar.addi v104 v593
  let c128_i32_178 : BitVec 32 := 128#32
  let v595 : BitVec 32 := Scalar.muli v594 c128_i32_178
  let v596 : BitVec 32 := v595
  let c0_i32_180 : BitVec 32 := 0#32
  ![v596.toNat, 0]
def k0_off84 (v87 : BitVec 32) (v554 : BitVec 32) (k0_t5 : Fin (k0_t5_loop v87 v554).trips) : Fin 2 → Nat :=
  let c0_i32_172 : BitVec 32 := 0#32
  let c0_i32_173 : BitVec 32 := 0#32
  let c1_i32_175 : BitVec 32 := 1#32
  let arg21 : BitVec 32 := Scf.iv c0_i32_173 c1_i32_175 k0_t5
  let c1_i32_171 : BitVec 32 := 1#32
  let v592 : BitVec 32 := Scalar.muli arg21 c1_i32_171
  let v593 : BitVec 32 := Scalar.addi c0_i32_172 v592
  let c128_i32_179 : BitVec 32 := 128#32
  let v597 : BitVec 32 := Scalar.muli v593 c128_i32_179
  let v598 : BitVec 32 := v597
  let c0_i32_181 : BitVec 32 := 0#32
  ![v598.toNat, 0]
@[reducible] def k0_t6_loop (v87 : BitVec 32) (v554 : BitVec 32) : Scf.Loop 32 :=
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let v585 : BitVec 32 := Scalar.addi c0_i32_173 v584
  let c1_i32_176 : BitVec 32 := 1#32
  ⟨v588, v585, c1_i32_176⟩
def k0_mult25 (v87 : BitVec 32) (v554 : BitVec 32) (k0_t6 : Fin (k0_t6_loop v87 v554).trips) : BitVec 32 :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_172 : BitVec 32 := 0#32
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let c1_i32_176 : BitVec 32 := 1#32
  let arg21 : BitVec 32 := Scf.iv v588 c1_i32_176 k0_t6
  let c1_i32_171 : BitVec 32 := 1#32
  let v592 : BitVec 32 := Scalar.muli arg21 c1_i32_171
  let v593 : BitVec 32 := Scalar.addi c0_i32_172 v592
  let v594 : BitVec 32 := Scalar.addi v104 v593
  let c128_i32_178 : BitVec 32 := 128#32
  let v595 : BitVec 32 := Scalar.muli v594 c128_i32_178
  v595
def k0_mult26 (v87 : BitVec 32) (v554 : BitVec 32) (k0_t6 : Fin (k0_t6_loop v87 v554).trips) : BitVec 32 :=
  let c0_i32_172 : BitVec 32 := 0#32
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let c1_i32_176 : BitVec 32 := 1#32
  let arg21 : BitVec 32 := Scf.iv v588 c1_i32_176 k0_t6
  let c1_i32_171 : BitVec 32 := 1#32
  let v592 : BitVec 32 := Scalar.muli arg21 c1_i32_171
  let v593 : BitVec 32 := Scalar.addi c0_i32_172 v592
  let c128_i32_179 : BitVec 32 := 128#32
  let v597 : BitVec 32 := Scalar.muli v593 c128_i32_179
  v597
def k0_off85 (v87 : BitVec 32) (v554 : BitVec 32) (k0_t6 : Fin (k0_t6_loop v87 v554).trips) : Fin 2 → Nat :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_172 : BitVec 32 := 0#32
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let c1_i32_176 : BitVec 32 := 1#32
  let arg21 : BitVec 32 := Scf.iv v588 c1_i32_176 k0_t6
  let c1_i32_171 : BitVec 32 := 1#32
  let v592 : BitVec 32 := Scalar.muli arg21 c1_i32_171
  let v593 : BitVec 32 := Scalar.addi c0_i32_172 v592
  let v594 : BitVec 32 := Scalar.addi v104 v593
  let c128_i32_178 : BitVec 32 := 128#32
  let v595 : BitVec 32 := Scalar.muli v594 c128_i32_178
  let v596 : BitVec 32 := v595
  let c0_i32_180 : BitVec 32 := 0#32
  ![v596.toNat, 0]
def k0_off86 (v87 : BitVec 32) (v554 : BitVec 32) (k0_t6 : Fin (k0_t6_loop v87 v554).trips) : Fin 2 → Nat :=
  let c0_i32_172 : BitVec 32 := 0#32
  let c0_i32_173 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_167 : BitVec 32 := 0#32
  let v580 : BitVec 32 := Scalar.subi v572 c0_i32_167
  let c1_i32_168 : BitVec 32 := 1#32
  let c1_i32_169 : BitVec 32 := 1#32
  let v581 : BitVec 32 := Scalar.subi c1_i32_168 c1_i32_169
  let v582 : BitVec 32 := Scalar.addi v580 v581
  let c1_i32_170 : BitVec 32 := 1#32
  let v583 : BitVec 32 := Scalar.divsi v582 c1_i32_170
  let v584 : BitVec 32 := Scalar.subi v583 c0_i32_173
  let c1_i32_174 : BitVec 32 := 1#32
  let v586 : BitVec 32 := Scalar.divsi v584 c1_i32_174
  let v587 : BitVec 32 := Scalar.muli v586 c1_i32_174
  let v588 : BitVec 32 := Scalar.addi c0_i32_173 v587
  let c1_i32_176 : BitVec 32 := 1#32
  let arg21 : BitVec 32 := Scf.iv v588 c1_i32_176 k0_t6
  let c1_i32_171 : BitVec 32 := 1#32
  let v592 : BitVec 32 := Scalar.muli arg21 c1_i32_171
  let v593 : BitVec 32 := Scalar.addi c0_i32_172 v592
  let c128_i32_179 : BitVec 32 := 128#32
  let v597 : BitVec 32 := Scalar.muli v593 c128_i32_179
  let v598 : BitVec 32 := v597
  let c0_i32_181 : BitVec 32 := 0#32
  ![v598.toNat, 0]
def k0_cond18 (i : grid0.Coords) : BitVec 1 :=
  let arg0 : BitVec 32 := BitVec.ofNat 32 (i 0).val
  let c335_i32 : BitVec 32 := 335#32
  let v589 : BitVec 1 := Scalar.cmpi .eq arg0 c335_i32
  let v590 : BitVec 32 := Scalar.extui v589
  let c0_i32_177 : BitVec 32 := 0#32
  let v591 : BitVec 1 := Scalar.cmpi .ne v590 c0_i32_177
  v591

@[reducible] def k0_t7_loop (v87 : BitVec 32) (v554 : BitVec 32) : Scf.Loop 32 :=
  let c0_i32_184 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_178 : BitVec 32 := 0#32
  let v592 : BitVec 32 := Scalar.subi v572 c0_i32_178
  let c1_i32_179 : BitVec 32 := 1#32
  let c1_i32_180 : BitVec 32 := 1#32
  let v593 : BitVec 32 := Scalar.subi c1_i32_179 c1_i32_180
  let v594 : BitVec 32 := Scalar.addi v592 v593
  let c1_i32_181 : BitVec 32 := 1#32
  let v595 : BitVec 32 := Scalar.divsi v594 c1_i32_181
  let v596 : BitVec 32 := Scalar.subi v595 c0_i32_184
  let c1_i32_185 : BitVec 32 := 1#32
  let v598 : BitVec 32 := Scalar.divsi v596 c1_i32_185
  let v599 : BitVec 32 := Scalar.muli v598 c1_i32_185
  let v600 : BitVec 32 := Scalar.addi c0_i32_184 v599
  let c1_i32_186 : BitVec 32 := 1#32
  ⟨c0_i32_184, v600, c1_i32_186⟩
def k0_mult27 : BitVec 32 :=
  let c0_i32_312 : BitVec 32 := 0#32
  c0_i32_312
def k0_mult28 : BitVec 32 :=
  let c0_i32_313 : BitVec 32 := 0#32
  c0_i32_313
@[reducible] def k0_t8_loop (v87 : BitVec 32) (v554 : BitVec 32) : Scf.Loop 32 :=
  let c0_i32_184 : BitVec 32 := 0#32
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c0_i32_178 : BitVec 32 := 0#32
  let v592 : BitVec 32 := Scalar.subi v572 c0_i32_178
  let c1_i32_179 : BitVec 32 := 1#32
  let c1_i32_180 : BitVec 32 := 1#32
  let v593 : BitVec 32 := Scalar.subi c1_i32_179 c1_i32_180
  let v594 : BitVec 32 := Scalar.addi v592 v593
  let c1_i32_181 : BitVec 32 := 1#32
  let v595 : BitVec 32 := Scalar.divsi v594 c1_i32_181
  let v596 : BitVec 32 := Scalar.subi v595 c0_i32_184
  let c1_i32_185 : BitVec 32 := 1#32
  let v598 : BitVec 32 := Scalar.divsi v596 c1_i32_185
  let v599 : BitVec 32 := Scalar.muli v598 c1_i32_185
  let v600 : BitVec 32 := Scalar.addi c0_i32_184 v599
  let v597 : BitVec 32 := Scalar.addi c0_i32_184 v596
  let c1_i32_187 : BitVec 32 := 1#32
  ⟨v600, v597, c1_i32_187⟩

def k0_chk18 (i : grid0.Coords) (v87 : BitVec 32) (v554 : BitVec 32) : Prop :=
  (128 ∣ (k0_mult22 v87 v554).toNat) ∧
  (∀ a, (k0_off82 v87 v554) a + S128x128.size a ≤ S640x128.size a) ∧
  ((k0_t5_loop v87 v554).OK) ∧
  (∀ k0_t5 : Fin (k0_t5_loop v87 v554).trips, 128 ∣ (k0_mult23 v87 v554 k0_t5).toNat) ∧
  (∀ k0_t5 : Fin (k0_t5_loop v87 v554).trips, 128 ∣ (k0_mult24 v87 v554 k0_t5).toNat) ∧
  (∀ k0_t5 : Fin (k0_t5_loop v87 v554).trips, ∀ a, (k0_off83 v87 v554 k0_t5) a + S128x128.size a ≤ S172032x128.size a) ∧
  (∀ k0_t5 : Fin (k0_t5_loop v87 v554).trips, ∀ a, (k0_off84 v87 v554 k0_t5) a + S128x128.size a ≤ S640x128.size a) ∧
  (∀ k0_t5 : Fin (k0_t5_loop v87 v554).trips, ∀ (hinb : ∀ a, (k0_off84 v87 v554 k0_t5) a + S128x128.size a ≤ S640x128.size a), (Rect.unit (s := S640x128) (k0_off84 v87 v554 k0_t5) S128x128.size hinb).WholeWords (EltTy.packing .bf16)) ∧
  (∀ k0_t5 : Fin (k0_t5_loop v87 v554).trips, ∀ (hinb : ∀ a, (k0_off83 v87 v554 k0_t5) a + S128x128.size a ≤ S172032x128.size a), (Rect.unit (s := S172032x128) (k0_off83 v87 v554 k0_t5) S128x128.size hinb).WholeWords (EltTy.packing .bf16)) ∧
  ((k0_t6_loop v87 v554).OK) ∧
  (∀ k0_t6 : Fin (k0_t6_loop v87 v554).trips, 128 ∣ (k0_mult25 v87 v554 k0_t6).toNat) ∧
  (∀ k0_t6 : Fin (k0_t6_loop v87 v554).trips, 128 ∣ (k0_mult26 v87 v554 k0_t6).toNat) ∧
  (∀ k0_t6 : Fin (k0_t6_loop v87 v554).trips, ∀ a, (k0_off85 v87 v554 k0_t6) a + S128x128.size a ≤ S172032x128.size a) ∧
  (∀ k0_t6 : Fin (k0_t6_loop v87 v554).trips, ∀ a, (k0_off86 v87 v554 k0_t6) a + S128x128.size a ≤ S640x128.size a) ∧
  (∀ k0_t6 : Fin (k0_t6_loop v87 v554).trips, ∀ (hinb : ∀ a, (k0_off86 v87 v554 k0_t6) a + S128x128.size a ≤ S640x128.size a), (Rect.unit (s := S640x128) (k0_off86 v87 v554 k0_t6) S128x128.size hinb).WholeWords (EltTy.packing .bf16)) ∧
  (∀ k0_t6 : Fin (k0_t6_loop v87 v554).trips, ∀ (hinb : ∀ a, (k0_off85 v87 v554 k0_t6) a + S128x128.size a ≤ S172032x128.size a), (Rect.unit (s := S172032x128) (k0_off85 v87 v554 k0_t6) S128x128.size hinb).WholeWords (EltTy.packing .bf16)) ∧
  (∀ (k0_h18 : k0_cond18 i = 1#1), (k0_t7_loop v87 v554).OK) ∧
  (∀ (k0_h18 : k0_cond18 i = 1#1), (k0_t8_loop v87 v554).OK)
theorem k0_mult22_dvd : ∀ (i : grid0.Coords) (v87 : BitVec 32) (v554 : BitVec 32) (k0_hw18 : k0_chk18 i v87 v554), 128 ∣ (k0_mult22 v87 v554).toNat := fun i v87 v554 k0_hw18 => k0_hw18.1
theorem k0_off82_inb : ∀ (i : grid0.Coords) (v87 : BitVec 32) (v554 : BitVec 32) (k0_hw18 : k0_chk18 i v87 v554), ∀ a, (k0_off82 v87 v554) a + S128x128.size a ≤ S640x128.size a := fun i v87 v554 k0_hw18 => k0_hw18.2.1
theorem k0_t5_ok : ∀ (i : grid0.Coords) (v87 : BitVec 32) (v554 : BitVec 32) (k0_hw18 : k0_chk18 i v87 v554), (k0_t5_loop v87 v554).OK := fun i v87 v554 k0_hw18 => k0_hw18.2.2.1
theorem k0_mult23_dvd : ∀ (i : grid0.Coords) (v87 : BitVec 32) (v554 : BitVec 32) (k0_hw18 : k0_chk18 i v87 v554) (k0_t5 : Fin (k0_t5_loop v87 v554).trips), 128 ∣ (k0_mult23 v87 v554 k0_t5).toNat := fun i v87 v554 k0_hw18 k0_t5 => k0_hw18.2.2.2.1 k0_t5
theorem k0_mult24_dvd : ∀ (i : grid0.Coords) (v87 : BitVec 32) (v554 : BitVec 32) (k0_hw18 : k0_chk18 i v87 v554) (k0_t5 : Fin (k0_t5_loop v87 v554).trips), 128 ∣ (k0_mult24 v87 v554 k0_t5).toNat := fun i v87 v554 k0_hw18 k0_t5 => k0_hw18.2.2.2.2.1 k0_t5
theorem k0_off83_inb : ∀ (i : grid0.Coords) (v87 : BitVec 32) (v554 : BitVec 32) (k0_hw18 : k0_chk18 i v87 v554) (k0_t5 : Fin (k0_t5_loop v87 v554).trips), ∀ a, (k0_off83 v87 v554 k0_t5) a + S128x128.size a ≤ S172032x128.size a := fun i v87 v554 k0_hw18 k0_t5 => k0_hw18.2.2.2.2.2.1 k0_t5
theorem k0_off84_inb : ∀ (i : grid0.Coords) (v87 : BitVec 32) (v554 : BitVec 32) (k0_hw18 : k0_chk18 i v87 v554) (k0_t5 : Fin (k0_t5_loop v87 v554).trips), ∀ a, (k0_off84 v87 v554 k0_t5) a + S128x128.size a ≤ S640x128.size a := fun i v87 v554 k0_hw18 k0_t5 => k0_hw18.2.2.2.2.2.2.1 k0_t5
theorem k0_off84_wordsbf16 : ∀ (i : grid0.Coords) (v87 : BitVec 32) (v554 : BitVec 32) (k0_hw18 : k0_chk18 i v87 v554) (k0_t5 : Fin (k0_t5_loop v87 v554).trips), (Rect.unit (s := S640x128) (k0_off84 v87 v554 k0_t5) S128x128.size (k0_off84_inb i v87 v554 k0_hw18 k0_t5)).WholeWords (EltTy.packing .bf16) := fun i v87 v554 k0_hw18 k0_t5 => k0_hw18.2.2.2.2.2.2.2.1 k0_t5 (k0_off84_inb i v87 v554 k0_hw18 k0_t5)
theorem k0_off83_wordsbf16 : ∀ (i : grid0.Coords) (v87 : BitVec 32) (v554 : BitVec 32) (k0_hw18 : k0_chk18 i v87 v554) (k0_t5 : Fin (k0_t5_loop v87 v554).trips), (Rect.unit (s := S172032x128) (k0_off83 v87 v554 k0_t5) S128x128.size (k0_off83_inb i v87 v554 k0_hw18 k0_t5)).WholeWords (EltTy.packing .bf16) := fun i v87 v554 k0_hw18 k0_t5 => k0_hw18.2.2.2.2.2.2.2.2.1 k0_t5 (k0_off83_inb i v87 v554 k0_hw18 k0_t5)
theorem k0_t6_ok : ∀ (i : grid0.Coords) (v87 : BitVec 32) (v554 : BitVec 32) (k0_hw18 : k0_chk18 i v87 v554), (k0_t6_loop v87 v554).OK := fun i v87 v554 k0_hw18 => k0_hw18.2.2.2.2.2.2.2.2.2.1
theorem k0_mult25_dvd : ∀ (i : grid0.Coords) (v87 : BitVec 32) (v554 : BitVec 32) (k0_hw18 : k0_chk18 i v87 v554) (k0_t6 : Fin (k0_t6_loop v87 v554).trips), 128 ∣ (k0_mult25 v87 v554 k0_t6).toNat := fun i v87 v554 k0_hw18 k0_t6 => k0_hw18.2.2.2.2.2.2.2.2.2.2.1 k0_t6
theorem k0_mult26_dvd : ∀ (i : grid0.Coords) (v87 : BitVec 32) (v554 : BitVec 32) (k0_hw18 : k0_chk18 i v87 v554) (k0_t6 : Fin (k0_t6_loop v87 v554).trips), 128 ∣ (k0_mult26 v87 v554 k0_t6).toNat := fun i v87 v554 k0_hw18 k0_t6 => k0_hw18.2.2.2.2.2.2.2.2.2.2.2.1 k0_t6
theorem k0_off85_inb : ∀ (i : grid0.Coords) (v87 : BitVec 32) (v554 : BitVec 32) (k0_hw18 : k0_chk18 i v87 v554) (k0_t6 : Fin (k0_t6_loop v87 v554).trips), ∀ a, (k0_off85 v87 v554 k0_t6) a + S128x128.size a ≤ S172032x128.size a := fun i v87 v554 k0_hw18 k0_t6 => k0_hw18.2.2.2.2.2.2.2.2.2.2.2.2.1 k0_t6
theorem k0_off86_inb : ∀ (i : grid0.Coords) (v87 : BitVec 32) (v554 : BitVec 32) (k0_hw18 : k0_chk18 i v87 v554) (k0_t6 : Fin (k0_t6_loop v87 v554).trips), ∀ a, (k0_off86 v87 v554 k0_t6) a + S128x128.size a ≤ S640x128.size a := fun i v87 v554 k0_hw18 k0_t6 => k0_hw18.2.2.2.2.2.2.2.2.2.2.2.2.2.1 k0_t6
theorem k0_off86_wordsbf16 : ∀ (i : grid0.Coords) (v87 : BitVec 32) (v554 : BitVec 32) (k0_hw18 : k0_chk18 i v87 v554) (k0_t6 : Fin (k0_t6_loop v87 v554).trips), (Rect.unit (s := S640x128) (k0_off86 v87 v554 k0_t6) S128x128.size (k0_off86_inb i v87 v554 k0_hw18 k0_t6)).WholeWords (EltTy.packing .bf16) := fun i v87 v554 k0_hw18 k0_t6 => k0_hw18.2.2.2.2.2.2.2.2.2.2.2.2.2.2.1 k0_t6 (k0_off86_inb i v87 v554 k0_hw18 k0_t6)
theorem k0_off85_wordsbf16 : ∀ (i : grid0.Coords) (v87 : BitVec 32) (v554 : BitVec 32) (k0_hw18 : k0_chk18 i v87 v554) (k0_t6 : Fin (k0_t6_loop v87 v554).trips), (Rect.unit (s := S172032x128) (k0_off85 v87 v554 k0_t6) S128x128.size (k0_off85_inb i v87 v554 k0_hw18 k0_t6)).WholeWords (EltTy.packing .bf16) := fun i v87 v554 k0_hw18 k0_t6 => k0_hw18.2.2.2.2.2.2.2.2.2.2.2.2.2.2.2.1 k0_t6 (k0_off85_inb i v87 v554 k0_hw18 k0_t6)
theorem k0_t7_ok : ∀ (i : grid0.Coords) (v87 : BitVec 32) (v554 : BitVec 32) (k0_hw18 : k0_chk18 i v87 v554), ∀ (k0_h18 : k0_cond18 i = 1#1), (k0_t7_loop v87 v554).OK := fun i v87 v554 k0_hw18 k0_h18 => k0_hw18.2.2.2.2.2.2.2.2.2.2.2.2.2.2.2.2.1 k0_h18
theorem k0_t8_ok : ∀ (i : grid0.Coords) (v87 : BitVec 32) (v554 : BitVec 32) (k0_hw18 : k0_chk18 i v87 v554), ∀ (k0_h18 : k0_cond18 i = 1#1), (k0_t8_loop v87 v554).OK := fun i v87 v554 k0_hw18 k0_h18 => k0_hw18.2.2.2.2.2.2.2.2.2.2.2.2.2.2.2.2.2 k0_h18

def k0_mult29 : BitVec 32 :=
  let c0_i32_312 : BitVec 32 := 0#32
  c0_i32_312
def k0_mult30 : BitVec 32 :=
  let c0_i32_313 : BitVec 32 := 0#32
  c0_i32_313
def k0_mult31 (v87 : BitVec 32) (v554 : BitVec 32) : BitVec 32 :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let v572 : BitVec 32 := Scalar.subi v571 v104
  let v727 : BitVec 32 := Scalar.addi v104 v572
  let c128_i32_312 : BitVec 32 := 128#32
  let v728 : BitVec 32 := Scalar.muli v727 c128_i32_312
  v728
def k0_cond19 (v601 : BitVec 32) : BitVec 1 :=
  let c128_i32_189 : BitVec 32 := 128#32
  let v602 : BitVec 32 := Scalar.remsi v601 c128_i32_189
  let c0_i32_190 : BitVec 32 := 0#32
  let v603 : BitVec 1 := Scalar.cmpi .ne v602 c0_i32_190
  let v604 : BitVec 32 := Scalar.extui v603
  let c0_i32_191 : BitVec 32 := 0#32
  let v605 : BitVec 1 := Scalar.cmpi .ne v604 c0_i32_191
  v605

def k0_mult32 (v87 : BitVec 32) (v554 : BitVec 32) : BitVec 32 :=
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c128_i32_313 : BitVec 32 := 128#32
  let v730 : BitVec 32 := Scalar.muli v572 c128_i32_313
  v730
def k0_off87 (v87 : BitVec 32) (v554 : BitVec 32) : Fin 2 → Nat :=
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let v572 : BitVec 32 := Scalar.subi v571 v104
  let v727 : BitVec 32 := Scalar.addi v104 v572
  let c128_i32_312 : BitVec 32 := 128#32
  let v728 : BitVec 32 := Scalar.muli v727 c128_i32_312
  let v729 : BitVec 32 := v728
  let c0_i32_314 : BitVec 32 := 0#32
  ![v729.toNat, 0]
def k0_off88 (v87 : BitVec 32) (v554 : BitVec 32) : Fin 2 → Nat :=
  let c0_i32_157 : BitVec 32 := 0#32
  let v556 : BitVec 1 := Scalar.cmpi .sgt v554 c0_i32_157
  let v557 : BitVec 32 := Scalar.extui v556
  let c0_i32_158 : BitVec 32 := 0#32
  let v558 : BitVec 1 := Scalar.cmpi .slt v554 c0_i32_158
  let v559 : BitVec 32 := Scalar.extui v558
  let v560 : BitVec 32 := Scalar.subi v557 v559
  let c128_i32_156 : BitVec 32 := 128#32
  let c0_i32_159 : BitVec 32 := 0#32
  let v561 : BitVec 1 := Scalar.cmpi .sgt c128_i32_156 c0_i32_159
  let v562 : BitVec 32 := Scalar.extui v561
  let c0_i32_160 : BitVec 32 := 0#32
  let v563 : BitVec 1 := Scalar.cmpi .slt c128_i32_156 c0_i32_160
  let v564 : BitVec 32 := Scalar.extui v563
  let v565 : BitVec 32 := Scalar.subi v562 v564
  let v566 : BitVec 1 := Scalar.cmpi .ne v560 v565
  let v567 : BitVec 32 := Scalar.remsi v554 c128_i32_156
  let c0_i32_161 : BitVec 32 := 0#32
  let v568 : BitVec 1 := Scalar.cmpi .ne v567 c0_i32_161
  let v569 : BitVec 1 := Scalar.andi v566 v568
  let v555 : BitVec 32 := Scalar.divsi v554 c128_i32_156
  let c1_i32_162 : BitVec 32 := 1#32
  let v570 : BitVec 32 := Scalar.subi v555 c1_i32_162
  let v571 : BitVec 32 := Scalar.select v569 v570 v555
  let c0_i32_37 : BitVec 32 := 0#32
  let v89 : BitVec 1 := Scalar.cmpi .sgt v87 c0_i32_37
  let v90 : BitVec 32 := Scalar.extui v89
  let c0_i32_38 : BitVec 32 := 0#32
  let v91 : BitVec 1 := Scalar.cmpi .slt v87 c0_i32_38
  let v92 : BitVec 32 := Scalar.extui v91
  let v93 : BitVec 32 := Scalar.subi v90 v92
  let c128_i32_36 : BitVec 32 := 128#32
  let c0_i32_39 : BitVec 32 := 0#32
  let v94 : BitVec 1 := Scalar.cmpi .sgt c128_i32_36 c0_i32_39
  let v95 : BitVec 32 := Scalar.extui v94
  let c0_i32_40 : BitVec 32 := 0#32
  let v96 : BitVec 1 := Scalar.cmpi .slt c128_i32_36 c0_i32_40
  let v97 : BitVec 32 := Scalar.extui v96
  let v98 : BitVec 32 := Scalar.subi v95 v97
  let v99 : BitVec 1 := Scalar.cmpi .ne v93 v98
  let v100 : BitVec 32 := Scalar.remsi v87 c128_i32_36
  let c0_i32_41 : BitVec 32 := 0#32
  let v101 : BitVec 1 := Scalar.cmpi .ne v100 c0_i32_41
  let v102 : BitVec 1 := Scalar.andi v99 v101
  let v88 : BitVec 32 := Scalar.divsi v87 c128_i32_36
  let c1_i32_42 : BitVec 32 := 1#32
  let v103 : BitVec 32 := Scalar.subi v88 c1_i32_42
  let v104 : BitVec 32 := Scalar.select v102 v103 v88
  let v572 : BitVec 32 := Scalar.subi v571 v104
  let c128_i32_313 : BitVec 32 := 128#32
  let v730 : BitVec 32 := Scalar.muli v572 c128_i32_313
  let v731 : BitVec 32 := v730
  let c0_i32_315 : BitVec 32 := 0#32
  ![v731.toNat, 0]

def k0_chk19 (i : grid0.Coords) (v87 : BitVec 32) (v554 : BitVec 32) (v601 : BitVec 32) : Prop :=
  (∀ (k0_h18 : k0_cond18 i = 1#1), ∀ (k0_h19 : k0_cond19 v601 = 1#1), 128 ∣ (k0_mult31 v87 v554).toNat) ∧
  (∀ (k0_h18 : k0_cond18 i = 1#1), ∀ (k0_h19 : k0_cond19 v601 = 1#1), 128 ∣ (k0_mult32 v87 v554).toNat) ∧
  (∀ (k0_h18 : k0_cond18 i = 1#1), ∀ (k0_h19 : k0_cond19 v601 = 1#1), ∀ a, (k0_off87 v87 v554) a + S128x128.size a ≤ S172032x128.size a) ∧
  (∀ (k0_h18 : k0_cond18 i = 1#1), ∀ (k0_h19 : k0_cond19 v601 = 1#1), ∀ a, (k0_off88 v87 v554) a + S128x128.size a ≤ S640x128.size a) ∧
  (∀ (k0_h18 : k0_cond18 i = 1#1), ∀ (k0_h19 : k0_cond19 v601 = 1#1), ∀ (hinb : ∀ a, (k0_off88 v87 v554) a + S128x128.size a ≤ S640x128.size a), (Rect.unit (s := S640x128) (k0_off88 v87 v554) S128x128.size hinb).WholeWords (EltTy.packing .bf16)) ∧
  (∀ (k0_h18 : k0_cond18 i = 1#1), ∀ (k0_h19 : k0_cond19 v601 = 1#1), ∀ (hinb : ∀ a, (k0_off87 v87 v554) a + S128x128.size a ≤ S172032x128.size a), (Rect.unit (s := S172032x128) (k0_off87 v87 v554) S128x128.size hinb).WholeWords (EltTy.packing .bf16))
theorem k0_mult31_dvd : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), 128 ∣ (k0_mult31 v87 v554).toNat := fun i v87 v554 v601 k0_hw19 k0_h18 k0_h19 => k0_hw19.1 k0_h18 k0_h19
theorem k0_mult32_dvd : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), 128 ∣ (k0_mult32 v87 v554).toNat := fun i v87 v554 v601 k0_hw19 k0_h18 k0_h19 => k0_hw19.2.1 k0_h18 k0_h19
theorem k0_off87_inb : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), ∀ a, (k0_off87 v87 v554) a + S128x128.size a ≤ S172032x128.size a := fun i v87 v554 v601 k0_hw19 k0_h18 k0_h19 => k0_hw19.2.2.1 k0_h18 k0_h19
theorem k0_off88_inb : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), ∀ a, (k0_off88 v87 v554) a + S128x128.size a ≤ S640x128.size a := fun i v87 v554 v601 k0_hw19 k0_h18 k0_h19 => k0_hw19.2.2.2.1 k0_h18 k0_h19
theorem k0_off88_wordsbf16 : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), (Rect.unit (s := S640x128) (k0_off88 v87 v554) S128x128.size (k0_off88_inb i v87 v554 v601 k0_hw19 k0_h18 k0_h19)).WholeWords (EltTy.packing .bf16) := fun i v87 v554 v601 k0_hw19 k0_h18 k0_h19 => k0_hw19.2.2.2.2.1 k0_h18 k0_h19 (k0_off88_inb i v87 v554 v601 k0_hw19 k0_h18 k0_h19)
theorem k0_off87_wordsbf16 : ∀ (i : grid0.Coords) (v87 : BitVec 32) (v554 : BitVec 32) (v601 : BitVec 32) (k0_hw19 : k0_chk19 i v87 v554 v601), ∀ (k0_h18 : k0_cond18 i = 1#1), ∀ (k0_h19 : k0_cond19 v601 = 1#1), (Rect.unit (s := S172032x128) (k0_off87 v87 v554) S128x128.size (k0_off87_inb i v87 v554 v601 k0_hw19 k0_h18 k0_h19)).WholeWords (EltTy.packing .bf16) := fun i v87 v554 v601 k0_hw19 k0_h18 k0_h19 => k0_hw19.2.2.2.2.2 k0_h18 k0_h19 (k0_off87_inb i v87 v554 v601 k0_hw19 k0_h18 k0_h19)

@[reducible] def k0_t9_loop (v0 : BitVec 32) : Scf.Loop 32 :=
  let c0_i32_196 : BitVec 32 := 0#32
  let c1344_i32 : BitVec 32 := 1344#32
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let v606 : BitVec 32 := Scalar.subi c1344_i32 v19
  let c1_i32_192 : BitVec 32 := 1#32
  let c1_i32_193 : BitVec 32 := 1#32
  let v607 : BitVec 32 := Scalar.subi c1_i32_192 c1_i32_193
  let v608 : BitVec 32 := Scalar.addi v606 v607
  let c1_i32_194 : BitVec 32 := 1#32
  let v609 : BitVec 32 := Scalar.divsi v608 c1_i32_194
  let v610 : BitVec 32 := Scalar.subi v609 c0_i32_196
  let c1_i32_197 : BitVec 32 := 1#32
  let v612 : BitVec 32 := Scalar.divsi v610 c1_i32_197
  let v613 : BitVec 32 := Scalar.muli v612 c1_i32_197
  let v614 : BitVec 32 := Scalar.addi c0_i32_196 v613
  let c1_i32_198 : BitVec 32 := 1#32
  ⟨c0_i32_196, v614, c1_i32_198⟩
def k0_mult33 (v0 : BitVec 32) (k0_t9 : Fin (k0_t9_loop v0).trips) : BitVec 32 :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_196 : BitVec 32 := 0#32
  let c1_i32_198 : BitVec 32 := 1#32
  let arg21 : BitVec 32 := Scf.iv c0_i32_196 c1_i32_198 k0_t9
  let c1_i32_195 : BitVec 32 := 1#32
  let v727 : BitVec 32 := Scalar.muli arg21 c1_i32_195
  let v728 : BitVec 32 := Scalar.addi v19 v727
  let c128_i32_312 : BitVec 32 := 128#32
  let v729 : BitVec 32 := Scalar.muli v728 c128_i32_312
  v729
def k0_off89 (v0 : BitVec 32) (k0_t9 : Fin (k0_t9_loop v0).trips) : Fin 2 → Nat :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_196 : BitVec 32 := 0#32
  let c1_i32_198 : BitVec 32 := 1#32
  let arg21 : BitVec 32 := Scf.iv c0_i32_196 c1_i32_198 k0_t9
  let c1_i32_195 : BitVec 32 := 1#32
  let v727 : BitVec 32 := Scalar.muli arg21 c1_i32_195
  let v728 : BitVec 32 := Scalar.addi v19 v727
  let c128_i32_312 : BitVec 32 := 128#32
  let v729 : BitVec 32 := Scalar.muli v728 c128_i32_312
  let v730 : BitVec 32 := v729
  let c0_i32_313 : BitVec 32 := 0#32
  ![v730.toNat, 0]
@[reducible] def k0_t10_loop (v0 : BitVec 32) : Scf.Loop 32 :=
  let c0_i32_196 : BitVec 32 := 0#32
  let c1344_i32 : BitVec 32 := 1344#32
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let v606 : BitVec 32 := Scalar.subi c1344_i32 v19
  let c1_i32_192 : BitVec 32 := 1#32
  let c1_i32_193 : BitVec 32 := 1#32
  let v607 : BitVec 32 := Scalar.subi c1_i32_192 c1_i32_193
  let v608 : BitVec 32 := Scalar.addi v606 v607
  let c1_i32_194 : BitVec 32 := 1#32
  let v609 : BitVec 32 := Scalar.divsi v608 c1_i32_194
  let v610 : BitVec 32 := Scalar.subi v609 c0_i32_196
  let c1_i32_197 : BitVec 32 := 1#32
  let v612 : BitVec 32 := Scalar.divsi v610 c1_i32_197
  let v613 : BitVec 32 := Scalar.muli v612 c1_i32_197
  let v614 : BitVec 32 := Scalar.addi c0_i32_196 v613
  let v611 : BitVec 32 := Scalar.addi c0_i32_196 v610
  let c1_i32_199 : BitVec 32 := 1#32
  ⟨v614, v611, c1_i32_199⟩
def k0_mult34 (v0 : BitVec 32) (k0_t10 : Fin (k0_t10_loop v0).trips) : BitVec 32 :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_196 : BitVec 32 := 0#32
  let c1344_i32 : BitVec 32 := 1344#32
  let v606 : BitVec 32 := Scalar.subi c1344_i32 v19
  let c1_i32_192 : BitVec 32 := 1#32
  let c1_i32_193 : BitVec 32 := 1#32
  let v607 : BitVec 32 := Scalar.subi c1_i32_192 c1_i32_193
  let v608 : BitVec 32 := Scalar.addi v606 v607
  let c1_i32_194 : BitVec 32 := 1#32
  let v609 : BitVec 32 := Scalar.divsi v608 c1_i32_194
  let v610 : BitVec 32 := Scalar.subi v609 c0_i32_196
  let c1_i32_197 : BitVec 32 := 1#32
  let v612 : BitVec 32 := Scalar.divsi v610 c1_i32_197
  let v613 : BitVec 32 := Scalar.muli v612 c1_i32_197
  let v614 : BitVec 32 := Scalar.addi c0_i32_196 v613
  let c1_i32_199 : BitVec 32 := 1#32
  let arg21 : BitVec 32 := Scf.iv v614 c1_i32_199 k0_t10
  let c1_i32_195 : BitVec 32 := 1#32
  let v727 : BitVec 32 := Scalar.muli arg21 c1_i32_195
  let v728 : BitVec 32 := Scalar.addi v19 v727
  let c128_i32_312 : BitVec 32 := 128#32
  let v729 : BitVec 32 := Scalar.muli v728 c128_i32_312
  v729
def k0_off90 (v0 : BitVec 32) (k0_t10 : Fin (k0_t10_loop v0).trips) : Fin 2 → Nat :=
  let c128_i32 : BitVec 32 := 128#32
  let v1 : BitVec 32 := Scalar.addi v0 c128_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32_0 : BitVec 32 := 128#32
  let c0_i32_2 : BitVec 32 := 0#32
  let v9 : BitVec 1 := Scalar.cmpi .sgt c128_i32_0 c0_i32_2
  let v10 : BitVec 32 := Scalar.extui v9
  let c0_i32_3 : BitVec 32 := 0#32
  let v11 : BitVec 1 := Scalar.cmpi .slt c128_i32_0 c0_i32_3
  let v12 : BitVec 32 := Scalar.extui v11
  let v13 : BitVec 32 := Scalar.subi v10 v12
  let v14 : BitVec 1 := Scalar.cmpi .ne v8 v13
  let v15 : BitVec 32 := Scalar.remsi v2 c128_i32_0
  let c0_i32_4 : BitVec 32 := 0#32
  let v16 : BitVec 1 := Scalar.cmpi .ne v15 c0_i32_4
  let v17 : BitVec 1 := Scalar.andi v14 v16
  let v3 : BitVec 32 := Scalar.divsi v2 c128_i32_0
  let c1_i32_5 : BitVec 32 := 1#32
  let v18 : BitVec 32 := Scalar.subi v3 c1_i32_5
  let v19 : BitVec 32 := Scalar.select v17 v18 v3
  let c0_i32_196 : BitVec 32 := 0#32
  let c1344_i32 : BitVec 32 := 1344#32
  let v606 : BitVec 32 := Scalar.subi c1344_i32 v19
  let c1_i32_192 : BitVec 32 := 1#32
  let c1_i32_193 : BitVec 32 := 1#32
  let v607 : BitVec 32 := Scalar.subi c1_i32_192 c1_i32_193
  let v608 : BitVec 32 := Scalar.addi v606 v607
  let c1_i32_194 : BitVec 32 := 1#32
  let v609 : BitVec 32 := Scalar.divsi v608 c1_i32_194
  let v610 : BitVec 32 := Scalar.subi v609 c0_i32_196
  let c1_i32_197 : BitVec 32 := 1#32
  let v612 : BitVec 32 := Scalar.divsi v610 c1_i32_197
  let v613 : BitVec 32 := Scalar.muli v612 c1_i32_197
  let v614 : BitVec 32 := Scalar.addi c0_i32_196 v613
  let c1_i32_199 : BitVec 32 := 1#32
  let arg21 : BitVec 32 := Scf.iv v614 c1_i32_199 k0_t10
  let c1_i32_195 : BitVec 32 := 1#32
  let v727 : BitVec 32 := Scalar.muli arg21 c1_i32_195
  let v728 : BitVec 32 := Scalar.addi v19 v727
  let c128_i32_312 : BitVec 32 := 128#32
  let v729 : BitVec 32 := Scalar.muli v728 c128_i32_312
  let v730 : BitVec 32 := v729
  let c0_i32_313 : BitVec 32 := 0#32
  ![v730.toNat, 0]

def k0_chk6 (i : grid0.Coords) (v0 : BitVec 32) : Prop :=
  (∀ (k0_h1 : k0_cond1 i = 1#1), (k0_t1_loop v0).OK) ∧
  (∀ k0_t1 : Fin (k0_t1_loop v0).trips, ∀ (k0_h1 : k0_cond1 i = 1#1), 128 ∣ (k0_mult6 v0 k0_t1).toNat) ∧
  (∀ k0_t1 : Fin (k0_t1_loop v0).trips, ∀ (k0_h1 : k0_cond1 i = 1#1), ∀ a, (k0_off11 v0 k0_t1) a + S128x128.size a ≤ S172032x128.size a) ∧
  (∀ k0_t1 : Fin (k0_t1_loop v0).trips, ∀ (k0_h1 : k0_cond1 i = 1#1), ∀ (hinb : ∀ a, (k0_off11 v0 k0_t1) a + S128x128.size a ≤ S172032x128.size a), (Rect.unit (s := S172032x128) (k0_off11 v0 k0_t1) S128x128.size hinb).WholeWords (EltTy.packing .bf16)) ∧
  (∀ (k0_h1 : k0_cond1 i = 1#1), (k0_t2_loop v0).OK) ∧
  (∀ k0_t2 : Fin (k0_t2_loop v0).trips, ∀ (k0_h1 : k0_cond1 i = 1#1), 128 ∣ (k0_mult7 v0 k0_t2).toNat) ∧
  (∀ k0_t2 : Fin (k0_t2_loop v0).trips, ∀ (k0_h1 : k0_cond1 i = 1#1), ∀ a, (k0_off12 v0 k0_t2) a + S128x128.size a ≤ S172032x128.size a) ∧
  (∀ k0_t2 : Fin (k0_t2_loop v0).trips, ∀ (k0_h1 : k0_cond1 i = 1#1), ∀ (hinb : ∀ a, (k0_off12 v0 k0_t2) a + S128x128.size a ≤ S172032x128.size a), (Rect.unit (s := S172032x128) (k0_off12 v0 k0_t2) S128x128.size hinb).WholeWords (EltTy.packing .bf16)) ∧
  (∀ (k0_h18 : k0_cond18 i = 1#1), (k0_t9_loop v0).OK) ∧
  (∀ k0_t9 : Fin (k0_t9_loop v0).trips, ∀ (k0_h18 : k0_cond18 i = 1#1), 128 ∣ (k0_mult33 v0 k0_t9).toNat) ∧
  (∀ k0_t9 : Fin (k0_t9_loop v0).trips, ∀ (k0_h18 : k0_cond18 i = 1#1), ∀ a, (k0_off89 v0 k0_t9) a + S128x128.size a ≤ S172032x128.size a) ∧
  (∀ k0_t9 : Fin (k0_t9_loop v0).trips, ∀ (k0_h18 : k0_cond18 i = 1#1), ∀ (hinb : ∀ a, (k0_off89 v0 k0_t9) a + S128x128.size a ≤ S172032x128.size a), (Rect.unit (s := S172032x128) (k0_off89 v0 k0_t9) S128x128.size hinb).WholeWords (EltTy.packing .bf16)) ∧
  (∀ (k0_h18 : k0_cond18 i = 1#1), (k0_t10_loop v0).OK) ∧
  (∀ k0_t10 : Fin (k0_t10_loop v0).trips, ∀ (k0_h18 : k0_cond18 i = 1#1), 128 ∣ (k0_mult34 v0 k0_t10).toNat) ∧
  (∀ k0_t10 : Fin (k0_t10_loop v0).trips, ∀ (k0_h18 : k0_cond18 i = 1#1), ∀ a, (k0_off90 v0 k0_t10) a + S128x128.size a ≤ S172032x128.size a) ∧
  (∀ k0_t10 : Fin (k0_t10_loop v0).trips, ∀ (k0_h18 : k0_cond18 i = 1#1), ∀ (hinb : ∀ a, (k0_off90 v0 k0_t10) a + S128x128.size a ≤ S172032x128.size a), (Rect.unit (s := S172032x128) (k0_off90 v0 k0_t10) S128x128.size hinb).WholeWords (EltTy.packing .bf16))
theorem k0_t1_ok : ∀ (i : grid0.Coords) (v0 : BitVec 32) (k0_hw6 : k0_chk6 i v0), ∀ (k0_h1 : k0_cond1 i = 1#1), (k0_t1_loop v0).OK := fun i v0 k0_hw6 k0_h1 => k0_hw6.1 k0_h1
theorem k0_mult6_dvd : ∀ (i : grid0.Coords) (v0 : BitVec 32) (k0_hw6 : k0_chk6 i v0) (k0_t1 : Fin (k0_t1_loop v0).trips), ∀ (k0_h1 : k0_cond1 i = 1#1), 128 ∣ (k0_mult6 v0 k0_t1).toNat := fun i v0 k0_hw6 k0_t1 k0_h1 => k0_hw6.2.1 k0_t1 k0_h1
theorem k0_off11_inb : ∀ (i : grid0.Coords) (v0 : BitVec 32) (k0_hw6 : k0_chk6 i v0) (k0_t1 : Fin (k0_t1_loop v0).trips), ∀ (k0_h1 : k0_cond1 i = 1#1), ∀ a, (k0_off11 v0 k0_t1) a + S128x128.size a ≤ S172032x128.size a := fun i v0 k0_hw6 k0_t1 k0_h1 => k0_hw6.2.2.1 k0_t1 k0_h1
theorem k0_off11_wordsbf16 : ∀ (i : grid0.Coords) (v0 : BitVec 32) (k0_hw6 : k0_chk6 i v0) (k0_t1 : Fin (k0_t1_loop v0).trips), ∀ (k0_h1 : k0_cond1 i = 1#1), (Rect.unit (s := S172032x128) (k0_off11 v0 k0_t1) S128x128.size (k0_off11_inb i v0 k0_hw6 k0_t1 k0_h1)).WholeWords (EltTy.packing .bf16) := fun i v0 k0_hw6 k0_t1 k0_h1 => k0_hw6.2.2.2.1 k0_t1 k0_h1 (k0_off11_inb i v0 k0_hw6 k0_t1 k0_h1)
theorem k0_t2_ok : ∀ (i : grid0.Coords) (v0 : BitVec 32) (k0_hw6 : k0_chk6 i v0), ∀ (k0_h1 : k0_cond1 i = 1#1), (k0_t2_loop v0).OK := fun i v0 k0_hw6 k0_h1 => k0_hw6.2.2.2.2.1 k0_h1
theorem k0_mult7_dvd : ∀ (i : grid0.Coords) (v0 : BitVec 32) (k0_hw6 : k0_chk6 i v0) (k0_t2 : Fin (k0_t2_loop v0).trips), ∀ (k0_h1 : k0_cond1 i = 1#1), 128 ∣ (k0_mult7 v0 k0_t2).toNat := fun i v0 k0_hw6 k0_t2 k0_h1 => k0_hw6.2.2.2.2.2.1 k0_t2 k0_h1
theorem k0_off12_inb : ∀ (i : grid0.Coords) (v0 : BitVec 32) (k0_hw6 : k0_chk6 i v0) (k0_t2 : Fin (k0_t2_loop v0).trips), ∀ (k0_h1 : k0_cond1 i = 1#1), ∀ a, (k0_off12 v0 k0_t2) a + S128x128.size a ≤ S172032x128.size a := fun i v0 k0_hw6 k0_t2 k0_h1 => k0_hw6.2.2.2.2.2.2.1 k0_t2 k0_h1
theorem k0_off12_wordsbf16 : ∀ (i : grid0.Coords) (v0 : BitVec 32) (k0_hw6 : k0_chk6 i v0) (k0_t2 : Fin (k0_t2_loop v0).trips), ∀ (k0_h1 : k0_cond1 i = 1#1), (Rect.unit (s := S172032x128) (k0_off12 v0 k0_t2) S128x128.size (k0_off12_inb i v0 k0_hw6 k0_t2 k0_h1)).WholeWords (EltTy.packing .bf16) := fun i v0 k0_hw6 k0_t2 k0_h1 => k0_hw6.2.2.2.2.2.2.2.1 k0_t2 k0_h1 (k0_off12_inb i v0 k0_hw6 k0_t2 k0_h1)
theorem k0_t9_ok : ∀ (i : grid0.Coords) (v0 : BitVec 32) (k0_hw6 : k0_chk6 i v0), ∀ (k0_h18 : k0_cond18 i = 1#1), (k0_t9_loop v0).OK := fun i v0 k0_hw6 k0_h18 => k0_hw6.2.2.2.2.2.2.2.2.1 k0_h18
theorem k0_mult33_dvd : ∀ (i : grid0.Coords) (v0 : BitVec 32) (k0_hw6 : k0_chk6 i v0) (k0_t9 : Fin (k0_t9_loop v0).trips), ∀ (k0_h18 : k0_cond18 i = 1#1), 128 ∣ (k0_mult33 v0 k0_t9).toNat := fun i v0 k0_hw6 k0_t9 k0_h18 => k0_hw6.2.2.2.2.2.2.2.2.2.1 k0_t9 k0_h18
theorem k0_off89_inb : ∀ (i : grid0.Coords) (v0 : BitVec 32) (k0_hw6 : k0_chk6 i v0) (k0_t9 : Fin (k0_t9_loop v0).trips), ∀ (k0_h18 : k0_cond18 i = 1#1), ∀ a, (k0_off89 v0 k0_t9) a + S128x128.size a ≤ S172032x128.size a := fun i v0 k0_hw6 k0_t9 k0_h18 => k0_hw6.2.2.2.2.2.2.2.2.2.2.1 k0_t9 k0_h18
theorem k0_off89_wordsbf16 : ∀ (i : grid0.Coords) (v0 : BitVec 32) (k0_hw6 : k0_chk6 i v0) (k0_t9 : Fin (k0_t9_loop v0).trips), ∀ (k0_h18 : k0_cond18 i = 1#1), (Rect.unit (s := S172032x128) (k0_off89 v0 k0_t9) S128x128.size (k0_off89_inb i v0 k0_hw6 k0_t9 k0_h18)).WholeWords (EltTy.packing .bf16) := fun i v0 k0_hw6 k0_t9 k0_h18 => k0_hw6.2.2.2.2.2.2.2.2.2.2.2.1 k0_t9 k0_h18 (k0_off89_inb i v0 k0_hw6 k0_t9 k0_h18)
theorem k0_t10_ok : ∀ (i : grid0.Coords) (v0 : BitVec 32) (k0_hw6 : k0_chk6 i v0), ∀ (k0_h18 : k0_cond18 i = 1#1), (k0_t10_loop v0).OK := fun i v0 k0_hw6 k0_h18 => k0_hw6.2.2.2.2.2.2.2.2.2.2.2.2.1 k0_h18
theorem k0_mult34_dvd : ∀ (i : grid0.Coords) (v0 : BitVec 32) (k0_hw6 : k0_chk6 i v0) (k0_t10 : Fin (k0_t10_loop v0).trips), ∀ (k0_h18 : k0_cond18 i = 1#1), 128 ∣ (k0_mult34 v0 k0_t10).toNat := fun i v0 k0_hw6 k0_t10 k0_h18 => k0_hw6.2.2.2.2.2.2.2.2.2.2.2.2.2.1 k0_t10 k0_h18
theorem k0_off90_inb : ∀ (i : grid0.Coords) (v0 : BitVec 32) (k0_hw6 : k0_chk6 i v0) (k0_t10 : Fin (k0_t10_loop v0).trips), ∀ (k0_h18 : k0_cond18 i = 1#1), ∀ a, (k0_off90 v0 k0_t10) a + S128x128.size a ≤ S172032x128.size a := fun i v0 k0_hw6 k0_t10 k0_h18 => k0_hw6.2.2.2.2.2.2.2.2.2.2.2.2.2.2.1 k0_t10 k0_h18
theorem k0_off90_wordsbf16 : ∀ (i : grid0.Coords) (v0 : BitVec 32) (k0_hw6 : k0_chk6 i v0) (k0_t10 : Fin (k0_t10_loop v0).trips), ∀ (k0_h18 : k0_cond18 i = 1#1), (Rect.unit (s := S172032x128) (k0_off90 v0 k0_t10) S128x128.size (k0_off90_inb i v0 k0_hw6 k0_t10 k0_h18)).WholeWords (EltTy.packing .bf16) := fun i v0 k0_hw6 k0_t10 k0_h18 => k0_hw6.2.2.2.2.2.2.2.2.2.2.2.2.2.2.2 k0_t10 k0_h18 (k0_off90_inb i v0 k0_hw6 k0_t10 k0_h18)

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x28x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3584x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3584x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S112x32x128 : Shape := ⟨3, ![112, 32, 128]⟩
abbrev S112x32x4 : Shape := ⟨3, ![112, 32, 4]⟩
abbrev S172032x128 : Shape := ⟨2, ![172032, 128]⟩
abbrev S172032x4 : Shape := ⟨2, ![172032, 4]⟩
abbrev S336 : Shape := ⟨1, ![336]⟩
abbrev S112x336x32 : Shape := ⟨3, ![112, 336, 32]⟩
abbrev S112x336 : Shape := ⟨2, ![112, 336]⟩
abbrev S_ : Shape := ⟨0, ![]⟩
abbrev S1x336x1 : Shape := ⟨3, ![1, 336, 1]⟩
abbrev S112x336x32x1 : Shape := ⟨4, ![112, 336, 32, 1]⟩
abbrev S112x336x32x128 : Shape := ⟨4, ![112, 336, 32, 128]⟩
abbrev S112x336x32x4 : Shape := ⟨4, ![112, 336, 32, 4]⟩
abbrev S112x336x32x4x32 : Shape := ⟨5, ![112, 336, 32, 4, 32]⟩
abbrev S112x336x32x4x1 : Shape := ⟨5, ![112, 336, 32, 4, 1]⟩
abbrev S112x32x4x32 : Shape := ⟨4, ![112, 32, 4, 32]⟩
abbrev S112x32x4x1 : Shape := ⟨4, ![112, 32, 4, 1]⟩
abbrev S112x336x1x1 : Shape := ⟨4, ![112, 336, 1, 1]⟩
abbrev S112x1x32x128 : Shape := ⟨4, ![112, 1, 32, 128]⟩
abbrev S1204224 : Shape := ⟨1, ![1204224]⟩
abbrev S1204224x128 : Shape := ⟨2, ![1204224, 128]⟩
abbrev S1204224x1 : Shape := ⟨2, ![1204224, 1]⟩
abbrev S3584x128 : Shape := ⟨2, ![3584, 128]⟩

abbrev nBuf : Space → Nat
  | .hbm => 68
  | .vmem => 4
  | .smem => 0
  | _ => 0

abbrev bufTy : (tb : Table) → Fin (tcTables nBuf tb) → BufTy
  | .hbm, ⟨0, _⟩ => ⟨S112x32x128, .fp8e4m3⟩
  | .hbm, ⟨1, _⟩ => ⟨S112x32x4, .f32⟩
  | .hbm, ⟨2, _⟩ => ⟨S172032x128, .fp8e4m3⟩
  | .hbm, ⟨3, _⟩ => ⟨S172032x4, .f32⟩
  | .hbm, ⟨4, _⟩ => ⟨S336, .i32⟩
  | .hbm, ⟨5, _⟩ => ⟨S112x336x32, .i32⟩
  | .hbm, ⟨6, _⟩ => ⟨S112x336, .bf16⟩
  | .hbm, ⟨7, _⟩ => ⟨S_, .i32⟩
  | .hbm, ⟨8, _⟩ => ⟨S_, .i32⟩
  | .hbm, ⟨9, _⟩ => ⟨S336, .i32⟩
  | .hbm, ⟨10, _⟩ => ⟨S336, .i32⟩
  | .hbm, ⟨11, _⟩ => ⟨S1x336x1, .i32⟩
  | .hbm, ⟨12, _⟩ => ⟨S112x336x32, .i32⟩
  | .hbm, ⟨13, _⟩ => ⟨S112x336x32, .i32⟩
  | .hbm, ⟨14, _⟩ => ⟨S172032x128, .bf16⟩
  | .hbm, ⟨15, _⟩ => ⟨S112x32x128, .f32⟩
  | .hbm, ⟨16, _⟩ => ⟨S_, .i32⟩
  | .hbm, ⟨17, _⟩ => ⟨S112x336x32, .i32⟩
  | .hbm, ⟨18, _⟩ => ⟨S112x336x32, .i1⟩
  | .hbm, ⟨19, _⟩ => ⟨S_, .i32⟩
  | .hbm, ⟨20, _⟩ => ⟨S112x336x32, .i32⟩
  | .hbm, ⟨21, _⟩ => ⟨S112x336x32, .i32⟩
  | .hbm, ⟨22, _⟩ => ⟨S112x336x32, .i32⟩
  | .hbm, ⟨23, _⟩ => ⟨S112x336x32x1, .i32⟩
  | .hbm, ⟨24, _⟩ => ⟨S112x336x32x128, .bf16⟩
  | .hbm, ⟨25, _⟩ => ⟨S_, .i32⟩
  | .hbm, ⟨26, _⟩ => ⟨S112x336x32, .i32⟩
  | .hbm, ⟨27, _⟩ => ⟨S112x336x32, .i1⟩
  | .hbm, ⟨28, _⟩ => ⟨S_, .i32⟩
  | .hbm, ⟨29, _⟩ => ⟨S112x336x32, .i32⟩
  | .hbm, ⟨30, _⟩ => ⟨S112x336x32, .i32⟩
  | .hbm, ⟨31, _⟩ => ⟨S112x336x32, .i32⟩
  | .hbm, ⟨32, _⟩ => ⟨S112x336x32x1, .i32⟩
  | .hbm, ⟨33, _⟩ => ⟨S112x336x32x4, .f32⟩
  | .hbm, ⟨34, _⟩ => ⟨S112x336x32x4, .bf16⟩
  | .hbm, ⟨35, _⟩ => ⟨S112x336x32x4x32, .bf16⟩
  | .hbm, ⟨36, _⟩ => ⟨S112x336x32x4x1, .bf16⟩
  | .hbm, ⟨37, _⟩ => ⟨S112x336x32x4x32, .bf16⟩
  | .hbm, ⟨38, _⟩ => ⟨S112x336x32x4x32, .bf16⟩
  | .hbm, ⟨39, _⟩ => ⟨S112x336x32x128, .bf16⟩
  | .hbm, ⟨40, _⟩ => ⟨S112x32x128, .f32⟩
  | .hbm, ⟨41, _⟩ => ⟨S112x32x128, .bf16⟩
  | .hbm, ⟨42, _⟩ => ⟨S112x32x4x32, .f32⟩
  | .hbm, ⟨43, _⟩ => ⟨S112x32x4x1, .f32⟩
  | .hbm, ⟨44, _⟩ => ⟨S112x32x4x32, .f32⟩
  | .hbm, ⟨45, _⟩ => ⟨S112x32x4x32, .f32⟩
  | .hbm, ⟨46, _⟩ => ⟨S112x32x128, .f32⟩
  | .hbm, ⟨47, _⟩ => ⟨S112x336, .f32⟩
  | .hbm, ⟨48, _⟩ => ⟨S112x336x1x1, .f32⟩
  | .hbm, ⟨49, _⟩ => ⟨S112x1x32x128, .f32⟩
  | .hbm, ⟨50, _⟩ => ⟨S112x336x32x128, .f32⟩
  | .hbm, ⟨51, _⟩ => ⟨S112x336x32x128, .f32⟩
  | .hbm, ⟨52, _⟩ => ⟨S112x336x32x128, .f32⟩
  | .hbm, ⟨53, _⟩ => ⟨S_, .f32⟩
  | .hbm, ⟨54, _⟩ => ⟨S172032x128, .f32⟩
  | .hbm, ⟨55, _⟩ => ⟨S1204224, .i32⟩
  | .hbm, ⟨56, _⟩ => ⟨S1204224x128, .f32⟩
  | .hbm, ⟨57, _⟩ => ⟨S_, .i32⟩
  | .hbm, ⟨58, _⟩ => ⟨S1204224, .i32⟩
  | .hbm, ⟨59, _⟩ => ⟨S1204224, .i1⟩
  | .hbm, ⟨60, _⟩ => ⟨S_, .i32⟩
  | .hbm, ⟨61, _⟩ => ⟨S1204224, .i32⟩
  | .hbm, ⟨62, _⟩ => ⟨S1204224, .i32⟩
  | .hbm, ⟨63, _⟩ => ⟨S1204224, .i32⟩
  | .hbm, ⟨64, _⟩ => ⟨S1204224x1, .i32⟩
  | .hbm, ⟨65, _⟩ => ⟨S172032x128, .f32⟩
  | .hbm, ⟨66, _⟩ => ⟨S172032x128, .bf16⟩
  | .hbm, ⟨67, _⟩ => ⟨S3584x128, .bf16⟩
  | .local _ .vmem, ⟨0, _⟩ => ⟨S172032x128, .fp8e4m3⟩
  | .local _ .vmem, ⟨1, _⟩ => ⟨S112x32x128, .fp8e4m3⟩
  | .local _ .vmem, ⟨2, _⟩ => ⟨S172032x128, .bf16⟩
  | .local _ .vmem, ⟨3, _⟩ => ⟨S112x32x128, .f32⟩
  | _, _ => ⟨S112x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_3 : Ref sig .tc := ⟨.hbm, 57, rfl⟩
abbrev main_v42 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S172032x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S112x32x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S172032x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
module

public import proofs.«01_k».proof.KernelIdeal
public import Idealize.ShloMosaic.Lib.LoopRemainder
public import Idealize.ShloMosaic.Lib.Routing.Words
public import Idealize.ShloMosaic.Lib.Affine
public import Idealize.ShloMosaic.Lib.WordArith.Masks

@[expose] public section

/-! # The kernel's word arithmetic

Every offset, guard and loop bound of the body is built from the table of document starts by a floor division by 128
that the printer spells as a chain of sign corrections. Here the chain is named once and read as a natural quotient. -/

namespace Cert.KernelIdeal.Hand

open Idealize.ShloMosaic Cert.KernelIdeal

/-- The floor division by 128 as printed. -/
def fd (x : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt 128#32 0#32)) (Scalar.extui (Scalar.cmpi .slt 128#32 0#32))))
    (Scalar.cmpi .ne (Scalar.remsi x 128#32) 0#32)) (Scalar.subi (Scalar.divsi x 128#32) 1#32) (Scalar.divsi x 128#32)

/-- The number of chunks of a document between the starts `a` and `b`, as printed. -/
def nchW (a b : BitVec 32) : BitVec 32 :=
  fd (Scalar.subi (Scalar.addi (Scalar.subi b (Scalar.muli (fd a) 128#32)) 128#32) 1#32)

/-- The guard of the document's chunk `k`, as printed. -/
def condW (k : BitVec 32) (a b : BitVec 32) : BitVec 1 :=
  Scalar.cmpi .ne (Scalar.extui (Scalar.cmpi .sgt (nchW a b) k)) 0#32

/-- The first row of the document's chunk `k`, as printed. -/
def rowW (k : BitVec 32) (a : BitVec 32) : BitVec 32 := Scalar.muli (Scalar.addi (fd a) k) 128#32

/-- The number of chunks of the document between the starts `a` and `b`. -/
def nch (a b : ℕ) : ℕ := (b + 127 - 128 * (a / 128)) / 128

theorem sdiv128 (x : BitVec 32) (hx : x.toNat < 2 ^ 31) : (Scalar.divsi x 128#32).toNat = x.toNat / 128 := by
  have h : ¬ IntOp.SDivCorner x 128#32 := by
    intro h; rcases h with h | ⟨_, h⟩ <;> exact absurd h (by decide)
  have hm : x.msb = false := by rw [BitVec.msb_eq_decide]; simp; omega
  simp only [Scalar.divsi, IntOp.divsi, if_neg h]
  rw [BitVec.sdiv_eq, hm, show (128#32).msb = false by decide]
  simp [BitVec.toNat_udiv]

theorem fd_toNat (x : BitVec 32) (hx : x.toNat < 2 ^ 31) : (fd x).toNat = x.toNat / 128 := by
  rw [← sdiv128 x hx]
  unfold fd
  congr 1
  have hm : x.toInt = x.toNat := BitVec.toInt_eq_toNat_of_lt (by omega)
  by_cases h0 : x = 0#32
  · subst h0; decide
  · have hpos : (0#32 : BitVec 32).slt x = true := by
      rw [BitVec.slt_iff_toInt_lt, hm]
      have : x.toNat ≠ 0 := fun h => h0 (BitVec.eq_of_toNat_eq (by simpa using h))
      simp; omega
    have hneg : x.slt (0#32 : BitVec 32) = false := by
      rw [Bool.eq_false_iff]; intro h
      rw [BitVec.slt_iff_toInt_lt, hm] at h
      simp at h; omega
    simp only [Scalar.cmpi, IntOp.cmpi, hpos, hneg]
    rw [Scalar.select, if_neg]
    simp [Scalar.andi, IntOp.andi, Scalar.subi, IntOp.subi, Scalar.extui]

theorem fd_lt (x : BitVec 32) (hx : x.toNat < 2 ^ 31) : (fd x).toNat < 2 ^ 24 := by rw [fd_toNat x hx]; omega

theorem sub_toNat (x y : BitVec 32) (h : y.toNat ≤ x.toNat) : (x - y).toNat = x.toNat - y.toNat := BitVec.toNat_sub_of_le h

theorem nchW_toNat (a b : BitVec 32) (hab : a.toNat ≤ b.toNat) (hb : b.toNat ≤ 172032) :
    (nchW a b).toNat = nch a.toNat b.toNat := by
  have hfa := fd_toNat a (by omega)
  have e1 : (fd a * 128#32).toNat = 128 * (a.toNat / 128) := by
    rw [BitVec.toNat_mul, hfa, show (128#32).toNat = 128 from rfl, Nat.mod_eq_of_lt (by omega)]; omega
  have e2 : (b - fd a * 128#32).toNat = b.toNat - 128 * (a.toNat / 128) := by
    rw [sub_toNat _ _ (by omega), e1]
  have e3 : (b - fd a * 128#32 + 128#32).toNat = b.toNat - 128 * (a.toNat / 128) + 128 := by
    rw [BitVec.toNat_add, e2, show (128#32).toNat = 128 from rfl, Nat.mod_eq_of_lt (by omega)]
  have e4 : (b - fd a * 128#32 + 128#32 - 1#32).toNat = b.toNat + 127 - 128 * (a.toNat / 128) := by
    rw [sub_toNat _ _ (by rw [e3]; show 1 ≤ _; omega), e3, show (1#32).toNat = 1 from rfl]; omega
  show (fd (b - fd a * 128#32 + 128#32 - 1#32)).toNat = _
  rw [fd_toNat _ (by omega), e4, nch]

theorem ne_extui (c : BitVec 1) : Scalar.cmpi .ne (Scalar.extui c) 0#32 = c := by
  revert c; decide

theorem cond_iff (k a b : BitVec 32) (hk : k.toNat < 2 ^ 31) (hab : a.toNat ≤ b.toNat) (hb : b.toNat ≤ 172032) :
    condW k a b = 1#1 ↔ k.toNat < nch a.toNat b.toNat := by
  have hn := nchW_toNat a b hab hb
  have hlt : (nchW a b).toNat < 2 ^ 31 := by rw [hn, nch]; omega
  unfold condW
  rw [ne_extui, ← hn]
  simp only [Scalar.cmpi, IntOp.cmpi]
  rw [show (BitVec.ofBool (k.slt (nchW a b)) = 1#1) ↔ k.slt (nchW a b) = true by cases k.slt (nchW a b) <;> decide,
    BitVec.slt_iff_toInt_lt, BitVec.toInt_eq_toNat_of_lt (by omega), BitVec.toInt_eq_toNat_of_lt (by omega)]
  omega

theorem row_toNat (k a : BitVec 32) (ha : a.toNat ≤ 172032) (hk : k.toNat < 2000) :
    (rowW k a).toNat = 128 * (a.toNat / 128 + k.toNat) := by
  have hfa := fd_toNat a (by omega)
  show ((fd a + k) * 128#32).toNat = _
  rw [BitVec.toNat_mul, BitVec.toNat_add, hfa, show (128#32).toNat = 128 from rfl, Nat.mod_eq_of_lt (by omega), Nat.mod_eq_of_lt (by omega)]
  omega

theorem trips01 (u : BitVec 32) (hu : u.toNat < 2 ^ 31) : Scf.trips 0#32 u 1#32 = u.toNat := by
  have h1 : (1#32 : BitVec 32).toInt = 1 := by decide
  have h0 : (0#32 : BitVec 32).toInt = 0 := by decide
  have h2 := BitVec.toInt_eq_toNat_of_lt (x := u) (by omega)
  unfold Scf.trips
  rw [h1, h0, h2]; omega

theorem ok01 (u : BitVec 32) (hu : u.toNat < 2 ^ 31) : Scf.OK 0#32 u 1#32 := by
  have h1 : (1#32 : BitVec 32).toInt = 1 := by decide
  have h0 : (0#32 : BitVec 32).toInt = 0 := by decide
  refine ⟨by rw [h1]; decide, ?_⟩
  rw [trips01 u hu, h1, h0]; omega

/-- A loop counted by the printed chain of unit corrections, read back. -/
theorem loop_ub (x : BitVec 32) :
    Scalar.addi 0#32 (Scalar.muli (Scalar.divsi (Scalar.subi (Scalar.divsi (Scalar.addi x (Scalar.subi 1#32 1#32)) 1#32) 0#32) 1#32) 1#32) = x := by
  simp [Scalar.addi, Scalar.muli, Scalar.subi, Scalar.divsi, IntOp.addi, IntOp.muli, IntOp.subi, WordArith.divsi_one]

theorem iv01 (k : ℕ) (hk : k < 2 ^ 31) : (Scf.iv 0#32 1#32 k).toNat = k := WordArith.toNat_iv_zero_one k (by omega)

end Cert.KernelIdeal.Hand
-- ==== Proof.WordFacts.lean ====
module

public import proofs.«01_k».proof.Proof.Words

@[expose] public section

/-! # Closed forms of the printed words

Each guard, offset and loop bound of the body, read from the chain of operations the printer spells. -/

set_option maxRecDepth 16384

namespace Cert.KernelIdeal.Hand

open Idealize.ShloMosaic Cert.KernelIdeal

/-! ## The step number -/

theorem rem2 : ∀ t : Fin 336, (Scalar.remsi (BitVec.ofNat 32 t.val) 2#32).toNat = t.val % 2 := by decide +kernel
theorem rem2' : ∀ t : Fin 336, (Scalar.subi 1#32 (Scalar.remsi (BitVec.ofNat 32 t.val) 2#32)).toNat = (t.val + 1) % 2 := by decide +kernel
theorem stepw : ∀ t : Fin 336, (BitVec.ofNat 32 t.val).toNat = t.val := by decide +kernel
theorem stepw1 : ∀ t : Fin 336, (Scalar.addi (BitVec.ofNat 32 t.val) 1#32).toNat = t.val + 1 := by decide +kernel
theorem stepw2 : ∀ t : Fin 336, (Scalar.addi (Scalar.addi (BitVec.ofNat 32 t.val) 1#32) 1#32).toNat = t.val + 2 := by decide +kernel
theorem stepp : ∀ t : Fin 336, (Scalar.maxsi (Scalar.subi (BitVec.ofNat 32 t.val) 1#32) 0#32).toNat = t.val - 1 := by decide +kernel
theorem gt0 : ∀ t : Fin 336, Scalar.cmpi .sgt (BitVec.ofNat 32 t.val) 0#32 = if t.val = 0 then 0#1 else 1#1 := by decide +kernel

theorem cond1_iff (i : grid0.Coords) : k0_cond1 i = 1#1 ↔ (i 0).val = 0 := by
  have h : ∀ t : Fin 336, (Scalar.cmpi .ne (Scalar.extui (Scalar.cmpi .eq (BitVec.ofNat 32 t.val) 0#32) : BitVec 32) 0#32 = 1#1) ↔ t.val = 0 := by decide +kernel
  exact h (i 0)
theorem cond7_iff (i : grid0.Coords) : k0_cond7 i = 1#1 ↔ (i 0).val + 1 < 336 := by
  have h : ∀ t : Fin 336, (Scalar.cmpi .ne (Scalar.extui (Scalar.cmpi .slt (Scalar.addi (BitVec.ofNat 32 t.val) 1#32) 336#32) : BitVec 32) 0#32 = 1#1) ↔ t.val + 1 < 336 := by decide +kernel
  exact h (i 0)
theorem cond18_iff (i : grid0.Coords) : k0_cond18 i = 1#1 ↔ (i 0).val = 335 := by
  have h : ∀ t : Fin 336, (Scalar.cmpi .ne (Scalar.extui (Scalar.cmpi .eq (BitVec.ofNat 32 t.val) 335#32) : BitVec 32) 0#32 = 1#1) ↔ t.val = 335 := by decide +kernel
  exact h (i 0)

/-! ## Offsets that follow the step number -/

theorem off13_eq (i : grid0.Coords) : k0_off13 i = ![(i 0).val + 1] :=
  congrArg (fun n : ℕ => (![n] : Fin 1 → ℕ)) (stepw1 (i 0))
theorem off14_eq (i : grid0.Coords) : k0_off14 i = ![(i 0).val + 2] :=
  congrArg (fun n : ℕ => (![n] : Fin 1 → ℕ)) (stepw2 (i 0))
theorem off15_eq (i : grid0.Coords) : k0_off15 i = ![(i 0).val + 1] :=
  congrArg (fun n : ℕ => (![n] : Fin 1 → ℕ)) (stepw1 (i 0))
theorem off21_eq (i : grid0.Coords) : k0_off21 i = ![(i 0).val + 1] :=
  congrArg (fun n : ℕ => (![n] : Fin 1 → ℕ)) (stepw1 (i 0))
theorem off27_eq (i : grid0.Coords) : k0_off27 i = ![(i 0).val + 1] :=
  congrArg (fun n : ℕ => (![n] : Fin 1 → ℕ)) (stepw1 (i 0))
theorem off33_eq (i : grid0.Coords) : k0_off33 i = ![(i 0).val + 1] :=
  congrArg (fun n : ℕ => (![n] : Fin 1 → ℕ)) (stepw1 (i 0))
theorem off39_eq (i : grid0.Coords) : k0_off39 i = ![(i 0).val + 1] :=
  congrArg (fun n : ℕ => (![n] : Fin 1 → ℕ)) (stepw1 (i 0))
theorem off16_eq (i : grid0.Coords) : k0_off16 i = ![((i 0).val + 1) % 2] :=
  congrArg (fun n : ℕ => (![n] : Fin 1 → ℕ)) (rem2' (i 0))
theorem off22_eq (i : grid0.Coords) : k0_off22 i = ![((i 0).val + 1) % 2] :=
  congrArg (fun n : ℕ => (![n] : Fin 1 → ℕ)) (rem2' (i 0))
theorem off28_eq (i : grid0.Coords) : k0_off28 i = ![((i 0).val + 1) % 2] :=
  congrArg (fun n : ℕ => (![n] : Fin 1 → ℕ)) (rem2' (i 0))
theorem off34_eq (i : grid0.Coords) : k0_off34 i = ![((i 0).val + 1) % 2] :=
  congrArg (fun n : ℕ => (![n] : Fin 1 → ℕ)) (rem2' (i 0))
theorem off40_eq (i : grid0.Coords) : k0_off40 i = ![((i 0).val + 1) % 2] :=
  congrArg (fun n : ℕ => (![n] : Fin 1 → ℕ)) (rem2' (i 0))
theorem off17_eq (i : grid0.Coords) : k0_off17 i = ![((i 0).val + 1) % 2, 0, 0] :=
  congrArg (fun n : ℕ => (![n, 0, 0] : Fin 3 → ℕ)) (rem2' (i 0))
theorem off23_eq (i : grid0.Coords) : k0_off23 i = ![((i 0).val + 1) % 2, 128, 0] :=
  congrArg (fun n : ℕ => (![n, 128, 0] : Fin 3 → ℕ)) (rem2' (i 0))
theorem off29_eq (i : grid0.Coords) : k0_off29 i = ![((i 0).val + 1) % 2, 256, 0] :=
  congrArg (fun n : ℕ => (![n, 256, 0] : Fin 3 → ℕ)) (rem2' (i 0))
theorem off35_eq (i : grid0.Coords) : k0_off35 i = ![((i 0).val + 1) % 2, 384, 0] :=
  congrArg (fun n : ℕ => (![n, 384, 0] : Fin 3 → ℕ)) (rem2' (i 0))
theorem off41_eq (i : grid0.Coords) : k0_off41 i = ![((i 0).val + 1) % 2, 512, 0] :=
  congrArg (fun n : ℕ => (![n, 512, 0] : Fin 3 → ℕ)) (rem2' (i 0))
theorem off19_eq (i : grid0.Coords) : k0_off19 i = ![((i 0).val + 1) % 2, 0, 0] :=
  congrArg (fun n : ℕ => (![n, 0, 0] : Fin 3 → ℕ)) (rem2' (i 0))
theorem off25_eq (i : grid0.Coords) : k0_off25 i = ![((i 0).val + 1) % 2, 0, 128] :=
  congrArg (fun n : ℕ => (![n, 0, 128] : Fin 3 → ℕ)) (rem2' (i 0))
theorem off31_eq (i : grid0.Coords) : k0_off31 i = ![((i 0).val + 1) % 2, 0, 256] :=
  congrArg (fun n : ℕ => (![n, 0, 256] : Fin 3 → ℕ)) (rem2' (i 0))
theorem off37_eq (i : grid0.Coords) : k0_off37 i = ![((i 0).val + 1) % 2, 0, 384] :=
  congrArg (fun n : ℕ => (![n, 0, 384] : Fin 3 → ℕ)) (rem2' (i 0))
theorem off43_eq (i : grid0.Coords) : k0_off43 i = ![((i 0).val + 1) % 2, 0, 512] :=
  congrArg (fun n : ℕ => (![n, 0, 512] : Fin 3 → ℕ)) (rem2' (i 0))
theorem off45_eq (i : grid0.Coords) : k0_off45 i = ![(i 0).val] :=
  congrArg (fun n : ℕ => (![n] : Fin 1 → ℕ)) (stepw (i 0))
theorem off46_eq (i : grid0.Coords) : k0_off46 i = ![(i 0).val + 1] :=
  congrArg (fun n : ℕ => (![n] : Fin 1 → ℕ)) (stepw1 (i 0))
theorem off47_eq (i : grid0.Coords) : k0_off47 i = ![(i 0).val] :=
  congrArg (fun n : ℕ => (![n] : Fin 1 → ℕ)) (stepw (i 0))
theorem off53_eq (i : grid0.Coords) : k0_off53 i = ![(i 0).val] :=
  congrArg (fun n : ℕ => (![n] : Fin 1 → ℕ)) (stepw (i 0))
theorem off59_eq (i : grid0.Coords) : k0_off59 i = ![(i 0).val] :=
  congrArg (fun n : ℕ => (![n] : Fin 1 → ℕ)) (stepw (i 0))
theorem off65_eq (i : grid0.Coords) : k0_off65 i = ![(i 0).val] :=
  congrArg (fun n : ℕ => (![n] : Fin 1 → ℕ)) (stepw (i 0))
theorem off71_eq (i : grid0.Coords) : k0_off71 i = ![(i 0).val] :=
  congrArg (fun n : ℕ => (![n] : Fin 1 → ℕ)) (stepw (i 0))
theorem off48_eq (i : grid0.Coords) : k0_off48 i = ![(i 0).val % 2] :=
  congrArg (fun n : ℕ => (![n] : Fin 1 → ℕ)) (rem2 (i 0))
theorem off54_eq (i : grid0.Coords) : k0_off54 i = ![(i 0).val % 2] :=
  congrArg (fun n : ℕ => (![n] : Fin 1 → ℕ)) (rem2 (i 0))
theorem off60_eq (i : grid0.Coords) : k0_off60 i = ![(i 0).val % 2] :=
  congrArg (fun n : ℕ => (![n] : Fin 1 → ℕ)) (rem2 (i 0))
theorem off66_eq (i : grid0.Coords) : k0_off66 i = ![(i 0).val % 2] :=
  congrArg (fun n : ℕ => (![n] : Fin 1 → ℕ)) (rem2 (i 0))
theorem off72_eq (i : grid0.Coords) : k0_off72 i = ![(i 0).val % 2] :=
  congrArg (fun n : ℕ => (![n] : Fin 1 → ℕ)) (rem2 (i 0))
theorem off49_eq (i : grid0.Coords) : k0_off49 i = ![(i 0).val % 2, 0, 0] :=
  congrArg (fun n : ℕ => (![n, 0, 0] : Fin 3 → ℕ)) (rem2 (i 0))
theorem off55_eq (i : grid0.Coords) : k0_off55 i = ![(i 0).val % 2, 128, 0] :=
  congrArg (fun n : ℕ => (![n, 128, 0] : Fin 3 → ℕ)) (rem2 (i 0))
theorem off61_eq (i : grid0.Coords) : k0_off61 i = ![(i 0).val % 2, 256, 0] :=
  congrArg (fun n : ℕ => (![n, 256, 0] : Fin 3 → ℕ)) (rem2 (i 0))
theorem off67_eq (i : grid0.Coords) : k0_off67 i = ![(i 0).val % 2, 384, 0] :=
  congrArg (fun n : ℕ => (![n, 384, 0] : Fin 3 → ℕ)) (rem2 (i 0))
theorem off73_eq (i : grid0.Coords) : k0_off73 i = ![(i 0).val % 2, 512, 0] :=
  congrArg (fun n : ℕ => (![n, 512, 0] : Fin 3 → ℕ)) (rem2 (i 0))
theorem off51_eq (i : grid0.Coords) : k0_off51 i = ![(i 0).val % 2, 0, 0] :=
  congrArg (fun n : ℕ => (![n, 0, 0] : Fin 3 → ℕ)) (rem2 (i 0))
theorem off57_eq (i : grid0.Coords) : k0_off57 i = ![(i 0).val % 2, 0, 128] :=
  congrArg (fun n : ℕ => (![n, 0, 128] : Fin 3 → ℕ)) (rem2 (i 0))
theorem off63_eq (i : grid0.Coords) : k0_off63 i = ![(i 0).val % 2, 0, 256] :=
  congrArg (fun n : ℕ => (![n, 0, 256] : Fin 3 → ℕ)) (rem2 (i 0))
theorem off69_eq (i : grid0.Coords) : k0_off69 i = ![(i 0).val % 2, 0, 384] :=
  congrArg (fun n : ℕ => (![n, 0, 384] : Fin 3 → ℕ)) (rem2 (i 0))
theorem off75_eq (i : grid0.Coords) : k0_off75 i = ![(i 0).val % 2, 0, 512] :=
  congrArg (fun n : ℕ => (![n, 0, 512] : Fin 3 → ℕ)) (rem2 (i 0))
theorem off77_eq (i : grid0.Coords) : k0_off77 i = ![(i 0).val] :=
  congrArg (fun n : ℕ => (![n] : Fin 1 → ℕ)) (stepw (i 0))
theorem off78_eq (i : grid0.Coords) : k0_off78 i = ![(i 0).val % 2, 0, 0] :=
  congrArg (fun n : ℕ => (![n, 0, 0] : Fin 3 → ℕ)) (rem2 (i 0))
theorem off79_eq (i : grid0.Coords) : k0_off79 i = ![(i 0).val % 2, 0, 0] :=
  congrArg (fun n : ℕ => (![n, 0, 0] : Fin 3 → ℕ)) (rem2 (i 0))
theorem off80_eq (i : grid0.Coords) : k0_off80 i = ![(i 0).val - 1] :=
  congrArg (fun n : ℕ => (![n] : Fin 1 → ℕ)) (stepp (i 0))
theorem off81_eq (i : grid0.Coords) : k0_off81 i = ![(i 0).val + 1] :=
  congrArg (fun n : ℕ => (![n] : Fin 1 → ℕ)) (stepw1 (i 0))

/-! ## Guards and source rows of the chunks -/

theorem cond2_eq (a b : BitVec 32) : k0_cond2 a b = condW 0#32 a b := rfl
theorem off1_eq (a : BitVec 32) : k0_off1 a = ![(rowW 0#32 a).toNat, 0] := rfl
theorem off2_eq (a : BitVec 32) : k0_off2 a = ![0, (rowW 0#32 a).toNat] := rfl
theorem cond3_eq (a b : BitVec 32) : k0_cond3 a b = condW 1#32 a b := rfl
theorem off3_eq (a : BitVec 32) : k0_off3 a = ![(rowW 1#32 a).toNat, 0] := rfl
theorem off4_eq (a : BitVec 32) : k0_off4 a = ![0, (rowW 1#32 a).toNat] := rfl
theorem cond4_eq (a b : BitVec 32) : k0_cond4 a b = condW 2#32 a b := rfl
theorem off5_eq (a : BitVec 32) : k0_off5 a = ![(rowW 2#32 a).toNat, 0] := rfl
theorem off6_eq (a : BitVec 32) : k0_off6 a = ![0, (rowW 2#32 a).toNat] := rfl
theorem cond5_eq (a b : BitVec 32) : k0_cond5 a b = condW 3#32 a b := rfl
theorem off7_eq (a : BitVec 32) : k0_off7 a = ![(rowW 3#32 a).toNat, 0] := rfl
theorem off8_eq (a : BitVec 32) : k0_off8 a = ![0, (rowW 3#32 a).toNat] := rfl
theorem cond6_eq (a b : BitVec 32) : k0_cond6 a b = condW 4#32 a b := rfl
theorem off9_eq (a : BitVec 32) : k0_off9 a = ![(rowW 4#32 a).toNat, 0] := rfl
theorem off10_eq (a : BitVec 32) : k0_off10 a = ![0, (rowW 4#32 a).toNat] := rfl
theorem cond8_eq (a b : BitVec 32) : k0_cond8 a b = condW 0#32 a b := rfl
theorem off18_eq (a : BitVec 32) : k0_off18 a = ![(rowW 0#32 a).toNat, 0] := rfl
theorem off20_eq (a : BitVec 32) : k0_off20 a = ![0, (rowW 0#32 a).toNat] := rfl
theorem cond9_eq (a b : BitVec 32) : k0_cond9 a b = condW 1#32 a b := rfl
theorem off24_eq (a : BitVec 32) : k0_off24 a = ![(rowW 1#32 a).toNat, 0] := rfl
theorem off26_eq (a : BitVec 32) : k0_off26 a = ![0, (rowW 1#32 a).toNat] := rfl
theorem cond10_eq (a b : BitVec 32) : k0_cond10 a b = condW 2#32 a b := rfl
theorem off30_eq (a : BitVec 32) : k0_off30 a = ![(rowW 2#32 a).toNat, 0] := rfl
theorem off32_eq (a : BitVec 32) : k0_off32 a = ![0, (rowW 2#32 a).toNat] := rfl
theorem cond11_eq (a b : BitVec 32) : k0_cond11 a b = condW 3#32 a b := rfl
theorem off36_eq (a : BitVec 32) : k0_off36 a = ![(rowW 3#32 a).toNat, 0] := rfl
theorem off38_eq (a : BitVec 32) : k0_off38 a = ![0, (rowW 3#32 a).toNat] := rfl
theorem cond12_eq (a b : BitVec 32) : k0_cond12 a b = condW 4#32 a b := rfl
theorem off42_eq (a : BitVec 32) : k0_off42 a = ![(rowW 4#32 a).toNat, 0] := rfl
theorem off44_eq (a : BitVec 32) : k0_off44 a = ![0, (rowW 4#32 a).toNat] := rfl
theorem cond13_eq (a b : BitVec 32) : k0_cond13 a b = condW 0#32 a b := rfl
theorem off50_eq (a : BitVec 32) : k0_off50 a = ![(rowW 0#32 a).toNat, 0] := rfl
theorem off52_eq (a : BitVec 32) : k0_off52 a = ![0, (rowW 0#32 a).toNat] := rfl
theorem cond14_eq (a b : BitVec 32) : k0_cond14 a b = condW 1#32 a b := rfl
theorem off56_eq (a : BitVec 32) : k0_off56 a = ![(rowW 1#32 a).toNat, 0] := rfl
theorem off58_eq (a : BitVec 32) : k0_off58 a = ![0, (rowW 1#32 a).toNat] := rfl
theorem cond15_eq (a b : BitVec 32) : k0_cond15 a b = condW 2#32 a b := rfl
theorem off62_eq (a : BitVec 32) : k0_off62 a = ![(rowW 2#32 a).toNat, 0] := rfl
theorem off64_eq (a : BitVec 32) : k0_off64 a = ![0, (rowW 2#32 a).toNat] := rfl
theorem cond16_eq (a b : BitVec 32) : k0_cond16 a b = condW 3#32 a b := rfl
theorem off68_eq (a : BitVec 32) : k0_off68 a = ![(rowW 3#32 a).toNat, 0] := rfl
theorem off70_eq (a : BitVec 32) : k0_off70 a = ![0, (rowW 3#32 a).toNat] := rfl
theorem cond17_eq (a b : BitVec 32) : k0_cond17 a b = condW 4#32 a b := rfl
theorem off74_eq (a : BitVec 32) : k0_off74 a = ![(rowW 4#32 a).toNat, 0] := rfl
theorem off76_eq (a : BitVec 32) : k0_off76 a = ![0, (rowW 4#32 a).toNat] := rfl

/-- A row block of 128 rows at a multiple of 128 has whole words. -/
theorem ww {n : ℕ} (p r : ℕ) (off : Fin 2 → ℕ) (ho : off = ![128 * r, 0]) (hp : p ∣ 128) (hinb : ∀ a, off a + S128x128.size a ≤ (⟨2, ![n, 128]⟩ : Shape).size a) :
    (Rect.unit (s := ⟨2, ![n, 128]⟩) off S128x128.size hinb).WholeWords p := by
  subst ho
  refine Affine.words_of_packed (Or.inr ⟨(le_refl 2 : 2 ≤ 2), rfl, Or.inl ⟨?_, ?_⟩⟩)
  · show p ∣ 128 * r; exact Dvd.dvd.mul_right hp r
  · show p ∣ 128; exact hp

theorem inb2 {n m : ℕ} (r : ℕ) (off : Fin 2 → ℕ) (ho : off = ![r, 0]) (h : r + 128 ≤ n) :
    ∀ a, off a + S128x128.size a ≤ (⟨2, ![n, 128]⟩ : Shape).size a := by
  subst ho; intro a; fin_cases a
  · exact h
  · show 0 + 128 ≤ 128; omega

theorem inb2' {n m : ℕ} (r : ℕ) (off : Fin 2 → ℕ) (ho : off = ![0, r]) (h : r + 128 ≤ n) :
    ∀ a, off a + S4x128.size a ≤ (⟨2, ![4, n]⟩ : Shape).size a := by
  subst ho; intro a; fin_cases a
  · show 0 + 4 ≤ 4; omega
  · exact h

theorem row_lt (k a b : ℕ) (hb : b ≤ 172032) (h : k < nch a b) : 128 * (a / 128 + k) + 128 ≤ 172032 := by
  unfold nch at h; omega

/-- The side conditions of one chunk's transfers. -/
theorem chunk_chk (k a b : BitVec 32) (hk : k.toNat < 5) (hab : a.toNat ≤ b.toNat) (hb : b.toNat ≤ 172032) (h : condW k a b = 1#1) :
    128 ∣ (rowW k a).toNat ∧ (∀ x, (![(rowW k a).toNat, 0] : Fin 2 → ℕ) x + S128x128.size x ≤ S172032x128.size x) ∧
    (∀ (hinb : ∀ x, (![(rowW k a).toNat, 0] : Fin 2 → ℕ) x + S128x128.size x ≤ S172032x128.size x),
      (Rect.unit (s := S172032x128) ![(rowW k a).toNat, 0] S128x128.size hinb).WholeWords (EltTy.packing .fp8e4m3)) ∧
    (∀ x, (![0, (rowW k a).toNat] : Fin 2 → ℕ) x + S4x128.size x ≤ S4x172032.size x) := by
  have e := row_toNat k a (by omega) (by omega)
  have hl := row_lt k.toNat a.toNat b.toNat hb ((cond_iff k a b (by omega) hab hb).1 h)
  rw [e]
  refine ⟨Dvd.intro _ rfl, ?_, ?_, ?_⟩
  · exact inb2 (m := 0) _ _ rfl hl
  · intro hinb
    exact ww (n := 172032) (EltTy.packing .fp8e4m3) (a.toNat / 128 + k.toNat) _ rfl (by decide) hinb
  · exact inb2' (m := 0) _ _ rfl hl

theorem chk1_ok (i : grid0.Coords) (a b : BitVec 32) (hab : a.toNat ≤ b.toNat) (hb : b.toNat ≤ 172032) : k0_chk1 i a b a :=
  ⟨fun _ h => (chunk_chk 0#32 a b (by decide) hab hb h).1, fun _ h => (chunk_chk 0#32 a b (by decide) hab hb h).2.1,
    fun _ h => (chunk_chk 0#32 a b (by decide) hab hb h).2.2.1, fun _ h => (chunk_chk 0#32 a b (by decide) hab hb h).2.2.2⟩
theorem chk7_ok (i : grid0.Coords) (a b : BitVec 32) (hab : a.toNat ≤ b.toNat) (hb : b.toNat ≤ 172032) : k0_chk7 i a b a :=
  ⟨fun _ h => (chunk_chk 0#32 a b (by decide) hab hb h).1, fun _ h => (chunk_chk 0#32 a b (by decide) hab hb h).2.1,
    fun _ h => (chunk_chk 0#32 a b (by decide) hab hb h).2.2.1, fun _ h => (chunk_chk 0#32 a b (by decide) hab hb h).2.2.2⟩
theorem chk12_ok (a b : BitVec 32) (hab : a.toNat ≤ b.toNat) (hb : b.toNat ≤ 172032) : k0_chk12 a b a :=
  ⟨fun h => (chunk_chk 0#32 a b (by decide) hab hb h).1, fun h => (chunk_chk 0#32 a b (by decide) hab hb h).2.1,
    fun h => (chunk_chk 0#32 a b (by decide) hab hb h).2.2.1, fun h => (chunk_chk 0#32 a b (by decide) hab hb h).2.2.2⟩
theorem chk2_ok (i : grid0.Coords) (a b : BitVec 32) (hab : a.toNat ≤ b.toNat) (hb : b.toNat ≤ 172032) : k0_chk2 i a b a :=
  ⟨fun _ h => (chunk_chk 1#32 a b (by decide) hab hb h).1, fun _ h => (chunk_chk 1#32 a b (by decide) hab hb h).2.1,
    fun _ h => (chunk_chk 1#32 a b (by decide) hab hb h).2.2.1, fun _ h => (chunk_chk 1#32 a b (by decide) hab hb h).2.2.2⟩
theorem chk8_ok (i : grid0.Coords) (a b : BitVec 32) (hab : a.toNat ≤ b.toNat) (hb : b.toNat ≤ 172032) : k0_chk8 i a b a :=
  ⟨fun _ h => (chunk_chk 1#32 a b (by decide) hab hb h).1, fun _ h => (chunk_chk 1#32 a b (by decide) hab hb h).2.1,
    fun _ h => (chunk_chk 1#32 a b (by decide) hab hb h).2.2.1, fun _ h => (chunk_chk 1#32 a b (by decide) hab hb h).2.2.2⟩
theorem chk13_ok (a b : BitVec 32) (hab : a.toNat ≤ b.toNat) (hb : b.toNat ≤ 172032) : k0_chk13 a b a :=
  ⟨fun h => (chunk_chk 1#32 a b (by decide) hab hb h).1, fun h => (chunk_chk 1#32 a b (by decide) hab hb h).2.1,
    fun h => (chunk_chk 1#32 a b (by decide) hab hb h).2.2.1, fun h => (chunk_chk 1#32 a b (by decide) hab hb h).2.2.2⟩
theorem chk3_ok (i : grid0.Coords) (a b : BitVec 32) (hab : a.toNat ≤ b.toNat) (hb : b.toNat ≤ 172032) : k0_chk3 i a b a :=
  ⟨fun _ h => (chunk_chk 2#32 a b (by decide) hab hb h).1, fun _ h => (chunk_chk 2#32 a b (by decide) hab hb h).2.1,
    fun _ h => (chunk_chk 2#32 a b (by decide) hab hb h).2.2.1, fun _ h => (chunk_chk 2#32 a b (by decide) hab hb h).2.2.2⟩
theorem chk9_ok (i : grid0.Coords) (a b : BitVec 32) (hab : a.toNat ≤ b.toNat) (hb : b.toNat ≤ 172032) : k0_chk9 i a b a :=
  ⟨fun _ h => (chunk_chk 2#32 a b (by decide) hab hb h).1, fun _ h => (chunk_chk 2#32 a b (by decide) hab hb h).2.1,
    fun _ h => (chunk_chk 2#32 a b (by decide) hab hb h).2.2.1, fun _ h => (chunk_chk 2#32 a b (by decide) hab hb h).2.2.2⟩
theorem chk14_ok (a b : BitVec 32) (hab : a.toNat ≤ b.toNat) (hb : b.toNat ≤ 172032) : k0_chk14 a b a :=
  ⟨fun h => (chunk_chk 2#32 a b (by decide) hab hb h).1, fun h => (chunk_chk 2#32 a b (by decide) hab hb h).2.1,
    fun h => (chunk_chk 2#32 a b (by decide) hab hb h).2.2.1, fun h => (chunk_chk 2#32 a b (by decide) hab hb h).2.2.2⟩
theorem chk4_ok (i : grid0.Coords) (a b : BitVec 32) (hab : a.toNat ≤ b.toNat) (hb : b.toNat ≤ 172032) : k0_chk4 i a b a :=
  ⟨fun _ h => (chunk_chk 3#32 a b (by decide) hab hb h).1, fun _ h => (chunk_chk 3#32 a b (by decide) hab hb h).2.1,
    fun _ h => (chunk_chk 3#32 a b (by decide) hab hb h).2.2.1, fun _ h => (chunk_chk 3#32 a b (by decide) hab hb h).2.2.2⟩
theorem chk10_ok (i : grid0.Coords) (a b : BitVec 32) (hab : a.toNat ≤ b.toNat) (hb : b.toNat ≤ 172032) : k0_chk10 i a b a :=
  ⟨fun _ h => (chunk_chk 3#32 a b (by decide) hab hb h).1, fun _ h => (chunk_chk 3#32 a b (by decide) hab hb h).2.1,
    fun _ h => (chunk_chk 3#32 a b (by decide) hab hb h).2.2.1, fun _ h => (chunk_chk 3#32 a b (by decide) hab hb h).2.2.2⟩
theorem chk15_ok (a b : BitVec 32) (hab : a.toNat ≤ b.toNat) (hb : b.toNat ≤ 172032) : k0_chk15 a b a :=
  ⟨fun h => (chunk_chk 3#32 a b (by decide) hab hb h).1, fun h => (chunk_chk 3#32 a b (by decide) hab hb h).2.1,
    fun h => (chunk_chk 3#32 a b (by decide) hab hb h).2.2.1, fun h => (chunk_chk 3#32 a b (by decide) hab hb h).2.2.2⟩
theorem chk5_ok (i : grid0.Coords) (a b : BitVec 32) (hab : a.toNat ≤ b.toNat) (hb : b.toNat ≤ 172032) : k0_chk5 i a b a :=
  ⟨fun _ h => (chunk_chk 4#32 a b (by decide) hab hb h).1, fun _ h => (chunk_chk 4#32 a b (by decide) hab hb h).2.1,
    fun _ h => (chunk_chk 4#32 a b (by decide) hab hb h).2.2.1, fun _ h => (chunk_chk 4#32 a b (by decide) hab hb h).2.2.2⟩
theorem chk11_ok (i : grid0.Coords) (a b : BitVec 32) (hab : a.toNat ≤ b.toNat) (hb : b.toNat ≤ 172032) : k0_chk11 i a b a :=
  ⟨fun _ h => (chunk_chk 4#32 a b (by decide) hab hb h).1, fun _ h => (chunk_chk 4#32 a b (by decide) hab hb h).2.1,
    fun _ h => (chunk_chk 4#32 a b (by decide) hab hb h).2.2.1, fun _ h => (chunk_chk 4#32 a b (by decide) hab hb h).2.2.2⟩
theorem chk16_ok (a b : BitVec 32) (hab : a.toNat ≤ b.toNat) (hb : b.toNat ≤ 172032) : k0_chk16 a b a :=
  ⟨fun h => (chunk_chk 4#32 a b (by decide) hab hb h).1, fun h => (chunk_chk 4#32 a b (by decide) hab hb h).2.1,
    fun h => (chunk_chk 4#32 a b (by decide) hab hb h).2.2.1, fun h => (chunk_chk 4#32 a b (by decide) hab hb h).2.2.2⟩

/-! ## The loops over chunks of zeros -/

/-- The first chunk after the last document, as printed. -/
def tailW (v : BitVec 32) : BitVec 32 := fd (Scalar.subi (Scalar.addi v 128#32) 1#32)

theorem tailW_toNat (v : BitVec 32) (hv : v.toNat ≤ 172032) : (tailW v).toNat = (v.toNat + 127) / 128 := by
  have e1 : (v + 128#32).toNat = v.toNat + 128 := by rw [BitVec.toNat_add, show (128#32).toNat = 128 from rfl, Nat.mod_eq_of_lt (by omega)]
  have e2 : (v + 128#32 - 1#32).toNat = v.toNat + 127 := by rw [sub_toNat _ _ (by rw [e1]; show 1 ≤ _; omega), e1, show (1#32).toNat = 1 from rfl]; omega
  show (fd (v + 128#32 - 1#32)).toNat = _
  rw [fd_toNat _ (by omega), e2]

theorem zub_toNat (v : BitVec 32) (hv : v.toNat ≤ 172032) : (Scalar.subi 1344#32 (tailW v)).toNat = 1344 - (v.toNat + 127) / 128 := by
  have := tailW_toNat v hv
  show (1344#32 - tailW v).toNat = _
  rw [sub_toNat _ _ (by rw [this]; show _ ≤ 1344; omega), this]; rfl

theorem t1_eq (v : BitVec 32) : k0_t1_loop v = ⟨0#32, Scalar.subi 1344#32 (tailW v), 1#32⟩ := by
  show Scf.Loop.mk 0#32 _ 1#32 = _; exact congrArg (fun u => Scf.Loop.mk 0#32 u 1#32) (loop_ub _)
theorem t9_eq (v : BitVec 32) : k0_t9_loop v = ⟨0#32, Scalar.subi 1344#32 (tailW v), 1#32⟩ := by
  show Scf.Loop.mk 0#32 _ 1#32 = _; exact congrArg (fun u => Scf.Loop.mk 0#32 u 1#32) (loop_ub _)
theorem t1_trips (v : BitVec 32) (hv : v.toNat ≤ 172032) : (k0_t1_loop v).trips = 1344 - (v.toNat + 127) / 128 := by
  rw [t1_eq]; show Scf.trips 0#32 _ 1#32 = _
  rw [trips01 _ (by rw [zub_toNat v hv]; omega), zub_toNat v hv]
theorem t9_trips (v : BitVec 32) (hv : v.toNat ≤ 172032) : (k0_t9_loop v).trips = 1344 - (v.toNat + 127) / 128 := by
  rw [t9_eq]; show Scf.trips 0#32 _ 1#32 = _
  rw [trips01 _ (by rw [zub_toNat v hv]; omega), zub_toNat v hv]

/-- The row of a chunk counted from a quotient, as printed in the loops. -/
theorem ivrow (q : BitVec 32) (k : ℕ) (hq : q.toNat ≤ 1344) (hk : k ≤ 1344) :
    (Scalar.muli (Scalar.addi q (Scalar.muli (Scf.iv 0#32 1#32 k) 1#32)) 128#32).toNat = 128 * (q.toNat + k) := by
  have hi := iv01 k (by omega)
  have e : Scalar.muli (Scf.iv 0#32 1#32 k) 1#32 = Scf.iv 0#32 1#32 k := BitVec.mul_one _
  rw [e]
  show ((q + Scf.iv 0#32 1#32 k) * 128#32).toNat = _
  rw [BitVec.toNat_mul, BitVec.toNat_add, hi, show (128#32).toNat = 128 from rfl, Nat.mod_eq_of_lt (by omega), Nat.mod_eq_of_lt (by omega)]; omega

theorem mult6_eq (v : BitVec 32) (hv : v.toNat ≤ 172032) (k) : (k0_mult6 v k).toNat = 128 * ((v.toNat + 127) / 128 + k.val) := by
  have hk : k.val < 1344 := lt_of_lt_of_le k.isLt (by rw [t1_trips v hv]; omega)
  have ht := tailW_toNat v hv
  rw [← ht]; exact ivrow (tailW v) k.val (by omega) (by omega)
theorem mult33_eq (v : BitVec 32) (hv : v.toNat ≤ 172032) (k) : (k0_mult33 v k).toNat = 128 * ((v.toNat + 127) / 128 + k.val) := by
  have hk : k.val < 1344 := lt_of_lt_of_le k.isLt (by rw [t9_trips v hv]; omega)
  have ht := tailW_toNat v hv
  rw [← ht]; exact ivrow (tailW v) k.val (by omega) (by omega)
theorem off11_eq (v : BitVec 32) (hv : v.toNat ≤ 172032) (k) : k0_off11 v k = ![128 * ((v.toNat + 127) / 128 + k.val), 0] := by
  rw [← mult6_eq v hv k]; rfl
theorem off89_eq (v : BitVec 32) (hv : v.toNat ≤ 172032) (k) : k0_off89 v k = ![128 * ((v.toNat + 127) / 128 + k.val), 0] := by
  rw [← mult33_eq v hv k]; rfl
theorem zrow_lt (v k : ℕ) (hk : k < 1344 - (v + 127) / 128) : 128 * ((v + 127) / 128 + k) + 128 ≤ 172032 := by omega

theorem chk6_ok (i : grid0.Coords) (v : BitVec 32) (hv : v.toNat ≤ 172032) : k0_chk6 i v := by
  have hl1 : ∀ k : Fin (k0_t1_loop v).trips, k.val < 1344 - (v.toNat + 127) / 128 := fun k => lt_of_lt_of_eq k.isLt (t1_trips v hv)
  have hl9 : ∀ k : Fin (k0_t9_loop v).trips, k.val < 1344 - (v.toNat + 127) / 128 := fun k => lt_of_lt_of_eq k.isLt (t9_trips v hv)
  have hok : ∀ u : BitVec 32, u.toNat < 2 ^ 31 → Scf.Loop.OK ⟨0#32, u, 1#32⟩ := fun u hu => ok01 u hu
  refine ⟨fun _ => ?_, fun k _ => ?_, fun k _ => ?_, fun k _ hinb => ?_, fun _ => ?_, fun k => ?_, fun k => ?_, fun k => ?_,
    fun _ => ?_, fun k _ => ?_, fun k _ => ?_, fun k _ hinb => ?_, fun _ => ?_, fun k => ?_, fun k => ?_, fun k => ?_⟩
  · rw [t1_eq]; exact hok _ (by rw [zub_toNat v hv]; omega)
  · rw [mult6_eq v hv]; exact Dvd.intro _ rfl
  · exact inb2 (m := 0) _ _ (off11_eq v hv k) (zrow_lt _ _ (hl1 k))
  · exact ww (n := 172032) _ _ _ (off11_eq v hv k) (by decide) hinb
  · exact Scf.rem_ok _ _
  · exact (Scf.rem_no_trip _ _ k).elim
  · exact (Scf.rem_no_trip _ _ k).elim
  · exact (Scf.rem_no_trip _ _ k).elim
  · rw [t9_eq]; exact hok _ (by rw [zub_toNat v hv]; omega)
  · rw [mult33_eq v hv]; exact Dvd.intro _ rfl
  · exact inb2 (m := 0) _ _ (off89_eq v hv k) (zrow_lt _ _ (hl9 k))
  · exact ww (n := 172032) _ _ _ (off89_eq v hv k) (by decide) hinb
  · exact Scf.rem_ok _ _
  · exact (Scf.rem_no_trip _ _ k).elim
  · exact (Scf.rem_no_trip _ _ k).elim
  · exact (Scf.rem_no_trip _ _ k).elim

/-! ## The loops over finished chunks -/

theorem dif_toNat (a b : BitVec 32) (hab : a.toNat ≤ b.toNat) (hb : b.toNat ≤ 172032) :
    (Scalar.subi (fd b) (fd a)).toNat = b.toNat / 128 - a.toNat / 128 := by
  have h1 := fd_toNat a (by omega)
  have h2 := fd_toNat b (by omega)
  show (fd b - fd a).toNat = _
  rw [sub_toNat _ _ (by rw [h1, h2]; omega), h1, h2]

theorem sub_zero' (x : BitVec 32) : Scalar.subi x 0#32 = x := BitVec.sub_zero x

theorem t5_eq (a b : BitVec 32) : k0_t5_loop a b = ⟨0#32, Scalar.subi (fd b) (fd a), 1#32⟩ := by
  show Scf.Loop.mk 0#32 _ 1#32 = _
  exact congrArg (fun u => Scf.Loop.mk 0#32 u 1#32) ((loop_ub (Scalar.subi (Scalar.subi (fd b) (fd a)) 0#32)).trans (sub_zero' _))
theorem t7_eq (a b : BitVec 32) : k0_t7_loop a b = ⟨0#32, Scalar.subi (fd b) (fd a), 1#32⟩ := by
  show Scf.Loop.mk 0#32 _ 1#32 = _
  exact congrArg (fun u => Scf.Loop.mk 0#32 u 1#32) ((loop_ub (Scalar.subi (Scalar.subi (fd b) (fd a)) 0#32)).trans (sub_zero' _))
theorem t3_eq (i : grid0.Coords) (a b : BitVec 32) :
    k0_t3_loop i a b = ⟨0#32, Scalar.select (Scalar.cmpi .sgt (BitVec.ofNat 32 (i 0).val) 0#32) (Scalar.subi (fd b) (fd a)) 0#32, 1#32⟩ := by
  show Scf.Loop.mk 0#32 _ 1#32 = _
  exact congrArg (fun u => Scf.Loop.mk 0#32 u 1#32) ((loop_ub (Scalar.subi (Scalar.select (Scalar.cmpi .sgt (BitVec.ofNat 32 (i 0).val) 0#32) (Scalar.subi (fd b) (fd a)) 0#32) 0#32)).trans (sub_zero' _))
theorem t3_ub (i : grid0.Coords) (a b : BitVec 32) (hab : a.toNat ≤ b.toNat) (hb : b.toNat ≤ 172032) (h0 : (i 0).val = 0 → a = b) :
    (Scalar.select (Scalar.cmpi .sgt (BitVec.ofNat 32 (i 0).val) 0#32) (Scalar.subi (fd b) (fd a)) 0#32).toNat = b.toNat / 128 - a.toNat / 128 := by
  rw [gt0 (i 0)]
  by_cases h : (i 0).val = 0
  · rw [if_pos h, h0 h]; simp [Scalar.select]
  · rw [if_neg h]; simp only [Scalar.select, if_true]; exact dif_toNat a b hab hb
theorem t5_trips (a b : BitVec 32) (hab : a.toNat ≤ b.toNat) (hb : b.toNat ≤ 172032) : (k0_t5_loop a b).trips = b.toNat / 128 - a.toNat / 128 := by
  rw [t5_eq]; show Scf.trips 0#32 _ 1#32 = _
  rw [trips01 _ (by rw [dif_toNat a b hab hb]; omega), dif_toNat a b hab hb]
theorem t7_trips (a b : BitVec 32) (hab : a.toNat ≤ b.toNat) (hb : b.toNat ≤ 172032) : (k0_t7_loop a b).trips = b.toNat / 128 - a.toNat / 128 := by
  rw [t7_eq]; show Scf.trips 0#32 _ 1#32 = _
  rw [trips01 _ (by rw [dif_toNat a b hab hb]; omega), dif_toNat a b hab hb]
theorem t3_trips (i : grid0.Coords) (a b : BitVec 32) (hab : a.toNat ≤ b.toNat) (hb : b.toNat ≤ 172032) (h0 : (i 0).val = 0 → a = b) :
    (k0_t3_loop i a b).trips = b.toNat / 128 - a.toNat / 128 := by
  rw [t3_eq]; show Scf.trips 0#32 _ 1#32 = _
  rw [trips01 _ (by rw [t3_ub i a b hab hb h0]; omega), t3_ub i a b hab hb h0]

theorem chk17_ok (i : grid0.Coords) (a b : BitVec 32) (hab : a.toNat ≤ b.toNat) (hb : b.toNat ≤ 172032) (h0 : (i 0).val = 0 → a = b) : k0_chk17 i a b := by
  refine ⟨?_, Scf.rem_ok _ _⟩
  rw [t3_eq]; exact ok01 _ (by rw [t3_ub i a b hab hb h0]; omega)

theorem mult22_eq (a b : BitVec 32) (hab : a.toNat ≤ b.toNat) (hb : b.toNat ≤ 172032) : (k0_mult22 a b).toNat = 128 * (b.toNat / 128 - a.toNat / 128) := by
  show (Scalar.subi (fd b) (fd a) * 128#32).toNat = _
  rw [BitVec.toNat_mul, dif_toNat a b hab hb, show (128#32).toNat = 128 from rfl, Nat.mod_eq_of_lt (by omega)]; omega
theorem off82_eq (a b : BitVec 32) (hab : a.toNat ≤ b.toNat) (hb : b.toNat ≤ 172032) : k0_off82 a b = ![128 * (b.toNat / 128 - a.toNat / 128), 0] := by
  rw [← mult22_eq a b hab hb]; rfl
theorem off88_eq (a b : BitVec 32) (hab : a.toNat ≤ b.toNat) (hb : b.toNat ≤ 172032) : k0_off88 a b = ![128 * (b.toNat / 128 - a.toNat / 128), 0] := by
  rw [← mult22_eq a b hab hb]; rfl
theorem mult31_eq (a b : BitVec 32) (hab : a.toNat ≤ b.toNat) (hb : b.toNat ≤ 172032) : (k0_mult31 a b).toNat = 128 * (b.toNat / 128) := by
  have h1 := fd_toNat a (by omega)
  have h2 := dif_toNat a b hab hb
  show ((fd a + Scalar.subi (fd b) (fd a)) * 128#32).toNat = _
  rw [BitVec.toNat_mul, BitVec.toNat_add, h1, h2, show (128#32).toNat = 128 from rfl, Nat.mod_eq_of_lt (by omega), Nat.mod_eq_of_lt (by omega)]; omega
theorem off87_eq (a b : BitVec 32) (hab : a.toNat ≤ b.toNat) (hb : b.toNat ≤ 172032) : k0_off87 a b = ![128 * (b.toNat / 128), 0] := by
  rw [← mult31_eq a b hab hb]; rfl

theorem ivrow' (q : BitVec 32) (k : ℕ) (hq : q.toNat ≤ 1344) (hk : k ≤ 1344) :
    (Scalar.muli (Scalar.addi q (Scalar.addi 0#32 (Scalar.muli (Scf.iv 0#32 1#32 k) 1#32))) 128#32).toNat = 128 * (q.toNat + k) := by
  rw [show Scalar.addi 0#32 (Scalar.muli (Scf.iv 0#32 1#32 k) 1#32) = Scalar.muli (Scf.iv 0#32 1#32 k) 1#32 from BitVec.zero_add _]
  exact ivrow q k hq hk
theorem ivrow'' (k : ℕ) (hk : k ≤ 1344) :
    (Scalar.muli (Scalar.addi 0#32 (Scalar.muli (Scf.iv 0#32 1#32 k) 1#32)) 128#32).toNat = 128 * k := by
  have h := ivrow 0#32 k (by decide) hk
  rw [h]; show 128 * (0 + k) = _; omega

theorem mult23_eq (a b : BitVec 32) (hab : a.toNat ≤ b.toNat) (hb : b.toNat ≤ 172032) (k) : (k0_mult23 a b k).toNat = 128 * (a.toNat / 128 + k.val) := by
  have hk : k.val < 1344 + 1 := lt_of_lt_of_le k.isLt (by rw [t5_trips a b hab hb]; omega)
  have ht := fd_toNat a (by omega)
  rw [← ht]; exact ivrow' (fd a) k.val (by omega) (by omega)
theorem mult24_eq (a b : BitVec 32) (hab : a.toNat ≤ b.toNat) (hb : b.toNat ≤ 172032) (k) : (k0_mult24 a b k).toNat = 128 * k.val := by
  have hk : k.val < 1344 + 1 := lt_of_lt_of_le k.isLt (by rw [t5_trips a b hab hb]; omega)
  exact (ivrow'' k.val (by omega)).trans (by omega)
theorem off83_eq (a b : BitVec 32) (hab : a.toNat ≤ b.toNat) (hb : b.toNat ≤ 172032) (k) : k0_off83 a b k = ![128 * (a.toNat / 128 + k.val), 0] := by
  rw [← mult23_eq a b hab hb k]; rfl
theorem off84_eq (a b : BitVec 32) (hab : a.toNat ≤ b.toNat) (hb : b.toNat ≤ 172032) (k) : k0_off84 a b k = ![128 * k.val, 0] := by
  rw [← mult24_eq a b hab hb k]; rfl

theorem chk18_ok (i : grid0.Coords) (a b : BitVec 32) (hab : a.toNat ≤ b.toNat) (hb : b.toNat ≤ 172032) (hl : b.toNat ≤ a.toNat + 512) : k0_chk18 i a b := by
  have hl5 : ∀ k : Fin (k0_t5_loop a b).trips, k.val < b.toNat / 128 - a.toNat / 128 := fun k => lt_of_lt_of_eq k.isLt (t5_trips a b hab hb)
  refine ⟨?_, ?_, ?_, fun k => ?_, fun k => ?_, fun k => ?_, fun k => ?_, fun k hinb => ?_, fun k hinb => ?_, ?_,
    fun k => ?_, fun k => ?_, fun k => ?_, fun k => ?_, fun k => ?_, fun k => ?_, fun _ => ?_, fun _ => ?_⟩
  · rw [mult22_eq a b hab hb]; exact Dvd.intro _ rfl
  · exact inb2 (m := 0) _ _ (off82_eq a b hab hb) (by omega)
  · rw [t5_eq]; exact ok01 _ (by rw [dif_toNat a b hab hb]; omega)
  · rw [mult23_eq a b hab hb]; exact Dvd.intro _ rfl
  · rw [mult24_eq a b hab hb]; exact Dvd.intro _ rfl
  · exact inb2 (m := 0) _ _ (off83_eq a b hab hb k) (by have := hl5 k; omega)
  · exact inb2 (m := 0) _ _ (off84_eq a b hab hb k) (by have := hl5 k; omega)
  · exact ww (n := 640) _ _ _ (off84_eq a b hab hb k) (by decide) hinb
  · exact ww (n := 172032) _ _ _ (off83_eq a b hab hb k) (by decide) hinb
  · exact Scf.rem_ok _ _
  · exact (Scf.rem_no_trip _ _ k).elim
  · exact (Scf.rem_no_trip _ _ k).elim
  · exact (Scf.rem_no_trip _ _ k).elim
  · exact (Scf.rem_no_trip _ _ k).elim
  · exact (Scf.rem_no_trip _ _ k).elim
  · exact (Scf.rem_no_trip _ _ k).elim
  · rw [t7_eq]; exact ok01 _ (by rw [dif_toNat a b hab hb]; omega)
  · exact Scf.rem_ok _ _

theorem cond19_iff (v : BitVec 32) (hv : v.toNat ≤ 172032) : k0_cond19 v = 1#1 ↔ v.toNat % 128 ≠ 0 := by
  have h : ¬ IntOp.SDivCorner v 128#32 := by
    intro h; rcases h with h | ⟨_, h⟩ <;> exact absurd h (by decide)
  have hm : v.msb = false := by rw [BitVec.msb_eq_decide]; simp; omega
  have e : (Scalar.remsi v 128#32).toNat = v.toNat % 128 := by
    simp only [Scalar.remsi, IntOp.remsi, if_neg h]
    rw [BitVec.srem_eq, hm, show (128#32).msb = false by decide]
    simp [BitVec.toNat_umod]
  have e2 : k0_cond19 v = Scalar.cmpi .ne (Scalar.remsi v 128#32) 0#32 := ne_extui _
  rw [e2, ← e]
  generalize Scalar.remsi v 128#32 = w
  by_cases hw : w = 0#32
  · subst hw; decide
  · have hw' : w.toNat ≠ 0 := fun h => hw (BitVec.eq_of_toNat_eq (by simpa using h))
    simp only [Scalar.cmpi, IntOp.cmpi]
    have hb : (w != 0#32) = true := by simpa using hw
    rw [hb]; simp [hw']

theorem chk19_ok (i : grid0.Coords) (a b : BitVec 32) (hab : a.toNat ≤ b.toNat) (hb : b.toNat ≤ 172032) (hl : b.toNat ≤ a.toNat + 512) : k0_chk19 i a b b := by
  refine ⟨fun _ _ => ?_, fun _ _ => ?_, fun _ h => ?_, fun _ _ => ?_, fun _ _ hinb => ?_, fun _ _ hinb => ?_⟩
  · rw [mult31_eq a b hab hb]; exact Dvd.intro _ rfl
  · show 128 ∣ (k0_mult22 a b).toNat
    rw [mult22_eq a b hab hb]; exact Dvd.intro _ rfl
  · have := (cond19_iff b hb).1 h
    exact inb2 (m := 0) _ _ (off87_eq a b hab hb) (by omega)
  · exact inb2 (m := 0) _ _ (off88_eq a b hab hb) (by omega)
  · exact ww (n := 640) _ _ _ (off88_eq a b hab hb) (by decide) hinb
  · exact ww (n := 172032) _ _ _ (off87_eq a b hab hb) (by decide) hinb

end Cert.KernelIdeal.Hand
-- ==== Proof.Common.lean ====
module

public import proofs.«01_k».proof.Proof.WordFacts
public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Batch
public import Idealize.ShloMosaic.Lib.Claim
public import Idealize.ShloMosaic.Lib.Tactic

@[expose] public section

/-! # The kernel's buffers as functions of the inputs, and the sets its transfers move -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

/-- The multi-index of two coordinates. -/
def i2 {m n : ℕ} [NeZero m] [NeZero n] (r k : ℕ) : (⟨2, ![m, n]⟩ : Shape).Idx :=
  Fin.cons (⟨r % m, Nat.mod_lt _ (NeZero.pos m)⟩ : Fin m) (Fin.cons (⟨k % n, Nat.mod_lt _ (NeZero.pos n)⟩ : Fin n) (fun a => a.elim0))

theorem i2_0 {m n : ℕ} [NeZero m] [NeZero n] (r k : ℕ) (h : r < m) : ((i2 r k : (⟨2, ![m, n]⟩ : Shape).Idx) 0 : Fin m).val = r := Nat.mod_eq_of_lt h
theorem i2_1 {m n : ℕ} [NeZero m] [NeZero n] (r k : ℕ) (h : k < n) : ((i2 r k : (⟨2, ![m, n]⟩ : Shape).Idx) 1 : Fin n).val = k := Nat.mod_eq_of_lt h

theorem i2_eq {m n : ℕ} [NeZero m] [NeZero n] (x : (⟨2, ![m, n]⟩ : Shape).Idx) (r k : ℕ) (h0 : (x 0).val = r) (h1 : (x 1).val = k) : i2 r k = x := by
  funext a; apply Fin.ext
  have l0 : (x 0).val < m := (x 0).isLt
  have l1 : (x 1).val < n := (x 1).isLt
  fin_cases a
  · show r % m = (x 0).val; rw [← h0, Nat.mod_eq_of_lt l0]
  · show k % n = (x 1).val; rw [← h1, Nat.mod_eq_of_lt l1]

/-- The multi-index of one coordinate. -/
def i1 {m : ℕ} [NeZero m] (r : ℕ) : (⟨1, ![m]⟩ : Shape).Idx :=
  Fin.cons (⟨r % m, Nat.mod_lt _ (NeZero.pos m)⟩ : Fin m) (fun a => a.elim0)

/-- What the kernel reads: the document starts, the codes and scales of the documents, and per document the hits'
positions and weights; and the codes and scales of the queries. -/
structure Inp (F : FTy → Type) where
  tab : Vec F S337 .i32
  codes : Vec F S172032x128 .fp8e4m3
  scl : Vec F S4x172032 .f32
  idx : ℕ → Vec F S1x28x128 .i32
  w : ℕ → Vec F S1x28x128 .f32
  qc : Vec F S3584x128 .fp8e4m3
  qs : Vec F S3584x128 .f32

variable (I : Inp F)

/-- The start of document `t`, as the table's word. -/
def Inp.stw (t : ℕ) : BitVec 32 := I.tab (i1 t)
/-- The start of document `t`. -/
def Inp.st (t : ℕ) : ℕ := (I.stw t).toNat
/-- The first chunk of document `t`. -/
def Inp.c0 (t : ℕ) : ℕ := I.st t / 128
/-- The number of chunks of document `t`. -/
def Inp.n (t : ℕ) : ℕ := nch (I.st t) (I.st (t + 1))
/-- The number of chunks document `t` finishes. -/
def Inp.full (t : ℕ) : ℕ := I.c0 (t + 1) - I.c0 t
/-- The first chunk no document reaches. -/
def Inp.tail0 : ℕ := (I.st 336 + 127) / 128

/-- The starts rise by at most 512 from zero. -/
structure Inp.Ok : Prop where
  zero : I.st 0 = 0
  mono : ∀ t, t < 336 → I.st t ≤ I.st (t + 1)
  len : ∀ t, t < 336 → I.st (t + 1) ≤ I.st t + 512

variable {I}
theorem Inp.Ok.le (h : I.Ok) : ∀ t, t ≤ 336 → I.st t ≤ 512 * t
  | 0, _ => by rw [h.zero]
  | t + 1, ht => by have := h.le t (by omega); have := h.len t (by omega); omega
theorem Inp.Ok.lt (h : I.Ok) (t : ℕ) (ht : t ≤ 336) : I.st t ≤ 172032 := (h.le t ht).trans (by omega)
theorem Inp.Ok.n_le (h : I.Ok) (t : ℕ) (ht : t < 336) : I.n t ≤ 5 := by
  have := h.mono t ht; have := h.len t ht; unfold Inp.n nch; omega
theorem Inp.Ok.row (h : I.Ok) (t : ℕ) (ht : t < 336) (k : ℕ) (hk : k < I.n t) : 128 * (I.c0 t + k) + 128 ≤ 172032 :=
  row_lt k _ _ (h.lt (t + 1) (by omega)) hk
theorem Inp.Ok.full_le (h : I.Ok) (t : ℕ) (ht : t < 336) : I.full t ≤ 4 := by
  have := h.mono t ht; have := h.len t ht; unfold Inp.full Inp.c0; omega
variable (I)

/-! ## The two code buffers -/

/-- The codes buffer after the first `t` documents were copied. -/
def dbf : ℕ → Vec F S2x640x128 .fp8e4m3
  | 0 => Gen.k0_pay1
  | t + 1 => fun x => if (x 0).val = t % 2 ∧ (x 1).val < 128 * I.n t then I.codes (i2 (128 * I.c0 t + (x 1).val) (x 2).val) else dbf t x
/-- The scales buffer after the first `t` documents were copied. -/
def sbf : ℕ → Vec F S2x4x640 .f32
  | 0 => Gen.k0_pay2
  | t + 1 => fun x => if (x 0).val = t % 2 ∧ (x 2).val < 128 * I.n t then I.scl (i2 (x 1).val (128 * I.c0 t + (x 2).val)) else sbf t x

/-- Rows of slot `s` of the codes buffer from chunk `j` on. -/
def dset (s j : ℕ) : Finset S2x640x128.Idx := Finset.univ.filter fun x => (x 0).val = s ∧ 128 * j ≤ (x 1).val
/-- Chunk `j` of slot `s` of the codes buffer. -/
def dchk (s j : ℕ) : Finset S2x640x128.Idx := Finset.univ.filter fun x => (x 0).val = s ∧ 128 * j ≤ (x 1).val ∧ (x 1).val < 128 * j + 128
/-- Columns of slot `s` of the scales buffer from chunk `j` on. -/
def sset (s j : ℕ) : Finset S2x4x640.Idx := Finset.univ.filter fun x => (x 0).val = s ∧ 128 * j ≤ (x 2).val
/-- Chunk `j` of slot `s` of the scales buffer. -/
def schk (s j : ℕ) : Finset S2x4x640.Idx := Finset.univ.filter fun x => (x 0).val = s ∧ 128 * j ≤ (x 2).val ∧ (x 2).val < 128 * j + 128
/-- The rows of the codes outside `j` chunks from chunk `c`. -/
def crest (c j : ℕ) : Finset S172032x128.Idx := Finset.univ.filter fun x => ¬ (128 * c ≤ (x 0).val ∧ (x 0).val < 128 * (c + j))
/-- Chunk `c` of the codes. -/
def cchk (c : ℕ) : Finset S172032x128.Idx := Finset.univ.filter fun x => 128 * c ≤ (x 0).val ∧ (x 0).val < 128 * c + 128
/-- The columns of the scales outside `j` chunks from chunk `c`. -/
def srest (c j : ℕ) : Finset S4x172032.Idx := Finset.univ.filter fun x => ¬ (128 * c ≤ (x 1).val ∧ (x 1).val < 128 * (c + j))
/-- Chunk `c` of the scales. -/
def sschk (c : ℕ) : Finset S4x172032.Idx := Finset.univ.filter fun x => 128 * c ≤ (x 1).val ∧ (x 1).val < 128 * c + 128

/-- The half of the read-only arrays a slot's transfers read. -/
def hs (s : ℕ) : PosShare TreeShare := if s % 2 = 0 then fullShare.left else fullShare.right

/-- The semaphore of slot `s` for codes, and for scales. -/
def inS (s : ℕ) : DmaSem sig := cc0_scratch7.ix (i1 s)
def scS (s : ℕ) : DmaSem sig := cc0_scratch8.ix (i1 s)

/-- What the transfer of document `t`'s chunk `k` of codes delivers. -/
def DC (c : Dev nD) (t : ℕ) (k : Fin (I.n t)) : sProp 𝕄 :=
  iprop(((c : Thread nD τ).loc cc0_scratch0 ↦[dchk (t % 2) k.val]{fullShare} dbf I (t + 1))
    ∗ ((c : Thread nD τ).loc main_arg2 ↦[cchk (I.c0 t + k.val)]{hs t} I.codes))
/-- What the transfer of document `t`'s chunk `k` of scales delivers. -/
def DS (c : Dev nD) (t : ℕ) (k : Fin (I.n t)) : sProp 𝕄 :=
  iprop(((c : Thread nD τ).loc cc0_scratch1 ↦[schk (t % 2) k.val]{fullShare} sbf I (t + 1))
    ∗ ((c : Thread nD τ).loc main_v14 ↦[sschk (I.c0 t + k.val)]{hs t} I.scl))

instance (c : Dev nD) (t : ℕ) (k : Fin (I.n t)) : Storable (upEmb : UEmb _ 𝕄) (DC I c t k) := by unfold DC; infer_instance
instance (c : Dev nD) (t : ℕ) (k : Fin (I.n t)) : Storable (upEmb : UEmb _ 𝕄) (DS I c t k) := by unfold DS; infer_instance

/-- The units of one chunk of codes, and of scales. -/
def NC : ℕ := (cc0_scratch0 : Ref sig .tc).dmaCredit S128x128 .fp8e4m3
def NS : ℕ := (cc0_scratch1 : Ref sig .tc).dmaCredit S4x128 .f32

end Cert.KernelIdeal.Hand
-- ==== Proof.Chunks.lean ====
module

public import proofs.«01_k».proof.Proof.Common

@[expose] public section

/-! # One transfer of a batch, and the views a chunk is copied through -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

abbrev EC : UEmb Counters (MT nD τ sig Unit (Elt F) ℕ (UD sig nD τ) ℕ) := countersEmb (U := UD sig nD τ)

variable [Facts]

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- Issuing one transfer of a batch from what is left of the source and of the destination. -/
theorem wp_issue {c : Dev nD} {α : Type} {sp sp' : Space} {s : Shape} {e : EltTy} {n : ℕ}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (.here dst)}
    {k : PUnit → Prog (TpuEff nD τ sig (Elt F) Λ₀ .tc) α} {Q : α → sProp 𝕄} {q : PosShare TreeShare}
    {fs : Buf (Elt F) (src.view.loc (c : Thread nD τ))} {fd g : Buf (Elt F) (dst.view.loc (c : Thread nD τ))}
    {D : Fin n → sProp 𝕄} {j u : ℕ} (N : ℕ) (R R' : Finset (Idx (src.view.loc (c : Thread nD τ)))) (S S' : Finset (Idx (dst.view.loc (c : Thread nD τ))))
    (hN : dst.view.amount sm = N) (hj : j < n) (hu : u ≤ j * N)
    (hR : src.view.set ⊆ R) (hR' : R' = R \ src.view.set) (hS : dst.view.set ⊆ S) (hS' : S' = S \ dst.view.set)
    (hg : ∀ x ∈ dst.view.set, dst.view.write (Elt F) fd (src.view.read (Elt F) fs) Finset.univ x = g x)
    (hD : D ⟨j, hj⟩ = iprop((dst.view.loc (c : Thread nD τ) ↦[dst.view.set]{fullShare} g) ∗ (src.view.loc (c : Thread nD τ) ↦[src.view.set]{q} fs))) :
    iprop((src.view.loc (c : Thread nD τ) ↦[R]{q} fs) ∗ (dst.view.loc (c : Thread nD τ) ↦[S]{fullShare} fd) ∗ Transfers.Batch EC (c : Thread nD τ) sm () N D j u)
      ⊢ iprop((iprop((src.view.loc (c : Thread nD τ) ↦[R']{q} fs) ∗ (dst.view.loc (c : Thread nD τ) ↦[S']{fullShare} fd)
            ∗ Transfers.Batch EC (c : Thread nD τ) sm () N D (j + 1) u) -∗ WP c (k ⟨⟩) Q)
          -∗ WP c (.op (.enqueueDma src (.here dst) sm hsrc hdst hsem) k) Q) := by
  subst hR' hS'
  have hD2 : iprop((dst.view.loc (c : Thread nD τ) ↦[dst.view.set]{fullShare} (dst.view.write (Elt F) fd (ReadAs.same.apply (src.view.read (Elt F) fs)) Finset.univ))
      ∗ (src.view.loc (c : Thread nD τ) ↦[src.view.set]{q} fs)) ⊢ D ⟨j, hj⟩ :=
    Entails.of_eq (by rw [hD, ReadAs.apply_same, pointsTo_congr hg])
  iintro ⟨Hs, Hd, HB⟩ Hk
  ihave Hs' := (pointsTo_split_subset hR).1 $$ Hs
  ihave Hd' := (pointsTo_split_subset hS).1 $$ Hd
  icases Hs' with ⟨Hs1, Hs2⟩
  icases Hd' with ⟨Hd1, Hd2⟩
  iapply (Transfers.wp_dmaBatch EC Variants.none (c : Thread nD τ) none () N hN (Finset.Subset.refl _) hj hu hD2) $$ [Hs1 Hd1 HB]
  · isplitl [Hs1]; · iexact Hs1
    isplitl [Hd1]; · iexact Hd1
    iexact HB
  iintro HB
  iapply Hk
  isplitl [Hs2]; · iexact Hs2
  isplitl [Hd2]; · iexact Hd2
  iexact HB

/-! ## The slots' semaphores -/

theorem inS_eq (off : Fin 1 → ℕ) (t : ℕ) (ho : off = ![t % 2]) (h) (h' : S1.Squeezes S_) :
    ((cc0_scratch7.slice (Rect.unit (s := S2) off S1.size h)).squeeze S_ h').sem = inS t := by
  subst ho
  show cc0_scratch7.ix _ = cc0_scratch7.ix _
  congr 1
  funext a
  apply Fin.ext
  obtain rfl : a = 0 := Subsingleton.elim _ _
  rw [Rect.emb_apply]
  have h0 : ∀ y : S1.Idx, (y 0).val = 0 := fun y => Nat.lt_one_iff.1 (y 0).isLt
  show t % 2 + 1 * _ = t % 2
  rw [h0]; omega

theorem scS_eq (off : Fin 1 → ℕ) (t : ℕ) (ho : off = ![t % 2]) (h) (h' : S1.Squeezes S_) :
    ((cc0_scratch8.slice (Rect.unit (s := S2) off S1.size h)).squeeze S_ h').sem = scS t := by
  subst ho
  show cc0_scratch8.ix _ = cc0_scratch8.ix _
  congr 1
  funext a
  apply Fin.ext
  obtain rfl : a = 0 := Subsingleton.elim _ _
  rw [Rect.emb_apply]
  have h0 : ∀ y : S1.Idx, (y 0).val = 0 := fun y => Nat.lt_one_iff.1 (y 0).isLt
  show t % 2 + 1 * _ = t % 2
  rw [h0]; omega

/-! ## Chunks of codes -/

/-- The rows of slot `t`'s chunk a codes transfer writes. -/
abbrev dmem (off : Fin 3 → ℕ) (h : ∀ a, off a + S1x128x128.size a ≤ S2x640x128.size a) (h' : S1x128x128.Squeezes S128x128) : Memref sig .tc .vmem S128x128 .fp8e4m3 :=
  ((Memref.whole cc0_scratch0 : Memref sig .tc .vmem S2x640x128 .fp8e4m3).slice (Rect.unit (s := S2x640x128) off S1x128x128.size h) (fun _ => rfl)).squeeze S128x128 h'
/-- The rows of codes a transfer reads. -/
abbrev cmem (off : Fin 2 → ℕ) (h : ∀ a, off a + S128x128.size a ≤ S172032x128.size a) : Memref sig .tc .hbm S128x128 .fp8e4m3 :=
  (Memref.whole main_arg2 : Memref sig .tc .hbm S172032x128 .fp8e4m3).slice (Rect.unit (s := S172032x128) off S128x128.size h) (fun _ => rfl)
/-- The columns of slot `t`'s chunk a scales transfer writes. -/
abbrev smem (off : Fin 3 → ℕ) (h : ∀ a, off a + S1x4x128.size a ≤ S2x4x640.size a) (h' : S1x4x128.Squeezes S4x128) : Memref sig .tc .vmem S4x128 .f32 :=
  ((Memref.whole cc0_scratch1 : Memref sig .tc .vmem S2x4x640 .f32).slice (Rect.unit (s := S2x4x640) off S1x4x128.size h) (fun _ => rfl)).squeeze S4x128 h'
/-- The columns of scales a transfer reads. -/
abbrev lmem (off : Fin 2 → ℕ) (h : ∀ a, off a + S4x128.size a ≤ S4x172032.size a) : Memref sig .tc .hbm S4x128 .f32 :=
  (Memref.whole main_v14 : Memref sig .tc .hbm S4x172032 .f32).slice (Rect.unit (s := S4x172032) off S4x128.size h) (fun _ => rfl)

theorem dmem_emb (off h h') (y : S128x128.Idx) : ∃ x : S2x640x128.Idx, (dmem off h h').view.emb y = x
    ∧ (x 0).val = off 0 ∧ (x 1).val = off 1 + (y 0).val ∧ (x 2).val = off 2 + (y 1).val := by
  refine ⟨_, rfl, ?_⟩
  have e : Shape.reshapeEquiv h'.numel_eq y = Fin.cons (⟨0, Nat.one_pos⟩ : Fin 1) y := Shape.reshapeEquiv_cons_one (n := 2) (d := ![128, 128]) h'.numel_eq y
  refine ⟨?_, ?_, ?_⟩
  all_goals
    show ((Rect.unit (s := S2x640x128) off S1x128x128.size h).emb (Shape.reshapeEquiv h'.numel_eq y) _).val = _
    rw [Rect.emb_apply, e]
  · show off 0 + 1 * 0 = _; omega
  · show off 1 + 1 * (y 0).val = _; omega
  · show off 2 + 1 * (y 1).val = _; omega
theorem smem_emb (off h h') (y : S4x128.Idx) : ∃ x : S2x4x640.Idx, (smem off h h').view.emb y = x
    ∧ (x 0).val = off 0 ∧ (x 1).val = off 1 + (y 0).val ∧ (x 2).val = off 2 + (y 1).val := by
  refine ⟨_, rfl, ?_⟩
  have e : Shape.reshapeEquiv h'.numel_eq y = Fin.cons (⟨0, Nat.one_pos⟩ : Fin 1) y := Shape.reshapeEquiv_cons_one (n := 2) (d := ![4, 128]) h'.numel_eq y
  refine ⟨?_, ?_, ?_⟩
  all_goals
    show ((Rect.unit (s := S2x4x640) off S1x4x128.size h).emb (Shape.reshapeEquiv h'.numel_eq y) _).val = _
    rw [Rect.emb_apply, e]
  · show off 0 + 1 * 0 = _; omega
  · show off 1 + 1 * (y 0).val = _; omega
  · show off 2 + 1 * (y 1).val = _; omega

theorem cmem_emb (off h) (y : S128x128.Idx) : ∃ x : S172032x128.Idx, (cmem off h).view.emb y = x
    ∧ (x 0).val = off 0 + (y 0).val ∧ (x 1).val = off 1 + (y 1).val := by
  refine ⟨_, rfl, ?_, ?_⟩
  all_goals
    show ((Rect.unit (s := S172032x128) off S128x128.size h).emb y _).val = _
    rw [Rect.emb_apply]
  · show off 0 + 1 * (y 0).val = _; omega
  · show off 1 + 1 * (y 1).val = _; omega
theorem lmem_emb (off h) (y : S4x128.Idx) : ∃ x : S4x172032.Idx, (lmem off h).view.emb y = x
    ∧ (x 0).val = off 0 + (y 0).val ∧ (x 1).val = off 1 + (y 1).val := by
  refine ⟨_, rfl, ?_, ?_⟩
  all_goals
    show ((Rect.unit (s := S4x172032) off S4x128.size h).emb y _).val = _
    rw [Rect.emb_apply]
  · show off 0 + 1 * (y 0).val = _; omega
  · show off 1 + 1 * (y 1).val = _; omega

/-- A multi-index of a rank-3 shape is its three coordinates. -/
theorem ext3 {n : Fin 3 → ℕ} {x y : (⟨3, n⟩ : Shape).Idx} (h0 : (x 0).val = (y 0).val) (h1 : (x 1).val = (y 1).val) (h2 : (x 2).val = (y 2).val) : x = y := by
  funext a; apply Fin.ext; fin_cases a; exacts [h0, h1, h2]
theorem ext2 {n : Fin 2 → ℕ} {x y : (⟨2, n⟩ : Shape).Idx} (h0 : (x 0).val = (y 0).val) (h1 : (x 1).val = (y 1).val) : x = y := by
  funext a; apply Fin.ext; fin_cases a; exacts [h0, h1]

theorem view_mem {κ : Kind} {sp : Space} {s : Shape} {e : EltTy} (v : View sig κ sp s e) (x : v.ty.shape.Idx) : x ∈ v.set ↔ ∃ y, v.emb y = x := by
  simp [View.set]

theorem dmem_set (off h h') (s k : ℕ) (ho : off = ![s, 128 * k, 0]) : (dmem off h h').view.set = dchk s k := by
  subst ho
  ext x
  rw [view_mem]
  unfold dchk; rw [Finset.mem_filter]
  have l2 : ((x : S2x640x128.Idx) 2).val < 128 := (x 2).isLt
  constructor
  · rintro ⟨y, rfl⟩
    obtain ⟨z, hz, h0, h1, h2⟩ := dmem_emb _ h h' y
    rw [hz]
    have := (y 0).isLt
    change (z 0).val = s at h0
    change (z 1).val = 128 * k + (y 0).val at h1
    change (y 0).val < 128 at this
    exact ⟨Finset.mem_univ _, by omega⟩
  · rintro ⟨-, h0, h1, h2⟩
    refine ⟨i2 ((x 1).val - 128 * k) (x 2).val, ?_⟩
    obtain ⟨z, hz, e0, e1, e2⟩ := dmem_emb _ h h' (i2 ((x 1).val - 128 * k) (x 2).val)
    rw [hz]
    rw [i2_0 _ _ (by omega)] at e1
    rw [i2_1 _ _ l2] at e2
    refine ext3 (e0.trans h0.symm) (e1.trans ?_) (e2.trans ?_)
    · show 128 * k + _ = _; omega
    · show 0 + _ = _; omega
theorem smem_set (off h h') (s k : ℕ) (ho : off = ![s, 0, 128 * k]) : (smem off h h').view.set = schk s k := by
  subst ho
  ext x
  rw [view_mem]
  unfold schk; rw [Finset.mem_filter]
  have l2 : ((x : S2x4x640.Idx) 1).val < 4 := (x 1).isLt
  constructor
  · rintro ⟨y, rfl⟩
    obtain ⟨z, hz, h0, h1, h2⟩ := smem_emb _ h h' y
    rw [hz]
    have := (y 1).isLt
    change (z 0).val = s at h0
    change (z 2).val = 128 * k + (y 1).val at h2
    change (y 1).val < 128 at this
    exact ⟨Finset.mem_univ _, by omega⟩
  · rintro ⟨-, h0, h1, h2⟩
    refine ⟨i2 (x 1).val ((x 2).val - 128 * k), ?_⟩
    obtain ⟨z, hz, e0, e1, e2⟩ := smem_emb _ h h' (i2 (x 1).val ((x 2).val - 128 * k))
    rw [hz]
    rw [i2_0 _ _ l2] at e1
    rw [i2_1 _ _ (by omega)] at e2
    refine ext3 (e0.trans h0.symm) (e1.trans ?_) (e2.trans ?_)
    · show 0 + _ = _; omega
    · show 128 * k + _ = _; omega
theorem cmem_set (off h) (r : ℕ) (ho : off = ![128 * r, 0]) : (cmem off h).view.set = cchk r := by
  subst ho
  ext x
  rw [view_mem]
  unfold cchk; rw [Finset.mem_filter]
  have l2 : ((x : S172032x128.Idx) 1).val < 128 := (x 1).isLt
  constructor
  · rintro ⟨y, rfl⟩
    obtain ⟨z, hz, h0, h1⟩ := cmem_emb _ h y
    rw [hz]
    have := (y 0).isLt
    change (z 0).val = 128 * r + (y 0).val at h0
    change (y 0).val < 128 at this
    exact ⟨Finset.mem_univ _, by omega⟩
  · rintro ⟨-, h0, h1⟩
    refine ⟨i2 ((x 0).val - 128 * r) (x 1).val, ?_⟩
    obtain ⟨z, hz, e0, e1⟩ := cmem_emb _ h (i2 ((x 0).val - 128 * r) (x 1).val)
    rw [hz]
    rw [i2_0 _ _ (by omega)] at e0
    rw [i2_1 _ _ l2] at e1
    refine ext2 (e0.trans ?_) (e1.trans ?_)
    · show 128 * r + _ = _; omega
    · show 0 + _ = _; omega
theorem lmem_set (off h) (r : ℕ) (ho : off = ![0, 128 * r]) : (lmem off h).view.set = sschk r := by
  subst ho
  ext x
  rw [view_mem]
  unfold sschk; rw [Finset.mem_filter]
  have l2 : ((x : S4x172032.Idx) 0).val < 4 := (x 0).isLt
  constructor
  · rintro ⟨y, rfl⟩
    obtain ⟨z, hz, h0, h1⟩ := lmem_emb _ h y
    rw [hz]
    have := (y 1).isLt
    change (z 1).val = 128 * r + (y 1).val at h1
    change (y 1).val < 128 at this
    exact ⟨Finset.mem_univ _, by omega⟩
  · rintro ⟨-, h0, h1⟩
    refine ⟨i2 (x 0).val ((x 1).val - 128 * r), ?_⟩
    obtain ⟨z, hz, e0, e1⟩ := lmem_emb _ h (i2 (x 0).val ((x 1).val - 128 * r))
    rw [hz]
    rw [i2_0 _ _ l2] at e0
    rw [i2_1 _ _ (by omega)] at e1
    refine ext2 (e0.trans ?_) (e1.trans ?_)
    · show 0 + _ = _; omega
    · show 128 * r + _ = _; omega

/-- What a chunk's codes transfer writes is the buffer after the document's copy. -/
theorem dmem_write (I : Inp F) (t k : ℕ) (hk : k < I.n t) (hr : 128 * (I.c0 t + k) + 128 ≤ 172032) (off h h' offs g) (ho : off = ![t % 2, 128 * k, 0])
    (hos : offs = ![128 * (I.c0 t + k), 0]) (f : Vec F S2x640x128 .fp8e4m3) :
    ∀ x ∈ (dmem off h h').view.set, (dmem off h h').view.write (Elt F) f ((cmem offs g).view.read (Elt F) I.codes) Finset.univ x = dbf I (t + 1) x := by
  subst ho hos
  intro x hx
  obtain ⟨y, rfl⟩ := (view_mem _ _).1 hx
  rw [View.write_emb_of_mem (h := Finset.mem_univ _)]
  obtain ⟨z, hz, e0, e1, e2⟩ := dmem_emb _ h h' y
  obtain ⟨u, hu, d0, d1⟩ := cmem_emb _ g y
  have := (y 0).isLt
  change (y 0).val < 128 at this
  change (z 0).val = t % 2 at e0
  change (z 1).val = 128 * k + (y 0).val at e1
  change (z 2).val = 0 + (y 1).val at e2
  change (u 0).val = 128 * (I.c0 t + k) + (y 0).val at d0
  change (u 1).val = 0 + (y 1).val at d1
  rw [hz]
  show I.codes ((cmem _ g).view.emb y) = _
  rw [hu]
  unfold dbf
  rw [if_pos ⟨e0, by have : 128 * (k + 1) ≤ 128 * I.n t := Nat.mul_le_mul_left _ hk
                     omega⟩]
  congr 1
  exact (i2_eq u _ _ (by omega) (by omega)).symm
theorem smem_write (I : Inp F) (t k : ℕ) (hk : k < I.n t) (hr : 128 * (I.c0 t + k) + 128 ≤ 172032) (off h h' offs g) (ho : off = ![t % 2, 0, 128 * k])
    (hos : offs = ![0, 128 * (I.c0 t + k)]) (f : Vec F S2x4x640 .f32) :
    ∀ x ∈ (smem off h h').view.set, (smem off h h').view.write (Elt F) f ((lmem offs g).view.read (Elt F) I.scl) Finset.univ x = sbf I (t + 1) x := by
  subst ho hos
  intro x hx
  obtain ⟨y, rfl⟩ := (view_mem _ _).1 hx
  rw [View.write_emb_of_mem (h := Finset.mem_univ _)]
  obtain ⟨z, hz, e0, e1, e2⟩ := smem_emb _ h h' y
  obtain ⟨u, hu, d0, d1⟩ := lmem_emb _ g y
  have := (y 1).isLt
  change (y 1).val < 128 at this
  change (z 0).val = t % 2 at e0
  change (z 1).val = 0 + (y 0).val at e1
  change (z 2).val = 128 * k + (y 1).val at e2
  change (u 0).val = 0 + (y 0).val at d0
  change (u 1).val = 128 * (I.c0 t + k) + (y 1).val at d1
  rw [hz]
  show I.scl ((lmem _ g).view.emb y) = _
  rw [hu]
  unfold sbf
  rw [if_pos ⟨e0, by have : 128 * (k + 1) ≤ 128 * I.n t := Nat.mul_le_mul_left _ hk
                     omega⟩]
  congr 1
  exact (i2_eq u _ _ (by omega) (by omega)).symm

/-! ## Issuing one chunk -/

/-- The codes of document `t` on their way: `k` chunks issued, `u` units received. -/
def InC (I : Inp F) (c : Dev nD) (t k u : ℕ) : sProp 𝕄 :=
  iprop(((c : Thread nD τ).loc main_arg2 ↦[crest (I.c0 t) k]{hs t} I.codes) ∗ ((c : Thread nD τ).loc cc0_scratch0 ↦[dset (t % 2) k]{fullShare} dbf I t)
    ∗ Transfers.Batch EC (c : Thread nD τ) (.dma (inS t)) () NC (DC I c t) k u)
/-- The scales of document `t` on their way. -/
def InS (I : Inp F) (c : Dev nD) (t k u : ℕ) : sProp 𝕄 :=
  iprop(((c : Thread nD τ).loc main_v14 ↦[srest (I.c0 t) k]{hs t} I.scl) ∗ ((c : Thread nD τ).loc cc0_scratch1 ↦[sset (t % 2) k]{fullShare} sbf I t)
    ∗ Transfers.Batch EC (c : Thread nD τ) (.dma (scS t)) () NS (DS I c t) k u)

theorem wp_issueC {I : Inp F} {c : Dev nD} {α : Type} (t k : ℕ) (hk : k < I.n t) (hr : 128 * (I.c0 t + k) + 128 ≤ 172032) (off h h' offs g)
    (ho : off = ![t % 2, 128 * k, 0]) (hos : offs = ![128 * (I.c0 t + k), 0]) {s : DmaSem sig} (hs : s = inS t) {hsrc hdst hsem}
    {K : PUnit → Prog (TpuEff nD τ sig (Elt F) Λ₀ .tc) α} {Q : α → sProp 𝕄} :
    InC I c t k 0 ⊢ iprop((InC I c t (k + 1) 0 -∗ WP c (K ⟨⟩) Q)
      -∗ WP c (Prog.lift (.enqueueDma (cmem offs g) (.here (dmem off h h')) (.dma s) hsrc hdst hsem) >>= K) Q) := by
  subst hs
  unfold InC
  have hs1 := dmem_set off h h' (t % 2) k ho
  have hs2 := cmem_set offs g (I.c0 t + k) hos
  refine wp_issue (c := c) (src := cmem offs g) (dst := dmem off h h') (n := I.n t) (g := dbf I (t + 1)) NC (crest (I.c0 t) k) (crest (I.c0 t) (k + 1)) (dset (t % 2) k) (dset (t % 2) (k + 1))
    rfl hk (Nat.zero_le _) ?_ ?_ ?_ ?_ (dmem_write I t k hk hr off h h' offs g ho hos _) ?_
  · rw [hs2]; intro x; simp only [cchk, crest, Finset.mem_filter, Finset.mem_univ, true_and]; omega
  · rw [hs2]; ext x; simp only [cchk, crest, Finset.mem_filter, Finset.mem_univ, true_and, Finset.mem_sdiff]; omega
  · rw [hs1]; intro x; simp only [dchk, dset, Finset.mem_filter, Finset.mem_univ, true_and]; omega
  · rw [hs1]; ext x; simp only [dchk, dset, Finset.mem_filter, Finset.mem_univ, true_and, Finset.mem_sdiff]; omega
  · rw [hs1, hs2]; rfl
theorem wp_issueS {I : Inp F} {c : Dev nD} {α : Type} (t k : ℕ) (hk : k < I.n t) (hr : 128 * (I.c0 t + k) + 128 ≤ 172032) (off h h' offs g)
    (ho : off = ![t % 2, 0, 128 * k]) (hos : offs = ![0, 128 * (I.c0 t + k)]) {s : DmaSem sig} (hs : s = scS t) {hsrc hdst hsem}
    {K : PUnit → Prog (TpuEff nD τ sig (Elt F) Λ₀ .tc) α} {Q : α → sProp 𝕄} :
    InS I c t k 0 ⊢ iprop((InS I c t (k + 1) 0 -∗ WP c (K ⟨⟩) Q)
      -∗ WP c (Prog.lift (.enqueueDma (lmem offs g) (.here (smem off h h')) (.dma s) hsrc hdst hsem) >>= K) Q) := by
  subst hs
  unfold InS
  have hs1 := smem_set off h h' (t % 2) k ho
  have hs2 := lmem_set offs g (I.c0 t + k) hos
  refine wp_issue (c := c) (src := lmem offs g) (dst := smem off h h') (n := I.n t) (g := sbf I (t + 1)) NS (srest (I.c0 t) k) (srest (I.c0 t) (k + 1)) (sset (t % 2) k) (sset (t % 2) (k + 1))
    rfl hk (Nat.zero_le _) ?_ ?_ ?_ ?_ (smem_write I t k hk hr off h h' offs g ho hos _) ?_
  · rw [hs2]; intro x; simp only [sschk, srest, Finset.mem_filter, Finset.mem_univ, true_and]; omega
  · rw [hs2]; ext x; simp only [sschk, srest, Finset.mem_filter, Finset.mem_univ, true_and, Finset.mem_sdiff]; omega
  · rw [hs1]; intro x; simp only [schk, sset, Finset.mem_filter, Finset.mem_univ, true_and]; omega
  · rw [hs1]; ext x; simp only [schk, sset, Finset.mem_filter, Finset.mem_univ, true_and, Finset.mem_sdiff]; omega
  · rw [hs1, hs2]; rfl

end Cert.KernelIdeal.Hand
-- ==== Proof.Rules.lean ====
module

public import proofs.«01_k».proof.Proof.Chunks

@[expose] public section

/-! # The rules the phases are stepped by -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

/-- The starts' table, as the body holds it. -/
def Tab (I : Inp F) (c : Dev nD) : sProp 𝕄 := (c : Thread nD τ).loc main_v2 ↦[Finset.univ]{PosShare.right fullShare} I.tab

theorem wp_tab {I : Inp F} {c : Dev nD} {α : Type} (t : ℕ) (ht : t < 337) (off : Fin 1 → ℕ) (h h1) (ho : off = ![t])
    {K : BitVec 32 → Prog (TpuEff nD τ sig (Elt F) Λ₀ .tc) α} {Q : α → sProp 𝕄} :
    Tab I c ⊢ iprop((Tab I c -∗ WP c (K (I.stw t)) Q)
      -∗ WP c (smemLoad (Memref.whole main_v2 : Memref sig .tc .smem S337 .i32) (Rect.unit (s := S337) off S1.size h) h1 rfl >>= K) Q) := by
  subst ho
  have e : ((Memref.whole main_v2 : Memref sig .tc .smem S337 .i32).access (Rect.unit (s := S337) ![t] S1.size h)).read (Elt F) I.tab (Shape.Idx.first (h1.symm ▸ Nat.one_pos)) = I.stw t := by
    show I.tab ((Rect.unit (s := S337) ![t] S1.size h).emb _) = I.tab (i1 t)
    congr 1
    funext a
    apply Fin.ext
    obtain rfl : a = 0 := Subsingleton.elim _ _
    rw [Rect.emb_apply]
    show t + 1 * 0 = t % 337
    rw [Nat.mod_eq_of_lt ht]; omega
  have := wp_smemLoadElt (defs := defs₀ (F := F)) (c := (c : Thread nD τ)) Variants.none none Set.univ (m := (Memref.whole main_v2 : Memref sig .tc .smem S337 .i32)) (r := Rect.unit (s := S337) ![t] S1.size h)
    (hw := View.loads_smem_one rfl h1) (x := Shape.Idx.first (h1.symm ▸ Nat.one_pos)) (k := K) (Q := Q) (S := Finset.univ) (q := PosShare.right fullShare) (f := I.tab) (Γ := .empty) (Finset.subset_univ _)
  rw [e] at this
  exact this

/-- The head of a program whose assumption holds. -/
theorem wp_asm {c : Dev nD} {α : Type} {P : Prop} {d : Decidable P} {K : PLift P → Prog (TpuEff nD τ sig (Elt F) Λ₀ .tc) α} {Q : α → sProp 𝕄} (h : P) :
    WP c (K ⟨h⟩) Q ⊢ WP c (Prog.lift (.assume P d) >>= K) Q := wp_assume Variants.none (c : Thread nD τ) none Set.univ h

/-- A guarded piece of the body, by what it does when the guard holds. -/
theorem wp_guard {c : Dev nD} {α : Type} {P : Prop} {d : Decidable P} (A B : sProp 𝕄) {p : P → Prog (TpuEff nD τ sig (Elt F) Λ₀ .tc) α}
    {e : Prog (TpuEff nD τ sig (Elt F) Λ₀ .tc) α} {Q : α → sProp 𝕄}
    (hp : ∀ h : P, A ⊢ iprop((B -∗ WP c e Q) -∗ WP c (p h) Q)) (hn : ¬ P → A ⊢ B) :
    A ⊢ iprop((B -∗ WP c e Q) -∗ WP c (if h : P then p h else e) Q) := by
  by_cases h : P
  · rw [dif_pos h]; exact hp h
  · rw [dif_neg h]
    iintro HA Hk
    ihave HB := (hn h) $$ HA
    iapply Hk
    iexact HB

/-- Both of document `t`'s transfers, `k` chunks issued. -/
def Fl (I : Inp F) (c : Dev nD) (t k : ℕ) : sProp 𝕄 := iprop(Tab I c ∗ InC I c t k 0 ∗ InS I c t k 0)

/-- One guarded chunk: the guard is whether document `t` has a chunk `k`; its codes and its scales are issued. -/
theorem wp_gissue {I : Inp F} (ok : I.Ok) {c : Dev nD} {α : Type} (t k : ℕ) (ht : t < 336) {P : Prop} {d : Decidable P} (hP : P ↔ k < I.n t)
    {offL : Fin 1 → ℕ} {hL h1} (hoL : offL = ![t]) {C : BitVec 32 → Prop} {dC : ∀ v, Decidable (C v)} (hC : C (I.stw t))
    {offc offs : BitVec 32 → Fin 2 → ℕ} {offd offe : Fin 3 → ℕ} {gc : ∀ v, PLift (C v) → P → _} {gs : ∀ v, PLift (C v) → P → _} {hd hd' he he'}
    {semc sems : DmaSem sig} {w1 : ∀ v hw h, (cmem (offc v) (gc v hw h)).view.WordExact} {w2 : ∀ v (hw : PLift (C v)) (h : P), (dmem offd hd hd').view.WordExact}
    {w3 : ∀ v (hw : PLift (C v)) (h : P), DmaTarget.Typed (nD := nD) (τ := τ) (p := Proc.tc) .hbm (.dma semc) (.here (dmem offd hd hd'))}
    {w4 : ∀ v hw h, (lmem (offs v) (gs v hw h)).view.WordExact} {w5 : ∀ v (hw : PLift (C v)) (h : P), (smem offe he he').view.WordExact}
    {w6 : ∀ v (hw : PLift (C v)) (h : P), DmaTarget.Typed (nD := nD) (τ := τ) (p := Proc.tc) .hbm (.dma sems) (.here (smem offe he he'))}
    (hoc : offc (I.stw t) = ![(rowW (BitVec.ofNat 32 k) (I.stw t)).toNat, 0]) (hos : offs (I.stw t) = ![0, (rowW (BitVec.ofNat 32 k) (I.stw t)).toNat]) (hod : offd = ![t % 2, 128 * k, 0]) (hoe : offe = ![t % 2, 0, 128 * k])
    (hc : semc = inS t) (hs : sems = scS t) {e : Prog (TpuEff nD τ sig (Elt F) Λ₀ .tc) α} {Q : α → sProp 𝕄} :
    Fl I c t (min k (I.n t)) ⊢ iprop((Fl I c t (min (k + 1) (I.n t)) -∗ WP c e Q)
      -∗ WP c (if h : P then
          smemLoad (Memref.whole main_v2 : Memref sig .tc .smem S337 .i32) (Rect.unit (s := S337) offL S1.size hL) h1 rfl >>= fun v =>
          Prog.lift (.assume (C v) (dC v)) >>= fun hw =>
          Prog.lift (.enqueueDma (cmem (offc v) (gc v hw h)) (.here (dmem offd hd hd')) (.dma semc) (w1 v hw h) (w2 v hw h) (w3 v hw h)) >>= fun _ =>
          Prog.lift (.enqueueDma (lmem (offs v) (gs v hw h)) (.here (smem offe he he')) (.dma sems) (w4 v hw h) (w5 v hw h) (w6 v hw h)) >>= fun _ => e
        else e) Q) := by
  have hn5 := ok.n_le t ht
  have hlt := ok.lt t (by omega)
  refine wp_guard (Fl I c t (min k (I.n t))) (Fl I c t (min (k + 1) (I.n t))) (fun h => ?_) (fun h => ?_)
  · have hk := hP.1 h
    have hr := ok.row t ht k hk
    have hkk : (BitVec.ofNat 32 k).toNat = k := by rw [BitVec.toNat_ofNat]; omega
    have hrow : (rowW (BitVec.ofNat 32 k) (I.stw t)).toNat = 128 * (I.c0 t + k) := by
      rw [row_toNat _ _ hlt (by omega), hkk]; rfl
    rw [Nat.min_eq_left hk.le, Nat.min_eq_left (show k + 1 ≤ I.n t from hk)]
    unfold Fl
    iintro ⟨HT, HC, HS⟩ Hk
    iapply (wp_tab t (by omega) _ _ _ hoL) $$ HT
    iintro HT
    iapply (wp_asm hC)
    iapply (wp_issueC t k hk hr offd hd hd' (offc (I.stw t)) (gc (I.stw t) ⟨hC⟩ h) hod (hoc.trans (by rw [hrow])) hc) $$ HC
    iintro HC
    iapply (wp_issueS t k hk hr offe he he' (offs (I.stw t)) (gs (I.stw t) ⟨hC⟩ h) hoe (hos.trans (by rw [hrow])) hs) $$ HS
    iintro HS
    iapply Hk
    isplitl [HT]; · iexact HT
    isplitl [HC]; · iexact HC
    iexact HS
  · have hk : ¬ k < I.n t := fun hh => h (hP.2 hh)
    rw [show min (k + 1) (I.n t) = min k (I.n t) by omega]

end Cert.KernelIdeal.Hand
-- ==== Proof.Rules2.lean ====
module

public import proofs.«01_k».proof.Proof.Rules

@[expose] public section

/-! # Loads and stores of the buffers held whole, and the waits of a document's transfers -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

theorem wp_done {c : Dev nD} {α : Type} {a : α} {Q : α → sProp 𝕄} : Q a ⊢ WP c (pure a) Q := by
  show Q a ⊢ wp _ _ _ (Prog.ret a) Q
  rw [wp_ret]
  exact fupd_intro

theorem wp_seq {c : Dev nD} {α β : Type} {p : Prog (TpuEff nD τ sig (Elt F) Λ₀ .tc) α} {K : α → Prog (TpuEff nD τ sig (Elt F) Λ₀ .tc) β} {Q : β → sProp 𝕄} :
    WP c p (fun a => WP c (K a) Q) ⊢ WP c (p >>= K) Q := Entails.of_eq (wp_bind _ _ _ p K Q).symm

theorem emb0 {s : Shape} (off : Fin s.rank → ℕ) (ho : ∀ a, off a = 0) (h : ∀ a, off a + s.size a ≤ s.size a) (y : s.Idx) : (Rect.unit (s := s) off s.size h).emb y = y := by
  funext a
  apply Fin.ext
  rw [Rect.emb_apply]
  show off a + 1 * (y a).val = _
  rw [ho]; omega

/-- A load through a view, by what it reads. -/
theorem wp_ldv {c : Dev nD} {α : Type} {cs : CoreSpace} {s : Shape} {e : EltTy} {m : Memref sig (c : Thread nD τ).2.kind cs s e} {r : Rect s} {hl : m.view.LoadsAt r.toLoadRect}
    {K : (r.shape.Idx → Elt F e) → Prog (TpuEff nD τ sig (Elt F) Λ₀ .tc) α} {Q : α → sProp 𝕄} {S : Finset (Idx (m.view.loc (c : Thread nD τ)))} {q : PosShare TreeShare}
    {f : Buf (Elt F) (m.view.loc (c : Thread nD τ))} (hS : ∀ y, (m.view.emb (r.emb y)) ∈ S) (v : r.shape.Idx → Elt F e) (hv : ∀ y, m.view.read (Elt F) f (r.emb y) = v y) :
    (m.view.loc (c : Thread nD τ) ↦[S]{q} f) ⊢ iprop(((m.view.loc (c : Thread nD τ) ↦[S]{q} f) -∗ WP c (K v) Q) -∗ WP c (Prog.lift (.load m r.toLoadRect hl) >>= K) Q) := by
  have hv' : m.view.readAt (Elt F) r.toLoadRect f = v := funext hv
  subst hv'
  refine wp_load Variants.none (c : Thread nD τ) none Set.univ (hl := hl) (Γ := .empty) ?_
  intro x hx
  replace hx : x ∈ (m.view.slice r).set := by rw [View.set_slice]; exact hx
  replace hx := Finset.mem_map.1 hx
  obtain ⟨y, hy, rfl⟩ := hx
  exact hS y

/-- A store through a view, by what it leaves. -/
theorem wp_stv {c : Dev nD} {α : Type} {cs : CoreSpace} {s : Shape} {e : EltTy} {m : Memref sig (c : Thread nD τ).2.kind cs s e} {r : Rect s} {v : r.shape.Idx → Elt F e} {hx hm}
    {K : PUnit → Prog (TpuEff nD τ sig (Elt F) Λ₀ .tc) α} {Q : α → sProp 𝕄} {S : Finset (Idx ((m.access r).loc (c : Thread nD τ)))}
    {f : Buf (Elt F) ((m.access r).loc (c : Thread nD τ))} (hS : ∀ y, ((m.access r).emb y) ∈ S) (g : Buf (Elt F) ((m.access r).loc (c : Thread nD τ)))
    (hg : ∀ y, (m.access r).write (Elt F) f v Finset.univ ((m.access r).emb y) = g ((m.access r).emb y)) (hg' : ∀ x, (∀ y, (m.access r).emb y ≠ x) → f x = g x) :
    ((m.access r).loc (c : Thread nD τ) ↦[S]{fullShare} f) ⊢ iprop((((m.access r).loc (c : Thread nD τ) ↦[S]{fullShare} g) -∗ WP c (K ⟨⟩) Q) -∗ WP c (Prog.lift (.store m r v Finset.univ hx hm) >>= K) Q) := by
  have e : (m.access r).write (Elt F) f v Finset.univ = g := by
    funext x
    by_cases h : ∃ y, (m.access r).emb y = x
    · obtain ⟨y, rfl⟩ := h; exact hg y
    · rw [← hg' x (fun y hy => h ⟨y, hy⟩)]
      refine View.write_of_not_mem _ _ _ (fun hx => ?_)
      obtain ⟨y, _, hy⟩ := Finset.mem_map.1 hx
      exact h ⟨y, hy⟩
  rw [← e]
  refine wp_store Variants.none (c : Thread nD τ) none Set.univ (hx := hx) (hm := hm) (Γ := .empty) ?_
  intro x hx
  obtain ⟨y, hy, rfl⟩ := Finset.mem_map.1 hx
  exact hS y

theorem ld0 {c : Dev nD} {α : Type} {off sz : Fin S2x640x128.rank → ℕ} {h} {hl} {K : ((Rect.unit (s := S2x640x128) off sz h).shape.Idx → Elt F .fp8e4m3) → Prog (TpuEff nD τ sig (Elt F) Λ₀ .tc) α} {Q : α → sProp 𝕄} {S : Finset S2x640x128.Idx}
    {q : PosShare TreeShare} {f : Vec F S2x640x128 .fp8e4m3} (hS : ∀ y, (Rect.unit (s := S2x640x128) off sz h).emb y ∈ S) (v : (Rect.unit (s := S2x640x128) off sz h).shape.Idx → Elt F .fp8e4m3) (hv : ∀ y, f ((Rect.unit (s := S2x640x128) off sz h).emb y) = v y) :
    ((c : Thread nD τ).loc cc0_scratch0 ↦[S]{q} f) ⊢ iprop((((c : Thread nD τ).loc cc0_scratch0 ↦[S]{q} f) -∗ WP c (K v) Q) -∗ WP c (Prog.lift (.load (Memref.whole cc0_scratch0 : Memref sig .tc .vmem S2x640x128 .fp8e4m3) (Rect.unit (s := S2x640x128) off sz h).toLoadRect hl) >>= K) Q) :=
  wp_ldv (c := c) (m := (Memref.whole cc0_scratch0 : Memref sig .tc .vmem S2x640x128 .fp8e4m3)) (r := (Rect.unit (s := S2x640x128) off sz h)) (f := f) hS v hv
theorem ldw0 {c : Dev nD} {α : Type} {off : Fin S2x640x128.rank → ℕ} {h} {hl} {K : (Vec F S2x640x128 .fp8e4m3) → Prog (TpuEff nD τ sig (Elt F) Λ₀ .tc) α} {Q : α → sProp 𝕄}
    {q : PosShare TreeShare} {f : Vec F S2x640x128 .fp8e4m3} (ho : ∀ a, off a = 0) :
    ((c : Thread nD τ).loc cc0_scratch0 ↦[Finset.univ]{q} f) ⊢ iprop((((c : Thread nD τ).loc cc0_scratch0 ↦[Finset.univ]{q} f) -∗ WP c (K f) Q) -∗ WP c (Prog.lift (.load (Memref.whole cc0_scratch0 : Memref sig .tc .vmem S2x640x128 .fp8e4m3) (Rect.unit (s := S2x640x128) off S2x640x128.size h).toLoadRect hl) >>= K) Q) :=
  ld0 (fun _ => Finset.mem_univ _) f (fun y => congrArg f (emb0 off ho h y))
theorem st0 {c : Dev nD} {α : Type} {off sz : Fin S2x640x128.rank → ℕ} {h} {v : (Rect.unit (s := S2x640x128) off sz h).shape.Idx → Elt F .fp8e4m3} {hx hm} {K : PUnit → Prog (TpuEff nD τ sig (Elt F) Λ₀ .tc) α} {Q : α → sProp 𝕄} {S : Finset S2x640x128.Idx}
    {f : Vec F S2x640x128 .fp8e4m3} (hS : ∀ y, (Rect.unit (s := S2x640x128) off sz h).emb y ∈ S) (g : Vec F S2x640x128 .fp8e4m3) (hg : ∀ y, v y = g ((Rect.unit (s := S2x640x128) off sz h).emb y)) (hg' : ∀ x, (∀ y, (Rect.unit (s := S2x640x128) off sz h).emb y ≠ x) → f x = g x) :
    ((c : Thread nD τ).loc cc0_scratch0 ↦[S]{fullShare} f) ⊢ iprop((((c : Thread nD τ).loc cc0_scratch0 ↦[S]{fullShare} g) -∗ WP c (K ⟨⟩) Q) -∗ WP c (Prog.lift (.store (Memref.whole cc0_scratch0 : Memref sig .tc .vmem S2x640x128 .fp8e4m3) (Rect.unit (s := S2x640x128) off sz h) v Finset.univ hx hm) >>= K) Q) :=
  wp_stv (c := c) (m := (Memref.whole cc0_scratch0 : Memref sig .tc .vmem S2x640x128 .fp8e4m3)) (r := (Rect.unit (s := S2x640x128) off sz h)) (f := f) hS g (fun y => (View.write_emb_of_mem _ _ (h := Finset.mem_univ _)).trans (hg y)) hg'
theorem stw0 {c : Dev nD} {α : Type} {off : Fin S2x640x128.rank → ℕ} {h} {v : Vec F S2x640x128 .fp8e4m3} {hx hm} {K : PUnit → Prog (TpuEff nD τ sig (Elt F) Λ₀ .tc) α} {Q : α → sProp 𝕄}
    {f : Vec F S2x640x128 .fp8e4m3} (ho : ∀ a, off a = 0) :
    ((c : Thread nD τ).loc cc0_scratch0 ↦[Finset.univ]{fullShare} f) ⊢ iprop((((c : Thread nD τ).loc cc0_scratch0 ↦[Finset.univ]{fullShare} v) -∗ WP c (K ⟨⟩) Q) -∗ WP c (Prog.lift (.store (Memref.whole cc0_scratch0 : Memref sig .tc .vmem S2x640x128 .fp8e4m3) (Rect.unit (s := S2x640x128) off S2x640x128.size h) v Finset.univ hx hm) >>= K) Q) :=
  st0 (fun _ => Finset.mem_univ _) v (fun y => congrArg v (emb0 off ho h y).symm) (fun x hx => absurd (emb0 off ho h x) (hx x))

theorem ld1 {c : Dev nD} {α : Type} {off sz : Fin S2x4x640.rank → ℕ} {h} {hl} {K : ((Rect.unit (s := S2x4x640) off sz h).shape.Idx → Elt F .f32) → Prog (TpuEff nD τ sig (Elt F) Λ₀ .tc) α} {Q : α → sProp 𝕄} {S : Finset S2x4x640.Idx}
    {q : PosShare TreeShare} {f : Vec F S2x4x640 .f32} (hS : ∀ y, (Rect.unit (s := S2x4x640) off sz h).emb y ∈ S) (v : (Rect.unit (s := S2x4x640) off sz h).shape.Idx → Elt F .f32) (hv : ∀ y, f ((Rect.unit (s := S2x4x640) off sz h).emb y) = v y) :
    ((c : Thread nD τ).loc cc0_scratch1 ↦[S]{q} f) ⊢ iprop((((c : Thread nD τ).loc cc0_scratch1 ↦[S]{q} f) -∗ WP c (K v) Q) -∗ WP c (Prog.lift (.load (Memref.whole cc0_scratch1 : Memref sig .tc .vmem S2x4x640 .f32) (Rect.unit (s := S2x4x640) off sz h).toLoadRect hl) >>= K) Q) :=
  wp_ldv (c := c) (m := (Memref.whole cc0_scratch1 : Memref sig .tc .vmem S2x4x640 .f32)) (r := (Rect.unit (s := S2x4x640) off sz h)) (f := f) hS v hv
theorem ldw1 {c : Dev nD} {α : Type} {off : Fin S2x4x640.rank → ℕ} {h} {hl} {K : (Vec F S2x4x640 .f32) → Prog (TpuEff nD τ sig (Elt F) Λ₀ .tc) α} {Q : α → sProp 𝕄}
    {q : PosShare TreeShare} {f : Vec F S2x4x640 .f32} (ho : ∀ a, off a = 0) :
    ((c : Thread nD τ).loc cc0_scratch1 ↦[Finset.univ]{q} f) ⊢ iprop((((c : Thread nD τ).loc cc0_scratch1 ↦[Finset.univ]{q} f) -∗ WP c (K f) Q) -∗ WP c (Prog.lift (.load (Memref.whole cc0_scratch1 : Memref sig .tc .vmem S2x4x640 .f32) (Rect.unit (s := S2x4x640) off S2x4x640.size h).toLoadRect hl) >>= K) Q) :=
  ld1 (fun _ => Finset.mem_univ _) f (fun y => congrArg f (emb0 off ho h y))
theorem st1 {c : Dev nD} {α : Type} {off sz : Fin S2x4x640.rank → ℕ} {h} {v : (Rect.unit (s := S2x4x640) off sz h).shape.Idx → Elt F .f32} {hx hm} {K : PUnit → Prog (TpuEff nD τ sig (Elt F) Λ₀ .tc) α} {Q : α → sProp 𝕄} {S : Finset S2x4x640.Idx}
    {f : Vec F S2x4x640 .f32} (hS : ∀ y, (Rect.unit (s := S2x4x640) off sz h).emb y ∈ S) (g : Vec F S2x4x640 .f32) (hg : ∀ y, v y = g ((Rect.unit (s := S2x4x640) off sz h).emb y)) (hg' : ∀ x, (∀ y, (Rect.unit (s := S2x4x640) off sz h).emb y ≠ x) → f x = g x) :
    ((c : Thread nD τ).loc cc0_scratch1 ↦[S]{fullShare} f) ⊢ iprop((((c : Thread nD τ).loc cc0_scratch1 ↦[S]{fullShare} g) -∗ WP c (K ⟨⟩) Q) -∗ WP c (Prog.lift (.store (Memref.whole cc0_scratch1 : Memref sig .tc .vmem S2x4x640 .f32) (Rect.unit (s := S2x4x640) off sz h) v Finset.univ hx hm) >>= K) Q) :=
  wp_stv (c := c) (m := (Memref.whole cc0_scratch1 : Memref sig .tc .vmem S2x4x640 .f32)) (r := (Rect.unit (s := S2x4x640) off sz h)) (f := f) hS g (fun y => (View.write_emb_of_mem _ _ (h := Finset.mem_univ _)).trans (hg y)) hg'
theorem stw1 {c : Dev nD} {α : Type} {off : Fin S2x4x640.rank → ℕ} {h} {v : Vec F S2x4x640 .f32} {hx hm} {K : PUnit → Prog (TpuEff nD τ sig (Elt F) Λ₀ .tc) α} {Q : α → sProp 𝕄}
    {f : Vec F S2x4x640 .f32} (ho : ∀ a, off a = 0) :
    ((c : Thread nD τ).loc cc0_scratch1 ↦[Finset.univ]{fullShare} f) ⊢ iprop((((c : Thread nD τ).loc cc0_scratch1 ↦[Finset.univ]{fullShare} v) -∗ WP c (K ⟨⟩) Q) -∗ WP c (Prog.lift (.store (Memref.whole cc0_scratch1 : Memref sig .tc .vmem S2x4x640 .f32) (Rect.unit (s := S2x4x640) off S2x4x640.size h) v Finset.univ hx hm) >>= K) Q) :=
  st1 (fun _ => Finset.mem_univ _) v (fun y => congrArg v (emb0 off ho h y).symm) (fun x hx => absurd (emb0 off ho h x) (hx x))

theorem ld2 {c : Dev nD} {α : Type} {off sz : Fin S640x3584.rank → ℕ} {h} {hl} {K : ((Rect.unit (s := S640x3584) off sz h).shape.Idx → Elt F .bf16) → Prog (TpuEff nD τ sig (Elt F) Λ₀ .tc) α} {Q : α → sProp 𝕄} {S : Finset S640x3584.Idx}
    {q : PosShare TreeShare} {f : Vec F S640x3584 .bf16} (hS : ∀ y, (Rect.unit (s := S640x3584) off sz h).emb y ∈ S) (v : (Rect.unit (s := S640x3584) off sz h).shape.Idx → Elt F .bf16) (hv : ∀ y, f ((Rect.unit (s := S640x3584) off sz h).emb y) = v y) :
    ((c : Thread nD τ).loc cc0_scratch2 ↦[S]{q} f) ⊢ iprop((((c : Thread nD τ).loc cc0_scratch2 ↦[S]{q} f) -∗ WP c (K v) Q) -∗ WP c (Prog.lift (.load (Memref.whole cc0_scratch2 : Memref sig .tc .vmem S640x3584 .bf16) (Rect.unit (s := S640x3584) off sz h).toLoadRect hl) >>= K) Q) :=
  wp_ldv (c := c) (m := (Memref.whole cc0_scratch2 : Memref sig .tc .vmem S640x3584 .bf16)) (r := (Rect.unit (s := S640x3584) off sz h)) (f := f) hS v hv
theorem ldw2 {c : Dev nD} {α : Type} {off : Fin S640x3584.rank → ℕ} {h} {hl} {K : (Vec F S640x3584 .bf16) → Prog (TpuEff nD τ sig (Elt F) Λ₀ .tc) α} {Q : α → sProp 𝕄}
    {q : PosShare TreeShare} {f : Vec F S640x3584 .bf16} (ho : ∀ a, off a = 0) :
    ((c : Thread nD τ).loc cc0_scratch2 ↦[Finset.univ]{q} f) ⊢ iprop((((c : Thread nD τ).loc cc0_scratch2 ↦[Finset.univ]{q} f) -∗ WP c (K f) Q) -∗ WP c (Prog.lift (.load (Memref.whole cc0_scratch2 : Memref sig .tc .vmem S640x3584 .bf16) (Rect.unit (s := S640x3584) off S640x3584.size h).toLoadRect hl) >>= K) Q) :=
  ld2 (fun _ => Finset.mem_univ _) f (fun y => congrArg f (emb0 off ho h y))
theorem st2 {c : Dev nD} {α : Type} {off sz : Fin S640x3584.rank → ℕ} {h} {v : (Rect.unit (s := S640x3584) off sz h).shape.Idx → Elt F .bf16} {hx hm} {K : PUnit → Prog (TpuEff nD τ sig (Elt F) Λ₀ .tc) α} {Q : α → sProp 𝕄} {S : Finset S640x3584.Idx}
    {f : Vec F S640x3584 .bf16} (hS : ∀ y, (Rect.unit (s := S640x3584) off sz h).emb y ∈ S) (g : Vec F S640x3584 .bf16) (hg : ∀ y, v y = g ((Rect.unit (s := S640x3584) off sz h).emb y)) (hg' : ∀ x, (∀ y, (Rect.unit (s := S640x3584) off sz h).emb y ≠ x) → f x = g x) :
    ((c : Thread nD τ).loc cc0_scratch2 ↦[S]{fullShare} f) ⊢ iprop((((c : Thread nD τ).loc cc0_scratch2 ↦[S]{fullShare} g) -∗ WP c (K ⟨⟩) Q) -∗ WP c (Prog.lift (.store (Memref.whole cc0_scratch2 : Memref sig .tc .vmem S640x3584 .bf16) (Rect.unit (s := S640x3584) off sz h) v Finset.univ hx hm) >>= K) Q) :=
  wp_stv (c := c) (m := (Memref.whole cc0_scratch2 : Memref sig .tc .vmem S640x3584 .bf16)) (r := (Rect.unit (s := S640x3584) off sz h)) (f := f) hS g (fun y => (View.write_emb_of_mem _ _ (h := Finset.mem_univ _)).trans (hg y)) hg'
theorem stw2 {c : Dev nD} {α : Type} {off : Fin S640x3584.rank → ℕ} {h} {v : Vec F S640x3584 .bf16} {hx hm} {K : PUnit → Prog (TpuEff nD τ sig (Elt F) Λ₀ .tc) α} {Q : α → sProp 𝕄}
    {f : Vec F S640x3584 .bf16} (ho : ∀ a, off a = 0) :
    ((c : Thread nD τ).loc cc0_scratch2 ↦[Finset.univ]{fullShare} f) ⊢ iprop((((c : Thread nD τ).loc cc0_scratch2 ↦[Finset.univ]{fullShare} v) -∗ WP c (K ⟨⟩) Q) -∗ WP c (Prog.lift (.store (Memref.whole cc0_scratch2 : Memref sig .tc .vmem S640x3584 .bf16) (Rect.unit (s := S640x3584) off S640x3584.size h) v Finset.univ hx hm) >>= K) Q) :=
  st2 (fun _ => Finset.mem_univ _) v (fun y => congrArg v (emb0 off ho h y).symm) (fun x hx => absurd (emb0 off ho h x) (hx x))

theorem ld3 {c : Dev nD} {α : Type} {off sz : Fin S128x3584.rank → ℕ} {h} {hl} {K : ((Rect.unit (s := S128x3584) off sz h).shape.Idx → Elt F .f32) → Prog (TpuEff nD τ sig (Elt F) Λ₀ .tc) α} {Q : α → sProp 𝕄} {S : Finset S128x3584.Idx}
    {q : PosShare TreeShare} {f : Vec F S128x3584 .f32} (hS : ∀ y, (Rect.unit (s := S128x3584) off sz h).emb y ∈ S) (v : (Rect.unit (s := S128x3584) off sz h).shape.Idx → Elt F .f32) (hv : ∀ y, f ((Rect.unit (s := S128x3584) off sz h).emb y) = v y) :
    ((c : Thread nD τ).loc cc0_scratch3 ↦[S]{q} f) ⊢ iprop((((c : Thread nD τ).loc cc0_scratch3 ↦[S]{q} f) -∗ WP c (K v) Q) -∗ WP c (Prog.lift (.load (Memref.whole cc0_scratch3 : Memref sig .tc .vmem S128x3584 .f32) (Rect.unit (s := S128x3584) off sz h).toLoadRect hl) >>= K) Q) :=
  wp_ldv (c := c) (m := (Memref.whole cc0_scratch3 : Memref sig .tc .vmem S128x3584 .f32)) (r := (Rect.unit (s := S128x3584) off sz h)) (f := f) hS v hv
theorem ldw3 {c : Dev nD} {α : Type} {off : Fin S128x3584.rank → ℕ} {h} {hl} {K : (Vec F S128x3584 .f32) → Prog (TpuEff nD τ sig (Elt F) Λ₀ .tc) α} {Q : α → sProp 𝕄}
    {q : PosShare TreeShare} {f : Vec F S128x3584 .f32} (ho : ∀ a, off a = 0) :
    ((c : Thread nD τ).loc cc0_scratch3 ↦[Finset.univ]{q} f) ⊢ iprop((((c : Thread nD τ).loc cc0_scratch3 ↦[Finset.univ]{q} f) -∗ WP c (K f) Q) -∗ WP c (Prog.lift (.load (Memref.whole cc0_scratch3 : Memref sig .tc .vmem S128x3584 .f32) (Rect.unit (s := S128x3584) off S128x3584.size h).toLoadRect hl) >>= K) Q) :=
  ld3 (fun _ => Finset.mem_univ _) f (fun y => congrArg f (emb0 off ho h y))
theorem st3 {c : Dev nD} {α : Type} {off sz : Fin S128x3584.rank → ℕ} {h} {v : (Rect.unit (s := S128x3584) off sz h).shape.Idx → Elt F .f32} {hx hm} {K : PUnit → Prog (TpuEff nD τ sig (Elt F) Λ₀ .tc) α} {Q : α → sProp 𝕄} {S : Finset S128x3584.Idx}
    {f : Vec F S128x3584 .f32} (hS : ∀ y, (Rect.unit (s := S128x3584) off sz h).emb y ∈ S) (g : Vec F S128x3584 .f32) (hg : ∀ y, v y = g ((Rect.unit (s := S128x3584) off sz h).emb y)) (hg' : ∀ x, (∀ y, (Rect.unit (s := S128x3584) off sz h).emb y ≠ x) → f x = g x) :
    ((c : Thread nD τ).loc cc0_scratch3 ↦[S]{fullShare} f) ⊢ iprop((((c : Thread nD τ).loc cc0_scratch3 ↦[S]{fullShare} g) -∗ WP c (K ⟨⟩) Q) -∗ WP c (Prog.lift (.store (Memref.whole cc0_scratch3 : Memref sig .tc .vmem S128x3584 .f32) (Rect.unit (s := S128x3584) off sz h) v Finset.univ hx hm) >>= K) Q) :=
  wp_stv (c := c) (m := (Memref.whole cc0_scratch3 : Memref sig .tc .vmem S128x3584 .f32)) (r := (Rect.unit (s := S128x3584) off sz h)) (f := f) hS g (fun y => (View.write_emb_of_mem _ _ (h := Finset.mem_univ _)).trans (hg y)) hg'
theorem stw3 {c : Dev nD} {α : Type} {off : Fin S128x3584.rank → ℕ} {h} {v : Vec F S128x3584 .f32} {hx hm} {K : PUnit → Prog (TpuEff nD τ sig (Elt F) Λ₀ .tc) α} {Q : α → sProp 𝕄}
    {f : Vec F S128x3584 .f32} (ho : ∀ a, off a = 0) :
    ((c : Thread nD τ).loc cc0_scratch3 ↦[Finset.univ]{fullShare} f) ⊢ iprop((((c : Thread nD τ).loc cc0_scratch3 ↦[Finset.univ]{fullShare} v) -∗ WP c (K ⟨⟩) Q) -∗ WP c (Prog.lift (.store (Memref.whole cc0_scratch3 : Memref sig .tc .vmem S128x3584 .f32) (Rect.unit (s := S128x3584) off S128x3584.size h) v Finset.univ hx hm) >>= K) Q) :=
  st3 (fun _ => Finset.mem_univ _) v (fun y => congrArg v (emb0 off ho h y).symm) (fun x hx => absurd (emb0 off ho h x) (hx x))

theorem ld4 {c : Dev nD} {α : Type} {off sz : Fin S640x128.rank → ℕ} {h} {hl} {K : ((Rect.unit (s := S640x128) off sz h).shape.Idx → Elt F .bf16) → Prog (TpuEff nD τ sig (Elt F) Λ₀ .tc) α} {Q : α → sProp 𝕄} {S : Finset S640x128.Idx}
    {q : PosShare TreeShare} {f : Vec F S640x128 .bf16} (hS : ∀ y, (Rect.unit (s := S640x128) off sz h).emb y ∈ S) (v : (Rect.unit (s := S640x128) off sz h).shape.Idx → Elt F .bf16) (hv : ∀ y, f ((Rect.unit (s := S640x128) off sz h).emb y) = v y) :
    ((c : Thread nD τ).loc cc0_scratch4 ↦[S]{q} f) ⊢ iprop((((c : Thread nD τ).loc cc0_scratch4 ↦[S]{q} f) -∗ WP c (K v) Q) -∗ WP c (Prog.lift (.load (Memref.whole cc0_scratch4 : Memref sig .tc .vmem S640x128 .bf16) (Rect.unit (s := S640x128) off sz h).toLoadRect hl) >>= K) Q) :=
  wp_ldv (c := c) (m := (Memref.whole cc0_scratch4 : Memref sig .tc .vmem S640x128 .bf16)) (r := (Rect.unit (s := S640x128) off sz h)) (f := f) hS v hv
theorem ldw4 {c : Dev nD} {α : Type} {off : Fin S640x128.rank → ℕ} {h} {hl} {K : (Vec F S640x128 .bf16) → Prog (TpuEff nD τ sig (Elt F) Λ₀ .tc) α} {Q : α → sProp 𝕄}
    {q : PosShare TreeShare} {f : Vec F S640x128 .bf16} (ho : ∀ a, off a = 0) :
    ((c : Thread nD τ).loc cc0_scratch4 ↦[Finset.univ]{q} f) ⊢ iprop((((c : Thread nD τ).loc cc0_scratch4 ↦[Finset.univ]{q} f) -∗ WP c (K f) Q) -∗ WP c (Prog.lift (.load (Memref.whole cc0_scratch4 : Memref sig .tc .vmem S640x128 .bf16) (Rect.unit (s := S640x128) off S640x128.size h).toLoadRect hl) >>= K) Q) :=
  ld4 (fun _ => Finset.mem_univ _) f (fun y => congrArg f (emb0 off ho h y))
theorem st4 {c : Dev nD} {α : Type} {off sz : Fin S640x128.rank → ℕ} {h} {v : (Rect.unit (s := S640x128) off sz h).shape.Idx → Elt F .bf16} {hx hm} {K : PUnit → Prog (TpuEff nD τ sig (Elt F) Λ₀ .tc) α} {Q : α → sProp 𝕄} {S : Finset S640x128.Idx}
    {f : Vec F S640x128 .bf16} (hS : ∀ y, (Rect.unit (s := S640x128) off sz h).emb y ∈ S) (g : Vec F S640x128 .bf16) (hg : ∀ y, v y = g ((Rect.unit (s := S640x128) off sz h).emb y)) (hg' : ∀ x, (∀ y, (Rect.unit (s := S640x128) off sz h).emb y ≠ x) → f x = g x) :
    ((c : Thread nD τ).loc cc0_scratch4 ↦[S]{fullShare} f) ⊢ iprop((((c : Thread nD τ).loc cc0_scratch4 ↦[S]{fullShare} g) -∗ WP c (K ⟨⟩) Q) -∗ WP c (Prog.lift (.store (Memref.whole cc0_scratch4 : Memref sig .tc .vmem S640x128 .bf16) (Rect.unit (s := S640x128) off sz h) v Finset.univ hx hm) >>= K) Q) :=
  wp_stv (c := c) (m := (Memref.whole cc0_scratch4 : Memref sig .tc .vmem S640x128 .bf16)) (r := (Rect.unit (s := S640x128) off sz h)) (f := f) hS g (fun y => (View.write_emb_of_mem _ _ (h := Finset.mem_univ _)).trans (hg y)) hg'
theorem stw4 {c : Dev nD} {α : Type} {off : Fin S640x128.rank → ℕ} {h} {v : Vec F S640x128 .bf16} {hx hm} {K : PUnit → Prog (TpuEff nD τ sig (Elt F) Λ₀ .tc) α} {Q : α → sProp 𝕄}
    {f : Vec F S640x128 .bf16} (ho : ∀ a, off a = 0) :
    ((c : Thread nD τ).loc cc0_scratch4 ↦[Finset.univ]{fullShare} f) ⊢ iprop((((c : Thread nD τ).loc cc0_scratch4 ↦[Finset.univ]{fullShare} v) -∗ WP c (K ⟨⟩) Q) -∗ WP c (Prog.lift (.store (Memref.whole cc0_scratch4 : Memref sig .tc .vmem S640x128 .bf16) (Rect.unit (s := S640x128) off S640x128.size h) v Finset.univ hx hm) >>= K) Q) :=
  st4 (fun _ => Finset.mem_univ _) v (fun y => congrArg v (emb0 off ho h y).symm) (fun x hx => absurd (emb0 off ho h x) (hx x))

theorem ld5 {c : Dev nD} {α : Type} {off sz : Fin S128x128.rank → ℕ} {h} {hl} {K : ((Rect.unit (s := S128x128) off sz h).shape.Idx → Elt F .bf16) → Prog (TpuEff nD τ sig (Elt F) Λ₀ .tc) α} {Q : α → sProp 𝕄} {S : Finset S128x128.Idx}
    {q : PosShare TreeShare} {f : Vec F S128x128 .bf16} (hS : ∀ y, (Rect.unit (s := S128x128) off sz h).emb y ∈ S) (v : (Rect.unit (s := S128x128) off sz h).shape.Idx → Elt F .bf16) (hv : ∀ y, f ((Rect.unit (s := S128x128) off sz h).emb y) = v y) :
    ((c : Thread nD τ).loc cc0_scratch5 ↦[S]{q} f) ⊢ iprop((((c : Thread nD τ).loc cc0_scratch5 ↦[S]{q} f) -∗ WP c (K v) Q) -∗ WP c (Prog.lift (.load (Memref.whole cc0_scratch5 : Memref sig .tc .vmem S128x128 .bf16) (Rect.unit (s := S128x128) off sz h).toLoadRect hl) >>= K) Q) :=
  wp_ldv (c := c) (m := (Memref.whole cc0_scratch5 : Memref sig .tc .vmem S128x128 .bf16)) (r := (Rect.unit (s := S128x128) off sz h)) (f := f) hS v hv
theorem ldw5 {c : Dev nD} {α : Type} {off : Fin S128x128.rank → ℕ} {h} {hl} {K : (Vec F S128x128 .bf16) → Prog (TpuEff nD τ sig (Elt F) Λ₀ .tc) α} {Q : α → sProp 𝕄}
    {q : PosShare TreeShare} {f : Vec F S128x128 .bf16} (ho : ∀ a, off a = 0) :
    ((c : Thread nD τ).loc cc0_scratch5 ↦[Finset.univ]{q} f) ⊢ iprop((((c : Thread nD τ).loc cc0_scratch5 ↦[Finset.univ]{q} f) -∗ WP c (K f) Q) -∗ WP c (Prog.lift (.load (Memref.whole cc0_scratch5 : Memref sig .tc .vmem S128x128 .bf16) (Rect.unit (s := S128x128) off S128x128.size h).toLoadRect hl) >>= K) Q) :=
  ld5 (fun _ => Finset.mem_univ _) f (fun y => congrArg f (emb0 off ho h y))
theorem st5 {c : Dev nD} {α : Type} {off sz : Fin S128x128.rank → ℕ} {h} {v : (Rect.unit (s := S128x128) off sz h).shape.Idx → Elt F .bf16} {hx hm} {K : PUnit → Prog (TpuEff nD τ sig (Elt F) Λ₀ .tc) α} {Q : α → sProp 𝕄} {S : Finset S128x128.Idx}
    {f : Vec F S128x128 .bf16} (hS : ∀ y, (Rect.unit (s := S128x128) off sz h).emb y ∈ S) (g : Vec F S128x128 .bf16) (hg : ∀ y, v y = g ((Rect.unit (s := S128x128) off sz h).emb y)) (hg' : ∀ x, (∀ y, (Rect.unit (s := S128x128) off sz h).emb y ≠ x) → f x = g x) :
    ((c : Thread nD τ).loc cc0_scratch5 ↦[S]{fullShare} f) ⊢ iprop((((c : Thread nD τ).loc cc0_scratch5 ↦[S]{fullShare} g) -∗ WP c (K ⟨⟩) Q) -∗ WP c (Prog.lift (.store (Memref.whole cc0_scratch5 : Memref sig .tc .vmem S128x128 .bf16) (Rect.unit (s := S128x128) off sz h) v Finset.univ hx hm) >>= K) Q) :=
  wp_stv (c := c) (m := (Memref.whole cc0_scratch5 : Memref sig .tc .vmem S128x128 .bf16)) (r := (Rect.unit (s := S128x128) off sz h)) (f := f) hS g (fun y => (View.write_emb_of_mem _ _ (h := Finset.mem_univ _)).trans (hg y)) hg'
theorem stw5 {c : Dev nD} {α : Type} {off : Fin S128x128.rank → ℕ} {h} {v : Vec F S128x128 .bf16} {hx hm} {K : PUnit → Prog (TpuEff nD τ sig (Elt F) Λ₀ .tc) α} {Q : α → sProp 𝕄}
    {f : Vec F S128x128 .bf16} (ho : ∀ a, off a = 0) :
    ((c : Thread nD τ).loc cc0_scratch5 ↦[Finset.univ]{fullShare} f) ⊢ iprop((((c : Thread nD τ).loc cc0_scratch5 ↦[Finset.univ]{fullShare} v) -∗ WP c (K ⟨⟩) Q) -∗ WP c (Prog.lift (.store (Memref.whole cc0_scratch5 : Memref sig .tc .vmem S128x128 .bf16) (Rect.unit (s := S128x128) off S128x128.size h) v Finset.univ hx hm) >>= K) Q) :=
  st5 (fun _ => Finset.mem_univ _) v (fun y => congrArg v (emb0 off ho h y).symm) (fun x hx => absurd (emb0 off ho h x) (hx x))

theorem ld6 {c : Dev nD} {α : Type} {off sz : Fin S128x128.rank → ℕ} {h} {hl} {K : ((Rect.unit (s := S128x128) off sz h).shape.Idx → Elt F .bf16) → Prog (TpuEff nD τ sig (Elt F) Λ₀ .tc) α} {Q : α → sProp 𝕄} {S : Finset S128x128.Idx}
    {q : PosShare TreeShare} {f : Vec F S128x128 .bf16} (hS : ∀ y, (Rect.unit (s := S128x128) off sz h).emb y ∈ S) (v : (Rect.unit (s := S128x128) off sz h).shape.Idx → Elt F .bf16) (hv : ∀ y, f ((Rect.unit (s := S128x128) off sz h).emb y) = v y) :
    ((c : Thread nD τ).loc cc0_scratch6 ↦[S]{q} f) ⊢ iprop((((c : Thread nD τ).loc cc0_scratch6 ↦[S]{q} f) -∗ WP c (K v) Q) -∗ WP c (Prog.lift (.load (Memref.whole cc0_scratch6 : Memref sig .tc .vmem S128x128 .bf16) (Rect.unit (s := S128x128) off sz h).toLoadRect hl) >>= K) Q) :=
  wp_ldv (c := c) (m := (Memref.whole cc0_scratch6 : Memref sig .tc .vmem S128x128 .bf16)) (r := (Rect.unit (s := S128x128) off sz h)) (f := f) hS v hv
theorem ldw6 {c : Dev nD} {α : Type} {off : Fin S128x128.rank → ℕ} {h} {hl} {K : (Vec F S128x128 .bf16) → Prog (TpuEff nD τ sig (Elt F) Λ₀ .tc) α} {Q : α → sProp 𝕄}
    {q : PosShare TreeShare} {f : Vec F S128x128 .bf16} (ho : ∀ a, off a = 0) :
    ((c : Thread nD τ).loc cc0_scratch6 ↦[Finset.univ]{q} f) ⊢ iprop((((c : Thread nD τ).loc cc0_scratch6 ↦[Finset.univ]{q} f) -∗ WP c (K f) Q) -∗ WP c (Prog.lift (.load (Memref.whole cc0_scratch6 : Memref sig .tc .vmem S128x128 .bf16) (Rect.unit (s := S128x128) off S128x128.size h).toLoadRect hl) >>= K) Q) :=
  ld6 (fun _ => Finset.mem_univ _) f (fun y => congrArg f (emb0 off ho h y))
theorem st6 {c : Dev nD} {α : Type} {off sz : Fin S128x128.rank → ℕ} {h} {v : (Rect.unit (s := S128x128) off sz h).shape.Idx → Elt F .bf16} {hx hm} {K : PUnit → Prog (TpuEff nD τ sig (Elt F) Λ₀ .tc) α} {Q : α → sProp 𝕄} {S : Finset S128x128.Idx}
    {f : Vec F S128x128 .bf16} (hS : ∀ y, (Rect.unit (s := S128x128) off sz h).emb y ∈ S) (g : Vec F S128x128 .bf16) (hg : ∀ y, v y = g ((Rect.unit (s := S128x128) off sz h).emb y)) (hg' : ∀ x, (∀ y, (Rect.unit (s := S128x128) off sz h).emb y ≠ x) → f x = g x) :
    ((c : Thread nD τ).loc cc0_scratch6 ↦[S]{fullShare} f) ⊢ iprop((((c : Thread nD τ).loc cc0_scratch6 ↦[S]{fullShare} g) -∗ WP c (K ⟨⟩) Q) -∗ WP c (Prog.lift (.store (Memref.whole cc0_scratch6 : Memref sig .tc .vmem S128x128 .bf16) (Rect.unit (s := S128x128) off sz h) v Finset.univ hx hm) >>= K) Q) :=
  wp_stv (c := c) (m := (Memref.whole cc0_scratch6 : Memref sig .tc .vmem S128x128 .bf16)) (r := (Rect.unit (s := S128x128) off sz h)) (f := f) hS g (fun y => (View.write_emb_of_mem _ _ (h := Finset.mem_univ _)).trans (hg y)) hg'
theorem stw6 {c : Dev nD} {α : Type} {off : Fin S128x128.rank → ℕ} {h} {v : Vec F S128x128 .bf16} {hx hm} {K : PUnit → Prog (TpuEff nD τ sig (Elt F) Λ₀ .tc) α} {Q : α → sProp 𝕄}
    {f : Vec F S128x128 .bf16} (ho : ∀ a, off a = 0) :
    ((c : Thread nD τ).loc cc0_scratch6 ↦[Finset.univ]{fullShare} f) ⊢ iprop((((c : Thread nD τ).loc cc0_scratch6 ↦[Finset.univ]{fullShare} v) -∗ WP c (K ⟨⟩) Q) -∗ WP c (Prog.lift (.store (Memref.whole cc0_scratch6 : Memref sig .tc .vmem S128x128 .bf16) (Rect.unit (s := S128x128) off S128x128.size h) v Finset.univ hx hm) >>= K) Q) :=
  st6 (fun _ => Finset.mem_univ _) v (fun y => congrArg v (emb0 off ho h y).symm) (fun x hx => absurd (emb0 off ho h x) (hx x))

/-! ## The waits of a document's transfers -/

/-- The core's own record of what it owes. -/
def Ow (c : Dev nD) : sProp 𝕄 := iprop(∃ W, owes (c : Thread nD τ) 0 W)

/-- A document on its way, all its chunks issued and `k` of them received. -/
def Wt (I : Inp F) (c : Dev nD) (t k : ℕ) : sProp 𝕄 := iprop(Tab I c ∗ Ow c ∗ InC I c t (I.n t) (NC * k) ∗ InS I c t (I.n t) (NS * k))

theorem wp_waitC {I : Inp F} {c : Dev nD} {α : Type} (t k : ℕ) (hk : k < I.n t) {off h h' offs g} {s : DmaSem sig} (hs : s = inS t) {hsrc hdst}
    {K : PUnit → Prog (TpuEff nD τ sig (Elt F) Λ₀ .tc) α} {Q : α → sProp 𝕄} :
    iprop(Ow c ∗ InC I c t (I.n t) (NC * k)) ⊢ iprop((iprop(Ow c ∗ InC I c t (I.n t) (NC * (k + 1))) -∗ WP c (K ⟨⟩) Q)
      -∗ WP c (Prog.lift (.waitDma2 s (cmem offs g) (dmem off h h') hsrc hdst) >>= K) Q) := by
  subst hs
  unfold InC Ow
  have hJ : (dmem off h h').view.dmaCredit = 1 * NC := (one_mul _).symm
  have hu : NC * k + 1 * NC ≤ NC * I.n t := by rw [one_mul, ← Nat.mul_succ]; exact Nat.mul_le_mul_left _ hk
  iintro ⟨⟨%W, HO⟩, HA, HD, HB⟩ Hk
  iapply (Transfers.wp_waitBatchMul EC Variants.none (c : Thread nD τ) none () (srcw := cmem offs g) (dstw := dmem off h h') (N := NC) 1 hJ hu (W := W)) $$ [HB HO]
  · isplitl [HB]; · iexact HB
    iexact HO
  iintro ⟨HB, HO⟩
  iapply Hk
  isplitl [HO]; · iexists _; iexact HO
  isplitl [HA]; · iexact HA
  isplitl [HD]; · iexact HD
  rw [show NC * k + 1 * NC = NC * (k + 1) by rw [Nat.mul_succ, one_mul]]
  iexact HB
theorem wp_waitS {I : Inp F} {c : Dev nD} {α : Type} (t k : ℕ) (hk : k < I.n t) {off h h' offs g} {s : DmaSem sig} (hs : s = scS t) {hsrc hdst}
    {K : PUnit → Prog (TpuEff nD τ sig (Elt F) Λ₀ .tc) α} {Q : α → sProp 𝕄} :
    iprop(Ow c ∗ InS I c t (I.n t) (NS * k)) ⊢ iprop((iprop(Ow c ∗ InS I c t (I.n t) (NS * (k + 1))) -∗ WP c (K ⟨⟩) Q)
      -∗ WP c (Prog.lift (.waitDma2 s (lmem offs g) (smem off h h') hsrc hdst) >>= K) Q) := by
  subst hs
  unfold InS Ow
  have hJ : (smem off h h').view.dmaCredit = 1 * NS := (one_mul _).symm
  have hu : NS * k + 1 * NS ≤ NS * I.n t := by rw [one_mul, ← Nat.mul_succ]; exact Nat.mul_le_mul_left _ hk
  iintro ⟨⟨%W, HO⟩, HA, HD, HB⟩ Hk
  iapply (Transfers.wp_waitBatchMul EC Variants.none (c : Thread nD τ) none () (srcw := lmem offs g) (dstw := smem off h h') (N := NS) 1 hJ hu (W := W)) $$ [HB HO]
  · isplitl [HB]; · iexact HB
    iexact HO
  iintro ⟨HB, HO⟩
  iapply Hk
  isplitl [HO]; · iexists _; iexact HO
  isplitl [HA]; · iexact HA
  isplitl [HD]; · iexact HD
  rw [show NS * k + 1 * NS = NS * (k + 1) by rw [Nat.mul_succ, one_mul]]
  iexact HB

/-- One guarded chunk received: the guard is whether document `t` has a chunk `k`. -/
theorem wp_gwait {I : Inp F} (ok : I.Ok) {c : Dev nD} {α : Type} (t k : ℕ) (ht : t < 336) {P : Prop} {d : Decidable P} (hP : P ↔ k < I.n t)
    {offL : Fin 1 → ℕ} {hL h1} (hoL : offL = ![t]) {C : BitVec 32 → Prop} {dC : ∀ v, Decidable (C v)} (hC : C (I.stw t))
    {offc offs : BitVec 32 → Fin 2 → ℕ} {offd offe : Fin 3 → ℕ} {gc : ∀ v, PLift (C v) → P → _} {gs : ∀ v, PLift (C v) → P → _} {hd hd' he he'}
    {semc sems : DmaSem sig} {w1 : ∀ v hw h, (cmem (offc v) (gc v hw h)).view.WordExact} {w2 : ∀ v (hw : PLift (C v)) (h : P), (dmem offd hd hd').view.WordExact}
    {w4 : ∀ v hw h, (lmem (offs v) (gs v hw h)).view.WordExact} {w5 : ∀ v (hw : PLift (C v)) (h : P), (smem offe he he').view.WordExact}
    (hc : semc = inS t) (hs : sems = scS t) {e : Prog (TpuEff nD τ sig (Elt F) Λ₀ .tc) α} {Q : α → sProp 𝕄} :
    Wt I c t (min k (I.n t)) ⊢ iprop((Wt I c t (min (k + 1) (I.n t)) -∗ WP c e Q)
      -∗ WP c (if h : P then
          smemLoad (Memref.whole main_v2 : Memref sig .tc .smem S337 .i32) (Rect.unit (s := S337) offL S1.size hL) h1 rfl >>= fun v =>
          Prog.lift (.assume (C v) (dC v)) >>= fun hw =>
          Prog.lift (.waitDma2 semc (cmem (offc v) (gc v hw h)) (dmem offd hd hd') (w1 v hw h) (w2 v hw h)) >>= fun _ =>
          Prog.lift (.waitDma2 sems (lmem (offs v) (gs v hw h)) (smem offe he he') (w4 v hw h) (w5 v hw h)) >>= fun _ => e
        else e) Q) := by
  refine wp_guard (Wt I c t (min k (I.n t))) (Wt I c t (min (k + 1) (I.n t))) (fun h => ?_) (fun h => ?_)
  · have hk := hP.1 h
    rw [Nat.min_eq_left hk.le, Nat.min_eq_left (show k + 1 ≤ I.n t from hk)]
    unfold Wt
    iintro ⟨HT, HO, HC, HS⟩ Hk
    iapply (wp_tab t (by omega) _ _ _ hoL) $$ HT
    iintro HT
    iapply (wp_asm hC)
    iapply (wp_waitC t k hk hc) $$ [HO HC]
    · isplitl [HO]; · iexact HO
      iexact HC
    iintro ⟨HO, HC⟩
    iapply (wp_waitS t k hk hs) $$ [HO HS]
    · isplitl [HO]; · iexact HO
      iexact HS
    iintro ⟨HO, HS⟩
    iapply Hk
    isplitl [HT]; · iexact HT
    isplitl [HO]; · iexact HO
    isplitl [HC]; · iexact HC
    iexact HS
  · have hk : ¬ k < I.n t := fun hh => h (hP.2 hh)
    rw [show min (k + 1) (I.n t) = min k (I.n t) by omega]

end Cert.KernelIdeal.Hand
-- ==== Proof.Out.lean ====
module

public import proofs.«01_k».proof.Proof.Rules2
public import Idealize.SL.BI.BigOpNat

@[expose] public section

/-! # Copies out of the stage, the zero chunks, and collecting what a batch delivered -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

/-! ## Collecting -/

theorem brange (n : ℕ) (A : ℕ → sProp 𝕄) : bigSep (Finset.range (n + 1)) A = iprop(A n ∗ bigSep (Finset.range n) A) := by
  rw [Finset.range_add_one]; exact bigSep_insert Finset.notMem_range_self

/-- The pieces taken off one by one, and what is left of them, are the whole. -/
theorem gather {ℓ : Loc nD τ sig} {q : PosShare TreeShare} {f : Buf (Elt F) ℓ} (C R : ℕ → Finset (Idx ℓ)) :
    ∀ n, (∀ k, k < n → C k ⊆ R k) → (∀ k, k < n → R (k + 1) = R k \ C k) →
      iprop(bigSep (Finset.range n) (fun k => (ℓ ↦[C k]{q} f : sProp 𝕄)) ∗ (ℓ ↦[R n]{q} f)) ⊢ (ℓ ↦[R 0]{q} f)
  | 0, _, _ => by
    rw [Finset.range_zero, bigSep_empty]
    iintro ⟨_, H⟩
    iexact H
  | n + 1, hC, hR => by
    refine BIBase.Entails.trans ?_ (gather C R n (fun k hk => hC k (by omega)) (fun k hk => hR k (by omega)))
    rw [brange, hR n (by omega)]
    iintro ⟨⟨H1, H2⟩, H3⟩
    isplitl [H2]; · iexact H2
    iapply (pointsTo_split_subset (hC n (by omega))).2
    isplitl [H1]; · iexact H1
    iexact H3

theorem bsep {J : Type} (s : Finset J) (A B : J → sProp 𝕄) : bigSep s (fun k => iprop(A k ∗ B k)) = iprop(bigSep s A ∗ bigSep s B) := bigSep_sep s A B

theorem fin_range {n : ℕ} (P : ℕ → sProp 𝕄) : bigSep (Finset.univ : Finset (Fin n)) (fun i => P i.val) = bigSep (Finset.range n) P := by
  rw [← Nat.Iio_eq_range, ← Fin.map_valEmbedding_univ, bigSep_map]; rfl

/-- A batch's deliveries of two arrays' pieces, with what was left of the arrays. -/
theorem gather2 {n : ℕ} {ℓ ℓ' : Loc nD τ sig} {q q' : PosShare TreeShare} {f : Buf (Elt F) ℓ} {f' : Buf (Elt F) ℓ'}
    (C R : ℕ → Finset (Idx ℓ)) (C' R' : ℕ → Finset (Idx ℓ'))
    (hC : ∀ k, k < n → C k ⊆ R k) (hR : ∀ k, k < n → R (k + 1) = R k \ C k) (hC' : ∀ k, k < n → C' k ⊆ R' k) (hR' : ∀ k, k < n → R' (k + 1) = R' k \ C' k) :
    iprop(bigSep (Finset.univ : Finset (Fin n)) (fun k => iprop((ℓ ↦[C k.val]{q} f : sProp 𝕄) ∗ (ℓ' ↦[C' k.val]{q'} f'))) ∗ (ℓ ↦[R n]{q} f) ∗ (ℓ' ↦[R' n]{q'} f'))
      ⊢ iprop((ℓ ↦[R 0]{q} f) ∗ (ℓ' ↦[R' 0]{q'} f')) := by
  rw [bsep, fin_range (fun k => (ℓ ↦[C k]{q} f : sProp 𝕄)), fin_range (fun k => (ℓ' ↦[C' k]{q'} f' : sProp 𝕄))]
  iintro ⟨⟨H1, H2⟩, H3, H4⟩
  isplitl [H1 H3]
  · iapply (gather C R n hC hR)
    isplitl [H1]; · iexact H1
    iexact H3
  · iapply (gather C' R' n hC' hR')
    isplitl [H2]; · iexact H2
    iexact H4

/-! ## A slot between two documents -/

/-- Slot `s` with no transfer on its way, its buffers as after `t` documents. -/
def Free (I : Inp F) (c : Dev nD) (s t : ℕ) : sProp 𝕄 :=
  iprop(semVal ((c : Thread nD τ), .dma (inS s)) 0 ∗ semVal ((c : Thread nD τ), .dma (scS s)) 0
    ∗ ((c : Thread nD τ).loc cc0_scratch0 ↦[dset (s % 2) 0]{fullShare} dbf I t) ∗ ((c : Thread nD τ).loc cc0_scratch1 ↦[sset (s % 2) 0]{fullShare} sbf I t)
    ∗ ((c : Thread nD τ).loc main_arg2 ↦[Finset.univ]{hs s} I.codes) ∗ ((c : Thread nD τ).loc main_v14 ↦[Finset.univ]{hs s} I.scl))

theorem inS_mod (s t : ℕ) (h : s % 2 = t % 2) : inS s = inS t := by
  unfold inS; congr 1; funext a; apply Fin.ext; obtain rfl : a = 0 := Subsingleton.elim _ _; exact h
theorem scS_mod (s t : ℕ) (h : s % 2 = t % 2) : scS s = scS t := by
  unfold scS; congr 1; funext a; apply Fin.ext; obtain rfl : a = 0 := Subsingleton.elim _ _; exact h
theorem Free_mod (I : Inp F) (c : Dev nD) (s s' t : ℕ) (h : s % 2 = s' % 2) : Free I c s t = Free I c s' t := by
  unfold Free hs; rw [inS_mod s s' h, scS_mod s s' h, h]

/-- The other slot's document leaves this slot's contents. -/
theorem Free_step (I : Inp F) (c : Dev nD) (s t : ℕ) (h : s % 2 ≠ t % 2) : Free I c s t = Free I c s (t + 1) := by
  unfold Free
  rw [pointsTo_congr (g := dbf I (t + 1)) (fun x hx => ?_), pointsTo_congr (ℓ := (c : Thread nD τ).loc cc0_scratch1) (g := sbf I (t + 1)) (fun x hx => ?_)]
  · have := (Finset.mem_filter.1 hx).2.1
    show sbf I t x = sbf I (t + 1) x
    conv_rhs => unfold sbf
    rw [if_neg]; intro hh; omega
  · have := (Finset.mem_filter.1 hx).2.1
    show dbf I t x = dbf I (t + 1) x
    conv_rhs => unfold dbf
    rw [if_neg]; intro hh; omega

theorem crest_zero (c : ℕ) : crest c 0 = Finset.univ := by
  ext x; simp only [crest, Finset.mem_filter, Finset.mem_univ, true_and, iff_true]; omega
theorem srest_zero (c : ℕ) : srest c 0 = Finset.univ := by
  ext x; simp only [srest, Finset.mem_filter, Finset.mem_univ, true_and, iff_true]; omega

/-- A free slot is ready for its next document. -/
theorem Free_alloc (I : Inp F) (c : Dev nD) (t : ℕ) : Free I c t t ⊢ |={Set.univ}=> iprop(InC I c t 0 0 ∗ InS I c t 0 0) := by
  unfold Free InC InS
  iintro ⟨Hv, Hw, H0, H1, H2, H3⟩
  imod (Transfers.batch_alloc' (E := Set.univ) EC (c : Thread nD τ) () NC (DC I c t)) $$ Hv with HB
  imod (Transfers.batch_alloc' (E := Set.univ) EC (c : Thread nD τ) () NS (DS I c t)) $$ Hw with HB'
  imodintro
  rw [crest_zero, srest_zero]
  isplitl [H2 H0 HB]
  · isplitl [H2]; · iexact H2
    isplitl [H0]; · iexact H0
    iexact HB
  · isplitl [H3]; · iexact H3
    isplitl [H1]; · iexact H1
    iexact HB'

/-- A document wholly received leaves its slot free. -/
theorem Free_collect (I : Inp F) (c : Dev nD) (t : ℕ) :
    iprop(InC I c t (I.n t) (NC * I.n t) ∗ InS I c t (I.n t) (NS * I.n t)) ⊢ |={Set.univ}=> Free I c t (t + 1) := by
  unfold Free InC InS
  have hd : ((c : Thread nD τ).loc cc0_scratch0 ↦[dset (t % 2) (I.n t)]{fullShare} dbf I t : sProp 𝕄) = ((c : Thread nD τ).loc cc0_scratch0 ↦[dset (t % 2) (I.n t)]{fullShare} dbf I (t + 1)) :=
    pointsTo_congr fun x hx => by
      have := (Finset.mem_filter.1 hx).2.2
      show dbf I t x = dbf I (t + 1) x
      conv_rhs => unfold dbf
      rw [if_neg]; intro hh; omega
  have hs' : ((c : Thread nD τ).loc cc0_scratch1 ↦[sset (t % 2) (I.n t)]{fullShare} sbf I t : sProp 𝕄) = ((c : Thread nD τ).loc cc0_scratch1 ↦[sset (t % 2) (I.n t)]{fullShare} sbf I (t + 1)) :=
    pointsTo_congr fun x hx => by
      have := (Finset.mem_filter.1 hx).2.2
      show sbf I t x = sbf I (t + 1) x
      conv_rhs => unfold sbf
      rw [if_neg]; intro hh; omega
  rw [hd, hs']
  have g1 := gather2 (F := F) (n := I.n t) (ℓ := (c : Thread nD τ).loc cc0_scratch0) (ℓ' := (c : Thread nD τ).loc main_arg2) (q := fullShare) (q' := hs t) (f := dbf I (t + 1)) (f' := I.codes)
    (fun k => dchk (t % 2) k) (fun k => dset (t % 2) k) (fun k => cchk (I.c0 t + k)) (fun k => crest (I.c0 t) k)
    (fun k hk x => by simp only [dchk, dset, Finset.mem_filter, Finset.mem_univ, true_and]; omega)
    (fun k hk => by ext x; simp only [dchk, dset, Finset.mem_filter, Finset.mem_univ, true_and, Finset.mem_sdiff]; omega)
    (fun k hk x => by simp only [cchk, crest, Finset.mem_filter, Finset.mem_univ, true_and]; omega)
    (fun k hk => by ext x; simp only [cchk, crest, Finset.mem_filter, Finset.mem_univ, true_and, Finset.mem_sdiff]; omega)
  have g2 := gather2 (F := F) (n := I.n t) (ℓ := (c : Thread nD τ).loc cc0_scratch1) (ℓ' := (c : Thread nD τ).loc main_v14) (q := fullShare) (q' := hs t) (f := sbf I (t + 1)) (f' := I.scl)
    (fun k => schk (t % 2) k) (fun k => sset (t % 2) k) (fun k => sschk (I.c0 t + k)) (fun k => srest (I.c0 t) k)
    (fun k hk x => by simp only [schk, sset, Finset.mem_filter, Finset.mem_univ, true_and]; omega)
    (fun k hk => by ext x; simp only [schk, sset, Finset.mem_filter, Finset.mem_univ, true_and, Finset.mem_sdiff]; omega)
    (fun k hk x => by simp only [sschk, srest, Finset.mem_filter, Finset.mem_univ, true_and]; omega)
    (fun k hk => by ext x; simp only [sschk, srest, Finset.mem_filter, Finset.mem_univ, true_and, Finset.mem_sdiff]; omega)
  beta_reduce at g1 g2
  rw [crest_zero] at g1
  rw [srest_zero] at g2
  iintro ⟨⟨HA, HD, HB⟩, HA', HD', HB'⟩
  imod (Transfers.batch_collect' EC (c : Thread nD τ) (show 0 < NC by decide)) $$ HB with ⟨HDD, Hv⟩
  imod (Transfers.batch_collect' EC (c : Thread nD τ) (show 0 < NS by decide)) $$ HB' with ⟨HDD', Hw⟩
  imodintro
  ihave G1 := g1 $$ [HDD HD HA]
  · isplitl [HDD]; · iexact HDD
    isplitl [HD]; · iexact HD
    iexact HA
  ihave G2 := g2 $$ [HDD' HD' HA']
  · isplitl [HDD']; · iexact HDD'
    isplitl [HD']; · iexact HD'
    iexact HA'
  icases G1 with ⟨G1, G1'⟩
  icases G2 with ⟨G2, G2'⟩
  isplitl [Hv]; · iexact Hv
  isplitl [Hw]; · iexact Hw
  isplitl [G1]; · iexact G1
  isplitl [G2]; · iexact G2
  isplitl [G1']; · iexact G1'
  iexact G2'

/-! ## Copies out -/

/-- Rows of the result in chunks `a` to `b`. -/
def rge (a b : ℕ) : Finset S172032x128.Idx := Finset.univ.filter fun x => 128 * a ≤ (x 0).val ∧ (x 0).val < 128 * b
/-- Rows of the stage outside `j` chunks from chunk `o`. -/
def sout (o j : ℕ) : Finset S640x128.Idx := Finset.univ.filter fun x => ¬ (128 * o ≤ (x 0).val ∧ (x 0).val < 128 * (o + j))
/-- Chunk `o` of the stage. -/
def stc (o : ℕ) : Finset S640x128.Idx := Finset.univ.filter fun x => 128 * o ≤ (x 0).val ∧ (x 0).val < 128 * o + 128

/-- The rows of the result a copy writes. -/
abbrev omem (off : Fin 2 → ℕ) (h : ∀ a, off a + S128x128.size a ≤ S172032x128.size a) : Memref sig .tc .hbm S128x128 .bf16 :=
  (Memref.whole main_v15_1 : Memref sig .tc .hbm S172032x128 .bf16).slice (Rect.unit (s := S172032x128) off S128x128.size h) (fun _ => rfl)
/-- The rows of the stage a copy reads. -/
abbrev gmem (off : Fin 2 → ℕ) (h : ∀ a, off a + S128x128.size a ≤ S640x128.size a) : Memref sig .tc .vmem S128x128 .bf16 :=
  (Memref.whole cc0_scratch4 : Memref sig .tc .vmem S640x128 .bf16).slice (Rect.unit (s := S640x128) off S128x128.size h) (fun _ => rfl)
/-- The zero chunk. -/
abbrev zmem : Memref sig .tc .vmem S128x128 .bf16 := Memref.whole cc0_scratch6

theorem omem_emb (off h) (y : S128x128.Idx) : ∃ x : S172032x128.Idx, (omem off h).view.emb y = x
    ∧ (x 0).val = off 0 + (y 0).val ∧ (x 1).val = off 1 + (y 1).val := by
  refine ⟨_, rfl, ?_, ?_⟩
  all_goals
    show ((Rect.unit (s := S172032x128) off S128x128.size h).emb y _).val = _
    rw [Rect.emb_apply]
  · show off 0 + 1 * (y 0).val = _; omega
  · show off 1 + 1 * (y 1).val = _; omega
theorem omem_set (off h) (r : ℕ) (ho : off = ![128 * r, 0]) : (omem off h).view.set = rge r (r + 1) := by
  subst ho
  ext x
  rw [view_mem]
  unfold rge; rw [Finset.mem_filter]
  have l2 : ((x : S172032x128.Idx) 1).val < 128 := (x 1).isLt
  constructor
  · rintro ⟨y, rfl⟩
    obtain ⟨z, hz, h0, h1⟩ := omem_emb _ h y
    rw [hz]
    have := (y 0).isLt
    change (z 0).val = 128 * r + (y 0).val at h0
    change (y 0).val < 128 at this
    exact ⟨Finset.mem_univ _, by omega⟩
  · rintro ⟨-, h0, h1⟩
    refine ⟨i2 ((x 0).val - 128 * r) (x 1).val, ?_⟩
    obtain ⟨z, hz, e0, e1⟩ := omem_emb _ h (i2 ((x 0).val - 128 * r) (x 1).val)
    rw [hz]
    rw [i2_0 _ _ (by omega)] at e0
    rw [i2_1 _ _ l2] at e1
    refine ext2 (e0.trans ?_) (e1.trans ?_)
    · show 128 * r + _ = _; omega
    · show 0 + _ = _; omega
theorem gmem_emb (off h) (y : S128x128.Idx) : ∃ x : S640x128.Idx, (gmem off h).view.emb y = x
    ∧ (x 0).val = off 0 + (y 0).val ∧ (x 1).val = off 1 + (y 1).val := by
  refine ⟨_, rfl, ?_, ?_⟩
  all_goals
    show ((Rect.unit (s := S640x128) off S128x128.size h).emb y _).val = _
    rw [Rect.emb_apply]
  · show off 0 + 1 * (y 0).val = _; omega
  · show off 1 + 1 * (y 1).val = _; omega
theorem gmem_set (off h) (r : ℕ) (ho : off = ![128 * r, 0]) : (gmem off h).view.set = stc r := by
  subst ho
  ext x
  rw [view_mem]
  unfold stc; rw [Finset.mem_filter]
  have l2 : ((x : S640x128.Idx) 1).val < 128 := (x 1).isLt
  constructor
  · rintro ⟨y, rfl⟩
    obtain ⟨z, hz, h0, h1⟩ := gmem_emb _ h y
    rw [hz]
    have := (y 0).isLt
    change (z 0).val = 128 * r + (y 0).val at h0
    change (y 0).val < 128 at this
    exact ⟨Finset.mem_univ _, by omega⟩
  · rintro ⟨-, h0, h1⟩
    refine ⟨i2 ((x 0).val - 128 * r) (x 1).val, ?_⟩
    obtain ⟨z, hz, e0, e1⟩ := gmem_emb _ h (i2 ((x 0).val - 128 * r) (x 1).val)
    rw [hz]
    rw [i2_0 _ _ (by omega)] at e0
    rw [i2_1 _ _ l2] at e1
    refine ext2 (e0.trans ?_) (e1.trans ?_)
    · show 128 * r + _ = _; omega
    · show 0 + _ = _; omega

theorem zmem_set : zmem.view.set = (Finset.univ : Finset S128x128.Idx) := by
  ext x; rw [view_mem]; exact iff_of_true ⟨x, rfl⟩ (Finset.mem_univ _)

/-- The semaphores of the copies out, and of the zero chunks. -/
abbrev oS : DmaSem sig := cc0_scratch9.sem
abbrev zS : DmaSem sig := cc0_scratch10.sem
/-- The units of one chunk of the result. -/
def NO : ℕ := (main_v15_1 : Ref sig .tc).dmaCredit S128x128 .bf16

/-- What the copy of the stage's chunk `o + j` to the result's chunk `b + j` delivers. -/
def DO (c : Dev nD) (G : Vec F S172032x128 .bf16) (S : Vec F S640x128 .bf16) (n b o : ℕ) (j : Fin n) : sProp 𝕄 :=
  iprop(((c : Thread nD τ).loc main_v15_1 ↦[rge (b + j.val) (b + j.val + 1)]{fullShare} G) ∗ ((c : Thread nD τ).loc cc0_scratch4 ↦[stc (o + j.val)]{fullShare} S))
instance (c : Dev nD) (G : Vec F S172032x128 .bf16) (S : Vec F S640x128 .bf16) (n b o : ℕ) (j : Fin n) : Storable (upEmb : UEmb _ 𝕄) (DO c G S n b o j) := by unfold DO; infer_instance

/-- The stage's `n` copies from chunk `o`, to the result's chunks from `b`: `j` of them issued and `u` units received. -/
def Out (c : Dev nD) (G d : Vec F S172032x128 .bf16) (T n b o : ℕ) (S : Vec F S640x128 .bf16) (j u : ℕ) : sProp 𝕄 :=
  iprop(((c : Thread nD τ).loc cc0_scratch4 ↦[sout o j]{fullShare} S) ∗ ((c : Thread nD τ).loc main_v15_1 ↦[rge (b + j) T]{fullShare} d)
    ∗ Transfers.Batch EC (c : Thread nD τ) (.dma oS) () NO (DO c G S n b o) j u)

theorem wp_issueO {c : Dev nD} {α : Type} {G d : Vec F S172032x128 .bf16} {S : Vec F S640x128 .bf16} (T n b o j : ℕ) (hj : j < n) (hT : b + n ≤ T) (hT' : T ≤ 1344)
    (hG : ∀ r k, r < 128 → k < 128 → G (i2 (128 * (b + j) + r) k) = S (i2 (128 * (o + j) + r) k)) (off h offs g)
    (ho : off = ![128 * (b + j), 0]) (hos : offs = ![128 * (o + j), 0]) {s : DmaSem sig} (hs : s = oS) {hsrc hdst hsem}
    {K : PUnit → Prog (TpuEff nD τ sig (Elt F) Λ₀ .tc) α} {Q : α → sProp 𝕄} :
    Out c G d T n b o S j 0 ⊢ iprop((Out c G d T n b o S (j + 1) 0 -∗ WP c (K ⟨⟩) Q)
      -∗ WP c (Prog.lift (.enqueueDma (gmem offs g) (.here (omem off h)) (.dma s) hsrc hdst hsem) >>= K) Q) := by
  subst hs
  unfold Out
  have hs1 := omem_set off h (b + j) ho
  have hs2 := gmem_set offs g (o + j) hos
  refine wp_issue (c := c) (src := gmem offs g) (dst := omem off h) (n := n) (g := G) NO (sout o j) (sout o (j + 1)) (rge (b + j) T) (rge (b + (j + 1)) T)
    rfl hj (Nat.zero_le _) ?_ ?_ ?_ ?_ ?_ ?_
  · rw [hs2]; intro x; simp only [stc, sout, Finset.mem_filter, Finset.mem_univ, true_and]; omega
  · rw [hs2]; ext x; simp only [stc, sout, Finset.mem_filter, Finset.mem_univ, true_and, Finset.mem_sdiff]; omega
  · rw [hs1]; intro x; simp only [rge, Finset.mem_filter, Finset.mem_univ, true_and]; omega
  · rw [hs1]; ext x; simp only [rge, Finset.mem_filter, Finset.mem_univ, true_and, Finset.mem_sdiff]; omega
  · subst ho hos
    intro x hx
    obtain ⟨y, rfl⟩ := (view_mem _ _).1 hx
    rw [View.write_emb_of_mem (h := Finset.mem_univ _)]
    obtain ⟨z, hz, e0, e1⟩ := omem_emb _ h y
    obtain ⟨u, hu, d0, d1⟩ := gmem_emb _ g y
    have l0 := (y 0).isLt
    have l1 := (y 1).isLt
    change (y 0).val < 128 at l0
    change (y 1).val < 128 at l1
    change (z 0).val = 128 * (b + j) + (y 0).val at e0
    change (z 1).val = 0 + (y 1).val at e1
    change (u 0).val = 128 * (o + j) + (y 0).val at d0
    change (u 1).val = 0 + (y 1).val at d1
    rw [hz]
    show S ((gmem _ g).view.emb y) = _
    rw [hu, ← i2_eq z (128 * (b + j) + (y 0).val) (y 1).val (by omega) (by omega), ← i2_eq u (128 * (o + j) + (y 0).val) (y 1).val (by omega) (by omega)]
    exact (hG _ _ l0 l1).symm
  · rw [hs1, hs2]; rfl

theorem wp_waitO {c : Dev nD} {α : Type} {G d : Vec F S172032x128 .bf16} {S : Vec F S640x128 .bf16} {T n b o : ℕ} (k : ℕ) (hk : k < n) {off h offs g} {s : DmaSem sig} (hs : s = oS) {hsrc hdst}
    {K : PUnit → Prog (TpuEff nD τ sig (Elt F) Λ₀ .tc) α} {Q : α → sProp 𝕄} :
    iprop(Ow c ∗ Out c G d T n b o S n (NO * k)) ⊢ iprop((iprop(Ow c ∗ Out c G d T n b o S n (NO * (k + 1))) -∗ WP c (K ⟨⟩) Q)
      -∗ WP c (Prog.lift (.waitDma2 s (gmem offs g) (omem off h) hsrc hdst) >>= K) Q) := by
  subst hs
  unfold Out Ow
  have hJ : (omem off h).view.dmaCredit = 1 * NO := (one_mul _).symm
  have hu : NO * k + 1 * NO ≤ NO * n := by rw [one_mul, ← Nat.mul_succ]; exact Nat.mul_le_mul_left _ hk
  iintro ⟨⟨%W, HO⟩, HA, HD, HB⟩ Hk
  iapply (Transfers.wp_waitBatchMul EC Variants.none (c : Thread nD τ) none () (srcw := gmem offs g) (dstw := omem off h) (N := NO) 1 hJ hu (W := W)) $$ [HB HO]
  · isplitl [HB]; · iexact HB
    iexact HO
  iintro ⟨HB, HO⟩
  iapply Hk
  isplitl [HO]; · iexists _; iexact HO
  isplitl [HA]; · iexact HA
  isplitl [HD]; · iexact HD
  rw [show NO * k + 1 * NO = NO * (k + 1) by rw [Nat.mul_succ, one_mul]]
  iexact HB

theorem Out_alloc (c : Dev nD) (G d : Vec F S172032x128 .bf16) (T n b o : ℕ) (S : Vec F S640x128 .bf16) :
    iprop(semVal ((c : Thread nD τ), .dma oS) 0 ∗ ((c : Thread nD τ).loc cc0_scratch4 ↦[Finset.univ]{fullShare} S) ∗ ((c : Thread nD τ).loc main_v15_1 ↦[rge b T]{fullShare} d))
      ⊢ |={Set.univ}=> Out c G d T n b o S 0 0 := by
  unfold Out
  iintro ⟨Hv, H1, H2⟩
  imod (Transfers.batch_alloc' (E := Set.univ) EC (c : Thread nD τ) () NO (DO c G S n b o)) $$ Hv with HB
  imodintro
  rw [show sout o 0 = Finset.univ by ext x; simp only [sout, Finset.mem_filter, Finset.mem_univ, true_and, iff_true]; omega]
  isplitl [H1]; · iexact H1
  isplitl [H2]; · iexact H2
  iexact HB

/-- The copies collected, with the rows already written. -/
theorem Out_collect (c : Dev nD) (G d : Vec F S172032x128 .bf16) (T n b o : ℕ) (S : Vec F S640x128 .bf16) :
    iprop(Out c G d T n b o S n (NO * n) ∗ ((c : Thread nD τ).loc main_v15_1 ↦[rge 0 b]{fullShare} G))
      ⊢ |={Set.univ}=> iprop(semVal ((c : Thread nD τ), .dma oS) 0 ∗ ((c : Thread nD τ).loc cc0_scratch4 ↦[Finset.univ]{fullShare} S)
        ∗ ((c : Thread nD τ).loc main_v15_1 ↦[rge (b + n) T]{fullShare} d) ∗ ((c : Thread nD τ).loc main_v15_1 ↦[rge 0 (b + n)]{fullShare} G)) := by
  unfold Out
  have g1 := gather2 (F := F) (n := n) (ℓ := (c : Thread nD τ).loc main_v15_1) (ℓ' := (c : Thread nD τ).loc cc0_scratch4) (q := fullShare) (q' := fullShare) (f := G) (f' := S)
    (fun k => rge (b + k) (b + k + 1)) (fun k => rge (b + k) (b + n)) (fun k => stc (o + k)) (fun k => sout o k)
    (fun k hk x => by simp only [rge, Finset.mem_filter, Finset.mem_univ, true_and]; omega)
    (fun k hk => by ext x; simp only [rge, Finset.mem_filter, Finset.mem_univ, true_and, Finset.mem_sdiff]; omega)
    (fun k hk x => by simp only [stc, sout, Finset.mem_filter, Finset.mem_univ, true_and]; omega)
    (fun k hk => by ext x; simp only [stc, sout, Finset.mem_filter, Finset.mem_univ, true_and, Finset.mem_sdiff]; omega)
  beta_reduce at g1
  rw [show rge (b + n) (b + n) = ∅ by ext x; simp only [rge, Finset.mem_filter, Finset.mem_univ, true_and, Finset.notMem_empty, iff_false]; omega, pointsTo_empty,
    show sout o 0 = Finset.univ by ext x; simp only [sout, Finset.mem_filter, Finset.mem_univ, true_and, iff_true]; omega, Nat.add_zero] at g1
  have hJ : iprop(((c : Thread nD τ).loc main_v15_1 ↦[rge 0 b]{fullShare} G) ∗ ((c : Thread nD τ).loc main_v15_1 ↦[rge b (b + n)]{fullShare} G)) ⊢ ((c : Thread nD τ).loc main_v15_1 ↦[rge 0 (b + n)]{fullShare} G : sProp 𝕄) := by
    have e : rge b (b + n) = rge 0 (b + n) \ rge 0 b := by
      ext x; simp only [rge, Finset.mem_filter, Finset.mem_univ, true_and, Finset.mem_sdiff]; omega
    rw [e]
    refine (pointsTo_split_subset ?_).2
    intro x; simp only [rge, Finset.mem_filter, Finset.mem_univ, true_and]; omega
  iintro ⟨⟨HA, HD, HB⟩, HG⟩
  imod (Transfers.batch_collect' EC (c : Thread nD τ) (show 0 < NO by decide)) $$ HB with ⟨HDD, Hv⟩
  imodintro
  ihave G1 := g1 $$ [HDD HA]
  · isplitl [HDD]; · iexact HDD
    isplitr; · iempintro
    iexact HA
  icases G1 with ⟨G1, G2⟩
  isplitl [Hv]; · iexact Hv
  isplitl [G2]; · iexact G2
  isplitl [HD]; · iexact HD
  iapply hJ
  isplitl [HG]; · iexact HG
  iexact G1

/-! ## The zero chunks -/

/-- The zero chunk. -/
abbrev zv : Vec F S128x128 .bf16 := Gen.k0_pay5

/-- What the copy of the zero chunk to the result's chunk `T + j` delivers. -/
def DZ (c : Dev nD) (G : Vec F S172032x128 .bf16) (T n : ℕ) (j : Fin n) : sProp 𝕄 :=
  iprop(((c : Thread nD τ).loc main_v15_1 ↦[rge (T + j.val) (T + j.val + 1)]{fullShare} G) ∗ ((c : Thread nD τ).loc cc0_scratch6 ↦[Finset.univ]{Transfers.shareTokN fullShare j.val} zv))
instance (c : Dev nD) (G : Vec F S172032x128 .bf16) (T n : ℕ) (j : Fin n) : Storable (upEmb : UEmb _ 𝕄) (DZ c G T n j) := by unfold DZ; infer_instance

/-- The zero copies: `j` issued, `u` units received. -/
def Zo (c : Dev nD) (G d : Vec F S172032x128 .bf16) (T n j u : ℕ) : sProp 𝕄 :=
  iprop(((c : Thread nD τ).loc cc0_scratch6 ↦[Finset.univ]{Transfers.shareDrop fullShare n} zv)
    ∗ bigSep (Finset.Ico j n) (fun i => ((c : Thread nD τ).loc cc0_scratch6 ↦[Finset.univ]{Transfers.shareTokN fullShare i} zv : sProp 𝕄))
    ∗ ((c : Thread nD τ).loc main_v15_1 ↦[rge (T + j) (T + n)]{fullShare} d)
    ∗ Transfers.Batch EC (c : Thread nD τ) (.dma zS) () NO (DZ c G T n) j u)

theorem wp_issueZ {c : Dev nD} {α : Type} {G d : Vec F S172032x128 .bf16} (T n j : ℕ) (hj : j < n) (hT : T + n = 1344)
    (hG : ∀ x : S172032x128.Idx, 128 * T ≤ (x 0).val → G x = FloatOps.ofBits .bf16 0#16) (off h)
    (ho : off = ![128 * (T + j), 0]) {s : DmaSem sig} (hs : s = zS) {hsrc hdst hsem}
    {K : PUnit → Prog (TpuEff nD τ sig (Elt F) Λ₀ .tc) α} {Q : α → sProp 𝕄} :
    Zo c G d T n j 0 ⊢ iprop((Zo c G d T n (j + 1) 0 -∗ WP c (K ⟨⟩) Q)
      -∗ WP c (Prog.lift (.enqueueDma zmem (.here (omem off h)) (.dma s) hsrc hdst hsem) >>= K) Q) := by
  subst hs
  unfold Zo
  have hs1 := omem_set off h (T + j) ho
  have H := wp_issue (c := c) (src := zmem) (dst := omem off h) (n := n) (g := G) (u := 0) (q := Transfers.shareTokN fullShare j) (fs := (zv (F := F))) (fd := d) (D := DZ c G T n) (hsrc := hsrc) (hdst := hdst) (hsem := hsem) (k := K) (Q := Q)
    NO Finset.univ ∅ (rge (T + j) (T + n)) (rge (T + (j + 1)) (T + n))
    rfl hj (Nat.zero_le _) (Finset.subset_univ _) (by rw [zmem_set]; exact (Finset.sdiff_self _).symm) ?_ ?_ ?_ ?_
  · rw [bigSep_Ico_succ_bot hj]
    iintro ⟨HA, ⟨HT, HR⟩, HD, HB⟩ Hk
    iapply H $$ [HT HD HB]
    · isplitl [HT]; · iexact HT
      isplitl [HD]; · iexact HD
      iexact HB
    iintro ⟨_, HD, HB⟩
    iapply Hk
    isplitl [HA]; · iexact HA
    isplitl [HR]; · iexact HR
    isplitl [HD]; · iexact HD
    iexact HB
  · rw [hs1]; intro x; simp only [rge, Finset.mem_filter, Finset.mem_univ, true_and]; omega
  · rw [hs1]; ext x; simp only [rge, Finset.mem_filter, Finset.mem_univ, true_and, Finset.mem_sdiff]; omega
  · intro x hx
    have hx2 := hx
    rw [hs1] at hx2
    obtain ⟨y, rfl⟩ := (view_mem _ _).1 hx
    rw [View.write_emb_of_mem (h := Finset.mem_univ _), hG _ (by have := (Finset.mem_filter.1 hx2).2.1; omega)]
    rfl
  · rw [hs1, zmem_set]; rfl

theorem wp_waitZ {c : Dev nD} {α : Type} {G d : Vec F S172032x128 .bf16} {T n : ℕ} (k : ℕ) (hk : k < n) {off h} {s : DmaSem sig} (hs : s = zS) {hsrc hdst}
    {K : PUnit → Prog (TpuEff nD τ sig (Elt F) Λ₀ .tc) α} {Q : α → sProp 𝕄} :
    iprop(Ow c ∗ Zo c G d T n n (NO * k)) ⊢ iprop((iprop(Ow c ∗ Zo c G d T n n (NO * (k + 1))) -∗ WP c (K ⟨⟩) Q)
      -∗ WP c (Prog.lift (.waitDma2 s zmem (omem off h) hsrc hdst) >>= K) Q) := by
  subst hs
  unfold Zo Ow
  have hJ : (omem off h).view.dmaCredit = 1 * NO := (one_mul _).symm
  have hu : NO * k + 1 * NO ≤ NO * n := by rw [one_mul, ← Nat.mul_succ]; exact Nat.mul_le_mul_left _ hk
  iintro ⟨⟨%W, HO⟩, HA, HE, HD, HB⟩ Hk
  iapply (Transfers.wp_waitBatchMul EC Variants.none (c : Thread nD τ) none () (srcw := zmem) (dstw := omem off h) (N := NO) 1 hJ hu (W := W)) $$ [HB HO]
  · isplitl [HB]; · iexact HB
    iexact HO
  iintro ⟨HB, HO⟩
  iapply Hk
  isplitl [HO]; · iexists _; iexact HO
  isplitl [HA]; · iexact HA
  isplitl [HE]; · iexact HE
  isplitl [HD]; · iexact HD
  rw [show NO * k + 1 * NO = NO * (k + 1) by rw [Nat.mul_succ, one_mul]]
  iexact HB

theorem Zo_alloc (c : Dev nD) (G d : Vec F S172032x128 .bf16) (T n : ℕ) :
    iprop(semVal ((c : Thread nD τ), .dma zS) 0 ∗ ((c : Thread nD τ).loc cc0_scratch6 ↦[Finset.univ]{fullShare} zv) ∗ ((c : Thread nD τ).loc main_v15_1 ↦[rge T (T + n)]{fullShare} d))
      ⊢ |={Set.univ}=> Zo c G d T n 0 0 := by
  unfold Zo
  iintro ⟨Hv, H1, H2⟩
  imod (Transfers.batch_alloc' (E := Set.univ) EC (c : Thread nD τ) () NO (DZ c G T n)) $$ Hv with HB
  imodintro
  ihave H1' := (Transfers.pointsTo_toks_range fullShare n).1 $$ H1
  icases H1' with ⟨H1, H3⟩
  isplitl [H1]; · iexact H1
  rw [← Finset.range_eq_Ico]
  isplitl [H3]; · iexact H3
  isplitl [H2]; · iexact H2
  iexact HB

theorem Zo_collect (c : Dev nD) (G d : Vec F S172032x128 .bf16) (T n : ℕ) :
    Zo c G d T n n (NO * n) ⊢ |={Set.univ}=> iprop(semVal ((c : Thread nD τ), .dma zS) 0 ∗ ((c : Thread nD τ).loc cc0_scratch6 ↦[Finset.univ]{fullShare} zv)
        ∗ ((c : Thread nD τ).loc main_v15_1 ↦[rge T (T + n)]{fullShare} G)) := by
  unfold Zo
  have g1 := gather (F := F) (ℓ := (c : Thread nD τ).loc main_v15_1) (q := fullShare) (f := G)
    (fun k => rge (T + k) (T + k + 1)) (fun k => rge (T + k) (T + n)) n
    (fun k hk x => by simp only [rge, Finset.mem_filter, Finset.mem_univ, true_and]; omega)
    (fun k hk => by ext x; simp only [rge, Finset.mem_filter, Finset.mem_univ, true_and, Finset.mem_sdiff]; omega)
  beta_reduce at g1
  rw [show rge (T + n) (T + n) = ∅ by ext x; simp only [rge, Finset.mem_filter, Finset.mem_univ, true_and, Finset.notMem_empty, iff_false]; omega, pointsTo_empty] at g1
  have hD : bigSep Finset.univ (DZ c G T n) ⊢ iprop(bigSep (Finset.range n) (fun k => ((c : Thread nD τ).loc main_v15_1 ↦[rge (T + k) (T + k + 1)]{fullShare} G : sProp 𝕄))
      ∗ bigSep (Finset.range n) (fun k => ((c : Thread nD τ).loc cc0_scratch6 ↦[Finset.univ]{Transfers.shareTokN fullShare k} (zv : Vec F S128x128 .bf16) : sProp 𝕄))) := by
    unfold DZ
    rw [bsep, ← fin_range (n := n), ← fin_range (n := n)]
  iintro ⟨HA, HE, HD, HB⟩
  imod (Transfers.batch_collect' EC (c : Thread nD τ) (show 0 < NO by decide)) $$ HB with ⟨HDD, Hv⟩
  imodintro
  ihave HX := hD $$ HDD
  icases HX with ⟨H1, H2⟩
  isplitl [Hv]; · iexact Hv
  isplitl [HA H2]
  · iapply (Transfers.pointsTo_toks_range fullShare n).2
    isplitl [HA]; · iexact HA
    iexact H2
  iapply g1
  isplitl [H1]; · iexact H1
  iempintro

end Cert.KernelIdeal.Hand
-- ==== Proof.State.lean ====
module

public import proofs.«01_k».proof.Proof.Out

@[expose] public section

/-! # What the kernel computes, document by document -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]
variable (I : Inp F)

/-- The multi-index of three coordinates. -/
def i3 {l m n : ℕ} [NeZero l] [NeZero m] [NeZero n] (b r k : ℕ) : (⟨3, ![l, m, n]⟩ : Shape).Idx :=
  Fin.cons (⟨b % l, Nat.mod_lt _ (NeZero.pos l)⟩ : Fin l) (Fin.cons (⟨r % m, Nat.mod_lt _ (NeZero.pos m)⟩ : Fin m) (Fin.cons (⟨k % n, Nat.mod_lt _ (NeZero.pos n)⟩ : Fin n) (fun a => a.elim0)))

theorem i3_eq {l m n : ℕ} [NeZero l] [NeZero m] [NeZero n] (x : (⟨3, ![l, m, n]⟩ : Shape).Idx) (b r k : ℕ) (h0 : (x 0).val = b) (h1 : (x 1).val = r) (h2 : (x 2).val = k) : i3 b r k = x := by
  funext a; apply Fin.ext
  have l0 : (x 0).val < l := (x 0).isLt
  have l1 : (x 1).val < m := (x 1).isLt
  have l2 : (x 2).val < n := (x 2).isLt
  fin_cases a
  · show b % l = (x 0).val; rw [← h0, Nat.mod_eq_of_lt l0]
  · show r % m = (x 1).val; rw [← h1, Nat.mod_eq_of_lt l1]
  · show k % n = (x 2).val; rw [← h2, Nat.mod_eq_of_lt l2]

/-- The window rows of document `t`'s hits. -/
def HX (t : ℕ) : IVec S28x128 32 := Gen.k0_pay34 (I.stw t) (I.stw t) (I.idx t)
/-- The weights of document `t`'s hits. -/
def HW (t : ℕ) : FVec F S28x128 .f32 := Gen.k0_pay35 (I.w t)
/-- One entry of the weighted one-hot matrix: the weight where the row is the hit's. -/
def pel (row a : BitVec 32) (w : F .f32) : F .bf16 := FloatOps.truncf .bf16 (by decide) (if row = a then w else FloatOps.ofBits .f32 0x00000000#32)
/-- The weighted one-hot matrix of hits with rows `v` and weights `w`. -/
def Pmat (v : IVec S28x128 32) (w : FVec F S28x128 .f32) : Vec F S640x3584 .bf16 :=
  fun x => pel (BitVec.ofNat 32 (x 0).val) (v (i2 ((x 1).val / 128) ((x 1).val % 128))) (w (i2 ((x 1).val / 128) ((x 1).val % 128)))
/-- The weighted one-hot matrix of document `t`. -/
def Pm (t : ℕ) : Vec F S640x3584 .bf16 := Pmat (HX I t) (HW I t)
/-- The codes of document `t`'s window. -/
def WC (t : ℕ) : Vec F S1x640x128 .fp8e4m3 := fun y => dbf I (t + 1) (i3 (t % 2) (y 1).val (y 2).val)
/-- The scales of document `t`'s window. -/
def WS (t : ℕ) : Vec F S1x4x640 .f32 := fun y => sbf I (t + 1) (i3 (t % 2) (y 1).val (y 2).val)
/-- The queries' gradient, transposed, after `t` documents. -/
def DQ : ℕ → Vec F S128x3584 .f32
  | 0 => Gen.k0_pay3
  | t + 1 => Gen.k0_pay74 (Pm I t) (Gen.k0_pay73 (WC I t) (WS I t)) (DQ t)
/-- Document `t`'s own rows of the documents' gradient. -/
def RES (t : ℕ) : Vec F S640x128 .bf16 := Gen.k0_pay75 (Pm I t) I.qc I.qs
/-- The stage of document `t`, by the chunk carried to it. -/
def stgOf (t : ℕ) (ca : Vec F S128x128 .bf16) : Vec F S640x128 .bf16 :=
  fun x => if (x 0).val < 128 then Gen.k0_pay78 (Gen.k0_pay77 (RES I t)) ca (i2 (x 0).val (x 1).val) else Gen.k0_pay76 (RES I t) x
/-- The chunk carried to document `t`. -/
def CA : ℕ → Vec F S128x128 .bf16
  | 0 => Gen.k0_pay4
  | t + 1 => Gen.k0_pay79 (fun y => stgOf I t (CA t) (i2 (128 * I.full t + (y 0).val) (y 1).val))
/-- The stage of document `t`. -/
def STG (t : ℕ) : Vec F S640x128 .bf16 := stgOf I t (CA I t)
/-- The last document whose window starts by chunk `c`. -/
def own (c : ℕ) : ℕ := Nat.findGreatest (fun t => I.c0 t ≤ c) 335
/-- The documents' gradient. -/
def GG : Vec F S172032x128 .bf16 :=
  fun x => if (x 0).val / 128 < I.tail0 then STG I (own I ((x 0).val / 128)) (i2 ((x 0).val - 128 * I.c0 (own I ((x 0).val / 128))) (x 1).val) else FloatOps.ofBits .bf16 0#16
/-- The queries' gradient. -/
def GQ : Vec F S3584x128 .bf16 := fun y => FloatOps.truncf .bf16 (by decide) (DQ I 336 (i2 (y 1).val (y 0).val))

variable {I}
theorem c0_zero (ok : I.Ok) : I.c0 0 = 0 := by unfold Inp.c0; rw [ok.zero]
theorem c0_mono (ok : I.Ok) (t : ℕ) (ht : t < 336) : I.c0 t ≤ I.c0 (t + 1) := Nat.div_le_div_right (ok.mono t ht)
theorem c0_le (ok : I.Ok) : ∀ a b, a ≤ b → b ≤ 336 → I.c0 a ≤ I.c0 b := by
  intro a b hab hb
  induction b, hab using Nat.le_induction with
  | base => exact le_rfl
  | succ n hn ih => exact (ih (by omega)).trans (c0_mono ok n (by omega))
theorem c0_succ (ok : I.Ok) (t : ℕ) (ht : t < 336) : I.c0 t + I.full t = I.c0 (t + 1) := by
  have := c0_mono ok t ht; unfold Inp.full; omega
theorem c0_tail (ok : I.Ok) : I.c0 336 ≤ I.tail0 := by unfold Inp.c0 Inp.tail0; omega
theorem tail_le (ok : I.Ok) : I.tail0 ≤ 1344 := by have := ok.lt 336 le_rfl; unfold Inp.tail0; omega

theorem own_eq (ok : I.Ok) (t c : ℕ) (ht : t < 336) (h1 : I.c0 t ≤ c) (h2 : t < 335 → c < I.c0 (t + 1)) : own I c = t := by
  unfold own
  rw [Nat.findGreatest_eq_iff]
  refine ⟨by omega, fun _ => h1, fun n hn hn' hh => ?_⟩
  have := c0_le ok (t + 1) n hn (by omega)
  have := h2 (by omega)
  omega

theorem GG_stg (ok : I.Ok) (t j r k : ℕ) (ht : t < 336) (hj : j < I.full t ∨ t = 335) (hT : I.c0 t + j < I.tail0) (hr : r < 128) (hk : k < 128) :
    GG I (i2 (128 * (I.c0 t + j) + r) k) = STG I t (i2 (128 * j + r) k) := by
  have hT' := tail_le ok
  have e0 : ((i2 (128 * (I.c0 t + j) + r) k : S172032x128.Idx) 0).val = 128 * (I.c0 t + j) + r := i2_0 _ _ (by omega)
  have e1 : ((i2 (128 * (I.c0 t + j) + r) k : S172032x128.Idx) 1).val = k := i2_1 _ _ hk
  have ed : (128 * (I.c0 t + j) + r) / 128 = I.c0 t + j := by omega
  have eo : own I (I.c0 t + j) = t := by
    refine own_eq ok t _ ht (by omega) (fun h => ?_)
    have := c0_succ ok t ht
    omega
  unfold GG
  rw [e0, e1, ed, if_pos hT, eo]
  congr 2
  omega
theorem GG_zero (x : S172032x128.Idx) (h : 128 * I.tail0 ≤ (x 0).val) : GG I x = FloatOps.ofBits .bf16 0#16 := by
  unfold GG; rw [if_neg]; omega

/-! ## The weighted one-hot matrix is stored a block of lanes at a time -/

/-- The matrix's first `r` blocks are stored. -/
def PB (c : Dev nD) (P : Vec F S640x3584 .bf16) (r : ℕ) : sProp 𝕄 :=
  iprop(∃ f : Vec F S640x3584 .bf16, ⌜∀ x : S640x3584.Idx, (x 1).val < 128 * r → f x = P x⌝ ∗ ((c : Thread nD τ).loc cc0_scratch2 ↦[Finset.univ]{fullShare} f))

theorem PB_start {c : Dev nD} {P f : Vec F S640x3584 .bf16} : ((c : Thread nD τ).loc cc0_scratch2 ↦[Finset.univ]{fullShare} f) ⊢ PB c P 0 := by
  unfold PB
  iintro H
  iexists f
  isplitr
  · ipureintro; intro x hx; omega
  iexact H
theorem PB_end {c : Dev nD} {P : Vec F S640x3584 .bf16} : PB c P 28 ⊢ ((c : Thread nD τ).loc cc0_scratch2 ↦[Finset.univ]{fullShare} P) := by
  unfold PB
  iintro ⟨%f, %h, H⟩
  have e : f = P := funext fun x => h x (by have : (x 1).val < 3584 := (x 1).isLt; omega)
  subst e
  iexact H

/-- One block stored; the load before it reads what nothing depends on. -/
theorem wp_pst {c : Dev nD} {α : Type} {P : Vec F S640x3584 .bf16} (r : ℕ) {off off' : Fin 2 → ℕ} {h h'} {hl} {v : Vec F S640x128 .bf16} {hx hm}
    {K : PUnit → Prog (TpuEff nD τ sig (Elt F) Λ₀ .tc) α} {Q : α → sProp 𝕄} (ho : off' = ![0, 128 * r])
    (hv : ∀ (p : Fin 640) (l : Fin 128) (x : S640x3584.Idx), (x 0).val = p.val → (x 1).val = 128 * r + l.val → v (i2 p.val l.val) = P x) :
    PB c P r ⊢ iprop((PB c P (r + 1) -∗ WP c (K ⟨⟩) Q)
      -∗ WP c (Prog.lift (.load (Memref.whole cc0_scratch2 : Memref sig .tc .vmem S640x3584 .bf16) (Rect.unit (s := S640x3584) off S640x128.size h).toLoadRect hl) >>= fun _ =>
          Prog.lift (.store (Memref.whole cc0_scratch2 : Memref sig .tc .vmem S640x3584 .bf16) (Rect.unit (s := S640x3584) off' S640x128.size h') v Finset.univ hx hm) >>= K) Q) := by
  subst ho
  unfold PB
  iintro ⟨%f, %hf, H⟩ Hk
  iapply (ld2 (fun _ => Finset.mem_univ _) (fun y => f ((Rect.unit (s := S640x3584) off S640x128.size h).emb y)) (fun _ => rfl)) $$ H
  iintro H
  have e0 : ∀ y : S640x128.Idx, (((Rect.unit (s := S640x3584) ![0, 128 * r] S640x128.size h').emb y : S640x3584.Idx) 0).val = (y 0).val := fun y => by
    rw [Rect.emb_apply]; show 0 + 1 * (y 0).val = _; omega
  have e1 : ∀ y : S640x128.Idx, (((Rect.unit (s := S640x3584) ![0, 128 * r] S640x128.size h').emb y : S640x3584.Idx) 1).val = 128 * r + (y 1).val := fun y => by
    rw [Rect.emb_apply]; show 128 * r + 1 * (y 1).val = _; omega
  have hg : ∀ y : S640x128.Idx, v y = (fun x : S640x3584.Idx => if 128 * r ≤ (x 1).val ∧ (x 1).val < 128 * r + 128 then P x else f x) ((Rect.unit (s := S640x3584) ![0, 128 * r] S640x128.size h').emb y) := fun y => by
    have l1 : (y 1).val < 128 := (y 1).isLt
    refine Eq.trans ?_ (if_pos ⟨by rw [e1]; omega, by rw [e1]; omega⟩).symm
    exact (congrArg v (i2_eq y _ _ rfl rfl).symm).trans (hv ⟨(y 0).val, (y 0).isLt⟩ ⟨(y 1).val, (y 1).isLt⟩ _ (e0 y) (e1 y))
  have hg' : ∀ x : S640x3584.Idx, (∀ y : S640x128.Idx, (Rect.unit (s := S640x3584) ![0, 128 * r] S640x128.size h').emb y ≠ x) → f x = (fun x : S640x3584.Idx => if 128 * r ≤ (x 1).val ∧ (x 1).val < 128 * r + 128 then P x else f x) x := fun x hx => by
    refine (if_neg ?_).symm
    intro hh
    refine hx (i2 (x 0).val ((x 1).val - 128 * r)) (ext2 ?_ ?_)
    · have l0 : ((x : S640x3584.Idx) 0).val < 640 := (x 0).isLt
      rw [e0]; exact i2_0 _ _ l0
    · rw [e1, i2_1 _ _ (by omega)]; omega
  iapply (st2 (h := h') (v := v) (fun _ => Finset.mem_univ _) (fun x : S640x3584.Idx => if 128 * r ≤ (x 1).val ∧ (x 1).val < 128 * r + 128 then P x else f x) hg hg') $$ H
  iintro H
  iapply Hk
  iexists _
  isplitr
  rotate_left
  · iexact H
  ipureintro
  intro x hx
  by_cases h1 : 128 * r ≤ (x 1).val
  · exact if_pos ⟨h1, by omega⟩
  · exact (if_neg (fun hh => h1 hh.1)).trans (hf x (by omega))

end Cert.KernelIdeal.Hand
-- ==== Proof.OneHot.lean ====
module

public import proofs.«01_k».proof.Proof.State
public import Idealize.ShloMosaic.Lib.Pipeline.Value

@[expose] public section

/-! # The one-hot blocks -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

open Facts₀

variable [Facts]

/-- The rows' own numbers. -/
def IO : IVec S640x128 32 := iota .tc S640x128 32 [0] iota_S640x128_d0_w32

/-- The block of lanes of hit row `r`. -/
def oneh (r : ℕ) (hv : S28x128.Slices ![r, 0] S1x128) (v : IVec S28x128 32) (w : FVec F S28x128 .f32) : FVec F S640x128 .bf16 :=
  shapeCast S640x128 (truncf .bf16 (select (cmpi .eq IO (broadcastTo S640x128 (extractStridedSlice S1x128 ![r, 0] v hv) broadcasts_S1x128_S640x128))
    (broadcastTo S640x128 (shapeCast S1x128 (extractStridedSlice S1x128 ![r, 0] w hv) shapeCasts_S1x128_S1x128) broadcasts_S1x128_S640x128)
    (broadcast S640x128 (Scalar.ofBits .f32 0x00000000#32))) bitsLt_bf16_f32) shapeCasts_S640x128_S640x128

theorem row_read {α : Type} (r : ℕ) (hr : r < 28) (hv : S28x128.Slices ![r, 0] S1x128) (v : S28x128.Idx → α) (p : Fin 640) (l : Fin 128) :
    broadcastTo S640x128 (extractStridedSlice S1x128 ![r, 0] v hv) broadcasts_S1x128_S640x128 (i2 p.val l.val) = v (i2 r l.val) := by
  refine (broadcastTo_apply _ _ _ (i2 0 l.val) ?_).trans (extractStridedSlice_apply _ _ _ _ (i2 r l.val) ?_)
  · intro a
    fin_cases a
    · show _ = if (1 : ℕ) = 1 then 0 else _
      rw [if_pos rfl]; rfl
    · show l.val % 128 = if (128 : ℕ) = 1 then 0 else l.val % 128
      rw [if_neg (by decide)]
  · intro a
    fin_cases a
    · show r % 28 = r + _
      exact Nat.mod_eq_of_lt hr
    · show l.val % 128 = 0 + l.val % 128
      omega

theorem oneh_apply (r : ℕ) (hr : r < 28) (hv : S28x128.Slices ![r, 0] S1x128) (v : IVec S28x128 32) (w : FVec F S28x128 .f32) (p : Fin 640) (l : Fin 128) :
    oneh r hv v w (i2 p.val l.val) = pel (BitVec.ofNat 32 p.val) (v (i2 r l.val)) (w (i2 r l.val)) := by
  unfold oneh
  rw [shapeCast_self, shapeCast_self]
  show FloatOps.truncf .bf16 _ (if cmpi .eq IO _ _ = 1#1 then _ else _) = _
  rw [row_read r hr hv w p l]
  unfold pel
  congr 1
  have e : Iff (cmpi .eq IO (broadcastTo S640x128 (extractStridedSlice S1x128 ![r, 0] v hv) broadcasts_S1x128_S640x128) (i2 p.val l.val) = 1#1) (BitVec.ofNat 32 p.val = v (i2 r l.val)) := by
    show Iff (IntOp.cmpi .eq (IO (i2 p.val l.val)) _ = 1#1) _
    rw [row_read r hr hv v p l]
    have : IO (i2 p.val l.val) = BitVec.ofNat 32 p.val := by
      unfold IO
      rw [iota_single_apply]
      show BitVec.ofNat 32 (p.val % 640) = _
      rw [Nat.mod_eq_of_lt p.isLt]
    rw [this]
    simp only [IntOp.cmpi]
    by_cases h : BitVec.ofNat 32 p.val = v (i2 r l.val)
    · simp [h]
    · have hb : (BitVec.ofNat 32 p.val == v (i2 r l.val)) = false := beq_eq_false_iff_ne.2 h
      rw [hb]
      exact ⟨fun x => absurd x (by decide), fun x => absurd x h⟩
  by_cases h : BitVec.ofNat 32 p.val = v (i2 r l.val)
  · rw [if_pos (e.2 h), if_pos h]
  · rw [if_neg (fun x => h (e.1 x)), if_neg h]; rfl

theorem oneh_P (r : ℕ) (hr : r < 28) (hv : S28x128.Slices ![r, 0] S1x128) {v : IVec S28x128 32} {w : FVec F S28x128 .f32} {y : FVec F S640x128 .bf16} (hy : y = oneh r hv v w)
    (p : Fin 640) (l : Fin 128) (x : S640x3584.Idx) (h0 : (x 0).val = p.val) (h1 : (x 1).val = 128 * r + l.val) : y (i2 p.val l.val) = Pmat v w x := by
  rw [hy, oneh_apply r hr]
  unfold Pmat
  have e1 : (x 1).val / 128 = r := by have := l.isLt; omega
  have e2 : (x 1).val % 128 = l.val := by have := l.isLt; omega
  rw [h0, e1, e2]

theorem wp_pld {c : Dev nD} {α : Type} {P : Vec F S640x3584 .bf16} (r : ℕ) {off : Fin 2 → ℕ} {h} {hl}
    {K : Vec F S640x128 .bf16 → Prog (TpuEff nD τ sig (Elt F) Λ₀ .tc) α} {Q : α → sProp 𝕄} :
    PB c P r ⊢ iprop((∀ v, PB c P r -∗ WP c (K v) Q)
      -∗ WP c (Prog.lift (.load (Memref.whole cc0_scratch2 : Memref sig .tc .vmem S640x3584 .bf16) (Rect.unit (s := S640x3584) off S640x128.size h).toLoadRect hl) >>= K) Q) := by
  unfold PB
  iintro ⟨%f, %hf, H⟩ Hk
  iapply (ld2 (fun _ => Finset.mem_univ _) (fun y => f ((Rect.unit (s := S640x3584) off S640x128.size h).emb y)) (fun _ => rfl)) $$ H
  iintro H
  iapply Hk
  iexists f
  isplitr
  · ipureintro; exact hf
  iexact H

/-- One block stored. -/
theorem wp_pst1 {c : Dev nD} {α : Type} {P : Vec F S640x3584 .bf16} (r : ℕ) {off' : Fin 2 → ℕ} {h'} {v : Vec F S640x128 .bf16} {hx hm}
    {K : PUnit → Prog (TpuEff nD τ sig (Elt F) Λ₀ .tc) α} {Q : α → sProp 𝕄} (ho : off' = ![0, 128 * r])
    (hv : ∀ (p : Fin 640) (l : Fin 128) (x : S640x3584.Idx), (x 0).val = p.val → (x 1).val = 128 * r + l.val → v (i2 p.val l.val) = P x) :
    PB c P r ⊢ iprop((PB c P (r + 1) -∗ WP c (K ⟨⟩) Q)
      -∗ WP c (Prog.lift (.store (Memref.whole cc0_scratch2 : Memref sig .tc .vmem S640x3584 .bf16) (Rect.unit (s := S640x3584) off' S640x128.size h') v Finset.univ hx hm) >>= K) Q) := by
  subst ho
  unfold PB
  iintro ⟨%f, %hf, H⟩ Hk
  have e0 : ∀ y : S640x128.Idx, (((Rect.unit (s := S640x3584) ![0, 128 * r] S640x128.size h').emb y : S640x3584.Idx) 0).val = (y 0).val := fun y => by
    rw [Rect.emb_apply]; show 0 + 1 * (y 0).val = _; omega
  have e1 : ∀ y : S640x128.Idx, (((Rect.unit (s := S640x3584) ![0, 128 * r] S640x128.size h').emb y : S640x3584.Idx) 1).val = 128 * r + (y 1).val := fun y => by
    rw [Rect.emb_apply]; show 128 * r + 1 * (y 1).val = _; omega
  have hg : ∀ y : S640x128.Idx, v y = (fun x : S640x3584.Idx => if 128 * r ≤ (x 1).val ∧ (x 1).val < 128 * r + 128 then P x else f x) ((Rect.unit (s := S640x3584) ![0, 128 * r] S640x128.size h').emb y) := fun y => by
    have l1 : (y 1).val < 128 := (y 1).isLt
    refine Eq.trans ?_ (if_pos ⟨by rw [e1]; omega, by rw [e1]; omega⟩).symm
    exact (congrArg v (i2_eq y _ _ rfl rfl).symm).trans (hv ⟨(y 0).val, (y 0).isLt⟩ ⟨(y 1).val, (y 1).isLt⟩ _ (e0 y) (e1 y))
  have hg' : ∀ x : S640x3584.Idx, (∀ y : S640x128.Idx, (Rect.unit (s := S640x3584) ![0, 128 * r] S640x128.size h').emb y ≠ x) → f x = (fun x : S640x3584.Idx => if 128 * r ≤ (x 1).val ∧ (x 1).val < 128 * r + 128 then P x else f x) x := fun x hx => by
    refine (if_neg ?_).symm
    intro hh
    refine hx (i2 (x 0).val ((x 1).val - 128 * r)) (ext2 ?_ ?_)
    · have l0 : ((x : S640x3584.Idx) 0).val < 640 := (x 0).isLt
      rw [e0]; exact i2_0 _ _ l0
    · rw [e1, i2_1 _ _ (by omega)]; omega
  iapply (st2 (h := h') (v := v) (fun _ => Finset.mem_univ _) (fun x : S640x3584.Idx => if 128 * r ≤ (x 1).val ∧ (x 1).val < 128 * r + 128 then P x else f x) hg hg') $$ H
  iintro H
  iapply Hk
  iexists _
  isplitr
  rotate_left
  · iexact H
  ipureintro
  intro x hx
  by_cases h1 : 128 * r ≤ (x 1).val
  · exact if_pos ⟨h1, by omega⟩
  · exact (if_neg (fun hh => h1 hh.1)).trans (hf x (by omega))

/-! ## The windows -/

theorem wp_ldo {c : Dev nD} {α : Type} {s : Shape} {e : EltTy} {m : Memref sig .tc .vmem s e} {q : PosShare TreeShare} {X : Vec F s e} {off : Fin s.rank → ℕ} {h} {hl}
    {K : Vec F s e → Prog (TpuEff nD τ sig (Elt F) Λ₀ .tc) α} {Q : α → sProp 𝕄} (ho : ∀ a, off a = 0) :
    (owns (c : Thread nD τ) m q X : sProp 𝕄) ⊢ iprop((owns (c : Thread nD τ) m q X -∗ WP c (K X) Q) -∗ WP c (Prog.lift (.load m (Rect.unit (s := s) off s.size h).toLoadRect hl) >>= K) Q) := by
  unfold owns
  iintro ⟨%f, %hf, H⟩ Hk
  iapply (wp_ldv (c := c) (m := m) (r := Rect.unit (s := s) off s.size h) (f := f) (S := m.view.set) (fun y => View.emb_mem_set _ _) X (fun y => by rw [hf]; exact congrArg X (emb0 off ho h y))) $$ H
  iintro H
  iapply Hk
  iexists f
  isplitr
  · ipureintro; exact hf
  iexact H

/-- The first `r` blocks of rows of a window hold `g`. -/
def OQ (c : Dev nD) (m : Memref sig .tc .vmem S3584x128 .bf16) (g : Vec F S3584x128 .bf16) (r : ℕ) : sProp 𝕄 :=
  iprop(∃ f : Buf (Elt F) (m.view.loc (c : Thread nD τ)), ⌜∀ y : S3584x128.Idx, (y 0).val < 128 * r → m.view.read (Elt F) f y = g y⌝ ∗ (m.view.loc (c : Thread nD τ) ↦[m.view.set]{fullShare} f))

theorem OQ_start {c : Dev nD} {m : Memref sig .tc .vmem S3584x128 .bf16} {X g : Vec F S3584x128 .bf16} : (owns (c : Thread nD τ) m fullShare X : sProp 𝕄) ⊢ OQ c m g 0 := by
  unfold owns OQ
  iintro ⟨%f, %hf, H⟩
  iexists f
  isplitr
  · ipureintro; intro y hy; omega
  iexact H

theorem OQ_end {c : Dev nD} {m : Memref sig .tc .vmem S3584x128 .bf16} {g : Vec F S3584x128 .bf16} : OQ c m g 28 ⊢ (owns (c : Thread nD τ) m fullShare g : sProp 𝕄) := by
  unfold owns OQ
  iintro ⟨%f, %hf, H⟩
  iexists f
  isplitr
  · ipureintro; funext y; exact hf y (by have : (y 0).val < 3584 := (y 0).isLt; omega)
  iexact H

theorem wp_qld {c : Dev nD} {α : Type} {m : Memref sig .tc .vmem S3584x128 .bf16} {g : Vec F S3584x128 .bf16} {r : ℕ} {off : Fin 2 → ℕ} {h} {hl}
    {K : Vec F S128x128 .bf16 → Prog (TpuEff nD τ sig (Elt F) Λ₀ .tc) α} {Q : α → sProp 𝕄} :
    OQ c m g r ⊢ iprop((∀ v, OQ c m g r -∗ WP c (K v) Q) -∗ WP c (Prog.lift (.load m (Rect.unit (s := S3584x128) off S128x128.size h).toLoadRect hl) >>= K) Q) := by
  unfold OQ
  iintro ⟨%f, %hf, H⟩ Hk
  iapply (wp_ldv (c := c) (m := m) (r := Rect.unit (s := S3584x128) off S128x128.size h) (f := f) (S := m.view.set) (fun y => View.emb_mem_set _ _) (fun y => m.view.read (Elt F) f ((Rect.unit (s := S3584x128) off S128x128.size h).emb y)) (fun y => rfl)) $$ H
  iintro H
  iapply Hk
  iexists f
  isplitr
  · ipureintro; exact hf
  iexact H

theorem wp_qst {c : Dev nD} {α : Type} {m : Memref sig .tc .vmem S3584x128 .bf16} {g : Vec F S3584x128 .bf16} (r : ℕ) {off : Fin 2 → ℕ} {h} {v : Vec F S128x128 .bf16} {hx hm}
    {K : PUnit → Prog (TpuEff nD τ sig (Elt F) Λ₀ .tc) α} {Q : α → sProp 𝕄} (ho : off = ![128 * r, 0])
    (hv : ∀ (p l : Fin 128) (x : S3584x128.Idx), (x 0).val = 128 * r + p.val → (x 1).val = l.val → v (i2 p.val l.val) = g x) :
    OQ c m g r ⊢ iprop((OQ c m g (r + 1) -∗ WP c (K ⟨⟩) Q) -∗ WP c (Prog.lift (.store m (Rect.unit (s := S3584x128) off S128x128.size h) v Finset.univ hx hm) >>= K) Q) := by
  subst ho
  unfold OQ
  iintro ⟨%f, %hf, H⟩ Hk
  have e0 : ∀ y : S128x128.Idx, (((Rect.unit (s := S3584x128) ![128 * r, 0] S128x128.size h).emb y : S3584x128.Idx) 0).val = 128 * r + (y 0).val := fun y => by
    rw [Rect.emb_apply]; show 128 * r + 1 * (y 0).val = _; omega
  have e1 : ∀ y : S128x128.Idx, (((Rect.unit (s := S3584x128) ![128 * r, 0] S128x128.size h).emb y : S3584x128.Idx) 1).val = (y 1).val := fun y => by
    rw [Rect.emb_apply]; show 0 + 1 * (y 1).val = _; omega
  iapply (wp_stv (c := c) (m := m) (r := Rect.unit (s := S3584x128) ![128 * r, 0] S128x128.size h) (v := v) (f := f) (S := m.view.set) (fun y => View.emb_mem_set m.view _)
    ((m.view.slice (Rect.unit (s := S3584x128) ![128 * r, 0] S128x128.size h)).write (Elt F) f v Finset.univ) (fun y => rfl) (fun x hx => (View.write_of_not_mem _ _ _ (fun hmem => by
      obtain ⟨y, _, hy⟩ := Finset.mem_map.1 hmem
      exact hx y hy)).symm)) $$ H
  iintro H
  iapply Hk
  iexists ((m.view.slice (Rect.unit (s := S3584x128) ![128 * r, 0] S128x128.size h)).write (Elt F) f v Finset.univ)
  isplitr
  · ipureintro
    intro y hy
    by_cases hr : (y 0).val < 128 * r
    · rw [View.read_slice_write_of_not_mem]
      · exact hf y hr
      · intro hmem
        obtain ⟨z, _, hz⟩ := Finset.mem_map.1 hmem
        have := e0 z
        rw [hz] at this
        omega
    · have l1 : (y 1).val < 128 := (y 1).isLt
      have e : y = (Rect.unit (s := S3584x128) ![128 * r, 0] S128x128.size h).emb (i2 ((y 0).val - 128 * r) (y 1).val : S128x128.Idx) := by
        refine ext2 ?_ ?_
        · rw [e0, i2_0 _ _ (by omega)]; omega
        · rw [e1, i2_1 _ _ l1]
      have hh := hv ⟨(y 0).val - 128 * r, by omega⟩ ⟨(y 1).val, l1⟩ y (by show _ = 128 * r + ((y 0).val - 128 * r); omega) rfl
      rw [e]
      rw [View.read_slice_write_emb _ _ _ (Finset.mem_univ _)]
      rw [← e]
      exact hh
  iexact H

end Cert.KernelIdeal.Hand
-- ==== Proof.PhaseD.lean ====
module

public import proofs.«01_k».proof.Proof.OneHot

@[expose] public section

/-! # The weighted one-hot matrix, stored part by part -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

open Facts₀

variable [Facts]
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)

variable {I : Inp F} (c : Dev nD) (i : grid0.Coords) (t : ℕ)

theorem blk0 (I : Inp F) (t : ℕ) (p : Fin 640) (l : Fin 128) (x : S640x3584.Idx) (h0 : (x 0).val = p.val) (h1 : (x 1).val = 128 * 0 + l.val) : (Gen.k0_pay36 (HX I t) (I.w t) : FVec F S640x128 .bf16) (i2 p.val l.val) = Pm I t x :=
  oneh_P 0 (by decide) slices_S28x128_o0_0_S1x128 (show (Gen.k0_pay36 (HX I t) (I.w t) : FVec F S640x128 .bf16) = oneh 0 slices_S28x128_o0_0_S1x128 (HX I t) (HW I t) from rfl) p l x h0 h1
theorem blk1 (I : Inp F) (t : ℕ) (p : Fin 640) (l : Fin 128) (x : S640x3584.Idx) (h0 : (x 0).val = p.val) (h1 : (x 1).val = 128 * 1 + l.val) : (Gen.k0_pay37 (HX I t) (I.w t) : FVec F S640x128 .bf16) (i2 p.val l.val) = Pm I t x :=
  oneh_P 1 (by decide) slices_S28x128_o1_0_S1x128 (show (Gen.k0_pay37 (HX I t) (I.w t) : FVec F S640x128 .bf16) = oneh 1 slices_S28x128_o1_0_S1x128 (HX I t) (HW I t) from rfl) p l x h0 h1
theorem blk2 (I : Inp F) (t : ℕ) (p : Fin 640) (l : Fin 128) (x : S640x3584.Idx) (h0 : (x 0).val = p.val) (h1 : (x 1).val = 128 * 2 + l.val) : (Gen.k0_pay38 (HX I t) (I.w t) : FVec F S640x128 .bf16) (i2 p.val l.val) = Pm I t x :=
  oneh_P 2 (by decide) slices_S28x128_o2_0_S1x128 (show (Gen.k0_pay38 (HX I t) (I.w t) : FVec F S640x128 .bf16) = oneh 2 slices_S28x128_o2_0_S1x128 (HX I t) (HW I t) from rfl) p l x h0 h1
theorem blk3 (I : Inp F) (t : ℕ) (p : Fin 640) (l : Fin 128) (x : S640x3584.Idx) (h0 : (x 0).val = p.val) (h1 : (x 1).val = 128 * 3 + l.val) : (Gen.k0_pay40 (Gen.k0_pay39 (HX I t) (I.w t)) : FVec F S640x128 .bf16) (i2 p.val l.val) = Pm I t x :=
  oneh_P 3 (by decide) slices_S28x128_o3_0_S1x128 (show (Gen.k0_pay40 (Gen.k0_pay39 (HX I t) (I.w t)) : FVec F S640x128 .bf16) = oneh 3 slices_S28x128_o3_0_S1x128 (HX I t) (HW I t) from rfl) p l x h0 h1
theorem blk4 (I : Inp F) (t : ℕ) (p : Fin 640) (l : Fin 128) (x : S640x3584.Idx) (h0 : (x 0).val = p.val) (h1 : (x 1).val = 128 * 4 + l.val) : (Gen.k0_pay41 (HX I t) (HW I t) IO : FVec F S640x128 .bf16) (i2 p.val l.val) = Pm I t x :=
  oneh_P 4 (by decide) slices_S28x128_o4_0_S1x128 (show (Gen.k0_pay41 (HX I t) (HW I t) IO : FVec F S640x128 .bf16) = oneh 4 slices_S28x128_o4_0_S1x128 (HX I t) (HW I t) from rfl) p l x h0 h1
theorem blk5 (I : Inp F) (t : ℕ) (p : Fin 640) (l : Fin 128) (x : S640x3584.Idx) (h0 : (x 0).val = p.val) (h1 : (x 1).val = 128 * 5 + l.val) : (Gen.k0_pay42 (HX I t) (HW I t) IO : FVec F S640x128 .bf16) (i2 p.val l.val) = Pm I t x :=
  oneh_P 5 (by decide) slices_S28x128_o5_0_S1x128 (show (Gen.k0_pay42 (HX I t) (HW I t) IO : FVec F S640x128 .bf16) = oneh 5 slices_S28x128_o5_0_S1x128 (HX I t) (HW I t) from rfl) p l x h0 h1
theorem blk6 (I : Inp F) (t : ℕ) (p : Fin 640) (l : Fin 128) (x : S640x3584.Idx) (h0 : (x 0).val = p.val) (h1 : (x 1).val = 128 * 6 + l.val) : (Gen.k0_pay43 (HX I t) (HW I t) IO : FVec F S640x128 .bf16) (i2 p.val l.val) = Pm I t x :=
  oneh_P 6 (by decide) slices_S28x128_o6_0_S1x128 (show (Gen.k0_pay43 (HX I t) (HW I t) IO : FVec F S640x128 .bf16) = oneh 6 slices_S28x128_o6_0_S1x128 (HX I t) (HW I t) from rfl) p l x h0 h1
theorem blk7 (I : Inp F) (t : ℕ) (p : Fin 640) (l : Fin 128) (x : S640x3584.Idx) (h0 : (x 0).val = p.val) (h1 : (x 1).val = 128 * 7 + l.val) : (Gen.k0_pay46 (Gen.k0_pay44 (HX I t) IO) (Gen.k0_pay45 (HW I t)) (Scalar.ofBits .f32 0x00000000#32) : FVec F S640x128 .bf16) (i2 p.val l.val) = Pm I t x :=
  oneh_P 7 (by decide) slices_S28x128_o7_0_S1x128 (show (Gen.k0_pay46 (Gen.k0_pay44 (HX I t) IO) (Gen.k0_pay45 (HW I t)) (Scalar.ofBits .f32 0x00000000#32) : FVec F S640x128 .bf16) = oneh 7 slices_S28x128_o7_0_S1x128 (HX I t) (HW I t) from rfl) p l x h0 h1
theorem blk8 (I : Inp F) (t : ℕ) (p : Fin 640) (l : Fin 128) (x : S640x3584.Idx) (h0 : (x 0).val = p.val) (h1 : (x 1).val = 128 * 8 + l.val) : (Gen.k0_pay47 (HX I t) (HW I t) IO : FVec F S640x128 .bf16) (i2 p.val l.val) = Pm I t x :=
  oneh_P 8 (by decide) slices_S28x128_o8_0_S1x128 (show (Gen.k0_pay47 (HX I t) (HW I t) IO : FVec F S640x128 .bf16) = oneh 8 slices_S28x128_o8_0_S1x128 (HX I t) (HW I t) from rfl) p l x h0 h1
theorem blk9 (I : Inp F) (t : ℕ) (p : Fin 640) (l : Fin 128) (x : S640x3584.Idx) (h0 : (x 0).val = p.val) (h1 : (x 1).val = 128 * 9 + l.val) : (Gen.k0_pay48 (HX I t) (HW I t) IO : FVec F S640x128 .bf16) (i2 p.val l.val) = Pm I t x :=
  oneh_P 9 (by decide) slices_S28x128_o9_0_S1x128 (show (Gen.k0_pay48 (HX I t) (HW I t) IO : FVec F S640x128 .bf16) = oneh 9 slices_S28x128_o9_0_S1x128 (HX I t) (HW I t) from rfl) p l x h0 h1
theorem blk10 (I : Inp F) (t : ℕ) (p : Fin 640) (l : Fin 128) (x : S640x3584.Idx) (h0 : (x 0).val = p.val) (h1 : (x 1).val = 128 * 10 + l.val) : (Gen.k0_pay49 (HX I t) (HW I t) IO : FVec F S640x128 .bf16) (i2 p.val l.val) = Pm I t x :=
  oneh_P 10 (by decide) slices_S28x128_o10_0_S1x128 (show (Gen.k0_pay49 (HX I t) (HW I t) IO : FVec F S640x128 .bf16) = oneh 10 slices_S28x128_o10_0_S1x128 (HX I t) (HW I t) from rfl) p l x h0 h1
theorem blk11 (I : Inp F) (t : ℕ) (p : Fin 640) (l : Fin 128) (x : S640x3584.Idx) (h0 : (x 0).val = p.val) (h1 : (x 1).val = 128 * 11 + l.val) : (Gen.k0_pay51 (HW I t) IO (Gen.k0_pay50 (HX I t)) : FVec F S640x128 .bf16) (i2 p.val l.val) = Pm I t x :=
  oneh_P 11 (by decide) slices_S28x128_o11_0_S1x128 (show (Gen.k0_pay51 (HW I t) IO (Gen.k0_pay50 (HX I t)) : FVec F S640x128 .bf16) = oneh 11 slices_S28x128_o11_0_S1x128 (HX I t) (HW I t) from rfl) p l x h0 h1
theorem blk12 (I : Inp F) (t : ℕ) (p : Fin 640) (l : Fin 128) (x : S640x3584.Idx) (h0 : (x 0).val = p.val) (h1 : (x 1).val = 128 * 12 + l.val) : (Gen.k0_pay52 (HX I t) (HW I t) IO : FVec F S640x128 .bf16) (i2 p.val l.val) = Pm I t x :=
  oneh_P 12 (by decide) slices_S28x128_o12_0_S1x128 (show (Gen.k0_pay52 (HX I t) (HW I t) IO : FVec F S640x128 .bf16) = oneh 12 slices_S28x128_o12_0_S1x128 (HX I t) (HW I t) from rfl) p l x h0 h1
theorem blk13 (I : Inp F) (t : ℕ) (p : Fin 640) (l : Fin 128) (x : S640x3584.Idx) (h0 : (x 0).val = p.val) (h1 : (x 1).val = 128 * 13 + l.val) : (Gen.k0_pay53 (HX I t) (HW I t) IO : FVec F S640x128 .bf16) (i2 p.val l.val) = Pm I t x :=
  oneh_P 13 (by decide) slices_S28x128_o13_0_S1x128 (show (Gen.k0_pay53 (HX I t) (HW I t) IO : FVec F S640x128 .bf16) = oneh 13 slices_S28x128_o13_0_S1x128 (HX I t) (HW I t) from rfl) p l x h0 h1
theorem blk14 (I : Inp F) (t : ℕ) (p : Fin 640) (l : Fin 128) (x : S640x3584.Idx) (h0 : (x 0).val = p.val) (h1 : (x 1).val = 128 * 14 + l.val) : (Gen.k0_pay55 (Gen.k0_pay54 (HX I t) (HW I t) IO) : FVec F S640x128 .bf16) (i2 p.val l.val) = Pm I t x :=
  oneh_P 14 (by decide) slices_S28x128_o14_0_S1x128 (show (Gen.k0_pay55 (Gen.k0_pay54 (HX I t) (HW I t) IO) : FVec F S640x128 .bf16) = oneh 14 slices_S28x128_o14_0_S1x128 (HX I t) (HW I t) from rfl) p l x h0 h1
theorem blk15 (I : Inp F) (t : ℕ) (p : Fin 640) (l : Fin 128) (x : S640x3584.Idx) (h0 : (x 0).val = p.val) (h1 : (x 1).val = 128 * 15 + l.val) : (Gen.k0_pay56 (HX I t) (HW I t) IO : FVec F S640x128 .bf16) (i2 p.val l.val) = Pm I t x :=
  oneh_P 15 (by decide) slices_S28x128_o15_0_S1x128 (show (Gen.k0_pay56 (HX I t) (HW I t) IO : FVec F S640x128 .bf16) = oneh 15 slices_S28x128_o15_0_S1x128 (HX I t) (HW I t) from rfl) p l x h0 h1
theorem blk16 (I : Inp F) (t : ℕ) (p : Fin 640) (l : Fin 128) (x : S640x3584.Idx) (h0 : (x 0).val = p.val) (h1 : (x 1).val = 128 * 16 + l.val) : (Gen.k0_pay57 (HX I t) (HW I t) IO : FVec F S640x128 .bf16) (i2 p.val l.val) = Pm I t x :=
  oneh_P 16 (by decide) slices_S28x128_o16_0_S1x128 (show (Gen.k0_pay57 (HX I t) (HW I t) IO : FVec F S640x128 .bf16) = oneh 16 slices_S28x128_o16_0_S1x128 (HX I t) (HW I t) from rfl) p l x h0 h1
theorem blk17 (I : Inp F) (t : ℕ) (p : Fin 640) (l : Fin 128) (x : S640x3584.Idx) (h0 : (x 0).val = p.val) (h1 : (x 1).val = 128 * 17 + l.val) : (Gen.k0_pay58 (HX I t) (HW I t) IO : FVec F S640x128 .bf16) (i2 p.val l.val) = Pm I t x :=
  oneh_P 17 (by decide) slices_S28x128_o17_0_S1x128 (show (Gen.k0_pay58 (HX I t) (HW I t) IO : FVec F S640x128 .bf16) = oneh 17 slices_S28x128_o17_0_S1x128 (HX I t) (HW I t) from rfl) p l x h0 h1
theorem blk18 (I : Inp F) (t : ℕ) (p : Fin 640) (l : Fin 128) (x : S640x3584.Idx) (h0 : (x 0).val = p.val) (h1 : (x 1).val = 128 * 18 + l.val) : (Gen.k0_pay60 (Gen.k0_pay59 (HX I t) (HW I t) IO) : FVec F S640x128 .bf16) (i2 p.val l.val) = Pm I t x :=
  oneh_P 18 (by decide) slices_S28x128_o18_0_S1x128 (show (Gen.k0_pay60 (Gen.k0_pay59 (HX I t) (HW I t) IO) : FVec F S640x128 .bf16) = oneh 18 slices_S28x128_o18_0_S1x128 (HX I t) (HW I t) from rfl) p l x h0 h1
theorem blk19 (I : Inp F) (t : ℕ) (p : Fin 640) (l : Fin 128) (x : S640x3584.Idx) (h0 : (x 0).val = p.val) (h1 : (x 1).val = 128 * 19 + l.val) : (Gen.k0_pay61 (HX I t) (HW I t) IO : FVec F S640x128 .bf16) (i2 p.val l.val) = Pm I t x :=
  oneh_P 19 (by decide) slices_S28x128_o19_0_S1x128 (show (Gen.k0_pay61 (HX I t) (HW I t) IO : FVec F S640x128 .bf16) = oneh 19 slices_S28x128_o19_0_S1x128 (HX I t) (HW I t) from rfl) p l x h0 h1
theorem blk20 (I : Inp F) (t : ℕ) (p : Fin 640) (l : Fin 128) (x : S640x3584.Idx) (h0 : (x 0).val = p.val) (h1 : (x 1).val = 128 * 20 + l.val) : (Gen.k0_pay62 (HX I t) (HW I t) IO : FVec F S640x128 .bf16) (i2 p.val l.val) = Pm I t x :=
  oneh_P 20 (by decide) slices_S28x128_o20_0_S1x128 (show (Gen.k0_pay62 (HX I t) (HW I t) IO : FVec F S640x128 .bf16) = oneh 20 slices_S28x128_o20_0_S1x128 (HX I t) (HW I t) from rfl) p l x h0 h1
theorem blk21 (I : Inp F) (t : ℕ) (p : Fin 640) (l : Fin 128) (x : S640x3584.Idx) (h0 : (x 0).val = p.val) (h1 : (x 1).val = 128 * 21 + l.val) : (Gen.k0_pay63 (HX I t) (HW I t) IO : FVec F S640x128 .bf16) (i2 p.val l.val) = Pm I t x :=
  oneh_P 21 (by decide) slices_S28x128_o21_0_S1x128 (show (Gen.k0_pay63 (HX I t) (HW I t) IO : FVec F S640x128 .bf16) = oneh 21 slices_S28x128_o21_0_S1x128 (HX I t) (HW I t) from rfl) p l x h0 h1
theorem blk22 (I : Inp F) (t : ℕ) (p : Fin 640) (l : Fin 128) (x : S640x3584.Idx) (h0 : (x 0).val = p.val) (h1 : (x 1).val = 128 * 22 + l.val) : (Gen.k0_pay66 (Gen.k0_pay64 (HX I t) IO) (Gen.k0_pay65 (HW I t)) (Scalar.ofBits .f32 0x00000000#32) : FVec F S640x128 .bf16) (i2 p.val l.val) = Pm I t x :=
  oneh_P 22 (by decide) slices_S28x128_o22_0_S1x128 (show (Gen.k0_pay66 (Gen.k0_pay64 (HX I t) IO) (Gen.k0_pay65 (HW I t)) (Scalar.ofBits .f32 0x00000000#32) : FVec F S640x128 .bf16) = oneh 22 slices_S28x128_o22_0_S1x128 (HX I t) (HW I t) from rfl) p l x h0 h1
theorem blk23 (I : Inp F) (t : ℕ) (p : Fin 640) (l : Fin 128) (x : S640x3584.Idx) (h0 : (x 0).val = p.val) (h1 : (x 1).val = 128 * 23 + l.val) : (Gen.k0_pay67 (HX I t) (HW I t) IO : FVec F S640x128 .bf16) (i2 p.val l.val) = Pm I t x :=
  oneh_P 23 (by decide) slices_S28x128_o23_0_S1x128 (show (Gen.k0_pay67 (HX I t) (HW I t) IO : FVec F S640x128 .bf16) = oneh 23 slices_S28x128_o23_0_S1x128 (HX I t) (HW I t) from rfl) p l x h0 h1
theorem blk24 (I : Inp F) (t : ℕ) (p : Fin 640) (l : Fin 128) (x : S640x3584.Idx) (h0 : (x 0).val = p.val) (h1 : (x 1).val = 128 * 24 + l.val) : (Gen.k0_pay68 (HX I t) (HW I t) IO : FVec F S640x128 .bf16) (i2 p.val l.val) = Pm I t x :=
  oneh_P 24 (by decide) slices_S28x128_o24_0_S1x128 (show (Gen.k0_pay68 (HX I t) (HW I t) IO : FVec F S640x128 .bf16) = oneh 24 slices_S28x128_o24_0_S1x128 (HX I t) (HW I t) from rfl) p l x h0 h1
theorem blk25 (I : Inp F) (t : ℕ) (p : Fin 640) (l : Fin 128) (x : S640x3584.Idx) (h0 : (x 0).val = p.val) (h1 : (x 1).val = 128 * 25 + l.val) : (Gen.k0_pay69 (HX I t) (HW I t) IO : FVec F S640x128 .bf16) (i2 p.val l.val) = Pm I t x :=
  oneh_P 25 (by decide) slices_S28x128_o25_0_S1x128 (show (Gen.k0_pay69 (HX I t) (HW I t) IO : FVec F S640x128 .bf16) = oneh 25 slices_S28x128_o25_0_S1x128 (HX I t) (HW I t) from rfl) p l x h0 h1
theorem blk26 (I : Inp F) (t : ℕ) (p : Fin 640) (l : Fin 128) (x : S640x3584.Idx) (h0 : (x 0).val = p.val) (h1 : (x 1).val = 128 * 26 + l.val) : (Gen.k0_pay71 (HW I t) IO (Gen.k0_pay70 (HX I t)) : FVec F S640x128 .bf16) (i2 p.val l.val) = Pm I t x :=
  oneh_P 26 (by decide) slices_S28x128_o26_0_S1x128 (show (Gen.k0_pay71 (HW I t) IO (Gen.k0_pay70 (HX I t)) : FVec F S640x128 .bf16) = oneh 26 slices_S28x128_o26_0_S1x128 (HX I t) (HW I t) from rfl) p l x h0 h1
theorem blk27 (I : Inp F) (t : ℕ) (p : Fin 640) (l : Fin 128) (x : S640x3584.Idx) (h0 : (x 0).val = p.val) (h1 : (x 1).val = 128 * 27 + l.val) : (Gen.k0_pay72 (HX I t) (HW I t) IO : FVec F S640x128 .bf16) (i2 p.val l.val) = Pm I t x :=
  oneh_P 27 (by decide) slices_S28x128_o27_0_S1x128 (show (Gen.k0_pay72 (HX I t) (HW I t) IO : FVec F S640x128 .bf16) = oneh 27 slices_S28x128_o27_0_S1x128 (HX I t) (HW I t) from rfl) p l x h0 h1

theorem part12_spec {Q} :
    iprop(PB c (Pm I t) 0 ∗ owns (c : Thread nD τ) a3 fullShare (I.w t)) ⊢ iprop((∀ r : (Σ' (v114 : FVec F S28x128 .f32) (v115 : IVec S640x128 32), FVec F S640x128 .f32), ⌜r.1 = HW I t ∧ r.2.1 = IO ∧ r.2.2 = Gen.k0_pay39 (HX I t) (I.w t)⌝
      ∗ (PB c (Pm I t) 3 ∗ owns (c : Thread nD τ) a3 fullShare (I.w t)) -∗ Q r) -∗ WP c (k0_part12 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t)) Q) := by
  simp only [Gen.k0_part12_eq_skeleton]
  unfold Gen.k0_part12_skel
  iintro ⟨HP, H3⟩ Hk
  iapply (wp_ldo (fun a => by fin_cases a <;> rfl)) $$ H3
  iintro H3
  iapply (wp_pld _) $$ HP
  iintro %_ HP
  iapply (wp_pst1 0 rfl (blk0 I t)) $$ HP
  iintro HP
  iapply (wp_pld _) $$ HP
  iintro %_ HP
  iapply (wp_pst1 1 rfl (blk1 I t)) $$ HP
  iintro HP
  iapply (wp_pld _) $$ HP
  iintro %_ HP
  iapply (wp_pst1 2 rfl (blk2 I t)) $$ HP
  iintro HP
  iapply wp_done
  iapply Hk
  isplitr
  · ipureintro; exact ⟨rfl, rfl, rfl⟩
  isplitl [HP]; · iexact HP
  iexact H3

theorem part13_spec {Q} :
    PB c (Pm I t) 3 ⊢ iprop((∀ r : (Σ' (v202 : IVec S640x128 1) (v203 : FVec F S1x128 .f32), F .f32), ⌜r.1 = Gen.k0_pay44 (HX I t) IO ∧ r.2.1 = Gen.k0_pay45 (HW I t) ∧ r.2.2 = (Scalar.ofBits .f32 0x00000000#32)⌝ ∗ PB c (Pm I t) 7 -∗ Q r) -∗ WP c (k0_part13 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay39 (HX I t) (I.w t))) Q) := by
  simp only [Gen.k0_part13_eq_skeleton]
  unfold Gen.k0_part13_skel
  iintro HP Hk
  iapply (wp_pld _) $$ HP
  iintro %_ HP
  iapply (wp_pst1 3 rfl (blk3 I t)) $$ HP
  iintro HP
  iapply (wp_pld _) $$ HP
  iintro %_ HP
  iapply (wp_pst1 4 rfl (blk4 I t)) $$ HP
  iintro HP
  iapply (wp_pld _) $$ HP
  iintro %_ HP
  iapply (wp_pst1 5 rfl (blk5 I t)) $$ HP
  iintro HP
  iapply (wp_pld _) $$ HP
  iintro %_ HP
  iapply (wp_pst1 6 rfl (blk6 I t)) $$ HP
  iintro HP
  iapply wp_done
  iapply Hk
  isplitr
  · ipureintro; exact ⟨rfl, rfl, rfl⟩
  iexact HP

theorem part14_spec {Q} :
    PB c (Pm I t) 7 ⊢ iprop((∀ r : (IVec S1x128 32), ⌜r = Gen.k0_pay50 (HX I t)⌝ ∗ PB c (Pm I t) 11 -∗ Q r) -∗ WP c (k0_part14 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay44 (HX I t) IO) (Gen.k0_pay45 (HW I t)) (Scalar.ofBits .f32 0x00000000#32)) Q) := by
  simp only [Gen.k0_part14_eq_skeleton]
  unfold Gen.k0_part14_skel
  iintro HP Hk
  iapply (wp_pld _) $$ HP
  iintro %_ HP
  iapply (wp_pst1 7 rfl (blk7 I t)) $$ HP
  iintro HP
  iapply (wp_pld _) $$ HP
  iintro %_ HP
  iapply (wp_pst1 8 rfl (blk8 I t)) $$ HP
  iintro HP
  iapply (wp_pld _) $$ HP
  iintro %_ HP
  iapply (wp_pst1 9 rfl (blk9 I t)) $$ HP
  iintro HP
  iapply (wp_pld _) $$ HP
  iintro %_ HP
  iapply (wp_pst1 10 rfl (blk10 I t)) $$ HP
  iintro HP
  iapply wp_done
  iapply Hk
  isplitr
  · ipureintro; rfl
  iexact HP

theorem part15_spec {Q} :
    PB c (Pm I t) 11 ⊢ iprop((∀ r : (Σ' (v292 : FVec F S640x128 .bf16), Vec F S640x128 .bf16), ⌜r.1 = Gen.k0_pay54 (HX I t) (HW I t) IO⌝ ∗ PB c (Pm I t) 14 -∗ Q r) -∗ WP c (k0_part15 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay50 (HX I t))) Q) := by
  simp only [Gen.k0_part15_eq_skeleton]
  unfold Gen.k0_part15_skel
  iintro HP Hk
  iapply (wp_pld _) $$ HP
  iintro %_ HP
  iapply (wp_pst1 11 rfl (blk11 I t)) $$ HP
  iintro HP
  iapply (wp_pld _) $$ HP
  iintro %_ HP
  iapply (wp_pst1 12 rfl (blk12 I t)) $$ HP
  iintro HP
  iapply (wp_pld _) $$ HP
  iintro %_ HP
  iapply (wp_pst1 13 rfl (blk13 I t)) $$ HP
  iintro HP
  iapply (wp_pld _) $$ HP
  iintro %_ HP
  iapply wp_done
  iapply Hk
  isplitr
  · ipureintro; rfl
  iexact HP

theorem part16_spec (x : Vec F S640x128 .bf16) {Q} :
    PB c (Pm I t) 14 ⊢ iprop((∀ r : (FVec F S640x128 .f32), ⌜r = Gen.k0_pay59 (HX I t) (HW I t) IO⌝ ∗ PB c (Pm I t) 18 -∗ Q r) -∗ WP c (k0_part16 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay54 (HX I t) (HW I t) IO) x) Q) := by
  simp only [Gen.k0_part16_eq_skeleton]
  unfold Gen.k0_part16_skel
  iintro HP Hk
  iapply (wp_pst1 14 rfl (blk14 I t)) $$ HP
  iintro HP
  iapply (wp_pld _) $$ HP
  iintro %_ HP
  iapply (wp_pst1 15 rfl (blk15 I t)) $$ HP
  iintro HP
  iapply (wp_pld _) $$ HP
  iintro %_ HP
  iapply (wp_pst1 16 rfl (blk16 I t)) $$ HP
  iintro HP
  iapply (wp_pld _) $$ HP
  iintro %_ HP
  iapply (wp_pst1 17 rfl (blk17 I t)) $$ HP
  iintro HP
  iapply wp_done
  iapply Hk
  isplitr
  · ipureintro; rfl
  iexact HP

theorem part17_spec {Q} :
    PB c (Pm I t) 18 ⊢ iprop((∀ r : (Σ' (v202 : IVec S640x128 1) (v203 : FVec F S1x128 .f32), F .f32), ⌜r.1 = Gen.k0_pay64 (HX I t) IO ∧ r.2.1 = Gen.k0_pay65 (HW I t) ∧ r.2.2 = (Scalar.ofBits .f32 0x00000000#32)⌝ ∗ PB c (Pm I t) 22 -∗ Q r) -∗ WP c (k0_part17 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay59 (HX I t) (HW I t) IO)) Q) := by
  simp only [Gen.k0_part17_eq_skeleton]
  unfold Gen.k0_part17_skel
  iintro HP Hk
  iapply (wp_pld _) $$ HP
  iintro %_ HP
  iapply (wp_pst1 18 rfl (blk18 I t)) $$ HP
  iintro HP
  iapply (wp_pld _) $$ HP
  iintro %_ HP
  iapply (wp_pst1 19 rfl (blk19 I t)) $$ HP
  iintro HP
  iapply (wp_pld _) $$ HP
  iintro %_ HP
  iapply (wp_pst1 20 rfl (blk20 I t)) $$ HP
  iintro HP
  iapply (wp_pld _) $$ HP
  iintro %_ HP
  iapply (wp_pst1 21 rfl (blk21 I t)) $$ HP
  iintro HP
  iapply wp_done
  iapply Hk
  isplitr
  · ipureintro; exact ⟨rfl, rfl, rfl⟩
  iexact HP

theorem part18_spec {Q} :
    PB c (Pm I t) 22 ⊢ iprop((∀ r : (IVec S1x128 32), ⌜r = Gen.k0_pay70 (HX I t)⌝ ∗ PB c (Pm I t) 26 -∗ Q r) -∗ WP c (k0_part18 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (HX I t) (HW I t) IO (Gen.k0_pay64 (HX I t) IO) (Gen.k0_pay65 (HW I t)) (Scalar.ofBits .f32 0x00000000#32)) Q) := by
  simp only [Gen.k0_part18_eq_skeleton]
  unfold Gen.k0_part18_skel
  iintro HP Hk
  iapply (wp_pld _) $$ HP
  iintro %_ HP
  iapply (wp_pst1 22 rfl (blk22 I t)) $$ HP
  iintro HP
  iapply (wp_pld _) $$ HP
  iintro %_ HP
  iapply (wp_pst1 23 rfl (blk23 I t)) $$ HP
  iintro HP
  iapply (wp_pld _) $$ HP
  iintro %_ HP
  iapply (wp_pst1 24 rfl (blk24 I t)) $$ HP
  iintro HP
  iapply (wp_pld _) $$ HP
  iintro %_ HP
  iapply (wp_pst1 25 rfl (blk25 I t)) $$ HP
  iintro HP
  iapply wp_done
  iapply Hk
  isplitr
  · ipureintro; rfl
  iexact HP

theorem part19_spec (ht : (i 0).val = t) (x : BitVec 32) {Q} :
    iprop(PB c (Pm I t) 26 ∗ ((c : Thread nD τ).loc cc0_scratch0 ↦[dset (t % 2) 0]{fullShare} dbf I (t + 1)) ∗ ((c : Thread nD τ).loc cc0_scratch1 ↦[sset (t % 2) 0]{fullShare} sbf I (t + 1)))
     ⊢ iprop((∀ r : (Σ' (v452 : Vec F S640x3584 .bf16), FVec F S128x640 .f32), ⌜r.1 = Pm I t ∧ r.2 = Gen.k0_pay73 (WC I t) (WS I t)⌝
      ∗ (((c : Thread nD τ).loc cc0_scratch2 ↦[Finset.univ]{fullShare} Pm I t) ∗ ((c : Thread nD τ).loc cc0_scratch0 ↦[dset (t % 2) 0]{fullShare} dbf I (t + 1)) ∗ ((c : Thread nD τ).loc cc0_scratch1 ↦[sset (t % 2) 0]{fullShare} sbf I (t + 1))) -∗ Q r)
      -∗ WP c (k0_part19 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x (HX I t) (HW I t) IO (Gen.k0_pay70 (HX I t))) Q) := by
  subst ht
  simp only [Gen.k0_part19_eq_skeleton]
  unfold Gen.k0_part19_skel
  iintro ⟨HP, H0, H1⟩ Hk
  iapply (wp_pld _) $$ HP
  iintro %_ HP
  iapply (wp_pst1 26 rfl (blk26 I (i 0).val)) $$ HP
  iintro HP
  iapply (wp_pld _) $$ HP
  iintro %_ HP
  iapply (wp_pst1 27 rfl (blk27 I (i 0).val)) $$ HP
  iintro HP
  ihave H2 := PB_end $$ HP
  iapply (ldw2 (fun a => by fin_cases a <;> rfl)) $$ H2
  iintro H2
  have m2 : (i 0).val % 2 < 2 := Nat.mod_lt _ (by decide)
  have a0 : ∀ y : S1x640x128.Idx, (((Rect.unit (s := S2x640x128) (k0_off78 i) S1x640x128.size (k0_off78_inb i)).emb y : S2x640x128.Idx) 0).val = (i 0).val % 2 ∧ (((Rect.unit (s := S2x640x128) (k0_off78 i) S1x640x128.size (k0_off78_inb i)).emb y : S2x640x128.Idx) 1).val = (y 1).val ∧ (((Rect.unit (s := S2x640x128) (k0_off78 i) S1x640x128.size (k0_off78_inb i)).emb y : S2x640x128.Idx) 2).val = (y 2).val := fun y => by
    have l0 : (y 0).val < 1 := (y 0).isLt
    refine ⟨?_, ?_, ?_⟩ <;> rw [Rect.emb_apply]
    · show k0_off78 i 0 + 1 * (y 0).val = _
      rw [off78_eq]; show (i 0).val % 2 + _ = _; omega
    · show k0_off78 i 1 + 1 * (y 1).val = _
      rw [off78_eq]; show 0 + _ = _; omega
    · show k0_off78 i 2 + 1 * (y 2).val = _
      rw [off78_eq]; show 0 + _ = _; omega
  have a1 : ∀ y : S1x4x640.Idx, (((Rect.unit (s := S2x4x640) (k0_off79 i) S1x4x640.size (k0_off79_inb i)).emb y : S2x4x640.Idx) 0).val = (i 0).val % 2 ∧ (((Rect.unit (s := S2x4x640) (k0_off79 i) S1x4x640.size (k0_off79_inb i)).emb y : S2x4x640.Idx) 1).val = (y 1).val ∧ (((Rect.unit (s := S2x4x640) (k0_off79 i) S1x4x640.size (k0_off79_inb i)).emb y : S2x4x640.Idx) 2).val = (y 2).val := fun y => by
    have l0 : (y 0).val < 1 := (y 0).isLt
    refine ⟨?_, ?_, ?_⟩ <;> rw [Rect.emb_apply]
    · show k0_off79 i 0 + 1 * (y 0).val = _
      rw [off79_eq]; show (i 0).val % 2 + _ = _; omega
    · show k0_off79 i 1 + 1 * (y 1).val = _
      rw [off79_eq]; show 0 + _ = _; omega
    · show k0_off79 i 2 + 1 * (y 2).val = _
      rw [off79_eq]; show 0 + _ = _; omega
  iapply (ld0 (fun y => by
      simp only [dset, Finset.mem_filter, Finset.mem_univ, true_and]; exact ⟨(a0 y).1, Nat.zero_le _⟩) (WC I (i 0).val) (fun y => congrArg (dbf I _) (i3_eq _ _ _ _ (a0 y).1 (a0 y).2.1 (a0 y).2.2).symm)) $$ H0
  iintro H0
  iapply (ld1 (fun y => by
      simp only [sset, Finset.mem_filter, Finset.mem_univ, true_and]; exact ⟨(a1 y).1, Nat.zero_le _⟩) (WS I (i 0).val) (fun y => congrArg (sbf I _) (i3_eq _ _ _ _ (a1 y).1 (a1 y).2.1 (a1 y).2.2).symm)) $$ H1
  iintro H1
  iapply wp_done
  iapply Hk
  isplitr
  · ipureintro; exact ⟨rfl, rfl⟩
  isplitl [H2]; · iexact H2
  isplitl [H0]; · iexact H0
  iexact H1

end Cert.KernelIdeal.Hand
-- ==== Proof.Steps.lean ====
module

public import proofs.«01_k».proof.Proof.State
public import Idealize.ShloMosaic.Lib.LoopRemainder

@[expose] public section

/-! # Loops, and what the body holds between two steps -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

/-- A loop at the head of a program, by its invariant. -/
theorem wp_loop {c : Dev nD} {α : Type} (l : Scf.Loop 32) {hok : l.OK} {body : Fin l.trips → Unit → Prog (TpuEff nD τ sig (Elt F) Λ₀ .tc) Unit} (I : ℕ → sProp 𝕄)
    (hbody : ∀ k : Fin l.trips, I k.val ⊢ WP c (body k ()) (fun _ => I (k.val + 1))) {K : Unit → Prog (TpuEff nD τ sig (Elt F) Λ₀ .tc) α} {Q : α → sProp 𝕄} :
    I 0 ⊢ iprop((I l.trips -∗ WP c (K ()) Q) -∗ WP c (Scf.Loop.for l hok () body >>= K) Q) := by
  have := Scf.wp_for_bind frame (wpE (defs₀ (F := F)) Variants.none (c : Thread nD τ) none) Set.univ l.lb l.ub l.st hok () body (fun k _ => I k) (fun k _ => hbody k) (kk := K) (Q := Q)
  iintro H Hk
  iapply this $$ H
  iintro %a H
  iapply Hk
  iexact H

/-- A loop of no trip. -/
theorem wp_loop0 {c : Dev nD} {α : Type} {l : Scf.Loop 32} (h : l.trips = 0) {hok : l.OK} {body : Fin l.trips → Unit → Prog (TpuEff nD τ sig (Elt F) Λ₀ .tc) Unit}
    {K : Unit → Prog (TpuEff nD τ sig (Elt F) Λ₀ .tc) α} {Q : α → sProp 𝕄} :
    WP c (K ()) Q ⊢ WP c (Scf.Loop.for l hok () body >>= K) Q := by
  have e : Scf.Loop.for l hok () body = .ret () := Scf.for_eq_ret _ _ _ hok () body h
  rw [e]; exact .rfl

variable (I : Inp F) (c : Dev nD) (d : Vec F S172032x128 .bf16)

/-- The zero copies, all issued and none received. -/
def Zs : sProp 𝕄 := Zo c (GG I) d I.tail0 (1344 - I.tail0) (1344 - I.tail0) 0

/-- What the first step starts from. -/
def Raw : sProp 𝕄 :=
  iprop(Tab I c ∗ (semVal ((c : Thread nD τ), .dma (inS 0)) 0 ∗ semVal ((c : Thread nD τ), .dma (scS 0)) 0 ∗ semVal ((c : Thread nD τ), .dma (inS 1)) 0 ∗ semVal ((c : Thread nD τ), .dma (scS 1)) 0)
    ∗ (∃ f : Vec F S2x640x128 .fp8e4m3, (c : Thread nD τ).loc cc0_scratch0 ↦[Finset.univ]{fullShare} f)
    ∗ (∃ f : Vec F S2x4x640 .f32, (c : Thread nD τ).loc cc0_scratch1 ↦[Finset.univ]{fullShare} f)
    ∗ (∃ f : Vec F S128x3584 .f32, (c : Thread nD τ).loc cc0_scratch3 ↦[Finset.univ]{fullShare} f)
    ∗ (∃ f : Vec F S128x128 .bf16, (c : Thread nD τ).loc cc0_scratch5 ↦[Finset.univ]{fullShare} f)
    ∗ (∃ f : Vec F S128x128 .bf16, (c : Thread nD τ).loc cc0_scratch6 ↦[Finset.univ]{fullShare} f)
    ∗ semVal ((c : Thread nD τ), .dma zS) 0
    ∗ ((c : Thread nD τ).loc main_v15_1 ↦[rge I.tail0 1344]{fullShare} d)
    ∗ ((c : Thread nD τ).loc main_arg2 ↦[Finset.univ]{fullShare} I.codes) ∗ ((c : Thread nD τ).loc main_v14 ↦[Finset.univ]{fullShare} I.scl))

/-- What a step starts from: its document on its way, the other slot free. -/
def B1 (t : ℕ) : sProp 𝕄 :=
  iprop(Fl I c t (I.n t) ∗ Free I c (t + 1) t ∗ ((c : Thread nD τ).loc cc0_scratch3 ↦[Finset.univ]{fullShare} DQ I t)
    ∗ ((c : Thread nD τ).loc cc0_scratch5 ↦[Finset.univ]{fullShare} CA I t) ∗ Zs I c d)

/-- The next document on its way, where there is one. -/
def Nx (t : ℕ) : sProp 𝕄 := if t + 1 < 336 then iprop(InC I c (t + 1) (I.n (t + 1)) 0 ∗ InS I c (t + 1) (I.n (t + 1)) 0) else Free I c (t + 1) (t + 1)

/-- After a step issued the next document. -/
def B2 (t : ℕ) : sProp 𝕄 :=
  iprop(Fl I c t (I.n t) ∗ Nx I c t ∗ ((c : Thread nD τ).loc cc0_scratch3 ↦[Finset.univ]{fullShare} DQ I t)
    ∗ ((c : Thread nD τ).loc cc0_scratch5 ↦[Finset.univ]{fullShare} CA I t) ∗ Zs I c d)

theorem univ_split2 {ℓ : Loc nD τ sig} {f : Buf (Elt F) ℓ} (A B : Finset (Idx ℓ)) (h : B = Finset.univ \ A) :
    (ℓ ↦[Finset.univ]{fullShare} f : sProp 𝕄) ⊣⊢ iprop((ℓ ↦[A]{fullShare} f) ∗ (ℓ ↦[B]{fullShare} f)) := by
  subst h; exact pointsTo_split_subset (Finset.subset_univ _)

/-- Both slots free: the whole buffers and the whole read-only arrays. -/
theorem Free_both (t : ℕ) :
    iprop(Free I c 0 t ∗ Free I c 1 t) ⊣⊢ iprop((semVal ((c : Thread nD τ), .dma (inS 0)) 0 ∗ semVal ((c : Thread nD τ), .dma (scS 0)) 0 ∗ semVal ((c : Thread nD τ), .dma (inS 1)) 0 ∗ semVal ((c : Thread nD τ), .dma (scS 1)) 0)
      ∗ ((c : Thread nD τ).loc cc0_scratch0 ↦[Finset.univ]{fullShare} dbf I t) ∗ ((c : Thread nD τ).loc cc0_scratch1 ↦[Finset.univ]{fullShare} sbf I t)
      ∗ ((c : Thread nD τ).loc main_arg2 ↦[Finset.univ]{fullShare} I.codes) ∗ ((c : Thread nD τ).loc main_v14 ↦[Finset.univ]{fullShare} I.scl)) := by
  have h0 := univ_split2 (ℓ := (c : Thread nD τ).loc cc0_scratch0) (f := dbf I t) (dset 0 0) (dset 1 0) (by
    ext x; have l : ((x : S2x640x128.Idx) 0).val < 2 := (x 0).isLt
    simp only [dset, Finset.mem_filter, Finset.mem_univ, true_and, Finset.mem_sdiff]; omega)
  have h1 := univ_split2 (ℓ := (c : Thread nD τ).loc cc0_scratch1) (f := sbf I t) (sset 0 0) (sset 1 0) (by
    ext x; have l : ((x : S2x4x640.Idx) 0).val < 2 := (x 0).isLt
    simp only [sset, Finset.mem_filter, Finset.mem_univ, true_and, Finset.mem_sdiff]; omega)
  have h2 : (((c : Thread nD τ).loc main_arg2 ↦[Finset.univ]{fullShare} I.codes) : sProp 𝕄) ⊣⊢ _ := pointsTo_share (PosShare.mem_left_op_right fullShare)
  have h3 : (((c : Thread nD τ).loc main_v14 ↦[Finset.univ]{fullShare} I.scl) : sProp 𝕄) ⊣⊢ _ := pointsTo_share (PosShare.mem_left_op_right fullShare)
  have e0 : hs 0 = fullShare.left := rfl
  have e1 : hs 1 = fullShare.right := rfl
  unfold Free
  rw [e0, e1]
  constructor
  · iintro ⟨⟨A1, A2, A3, A4, A5, A6⟩, D1, D2, D3, D4, D5, D6⟩
    isplitl [A1 A2 D1 D2]
    · isplitl [A1]; · iexact A1
      isplitl [A2]; · iexact A2
      isplitl [D1]; · iexact D1
      iexact D2
    isplitl [A3 D3]
    · iapply h0.2
      isplitl [A3]; · iexact A3
      iexact D3
    isplitl [A4 D4]
    · iapply h1.2
      isplitl [A4]; · iexact A4
      iexact D4
    isplitl [A5 D5]
    · iapply h2.2
      isplitl [A5]; · iexact A5
      iexact D5
    iapply h3.2
    isplitl [A6]; · iexact A6
    iexact D6
  · iintro ⟨⟨A1, A2, D1, D2⟩, X0, X1, X2, X3⟩
    ihave X0' := h0.1 $$ X0
    ihave X1' := h1.1 $$ X1
    ihave X2' := h2.1 $$ X2
    ihave X3' := h3.1 $$ X3
    icases X0' with ⟨A3, D3⟩
    icases X1' with ⟨A4, D4⟩
    icases X2' with ⟨A5, D5⟩
    icases X3' with ⟨A6, D6⟩
    isplitl [A1 A2 A3 A4 A5 A6]
    · isplitl [A1]; · iexact A1
      isplitl [A2]; · iexact A2
      isplitl [A3]; · iexact A3
      isplitl [A4]; · iexact A4
      isplitl [A5]; · iexact A5
      iexact A6
    · isplitl [D1]; · iexact D1
      isplitl [D2]; · iexact D2
      isplitl [D3]; · iexact D3
      isplitl [D4]; · iexact D4
      isplitl [D5]; · iexact D5
      iexact D6

end Cert.KernelIdeal.Hand
-- ==== Proof.PhaseA.lean ====
module

public import proofs.«01_k».proof.Proof.Steps

@[expose] public section

/-! # The first step's setup, and issuing a document -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)

theorem part1_spec {I : Inp F} (c : Dev nD) (i : grid0.Coords) {Q} :
    iprop(Tab I c ∗ (∃ f : Vec F S2x640x128 .fp8e4m3, (c : Thread nD τ).loc cc0_scratch0 ↦[Finset.univ]{fullShare} f)
    ∗ (∃ f : Vec F S2x4x640 .f32, (c : Thread nD τ).loc cc0_scratch1 ↦[Finset.univ]{fullShare} f)
    ∗ (∃ f : Vec F S128x3584 .f32, (c : Thread nD τ).loc cc0_scratch3 ↦[Finset.univ]{fullShare} f)
    ∗ (∃ f : Vec F S128x128 .bf16, (c : Thread nD τ).loc cc0_scratch5 ↦[Finset.univ]{fullShare} f)
    ∗ (∃ f : Vec F S128x128 .bf16, (c : Thread nD τ).loc cc0_scratch6 ↦[Finset.univ]{fullShare} f))
    ⊢ iprop((∀ r : (Σ' (v612 : Elt F .i32) (c128 : BitVec 32) (v613 : BitVec 32) (v618 : BitVec 32), BitVec 32), ⌜r.1 = I.stw 0⌝
        ∗ (Tab I c ∗ ((c : Thread nD τ).loc cc0_scratch0 ↦[Finset.univ]{fullShare} dbf I 0) ∗ ((c : Thread nD τ).loc cc0_scratch1 ↦[Finset.univ]{fullShare} sbf I 0)
          ∗ ((c : Thread nD τ).loc cc0_scratch3 ↦[Finset.univ]{fullShare} DQ I 0) ∗ ((c : Thread nD τ).loc cc0_scratch5 ↦[Finset.univ]{fullShare} CA I 0)
          ∗ ((c : Thread nD τ).loc cc0_scratch6 ↦[Finset.univ]{fullShare} (zv : Vec F S128x128 .bf16))) -∗ Q r)
      -∗ WP c (k0_part1 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  simp only [Gen.k0_part1_eq_skeleton]
  unfold Gen.k0_part1_skel
  iintro ⟨HT, ⟨%f0, H0⟩, ⟨%f1, H1⟩, ⟨%f3, H3⟩, ⟨%f5, H5⟩, ⟨%f6, H6⟩⟩ Hk
  iapply (ldw0 (fun a => by fin_cases a <;> rfl)) $$ H0
  iintro H0
  iapply (stw0 (fun a => by fin_cases a <;> rfl)) $$ H0
  iintro H0
  iapply (ldw1 (fun a => by fin_cases a <;> rfl)) $$ H1
  iintro H1
  iapply (stw1 (fun a => by fin_cases a <;> rfl)) $$ H1
  iintro H1
  iapply (ldw3 (fun a => by fin_cases a <;> rfl)) $$ H3
  iintro H3
  iapply (stw3 (fun a => by fin_cases a <;> rfl)) $$ H3
  iintro H3
  iapply (ldw5 (fun a => by fin_cases a <;> rfl)) $$ H5
  iintro H5
  iapply (stw5 (fun a => by fin_cases a <;> rfl)) $$ H5
  iintro H5
  iapply (ldw6 (fun a => by fin_cases a <;> rfl)) $$ H6
  iintro H6
  iapply (stw6 (fun a => by fin_cases a <;> rfl)) $$ H6
  iintro H6
  iapply (wp_tab 0 (by omega) _ _ _ rfl) $$ HT
  iintro HT
  iapply wp_done
  iapply Hk
  isplitr
  · ipureintro; rfl
  isplitl [HT]; · iexact HT
  isplitl [H0]; · iexact H0
  isplitl [H1]; · iexact H1
  isplitl [H3]; · iexact H3
  isplitl [H5]; · iexact H5
  iexact H6

theorem part2_spec {I : Inp F} (ok : I.Ok) (c : Dev nD) (i : grid0.Coords) (k0_h1 : k0_cond1 i = 1#1) (x0 x1 x2 x3 : BitVec 32) {Q} :
    Fl I c 0 0 ⊢ iprop((∀ r : (Σ' (v630 : Elt F .i32) (v651 : BitVec 32), BitVec 32), ⌜r.1 = I.stw 1⌝ ∗ Fl I c 0 (min 3 (I.n 0)) -∗ Q r)
      -∗ WP c (k0_part2 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 k0_h1 (I.stw 0) x0 x1 x2 x3) Q) := by
  simp only [Gen.k0_part2_eq_skeleton]
  unfold Gen.k0_part2_skel
  iintro HF Hk
  unfold Fl
  icases HF with ⟨HT, HC, HS⟩
  iapply (wp_tab 1 (by omega) _ _ _ rfl) $$ HT
  iintro HT
  have hF : iprop(Tab I c ∗ InC I c 0 0 0 ∗ InS I c 0 0 0) ⊢ Fl I c 0 (min 0 (I.n 0)) := by rw [Nat.zero_min]; exact .rfl
  ihave HF := hF $$ [HT HC HS]
  · isplitl [HT]; · iexact HT
    isplitl [HC]; · iexact HC
    iexact HS
  have e0 := (cond_iff 0#32 (I.stw (0)) (I.stw (0 + 1)) (by decide) (ok.mono (0) (by omega)) (ok.lt (0 + 1) (by omega)))
  rw [← cond2_eq] at e0
  iapply (wp_gissue ok (0) 0 (by omega) e0 rfl (chk1_ok i _ _ (ok.mono (0) (by omega)) (ok.lt (0 + 1) (by omega))) rfl rfl rfl rfl (inS_eq _ _ rfl _ _) (scS_eq _ _ rfl _ _)) $$ HF
  iintro HF
  have e1 := (cond_iff 1#32 (I.stw (0)) (I.stw (0 + 1)) (by decide) (ok.mono (0) (by omega)) (ok.lt (0 + 1) (by omega)))
  rw [← cond3_eq] at e1
  iapply (wp_gissue ok (0) 1 (by omega) e1 rfl (chk2_ok i _ _ (ok.mono (0) (by omega)) (ok.lt (0 + 1) (by omega))) rfl rfl rfl rfl (inS_eq _ _ rfl _ _) (scS_eq _ _ rfl _ _)) $$ HF
  iintro HF
  have e2 := (cond_iff 2#32 (I.stw (0)) (I.stw (0 + 1)) (by decide) (ok.mono (0) (by omega)) (ok.lt (0 + 1) (by omega)))
  rw [← cond4_eq] at e2
  iapply (wp_gissue ok (0) 2 (by omega) e2 rfl (chk3_ok i _ _ (ok.mono (0) (by omega)) (ok.lt (0 + 1) (by omega))) rfl rfl rfl rfl (inS_eq _ _ rfl _ _) (scS_eq _ _ rfl _ _)) $$ HF
  iintro HF
  iapply wp_done
  iapply Hk
  isplitr
  · ipureintro; rfl
  unfold Fl
  iexact HF

theorem t1_step {I : Inp F} (ok : I.Ok) (c : Dev nD) (d : Vec F S172032x128 .bf16) (i : grid0.Coords) (hw : k0_chk6 i (I.stw 336)) (k0_h1 : k0_cond1 i = 1#1) (k) :
    Zo c (GG I) d I.tail0 (1344 - I.tail0) k.val 0 ⊢ WP c (Gen.k0_t1_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw 336) hw k0_h1 k ()) (fun _ => Zo c (GG I) d I.tail0 (1344 - I.tail0) (k.val + 1) 0) := by
  have hk : k.val < 1344 - I.tail0 := lt_of_lt_of_eq k.isLt (t1_trips _ (ok.lt 336 le_rfl))
  have hT := tail_le ok
  unfold Gen.k0_t1_body
  iintro H
  iapply (wp_issueZ I.tail0 (1344 - I.tail0) k.val hk (by omega) (GG_zero) _ _ (off11_eq _ (ok.lt 336 le_rfl) k) rfl) $$ H
  iintro H
  iapply wp_done
  iexact H

theorem part3_spec {I : Inp F} (c : Dev nD) (i : grid0.Coords) (h7 : (i 0).val + 1 < 336) (x0 x1 : BitVec 32) (k0_h7 : k0_cond7 i = 1#1) {Q} :
    Tab I c ⊢ iprop((∀ r : (Σ' (v592 : BitVec 32) (v595 : Elt F .i32) (v615 : Elt F .i32) (v620 : BitVec 32) (v631 : BitVec 1) (v632 : BitVec 32), BitVec 32),
        ⌜r.2.1 = I.stw ((i 0).val + 1) ∧ r.2.2.1 = I.stw ((i 0).val + 2)⌝ ∗ Tab I c -∗ Q r)
      -∗ WP c (k0_part3 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 x1 k0_h7) Q) := by
  simp only [Gen.k0_part3_eq_skeleton]
  unfold Gen.k0_part3_skel
  iintro HT Hk
  iapply (wp_tab ((i 0).val + 1) (by omega) _ _ _ (off13_eq i)) $$ HT
  iintro HT
  iapply (wp_tab ((i 0).val + 2) (by omega) _ _ _ (off14_eq i)) $$ HT
  iintro HT
  iapply wp_done
  iapply Hk
  isplitr
  · ipureintro; exact ⟨rfl, rfl⟩
  iexact HT

end Cert.KernelIdeal.Hand
-- ==== Proof.Rem.lean ====
module

public import proofs.«01_k».proof.Proof.WordFacts
public import Idealize.ShloMosaic.Lib.LoopRemainder

@[expose] public section

/-! # The remainder loops make no trip -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

theorem t2_trips (v0 : BitVec 32) : (k0_t2_loop v0).trips = 0 := by
  have h : (k0_t2_loop v0).ub = (k0_t2_loop v0).lb := by
    unfold k0_t2_loop
    simp only [Scalar.muli_divsi_one]
  have h1 : (k0_t2_loop v0).st = 1#32 := rfl
  unfold Scf.Loop.trips
  rw [h, h1]
  exact Scf.trips_self _

theorem t4_trips (i : grid0.Coords) (a b : BitVec 32) : (k0_t4_loop i a b).trips = 0 := by
  have h : (k0_t4_loop i a b).ub = (k0_t4_loop i a b).lb := by
    unfold k0_t4_loop
    simp only [Scalar.muli_divsi_one]
  have h1 : (k0_t4_loop i a b).st = 1#32 := rfl
  unfold Scf.Loop.trips
  rw [h, h1]
  exact Scf.trips_self _

theorem t6_trips (a b : BitVec 32) : (k0_t6_loop a b).trips = 0 := by
  have h : (k0_t6_loop a b).ub = (k0_t6_loop a b).lb := by
    unfold k0_t6_loop
    simp only [Scalar.muli_divsi_one]
  have h1 : (k0_t6_loop a b).st = 1#32 := rfl
  unfold Scf.Loop.trips
  rw [h, h1]
  exact Scf.trips_self _

theorem t8_trips (a b : BitVec 32) : (k0_t8_loop a b).trips = 0 := by
  have h : (k0_t8_loop a b).ub = (k0_t8_loop a b).lb := by
    unfold k0_t8_loop
    simp only [Scalar.muli_divsi_one]
  have h1 : (k0_t8_loop a b).st = 1#32 := rfl
  unfold Scf.Loop.trips
  rw [h, h1]
  exact Scf.trips_self _

theorem t10_trips (v0 : BitVec 32) : (k0_t10_loop v0).trips = 0 := by
  have h : (k0_t10_loop v0).ub = (k0_t10_loop v0).lb := by
    unfold k0_t10_loop
    simp only [Scalar.muli_divsi_one]
  have h1 : (k0_t10_loop v0).st = 1#32 := rfl
  unfold Scf.Loop.trips
  rw [h, h1]
  exact Scf.trips_self _

end Cert.KernelIdeal.Hand
-- ==== Proof.PhaseB.lean ====
module

public import proofs.«01_k».proof.Proof.PhaseA
public import proofs.«01_k».proof.Proof.Rem

@[expose] public section

/-! # The first part of a step: the setup and the next document's transfers -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)

set_option maxHeartbeats 2000000 in
theorem part9_spec {I : Inp F} (ok : I.Ok) (c : Dev nD) (d : Vec F S172032x128 .bf16) (i : grid0.Coords) (t : ℕ) (ht : (i 0).val = t) (ht' : t < 336) {Q} :
    (if t = 0 then Raw I c d else B1 I c d t) ⊢ iprop((∀ r : (Σ' (arg0 : BitVec 32) (v0 : Elt F .i32) (k0_hw6 : k0_chk6 i v0) (v19 : BitVec 32) (v23 : BitVec 32) (v29 : Elt F .i32) (c128_i32_10 : BitVec 32) (v30 : BitVec 32) (v35 : BitVec 32), BitVec 32),
        ⌜r.2.1 = I.stw 336 ∧ r.2.2.2.2.2.1 = I.stw t⌝ ∗ B2 I c d t -∗ Q r)
      -∗ WP c (k0_part9 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Q) := by
  have hTL := tail_le ok
  simp only [Gen.k0_part9_eq_skeleton]
  unfold Gen.k0_part9_skel
  iintro H Hk
  have hT : (if t = 0 then Raw I c d else B1 I c d t) ⊢ iprop(Tab I c ∗ (Tab I c -∗ (if t = 0 then Raw I c d else B1 I c d t))) := by
    split
    · unfold Raw
      iintro ⟨HT, H⟩
      isplitl [HT]; · iexact HT
      iintro HT
      isplitl [HT]; · iexact HT
      iexact H
    · unfold B1 Fl
      iintro ⟨⟨HT, H⟩, H'⟩
      isplitl [HT]; · iexact HT
      iintro HT
      isplitl [HT H]
      · isplitl [HT]; · iexact HT
        iexact H
      iexact H'
  ihave H' := hT $$ H
  icases H' with ⟨HT, HW⟩
  iapply (wp_tab 336 (by omega) _ _ _ rfl) $$ HT
  iintro HT
  ihave H := HW $$ HT
  iapply (wp_asm (chk6_ok i _ (ok.lt 336 le_rfl)))
  iapply (wp_guard (if t = 0 then Raw I c d else B1 I c d t) (B1 I c d t) (fun h1 => ?_) (fun h1 => ?_)) $$ H
  · have h0 : t = 0 := ht.symm.trans ((cond1_iff i).1 h1)
    subst h0
    rw [if_pos rfl]
    unfold Raw
    iintro ⟨HT, HV, H0, H1, H3, H5, H6, Hz, Hd, Ha, Hv⟩ Hk
    iapply wp_seq
    iapply (part1_spec a2 h2 a3 h3 a4 h4 a5 h5 a8 h8 c i) $$ [HT H0 H1 H3 H5 H6]
    · isplitl [HT]; · iexact HT
      isplitl [H0]; · iexact H0
      isplitl [H1]; · iexact H1
      isplitl [H3]; · iexact H3
      isplitl [H5]; · iexact H5
      iexact H6
    iintro %r ⟨%hr, HT, H0, H1, H3, H5, H6⟩
    obtain ⟨r1, r2, r3, r4, r5⟩ := r
    dsimp only at hr
    subst hr
    imod (Zo_alloc c (GG I) d I.tail0 (1344 - I.tail0)) $$ [Hz H6 Hd] with HZ
    · isplitl [Hz]; · iexact Hz
      isplitl [H6]; · iexact H6
      rw [show I.tail0 + (1344 - I.tail0) = 1344 by omega]
      iexact Hd
    ihave HFF := (Free_both I c 0).2 $$ [HV H0 H1 Ha Hv]
    · isplitl [HV]; · iexact HV
      isplitl [H0]; · iexact H0
      isplitl [H1]; · iexact H1
      isplitl [Ha]; · iexact Ha
      iexact Hv
    icases HFF with ⟨HF0, HF1⟩
    imod (Free_alloc I c 0) $$ HF0 with ⟨HC, HS⟩
    iapply wp_seq
    iapply (part2_spec a2 h2 a3 h3 a4 h4 a5 h5 a8 h8 ok c i h1) $$ [HT HC HS]
    · unfold Fl
      isplitl [HT]; · iexact HT
      isplitl [HC]; · iexact HC
      iexact HS
    iintro %r ⟨%hr, HF⟩
    obtain ⟨r1', r2', r3'⟩ := r
    dsimp only at hr
    subst hr
    have e3 := (cond_iff 3#32 (I.stw (0)) (I.stw (0 + 1)) (by decide) (ok.mono (0) (by omega)) (ok.lt (0 + 1) (by omega)))
    rw [← cond5_eq] at e3
    iapply (wp_gissue ok (0) 3 (by omega) e3 rfl (chk4_ok i _ _ (ok.mono (0) (by omega)) (ok.lt (0 + 1) (by omega))) rfl rfl rfl rfl (inS_eq _ _ rfl _ _) (scS_eq _ _ rfl _ _)) $$ HF
    iintro HF
    have e4 := (cond_iff 4#32 (I.stw (0)) (I.stw (0 + 1)) (by decide) (ok.mono (0) (by omega)) (ok.lt (0 + 1) (by omega)))
    rw [← cond6_eq] at e4
    iapply (wp_gissue ok (0) 4 (by omega) e4 rfl (chk5_ok i _ _ (ok.mono (0) (by omega)) (ok.lt (0 + 1) (by omega))) rfl rfl rfl rfl (inS_eq _ _ rfl _ _) (scS_eq _ _ rfl _ _)) $$ HF
    iintro HF
    iapply (wp_loop _ (fun k => Zo c (GG I) d I.tail0 (1344 - I.tail0) k 0) (fun k => t1_step a2 h2 a3 h3 a4 h4 a5 h5 a8 h8 ok c d i _ h1 k)) $$ HZ
    rw [t1_trips _ (ok.lt 336 le_rfl), show 1344 - ((I.stw 336).toNat + 127) / 128 = 1344 - I.tail0 from rfl]
    iintro HZ
    iapply (wp_loop0 (t2_trips _))
    iapply Hk
    unfold B1
    rw [show min (4 + 1) (I.n 0) = I.n 0 from Nat.min_eq_right (ok.n_le 0 (by omega))]
    isplitl [HF]; · iexact HF
    isplitl [HF1]; · iexact HF1
    isplitl [H3]; · iexact H3
    isplitl [H5]; · iexact H5
    unfold Zs
    iexact HZ
  · have h0 : ¬ t = 0 := fun h => h1 ((cond1_iff i).2 (ht.trans h))
    rw [if_neg h0]
  iintro H
  unfold B1
  icases H with ⟨HF0, HF1, H3, H5, HZ⟩
  unfold Fl
  icases HF0 with ⟨HT, HC0, HS0⟩
  iapply (wp_guard iprop(Tab I c ∗ Free I c (t + 1) t) iprop(Tab I c ∗ Nx I c t) (fun h7 => ?_) (fun h7 => ?_)) $$ [HT HF1]
  · have h0 : t + 1 < 336 := by have := (cond7_iff i).1 h7; omega
    subst ht
    unfold Nx
    rw [if_pos h0, Free_step I c _ _ (by omega)]
    iintro ⟨HT, HF1⟩ Hk
    iapply wp_seq
    iapply (part3_spec a2 h2 a3 h3 a4 h4 a5 h5 a8 h8 c i h0) $$ HT
    iintro %r ⟨%hr, HT⟩
    obtain ⟨r1, r2, r3, r4, r5, r6, r7⟩ := r
    dsimp only at hr
    obtain ⟨rfl, rfl⟩ := hr
    imod (Free_alloc I c ((i 0).val + 1)) $$ HF1 with ⟨HC, HS⟩
    have hF : iprop(Tab I c ∗ InC I c ((i 0).val + 1) 0 0 ∗ InS I c ((i 0).val + 1) 0 0) ⊢ Fl I c ((i 0).val + 1) (min 0 (I.n ((i 0).val + 1))) := by rw [Nat.zero_min]; exact .rfl
    ihave HF := hF $$ [HT HC HS]
    · isplitl [HT]; · iexact HT
      isplitl [HC]; · iexact HC
      iexact HS
    have e0 := (cond_iff 0#32 (I.stw ((i 0).val + 1)) (I.stw ((i 0).val + 1 + 1)) (by decide) (ok.mono ((i 0).val + 1) (by omega)) (ok.lt ((i 0).val + 1 + 1) (by omega)))
    rw [← cond8_eq] at e0
    iapply (wp_gissue ok ((i 0).val + 1) 0 (by omega) e0 (off15_eq i) (chk7_ok i _ _ (ok.mono ((i 0).val + 1) (by omega)) (ok.lt ((i 0).val + 1 + 1) (by omega))) rfl rfl (off17_eq i) (off19_eq i) (inS_eq _ _ (off16_eq i) _ _) (scS_eq _ _ (off16_eq i) _ _)) $$ HF
    iintro HF
    have e1 := (cond_iff 1#32 (I.stw ((i 0).val + 1)) (I.stw ((i 0).val + 1 + 1)) (by decide) (ok.mono ((i 0).val + 1) (by omega)) (ok.lt ((i 0).val + 1 + 1) (by omega)))
    rw [← cond9_eq] at e1
    iapply (wp_gissue ok ((i 0).val + 1) 1 (by omega) e1 (off21_eq i) (chk8_ok i _ _ (ok.mono ((i 0).val + 1) (by omega)) (ok.lt ((i 0).val + 1 + 1) (by omega))) rfl rfl (off23_eq i) (off25_eq i) (inS_eq _ _ (off22_eq i) _ _) (scS_eq _ _ (off22_eq i) _ _)) $$ HF
    iintro HF
    have e2 := (cond_iff 2#32 (I.stw ((i 0).val + 1)) (I.stw ((i 0).val + 1 + 1)) (by decide) (ok.mono ((i 0).val + 1) (by omega)) (ok.lt ((i 0).val + 1 + 1) (by omega)))
    rw [← cond10_eq] at e2
    iapply (wp_gissue ok ((i 0).val + 1) 2 (by omega) e2 (off27_eq i) (chk9_ok i _ _ (ok.mono ((i 0).val + 1) (by omega)) (ok.lt ((i 0).val + 1 + 1) (by omega))) rfl rfl (off29_eq i) (off31_eq i) (inS_eq _ _ (off28_eq i) _ _) (scS_eq _ _ (off28_eq i) _ _)) $$ HF
    iintro HF
    have e3 := (cond_iff 3#32 (I.stw ((i 0).val + 1)) (I.stw ((i 0).val + 1 + 1)) (by decide) (ok.mono ((i 0).val + 1) (by omega)) (ok.lt ((i 0).val + 1 + 1) (by omega)))
    rw [← cond11_eq] at e3
    iapply (wp_gissue ok ((i 0).val + 1) 3 (by omega) e3 (off33_eq i) (chk10_ok i _ _ (ok.mono ((i 0).val + 1) (by omega)) (ok.lt ((i 0).val + 1 + 1) (by omega))) rfl rfl (off35_eq i) (off37_eq i) (inS_eq _ _ (off34_eq i) _ _) (scS_eq _ _ (off34_eq i) _ _)) $$ HF
    iintro HF
    have e4 := (cond_iff 4#32 (I.stw ((i 0).val + 1)) (I.stw ((i 0).val + 1 + 1)) (by decide) (ok.mono ((i 0).val + 1) (by omega)) (ok.lt ((i 0).val + 1 + 1) (by omega)))
    rw [← cond12_eq] at e4
    iapply (wp_gissue ok ((i 0).val + 1) 4 (by omega) e4 (off39_eq i) (chk11_ok i _ _ (ok.mono ((i 0).val + 1) (by omega)) (ok.lt ((i 0).val + 1 + 1) (by omega))) rfl rfl (off41_eq i) (off43_eq i) (inS_eq _ _ (off40_eq i) _ _) (scS_eq _ _ (off40_eq i) _ _)) $$ HF
    iintro HF
    iapply Hk
    rw [show min (4 + 1) (I.n ((i 0).val + 1)) = I.n ((i 0).val + 1) from Nat.min_eq_right (ok.n_le _ h0)]
    unfold Fl
    iexact HF
  · have h0 : ¬ t + 1 < 336 := fun h => h7 ((cond7_iff i).2 (by rw [ht]; exact h))
    unfold Nx
    rw [if_neg h0, ← Free_step I c (t + 1) t (by omega)]
  · isplitl [HT]; · iexact HT
    iexact HF1
  iintro ⟨HT, HN⟩
  iapply (wp_tab t (by omega) _ _ _ ((off45_eq i).trans (by rw [ht]))) $$ HT
  iintro HT
  iapply wp_done
  iapply Hk
  isplitr
  · ipureintro; exact ⟨rfl, rfl⟩
  unfold B2 Fl
  isplitl [HT HC0 HS0]
  · isplitl [HT]; · iexact HT
    isplitl [HC0]; · iexact HC0
    iexact HS0
  isplitl [HN]; · iexact HN
  isplitl [H3]; · iexact H3
  isplitl [H5]; · iexact H5
  iexact HZ

end Cert.KernelIdeal.Hand
-- ==== Proof.PhaseC.lean ====
module

public import proofs.«01_k».proof.Proof.PhaseB
public import proofs.«01_k».proof.Proof.OneHot

@[expose] public section

/-! # Receiving a document, and reading its hits -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)

theorem part10_spec {I : Inp F} (ok : I.Ok) (c : Dev nD) (i : grid0.Coords) (ht : (i 0).val < 336) (x0 x1 x2 x3 x4 : BitVec 32) {Q} :
    Wt I c (i 0).val 0 ⊢ iprop((∀ r : (Σ' (v49 : Elt F .i32), BitVec 32), ⌜r.1 = I.stw ((i 0).val + 1)⌝ ∗ Wt I c (i 0).val (min 1 (I.n (i 0).val)) -∗ Q r)
      -∗ WP c (k0_part10 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 (I.stw (i 0).val) x1 x2 x3 x4) Q) := by
  simp only [Gen.k0_part10_eq_skeleton]
  unfold Gen.k0_part10_skel
  iintro HF Hk
  unfold Wt
  icases HF with ⟨HT, HO, HC, HS⟩
  iapply (wp_tab ((i 0).val + 1) (by omega) _ _ _ (off46_eq i)) $$ HT
  iintro HT
  have hF : iprop(Tab I c ∗ Ow c ∗ InC I c (i 0).val (I.n (i 0).val) (NC * 0) ∗ InS I c (i 0).val (I.n (i 0).val) (NS * 0)) ⊢ Wt I c (i 0).val (min 0 (I.n (i 0).val)) := by rw [Nat.zero_min]; exact .rfl
  ihave HF := hF $$ [HT HO HC HS]
  · isplitl [HT]; · iexact HT
    isplitl [HO]; · iexact HO
    isplitl [HC]; · iexact HC
    iexact HS
  have e0 := (cond_iff 0#32 (I.stw (i 0).val) (I.stw ((i 0).val + 1)) (by decide) (ok.mono (i 0).val ht) (ok.lt ((i 0).val + 1) (by omega)))
  rw [← cond13_eq] at e0
  iapply (wp_gwait ok (i 0).val 0 ht e0 (off47_eq i) (chk12_ok _ _ (ok.mono (i 0).val ht) (ok.lt ((i 0).val + 1) (by omega))) (inS_eq _ _ (off48_eq i) _ _) (scS_eq _ _ (off48_eq i) _ _)) $$ HF
  iintro HF
  iapply wp_done
  iapply Hk
  isplitr
  · ipureintro; rfl
  unfold Wt
  iexact HF

theorem part11_spec {I : Inp F} (ok : I.Ok) (c : Dev nD) (i : grid0.Coords) (ht : (i 0).val < 336) (x0 x1 : BitVec 32) {Q} :
    iprop(Wt I c (i 0).val (min 1 (I.n (i 0).val)) ∗ owns (c : Thread nD τ) a2 fullShare (I.idx (i 0).val)) ⊢ iprop((∀ r : (Σ' (v87 : Elt F .i32) (v104 : BitVec 32), IVec S28x128 32), ⌜r.1 = I.stw (i 0).val ∧ r.2.2 = HX I (i 0).val⌝
        ∗ (Wt I c (i 0).val (I.n (i 0).val) ∗ owns (c : Thread nD τ) a2 fullShare (I.idx (i 0).val)) -∗ Q r)
      -∗ WP c (k0_part11 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 (I.stw (i 0).val) (I.stw ((i 0).val + 1)) x1) Q) := by
  simp only [Gen.k0_part11_eq_skeleton]
  unfold Gen.k0_part11_skel
  iintro ⟨HF, H2⟩ Hk
  have e1 := (cond_iff 1#32 (I.stw (i 0).val) (I.stw ((i 0).val + 1)) (by decide) (ok.mono (i 0).val ht) (ok.lt ((i 0).val + 1) (by omega)))
  rw [← cond14_eq] at e1
  iapply (wp_gwait ok (i 0).val 1 ht e1 (off53_eq i) (chk13_ok _ _ (ok.mono (i 0).val ht) (ok.lt ((i 0).val + 1) (by omega))) (inS_eq _ _ (off54_eq i) _ _) (scS_eq _ _ (off54_eq i) _ _)) $$ HF
  iintro HF
  have e2 := (cond_iff 2#32 (I.stw (i 0).val) (I.stw ((i 0).val + 1)) (by decide) (ok.mono (i 0).val ht) (ok.lt ((i 0).val + 1) (by omega)))
  rw [← cond15_eq] at e2
  iapply (wp_gwait ok (i 0).val 2 ht e2 (off59_eq i) (chk14_ok _ _ (ok.mono (i 0).val ht) (ok.lt ((i 0).val + 1) (by omega))) (inS_eq _ _ (off60_eq i) _ _) (scS_eq _ _ (off60_eq i) _ _)) $$ HF
  iintro HF
  have e3 := (cond_iff 3#32 (I.stw (i 0).val) (I.stw ((i 0).val + 1)) (by decide) (ok.mono (i 0).val ht) (ok.lt ((i 0).val + 1) (by omega)))
  rw [← cond16_eq] at e3
  iapply (wp_gwait ok (i 0).val 3 ht e3 (off65_eq i) (chk15_ok _ _ (ok.mono (i 0).val ht) (ok.lt ((i 0).val + 1) (by omega))) (inS_eq _ _ (off66_eq i) _ _) (scS_eq _ _ (off66_eq i) _ _)) $$ HF
  iintro HF
  have e4 := (cond_iff 4#32 (I.stw (i 0).val) (I.stw ((i 0).val + 1)) (by decide) (ok.mono (i 0).val ht) (ok.lt ((i 0).val + 1) (by omega)))
  rw [← cond17_eq] at e4
  iapply (wp_gwait ok (i 0).val 4 ht e4 (off71_eq i) (chk16_ok _ _ (ok.mono (i 0).val ht) (ok.lt ((i 0).val + 1) (by omega))) (inS_eq _ _ (off72_eq i) _ _) (scS_eq _ _ (off72_eq i) _ _)) $$ HF
  iintro HF
  rw [show min (4 + 1) (I.n (i 0).val) = I.n (i 0).val from Nat.min_eq_right (ok.n_le _ ht)]
  unfold Wt
  icases HF with ⟨HT, HF⟩
  iapply (wp_tab (i 0).val (by omega) _ _ _ (off77_eq i)) $$ HT
  iintro HT
  iapply (wp_tab (i 0).val (by omega) _ _ _ (off77_eq i)) $$ HT
  iintro HT
  iapply (wp_ldo (fun a => by fin_cases a <;> rfl)) $$ H2
  iintro H2
  iapply wp_done
  iapply Hk
  isplitr
  · ipureintro; exact ⟨rfl, rfl⟩
  isplitl [HT HF]
  · isplitl [HT]; · iexact HT
    iexact HF
  iexact H2

end Cert.KernelIdeal.Hand
-- ==== Proof.PhaseE.lean ====
module

public import proofs.«01_k».proof.Proof.PhaseD
public import proofs.«01_k».proof.Proof.PhaseC
public import proofs.«01_k».proof.Proof.Rem

@[expose] public section

/-! # The two products, the carry, and the chunks sent out -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

section
variable (I : Inp F) (c : Dev nD) (d : Vec F S172032x128 .bf16)

/-- The way out before document `t`: the chunks of the last one under way. -/
def OutS : ℕ → sProp 𝕄
  | 0 => iprop(∃ f : Vec F S640x128 .bf16, semVal ((c : Thread nD τ), .dma oS) 0 ∗ ((c : Thread nD τ).loc cc0_scratch4 ↦[Finset.univ]{fullShare} f) ∗ ((c : Thread nD τ).loc main_v15_1 ↦[rge 0 I.tail0]{fullShare} d) ∗ ((c : Thread nD τ).loc main_v15_1 ↦[rge 0 0]{fullShare} GG I))
  | s + 1 => iprop(Out c (GG I) d I.tail0 (I.full s) (I.c0 s) 0 (STG I s) (I.full s) 0 ∗ ((c : Thread nD τ).loc main_v15_1 ↦[rge 0 (I.c0 s)]{fullShare} GG I))
/-- The way out with the chunks of all documents before `t` arrived. -/
def OutD (t : ℕ) : sProp 𝕄 :=
  iprop(∃ f : Vec F S640x128 .bf16, semVal ((c : Thread nD τ), .dma oS) 0 ∗ ((c : Thread nD τ).loc cc0_scratch4 ↦[Finset.univ]{fullShare} f) ∗ ((c : Thread nD τ).loc main_v15_1 ↦[rge (I.c0 t) I.tail0]{fullShare} d) ∗ ((c : Thread nD τ).loc main_v15_1 ↦[rge 0 (I.c0 t)]{fullShare} GG I))
end

theorem stage_emb (off : Fin 2 → ℕ) (h) (o : ℕ) (ho : off = ![o, 0]) (y : S128x128.Idx) : (Rect.unit (s := S640x128) off S128x128.size h).emb y = i2 (m := 640) (n := 128) (o + (y 0).val) (y 1).val := by
  subst ho
  refine (i2_eq (m := 640) (n := 128) _ _ _ ?_ ?_).symm
  · rw [Rect.emb_apply]; show o + 1 * (y 0).val = _; omega
  · rw [Rect.emb_apply]; show 0 + 1 * (y 1).val = _; omega

section
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)
variable {I : Inp F} (ok : I.Ok) (c : Dev nD) (d : Vec F S172032x128 .bf16) (i : grid0.Coords) (t : ℕ) (ht : (i 0).val = t) (ht' : t < 336)
include ok ht ht'

omit ok in
theorem part20_spec (x : BitVec 32) {Q} :
    iprop(((c : Thread nD τ).loc cc0_scratch3 ↦[Finset.univ]{fullShare} DQ I t) ∗ owns (c : Thread nD τ) a4 fullShare I.qc ∗ owns (c : Thread nD τ) a5 fullShare I.qs ∗ Tab I c)
     ⊢ iprop((∀ r : (Σ' (v490 : FVec F S640x128 .bf16) (v494 : Elt F .i32) (v511 : BitVec 32), BitVec 1), ⌜r.1 = RES I t ∧ r.2.1 = I.stw (t - 1)⌝
      ∗ (((c : Thread nD τ).loc cc0_scratch3 ↦[Finset.univ]{fullShare} DQ I (t + 1)) ∗ owns (c : Thread nD τ) a4 fullShare I.qc ∗ owns (c : Thread nD τ) a5 fullShare I.qs ∗ Tab I c) -∗ Q r)
      -∗ WP c (k0_part20 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x (Pm I t) (Gen.k0_pay73 (WC I t) (WS I t))) Q) := by
  subst ht
  simp only [Gen.k0_part20_eq_skeleton]
  unfold Gen.k0_part20_skel
  iintro ⟨H3, H4, H5, HT⟩ Hk
  iapply (ldw3 (fun a => by fin_cases a <;> rfl)) $$ H3
  iintro H3
  iapply (ldw3 (fun a => by fin_cases a <;> rfl)) $$ H3
  iintro H3
  iapply (stw3 (fun a => by fin_cases a <;> rfl)) $$ H3
  iintro H3
  iapply (wp_ldo (fun a => by fin_cases a <;> rfl)) $$ H4
  iintro H4
  iapply (wp_ldo (fun a => by fin_cases a <;> rfl)) $$ H5
  iintro H5
  iapply (wp_tab ((i 0).val - 1) (by omega) _ _ _ (off80_eq i)) $$ HT
  iintro HT
  iapply wp_done
  iapply Hk
  isplitr
  · ipureintro; exact ⟨rfl, rfl⟩
  isplitl [H3]; · iexact H3
  isplitl [H4]; · iexact H4
  isplitl [H5]; · iexact H5
  iexact HT

omit ok ht ht' in
theorem t3_step {G : Vec F S172032x128 .bf16} {T n b o : ℕ} {S : Vec F S640x128 .bf16} (x0 x1 x2) {u w : BitVec 32} (hw : k0_chk17 i u w) (k) (hk : k.val < n) :
    iprop(Ow c ∗ Out c G d T n b o S n (NO * k.val)) ⊢ WP c (Gen.k0_t3_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 u x1 x2 w hw k ()) (fun _ => iprop(Ow c ∗ Out c G d T n b o S n (NO * (k.val + 1)))) := by
  unfold Gen.k0_t3_body
  iintro H
  iapply (wp_waitO k.val hk rfl) $$ H
  iintro H
  iapply wp_done
  iexact H

theorem t3_wp (x0 x1 x2) (hw : k0_chk17 i (I.stw (t - 1)) (I.stw t)) {α : Type} {hok} {K : Unit → Prog (TpuEff nD τ sig (Elt F) Λ₀ .tc) α} {Q : α → sProp 𝕄} :
    iprop(Ow c ∗ OutS I c d t) ⊢ iprop((iprop(Ow c ∗ OutD I c d t) -∗ WP c (K ()) Q)
      -∗ WP c (Scf.Loop.for (k0_t3_loop i (I.stw (t - 1)) (I.stw t)) hok () (Gen.k0_t3_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 (I.stw (t - 1)) x1 x2 (I.stw t) hw) >>= K) Q) := by
  cases t with
  | zero =>
    iintro ⟨HO, H⟩ Hk
    iapply (wp_loop0 ((t3_trips i _ _ le_rfl (ok.lt 0 (by omega)) (fun _ => rfl)).trans (Nat.sub_self _)))
    iapply Hk
    isplitl [HO]; · iexact HO
    unfold OutS OutD
    rw [c0_zero ok]
    iexact H
  | succ s =>
    have htr : (k0_t3_loop i (I.stw (s + 1 - 1)) (I.stw (s + 1))).trips = I.full s :=
      t3_trips i _ _ (ok.mono s (by omega)) (ok.lt (s + 1) (by omega)) (fun h => by omega)
    iintro ⟨HO, H⟩ Hk
    unfold OutS
    icases H with ⟨H, HG⟩
    iapply (wp_loop _ (fun k => iprop(Ow c ∗ Out c (GG I) d I.tail0 (I.full s) (I.c0 s) 0 (STG I s) (I.full s) (NO * k))) (fun k => t3_step a2 h2 a3 h3 a4 h4 a5 h5 a8 h8 c d i x0 x1 x2 hw k (lt_of_lt_of_eq k.isLt htr))) $$ [HO H]
    · isplitl [HO]; · iexact HO
      iexact H
    rw [htr]
    iintro ⟨HO, H⟩
    imod (Out_collect c (GG I) d I.tail0 (I.full s) (I.c0 s) 0 (STG I s)) $$ [H HG] with ⟨HV, H4, Hd, HG⟩
    · isplitl [H]; · iexact H
      iexact HG
    rw [c0_succ ok s (by omega)]
    iapply Hk
    isplitl [HO]; · iexact HO
    unfold OutD
    iexists (STG I s)
    isplitl [HV]; · iexact HV
    isplitl [H4]; · iexact H4
    isplitl [Hd]; · iexact Hd
    iexact HG

theorem part21_spec (x1 : BitVec 32) (x2 : BitVec 1) {Q} :
    iprop(Tab I c ∗ Ow c ∗ OutS I c d t ∗ ((c : Thread nD τ).loc cc0_scratch5 ↦[Finset.univ]{fullShare} CA I t))
     ⊢ iprop((∀ r : (Σ' (v546 : FVec F S128x128 .bf16), Vec F S128x128 .bf16), ⌜r.1 = Gen.k0_pay77 (RES I t) ∧ r.2 = CA I t⌝
      ∗ (Tab I c ∗ Ow c ∗ semVal ((c : Thread nD τ), .dma oS) 0 ∗ ((c : Thread nD τ).loc cc0_scratch4 ↦[Finset.univ]{fullShare} Gen.k0_pay76 (RES I t)) ∗ ((c : Thread nD τ).loc main_v15_1 ↦[rge (I.c0 t) I.tail0]{fullShare} d) ∗ ((c : Thread nD τ).loc main_v15_1 ↦[rge 0 (I.c0 t)]{fullShare} GG I) ∗ ((c : Thread nD τ).loc cc0_scratch5 ↦[Finset.univ]{fullShare} CA I t)) -∗ Q r)
      -∗ WP c (k0_part21 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (RES I t) (I.stw (t - 1)) x1 x2) Q) := by
  simp only [Gen.k0_part21_eq_skeleton]
  unfold Gen.k0_part21_skel
  iintro ⟨HT, HO, HS, H5⟩ Hk
  iapply (wp_tab t (by omega) _ _ _ ((off77_eq i).trans (by rw [ht]))) $$ HT
  iintro HT
  have hm : I.st (t - 1) ≤ I.st t := by
    cases t with
    | zero => exact le_rfl
    | succ s => exact ok.mono s (by omega)
  iapply (wp_asm (chk17_ok i _ _ hm (ok.lt t (by omega)) (fun h => by rw [ht] at h; subst h; rfl)))
  iapply (t3_wp a2 h2 a3 h3 a4 h4 a5 h5 a8 h8 ok c d i t ht ht') $$ [HO HS]
  · isplitl [HO]; · iexact HO
    iexact HS
  iintro ⟨HO, HS⟩
  unfold OutD
  icases HS with ⟨%f, HV, H4, Hd, HG⟩
  iapply (wp_loop0 (t4_trips _ _ _))
  iapply (ldw4 (fun a => by fin_cases a <;> rfl)) $$ H4
  iintro H4
  iapply (stw4 (fun a => by fin_cases a <;> rfl)) $$ H4
  iintro H4
  iapply (ldw5 (fun a => by fin_cases a <;> rfl)) $$ H5
  iintro H5
  iapply wp_done
  iapply Hk
  isplitr
  · ipureintro; exact ⟨rfl, rfl⟩
  isplitl [HT]; · iexact HT
  isplitl [HO]; · iexact HO
  isplitl [HV]; · iexact HV
  isplitl [H4]; · iexact H4
  isplitl [Hd]; · iexact Hd
  isplitl [HG]; · iexact HG
  iexact H5

theorem part22_spec (x0 x1 : BitVec 32) {Q} :
    iprop(Tab I c ∗ ((c : Thread nD τ).loc cc0_scratch4 ↦[Finset.univ]{fullShare} Gen.k0_pay76 (RES I t)) ∗ ((c : Thread nD τ).loc cc0_scratch5 ↦[Finset.univ]{fullShare} CA I t))
     ⊢ iprop((∀ r : (Σ' (v554 : Elt F .i32) (k0_hw18 : k0_chk18 i (I.stw t) v554) (v572 : BitVec 32) (v583 : BitVec 32) (c1_i32_171 : BitVec 32) (c0_i32_172 : BitVec 32), BitVec 32), ⌜r.1 = I.stw (t + 1)⌝
      ∗ (Tab I c ∗ ((c : Thread nD τ).loc cc0_scratch4 ↦[Finset.univ]{fullShare} STG I t) ∗ ((c : Thread nD τ).loc cc0_scratch5 ↦[Finset.univ]{fullShare} CA I (t + 1))) -∗ Q r)
      -∗ WP c (k0_part22 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 x0 (I.stw t) x1 (Gen.k0_pay77 (RES I t)) (CA I t)) Q) := by
  simp only [Gen.k0_part22_eq_skeleton]
  unfold Gen.k0_part22_skel
  have hf := ok.full_le t ht'
  have hmo : (I.stw t).toNat ≤ (I.stw (t + 1)).toNat := ok.mono t ht'
  have hlt : (I.stw (t + 1)).toNat ≤ 172032 := ok.lt (t + 1) (by omega)
  iintro ⟨HT, H4, H5⟩ Hk
  iapply (ld4 (fun _ => Finset.mem_univ _) (fun y => Gen.k0_pay76 (RES I t) (i2 (m := 640) (n := 128) (0 + (y 0).val) (y 1).val)) (fun y => congrArg _ (stage_emb _ _ 0 rfl y))) $$ H4
  iintro H4
  iapply (st4 (fun _ => Finset.mem_univ _) (STG I t) (fun y => by
      have l0 : (y 0).val < 128 := (y 0).isLt
      have l1 : (y 1).val < 128 := (y 1).isLt
      rw [stage_emb _ _ 0 rfl y]
      have e0 : ((i2 (m := 640) (n := 128) (0 + (y 0).val) (y 1).val) 0).val = (y 0).val := (i2_0 (m := 640) (n := 128) _ _ (by omega)).trans (Nat.zero_add _)
      have e1 : ((i2 (m := 640) (n := 128) (0 + (y 0).val) (y 1).val) 1).val = (y 1).val := i2_1 (m := 640) (n := 128) _ _ l1
      unfold STG stgOf
      rw [if_pos (lt_of_eq_of_lt e0 l0)]
      exact congrArg (Gen.k0_pay78 (Gen.k0_pay77 (RES I t)) (CA I t)) (i2_eq (m := 128) (n := 128) y _ _ e0.symm e1.symm).symm) (fun x hx => by
      unfold STG stgOf
      by_cases hlt : (x 0).val < 128
      · exfalso
        have l1 : (x 1).val < 128 := (x 1).isLt
        refine hx (i2 (m := 128) (n := 128) (x 0).val (x 1).val) ?_
        rw [stage_emb _ _ 0 rfl]
        refine i2_eq (m := 640) (n := 128) x _ _ ?_ ?_
        · exact ((Nat.zero_add _).trans (i2_0 (m := 128) (n := 128) _ _ hlt)).symm
        · exact (i2_1 (m := 128) (n := 128) _ _ l1).symm
      · rw [if_neg hlt])) $$ H4
  iintro H4
  iapply (wp_tab (t + 1) (by omega) _ _ _ ((off81_eq i).trans (by rw [ht]))) $$ HT
  iintro HT
  iapply (wp_asm (chk18_ok i _ _ hmo hlt (ok.len t ht')))
  iapply (ld4 (fun _ => Finset.mem_univ _) (fun y => stgOf I t (CA I t) (i2 (128 * I.full t + (y 0).val) (y 1).val)) (fun y => by rw [stage_emb _ _ _ (off82_eq _ _ hmo hlt) y]; rfl)) $$ H4
  iintro H4
  iapply (ldw5 (fun a => by fin_cases a <;> rfl)) $$ H5
  iintro H5
  iapply (stw5 (fun a => by fin_cases a <;> rfl)) $$ H5
  iintro H5
  iapply wp_done
  iapply Hk
  isplitr
  · ipureintro; rfl
  isplitl [HT]; · iexact HT
  isplitl [H4]; · iexact H4
  iexact H5

theorem t5_step (hw : k0_chk18 i (I.stw t) (I.stw (t + 1))) (k) :
    Out c (GG I) d I.tail0 (I.full t) (I.c0 t) 0 (STG I t) k.val 0 ⊢ WP c (Gen.k0_t5_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw t) (I.stw (t + 1)) hw k ()) (fun _ => Out c (GG I) d I.tail0 (I.full t) (I.c0 t) 0 (STG I t) (k.val + 1) 0) := by
  have hmo : (I.stw t).toNat ≤ (I.stw (t + 1)).toNat := ok.mono t ht'
  have hlt : (I.stw (t + 1)).toNat ≤ 172032 := ok.lt (t + 1) (by omega)
  have hk : k.val < I.full t := lt_of_lt_of_eq k.isLt (t5_trips _ _ hmo hlt)
  have hT : I.c0 t + I.full t ≤ I.tail0 := by
    have h1 := c0_succ ok t ht'
    have h2 := c0_le ok (t + 1) 336 (by omega) le_rfl
    have h3 := c0_tail ok
    omega
  unfold Gen.k0_t5_body
  iintro H
  iapply (wp_issueO (c := c) (G := GG I) (d := d) (S := STG I t) I.tail0 (I.full t) (I.c0 t) 0 k.val hk hT (tail_le ok) (fun r q hr hq => by
      rw [Nat.zero_add]; exact GG_stg ok t k.val r q ht' (Or.inl hk) (by omega) hr hq) _ _ _ _ (off83_eq _ _ hmo hlt k) ((off84_eq _ _ hmo hlt k).trans (by rw [Nat.zero_add])) rfl) $$ H
  iintro H
  iapply wp_done
  iexact H

theorem t5_wp (hw : k0_chk18 i (I.stw t) (I.stw (t + 1))) {α : Type} {hok} {K : Unit → Prog (TpuEff nD τ sig (Elt F) Λ₀ .tc) α} {Q : α → sProp 𝕄} :
    Out c (GG I) d I.tail0 (I.full t) (I.c0 t) 0 (STG I t) 0 0 ⊢ iprop((Out c (GG I) d I.tail0 (I.full t) (I.c0 t) 0 (STG I t) (I.full t) 0 -∗ WP c (K ()) Q)
      -∗ WP c (Scf.Loop.for (k0_t5_loop (I.stw t) (I.stw (t + 1))) hok () (Gen.k0_t5_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw t) (I.stw (t + 1)) hw) >>= K) Q) := by
  have htr : (k0_t5_loop (I.stw t) (I.stw (t + 1))).trips = I.full t := t5_trips _ _ (ok.mono t ht') (ok.lt (t + 1) (by omega))
  iintro H Hk
  iapply (wp_loop _ (fun k => Out c (GG I) d I.tail0 (I.full t) (I.c0 t) 0 (STG I t) k 0) (fun k => t5_step a2 h2 a3 h3 a4 h4 a5 h5 a8 h8 ok c d i t ht ht' hw k)) $$ H
  rw [htr]
  iexact Hk
end

end Cert.KernelIdeal.Hand
-- ==== Proof.PhaseF.lean ====
module

public import proofs.«01_k».proof.Proof.PhaseE

@[expose] public section

/-! # After the last document -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

/-- Block `r` of the queries' gradient, transposed. -/
def blkq (I : Inp F) (r : ℕ) : Vec F S128x128 .f32 := fun y => DQ I 336 (i2 (y 0).val (128 * r + (y 1).val))

theorem blkq_emb (I : Inp F) (r : ℕ) (off : Fin 2 → ℕ) (h) (ho : off = ![0, 128 * r]) (y : S128x128.Idx) :
    DQ I 336 ((Rect.unit (s := S128x3584) off S128x128.size h).emb y) = blkq I r y := by
  subst ho
  refine congrArg (DQ I 336) (i2_eq (m := 128) (n := 3584) _ _ _ ?_ ?_).symm
  · rw [Rect.emb_apply]; show 0 + 1 * (y 0).val = _; omega
  · rw [Rect.emb_apply]; show 128 * r + 1 * (y 1).val = _; omega

theorem blkq_tr (I : Inp F) (r : ℕ) (hr : r < 28) (v : Vec F S128x128 .bf16) (hv : v = Gen.k0_pay6 (blkq I r))
    (p l : Fin 128) (x : S3584x128.Idx) (h0 : (x 0).val = 128 * r + p.val) (h1 : (x 1).val = l.val) : v (i2 p.val l.val) = GQ I x := by
  subst hv
  have lp := p.isLt
  have ll := l.isLt
  have e : (transpose S128x128 [1, 0] (blkq I r) Facts₀.transposes_S128x128_p1_0_S128x128) (i2 p.val l.val) = blkq I r (i2 l.val p.val) := by
    refine transpose_apply _ _ _ _ _ (fun b => ?_)
    fin_cases b
    · exact (i2_1 (m := 128) (n := 128) _ _ lp).trans (i2_0 (m := 128) (n := 128) _ _ lp).symm
    · exact (i2_0 (m := 128) (n := 128) _ _ ll).trans (i2_1 (m := 128) (n := 128) _ _ ll).symm
  show FloatOps.truncf .bf16 _ ((transpose S128x128 [1, 0] (blkq I r) Facts₀.transposes_S128x128_p1_0_S128x128) (i2 p.val l.val)) = _
  rw [e]
  unfold GQ blkq
  rw [i2_0 (m := 128) (n := 128) l.val p.val ll, i2_1 (m := 128) (n := 128) l.val p.val lp, h0, h1]

section
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)
variable {I : Inp F} (ok : I.Ok) (c : Dev nD) (d : Vec F S172032x128 .bf16) (i : grid0.Coords)

theorem t7_step {G : Vec F S172032x128 .bf16} {T n b o : ℕ} {S : Vec F S640x128 .bf16} (v19 v104 v572 : BitVec 32) (k0_hw6 : k0_chk6 i (I.stw 336)) (k0_hw18 : k0_chk18 i (I.stw 335) (I.stw 336)) (k0_h18 : k0_cond18 i = 1#1) (k) (hk : k.val < n) :
    iprop(Ow c ∗ Out c G d T n b o S n (NO * k.val)) ⊢ WP c (Gen.k0_t7_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw 336) k0_hw6 v19 (I.stw 335) v104 (I.stw 336) k0_hw18 v572 k0_h18 k ()) (fun _ => iprop(Ow c ∗ Out c G d T n b o S n (NO * (k.val + 1)))) := by
  unfold Gen.k0_t7_body
  iintro H
  iapply (wp_waitO k.val hk rfl) $$ H
  iintro H
  iapply wp_done
  iexact H

theorem t9_step {G : Vec F S172032x128 .bf16} {T n : ℕ} (v19 v104 v572 : BitVec 32) (k0_hw6 : k0_chk6 i (I.stw 336)) (k0_hw18 : k0_chk18 i (I.stw 335) (I.stw 336)) (k0_h18 : k0_cond18 i = 1#1) (k) (hk : k.val < n) :
    iprop(Ow c ∗ Zo c G d T n n (NO * k.val)) ⊢ WP c (Gen.k0_t9_body (F := F) i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw 336) k0_hw6 v19 (I.stw 335) v104 (I.stw 336) k0_hw18 v572 k0_h18 k ()) (fun _ => iprop(Ow c ∗ Zo c G d T n n (NO * (k.val + 1)))) := by
  unfold Gen.k0_t9_body
  iintro H
  iapply (wp_waitZ k.val hk rfl) $$ H
  iintro H
  iapply wp_done
  iexact H

include ok in
theorem part4_spec (v19 v104 v572 : BitVec 32) (k0_hw6 : k0_chk6 i (I.stw 336)) (k0_hw18 : k0_chk18 i (I.stw 335) (I.stw 336)) (k0_h18 : k0_cond18 i = 1#1) (X : Vec F S3584x128 .bf16) {Q} :
    iprop(Ow c ∗ Tab I c ∗ OutS I c d 336 ∗ Zs I c d ∗ ((c : Thread nD τ).loc cc0_scratch3 ↦[Finset.univ]{fullShare} DQ I 336) ∗ owns (c : Thread nD τ) a8 fullShare X)
     ⊢ iprop((∀ r : FVec F S128x128 .bf16, ⌜r = Gen.k0_pay6 (blkq I 0)⌝
      ∗ (Ow c ∗ Tab I c ∗ semVal ((c : Thread nD τ), .dma oS) 0 ∗ ((c : Thread nD τ).loc cc0_scratch4 ↦[Finset.univ]{fullShare} STG I 335) ∗ semVal ((c : Thread nD τ), .dma zS) 0 ∗ ((c : Thread nD τ).loc cc0_scratch6 ↦[Finset.univ]{fullShare} zv)
        ∗ ((c : Thread nD τ).loc main_v15_1 ↦[Finset.univ]{fullShare} GG I) ∗ ((c : Thread nD τ).loc cc0_scratch3 ↦[Finset.univ]{fullShare} DQ I 336) ∗ OQ c a8 (GQ I) 0) -∗ Q r)
      -∗ WP c (k0_part4 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (I.stw 336) k0_hw6 v19 (I.stw 335) v104 (I.stw 336) k0_hw18 v572 k0_h18) Q) := by
  have hmo : (I.stw 335).toNat ≤ (I.stw 336).toNat := ok.mono 335 (by omega)
  have hlt : (I.stw 336).toNat ≤ 172032 := ok.lt 336 le_rfl
  have hT := tail_le ok
  have h7 : (k0_t7_loop (I.stw 335) (I.stw 336)).trips = I.full 335 := t7_trips _ _ hmo hlt
  have h9 : (k0_t9_loop (I.stw 336)).trips = 1344 - I.tail0 := t9_trips _ hlt
  simp only [Gen.k0_part4_eq_skeleton]
  unfold Gen.k0_part4_skel
  unfold OutS
  iintro ⟨HO, HT, ⟨H, HG⟩, HZ, H3, H8⟩ Hk
  iapply (wp_loop _ (fun k => iprop(Ow c ∗ Out c (GG I) d I.tail0 (I.full 335) (I.c0 335) 0 (STG I 335) (I.full 335) (NO * k))) (fun k => t7_step a2 h2 a3 h3 a4 h4 a5 h5 a8 h8 c d i v19 v104 v572 k0_hw6 k0_hw18 k0_h18 k (lt_of_lt_of_eq k.isLt h7))) $$ [HO H]
  · isplitl [HO]; · iexact HO
    iexact H
  rw [h7]
  iintro ⟨HO, H⟩
  imod (Out_collect c (GG I) d I.tail0 (I.full 335) (I.c0 335) 0 (STG I 335)) $$ [H HG] with ⟨HV, H4, Hd, HG⟩
  · isplitl [H]; · iexact H
    iexact HG
  rw [c0_succ ok 335 (by omega)]
  iapply (wp_loop0 (t8_trips _ _))
  iapply (wp_tab 336 (by omega) _ _ _ rfl) $$ HT
  iintro HT
  iapply (wp_asm (chk19_ok i _ _ hmo hlt (ok.len 335 (by omega))))
  iapply (wp_guard iprop(Ow c ∗ semVal ((c : Thread nD τ), .dma oS) 0 ∗ ((c : Thread nD τ).loc cc0_scratch4 ↦[Finset.univ]{fullShare} STG I 335) ∗ ((c : Thread nD τ).loc main_v15_1 ↦[rge (I.c0 336) I.tail0]{fullShare} d) ∗ ((c : Thread nD τ).loc main_v15_1 ↦[rge 0 (I.c0 336)]{fullShare} GG I))
      iprop(Ow c ∗ semVal ((c : Thread nD τ), .dma oS) 0 ∗ ((c : Thread nD τ).loc cc0_scratch4 ↦[Finset.univ]{fullShare} STG I 335) ∗ ((c : Thread nD τ).loc main_v15_1 ↦[rge 0 I.tail0]{fullShare} GG I)) (fun h19 => ?_) (fun h19 => ?_)) $$ [HO HV H4 Hd HG]
  · have hc : I.st 336 % 128 ≠ 0 := (cond19_iff _ hlt).1 h19
    have ht : I.c0 336 + 1 = I.tail0 := by unfold Inp.c0 Inp.tail0; omega
    iintro ⟨HO, HV, H4, Hd, HG⟩ Hk
    imod (Out_alloc c (GG I) d I.tail0 1 (I.c0 336) (I.full 335) (STG I 335)) $$ [HV H4 Hd] with H
    · isplitl [HV]; · iexact HV
      isplitl [H4]; · iexact H4
      iexact Hd
    iapply (wp_issueO (c := c) (G := GG I) (d := d) (S := STG I 335) I.tail0 1 (I.c0 336) (I.full 335) 0 (by decide) (by omega) hT (fun r q hr hq => by
      have e : I.c0 336 = I.c0 335 + I.full 335 := (c0_succ ok 335 (by omega)).symm
      rw [Nat.add_zero, Nat.add_zero, e]
      exact GG_stg ok 335 (I.full 335) r q (by omega) (Or.inr rfl) (by have e : I.c0 335 + I.full 335 = I.c0 336 := c0_succ ok 335 (by omega); omega) hr hq) _ _ _ _ (off87_eq _ _ hmo hlt) (off88_eq _ _ hmo hlt) rfl) $$ H
    iintro H
    iapply (wp_waitO (n := 1) 0 (by decide) rfl) $$ [HO H]
    · isplitl [HO]; · iexact HO
      iexact H
    iintro ⟨HO, H⟩
    imod (Out_collect c (GG I) d I.tail0 1 (I.c0 336) (I.full 335) (STG I 335)) $$ [H HG] with ⟨HV, H4, Hd, HG⟩
    · isplitl [H]; · iexact H
      iexact HG
    rw [ht]
    iapply Hk
    isplitl [HO]; · iexact HO
    isplitl [HV]; · iexact HV
    isplitl [H4]; · iexact H4
    iexact HG
  · have hc : ¬ I.st 336 % 128 ≠ 0 := fun h => h19 ((cond19_iff _ hlt).2 h)
    have ht : I.c0 336 = I.tail0 := by unfold Inp.c0 Inp.tail0; have := not_not.1 hc; omega
    rw [ht]
    iintro ⟨HO, HV, H4, Hd, HG⟩
    isplitl [HO]; · iexact HO
    isplitl [HV]; · iexact HV
    isplitl [H4]; · iexact H4
    iexact HG
  · isplitl [HO]; · iexact HO
    isplitl [HV]; · iexact HV
    isplitl [H4]; · iexact H4
    isplitl [Hd]; · iexact Hd
    iexact HG
  iintro ⟨HO, HV, H4, HG⟩
  unfold Zs
  iapply (wp_loop _ (fun k => iprop(Ow c ∗ Zo c (GG I) d I.tail0 (1344 - I.tail0) (1344 - I.tail0) (NO * k))) (fun k => t9_step a2 h2 a3 h3 a4 h4 a5 h5 a8 h8 c d i v19 v104 v572 k0_hw6 k0_hw18 k0_h18 k (lt_of_lt_of_eq k.isLt h9))) $$ [HO HZ]
  · isplitl [HO]; · iexact HO
    iexact HZ
  rw [h9]
  iintro ⟨HO, HZ⟩
  imod (Zo_collect c (GG I) d I.tail0 (1344 - I.tail0)) $$ HZ with ⟨HZV, H6, HZ⟩
  rw [show I.tail0 + (1344 - I.tail0) = 1344 by omega]
  ihave HG := (univ_split2 (ℓ := (c : Thread nD τ).loc main_v15_1) (f := GG I) (rge 0 I.tail0) (rge I.tail0 1344) (by
    ext x
    have lx : (x 0).val < 172032 := (x 0).isLt
    simp only [rge, Finset.mem_filter, Finset.mem_univ, _root_.true_and, Finset.mem_sdiff]; omega)).2 $$ [HG HZ]
  · isplitl [HG]; · iexact HG
    iexact HZ
  iapply (wp_loop0 (t10_trips _))
  iapply (ld3 (fun _ => Finset.mem_univ _) (blkq I 0) (fun y => blkq_emb I 0 _ _ rfl y)) $$ H3
  iintro H3
  ihave H8 := OQ_start $$ H8
  iapply wp_qld $$ H8
  iintro %_ H8
  iapply wp_done
  iapply Hk
  isplitr
  · ipureintro; rfl
  isplitl [HO]; · iexact HO
  isplitl [HT]; · iexact HT
  isplitl [HV]; · iexact HV
  isplitl [H4]; · iexact H4
  isplitl [HZV]; · iexact HZV
  isplitl [H6]; · iexact H6
  isplitl [HG]; · iexact HG
  isplitl [H3]; · iexact H3
  iexact H8
end

end Cert.KernelIdeal.Hand
-- ==== Proof.Body.lean ====
module

public import proofs.«01_k».proof.Proof.PhaseF

@[expose] public section

/-! # The whole body -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable [Facts]

section
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)
variable {I : Inp F} (c : Dev nD) (i : grid0.Coords)

/-- The queries' gradient on its way to its window. -/
def QS (r : ℕ) : sProp 𝕄 := iprop(((c : Thread nD τ).loc cc0_scratch3 ↦[Finset.univ]{fullShare} DQ I 336) ∗ OQ c a8 (GQ I) r)

theorem part5_spec {Q} :
    QS (I := I) a8 c 0 ⊢ iprop((∀ r : FVec F S128x128 .bf16, ⌜r = Gen.k0_pay6 (blkq I 7)⌝ ∗ QS (I := I) a8 c 7 -∗ Q r) -∗ WP c (k0_part5 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (Gen.k0_pay6 (blkq I 0))) Q) := by
  simp only [Gen.k0_part5_eq_skeleton]
  unfold Gen.k0_part5_skel QS
  iintro ⟨H3, H8⟩ Hk
  iapply (wp_qst 0 rfl (blkq_tr I 0 (by decide) _ rfl)) $$ H8
  iintro H8
  iapply (ld3 (fun _ => Finset.mem_univ _) (blkq I 1) (fun y => blkq_emb I 1 _ _ rfl y)) $$ H3
  iintro H3
  iapply wp_qld $$ H8
  iintro %_ H8
  iapply (wp_qst 1 rfl (blkq_tr I 1 (by decide) _ rfl)) $$ H8
  iintro H8
  iapply (ld3 (fun _ => Finset.mem_univ _) (blkq I 2) (fun y => blkq_emb I 2 _ _ rfl y)) $$ H3
  iintro H3
  iapply wp_qld $$ H8
  iintro %_ H8
  iapply (wp_qst 2 rfl (blkq_tr I 2 (by decide) _ rfl)) $$ H8
  iintro H8
  iapply (ld3 (fun _ => Finset.mem_univ _) (blkq I 3) (fun y => blkq_emb I 3 _ _ rfl y)) $$ H3
  iintro H3
  iapply wp_qld $$ H8
  iintro %_ H8
  iapply (wp_qst 3 rfl (blkq_tr I 3 (by decide) _ rfl)) $$ H8
  iintro H8
  iapply (ld3 (fun _ => Finset.mem_univ _) (blkq I 4) (fun y => blkq_emb I 4 _ _ rfl y)) $$ H3
  iintro H3
  iapply wp_qld $$ H8
  iintro %_ H8
  iapply (wp_qst 4 rfl (blkq_tr I 4 (by decide) _ rfl)) $$ H8
  iintro H8
  iapply (ld3 (fun _ => Finset.mem_univ _) (blkq I 5) (fun y => blkq_emb I 5 _ _ rfl y)) $$ H3
  iintro H3
  iapply wp_qld $$ H8
  iintro %_ H8
  iapply (wp_qst 5 rfl (blkq_tr I 5 (by decide) _ rfl)) $$ H8
  iintro H8
  iapply (ld3 (fun _ => Finset.mem_univ _) (blkq I 6) (fun y => blkq_emb I 6 _ _ rfl y)) $$ H3
  iintro H3
  iapply wp_qld $$ H8
  iintro %_ H8
  iapply (wp_qst 6 rfl (blkq_tr I 6 (by decide) _ rfl)) $$ H8
  iintro H8
  iapply (ld3 (fun _ => Finset.mem_univ _) (blkq I 7) (fun y => blkq_emb I 7 _ _ rfl y)) $$ H3
  iintro H3
  iapply wp_done
  iapply Hk
  isplitr
  · ipureintro; rfl
  isplitl [H3]; · iexact H3
  iexact H8

theorem part6_spec {Q} :
    QS (I := I) a8 c 7 ⊢ iprop((∀ r : PUnit, ⌜True⌝ ∗ QS (I := I) a8 c 14 -∗ Q r) -∗ WP c (k0_part6 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (Gen.k0_pay6 (blkq I 7))) Q) := by
  simp only [Gen.k0_part6_eq_skeleton]
  unfold Gen.k0_part6_skel QS
  iintro ⟨H3, H8⟩ Hk
  iapply wp_qld $$ H8
  iintro %_ H8
  iapply (wp_qst 7 rfl (blkq_tr I 7 (by decide) _ rfl)) $$ H8
  iintro H8
  iapply (ld3 (fun _ => Finset.mem_univ _) (blkq I 8) (fun y => blkq_emb I 8 _ _ rfl y)) $$ H3
  iintro H3
  iapply wp_qld $$ H8
  iintro %_ H8
  iapply (wp_qst 8 rfl (blkq_tr I 8 (by decide) _ rfl)) $$ H8
  iintro H8
  iapply (ld3 (fun _ => Finset.mem_univ _) (blkq I 9) (fun y => blkq_emb I 9 _ _ rfl y)) $$ H3
  iintro H3
  iapply wp_qld $$ H8
  iintro %_ H8
  iapply (wp_qst 9 rfl (blkq_tr I 9 (by decide) _ rfl)) $$ H8
  iintro H8
  iapply (ld3 (fun _ => Finset.mem_univ _) (blkq I 10) (fun y => blkq_emb I 10 _ _ rfl y)) $$ H3
  iintro H3
  iapply wp_qld $$ H8
  iintro %_ H8
  iapply (wp_qst 10 rfl (blkq_tr I 10 (by decide) _ rfl)) $$ H8
  iintro H8
  iapply (ld3 (fun _ => Finset.mem_univ _) (blkq I 11) (fun y => blkq_emb I 11 _ _ rfl y)) $$ H3
  iintro H3
  iapply wp_qld $$ H8
  iintro %_ H8
  iapply (wp_qst 11 rfl (blkq_tr I 11 (by decide) _ rfl)) $$ H8
  iintro H8
  iapply (ld3 (fun _ => Finset.mem_univ _) (blkq I 12) (fun y => blkq_emb I 12 _ _ rfl y)) $$ H3
  iintro H3
  iapply wp_qld $$ H8
  iintro %_ H8
  iapply (wp_qst 12 rfl (blkq_tr I 12 (by decide) _ rfl)) $$ H8
  iintro H8
  iapply (ld3 (fun _ => Finset.mem_univ _) (blkq I 13) (fun y => blkq_emb I 13 _ _ rfl y)) $$ H3
  iintro H3
  iapply wp_qld $$ H8
  iintro %_ H8
  iapply (wp_qst 13 rfl (blkq_tr I 13 (by decide) _ rfl)) $$ H8
  iintro H8
  iapply wp_done
  iapply Hk
  isplitr
  · ipureintro; exact trivial
  isplitl [H3]; · iexact H3
  iexact H8

theorem part7_spec {Q} :
    QS (I := I) a8 c 14 ⊢ iprop((∀ r : FVec F S128x128 .bf16, ⌜r = Gen.k0_pay6 (blkq I 20)⌝ ∗ QS (I := I) a8 c 20 -∗ Q r) -∗ WP c (k0_part7 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 ) Q) := by
  simp only [Gen.k0_part7_eq_skeleton]
  unfold Gen.k0_part7_skel QS
  iintro ⟨H3, H8⟩ Hk
  iapply (ld3 (fun _ => Finset.mem_univ _) (blkq I 14) (fun y => blkq_emb I 14 _ _ rfl y)) $$ H3
  iintro H3
  iapply wp_qld $$ H8
  iintro %_ H8
  iapply (wp_qst 14 rfl (blkq_tr I 14 (by decide) _ rfl)) $$ H8
  iintro H8
  iapply (ld3 (fun _ => Finset.mem_univ _) (blkq I 15) (fun y => blkq_emb I 15 _ _ rfl y)) $$ H3
  iintro H3
  iapply wp_qld $$ H8
  iintro %_ H8
  iapply (wp_qst 15 rfl (blkq_tr I 15 (by decide) _ rfl)) $$ H8
  iintro H8
  iapply (ld3 (fun _ => Finset.mem_univ _) (blkq I 16) (fun y => blkq_emb I 16 _ _ rfl y)) $$ H3
  iintro H3
  iapply wp_qld $$ H8
  iintro %_ H8
  iapply (wp_qst 16 rfl (blkq_tr I 16 (by decide) _ rfl)) $$ H8
  iintro H8
  iapply (ld3 (fun _ => Finset.mem_univ _) (blkq I 17) (fun y => blkq_emb I 17 _ _ rfl y)) $$ H3
  iintro H3
  iapply wp_qld $$ H8
  iintro %_ H8
  iapply (wp_qst 17 rfl (blkq_tr I 17 (by decide) _ rfl)) $$ H8
  iintro H8
  iapply (ld3 (fun _ => Finset.mem_univ _) (blkq I 18) (fun y => blkq_emb I 18 _ _ rfl y)) $$ H3
  iintro H3
  iapply wp_qld $$ H8
  iintro %_ H8
  iapply (wp_qst 18 rfl (blkq_tr I 18 (by decide) _ rfl)) $$ H8
  iintro H8
  iapply (ld3 (fun _ => Finset.mem_univ _) (blkq I 19) (fun y => blkq_emb I 19 _ _ rfl y)) $$ H3
  iintro H3
  iapply wp_qld $$ H8
  iintro %_ H8
  iapply (wp_qst 19 rfl (blkq_tr I 19 (by decide) _ rfl)) $$ H8
  iintro H8
  iapply (ld3 (fun _ => Finset.mem_univ _) (blkq I 20) (fun y => blkq_emb I 20 _ _ rfl y)) $$ H3
  iintro H3
  iapply wp_qld $$ H8
  iintro %_ H8
  iapply wp_done
  iapply Hk
  isplitr
  · ipureintro; rfl
  isplitl [H3]; · iexact H3
  iexact H8

theorem part8_spec {Q} :
    QS (I := I) a8 c 20 ⊢ iprop((∀ r : FVec F S128x128 .bf16, ⌜r = Gen.k0_pay6 (blkq I 27)⌝ ∗ QS (I := I) a8 c 27 -∗ Q r) -∗ WP c (k0_part8 i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 (Gen.k0_pay6 (blkq I 20))) Q) := by
  simp only [Gen.k0_part8_eq_skeleton]
  unfold Gen.k0_part8_skel QS
  iintro ⟨H3, H8⟩ Hk
  iapply (wp_qst 20 rfl (blkq_tr I 20 (by decide) _ rfl)) $$ H8
  iintro H8
  iapply (ld3 (fun _ => Finset.mem_univ _) (blkq I 21) (fun y => blkq_emb I 21 _ _ rfl y)) $$ H3
  iintro H3
  iapply wp_qld $$ H8
  iintro %_ H8
  iapply (wp_qst 21 rfl (blkq_tr I 21 (by decide) _ rfl)) $$ H8
  iintro H8
  iapply (ld3 (fun _ => Finset.mem_univ _) (blkq I 22) (fun y => blkq_emb I 22 _ _ rfl y)) $$ H3
  iintro H3
  iapply wp_qld $$ H8
  iintro %_ H8
  iapply (wp_qst 22 rfl (blkq_tr I 22 (by decide) _ rfl)) $$ H8
  iintro H8
  iapply (ld3 (fun _ => Finset.mem_univ _) (blkq I 23) (fun y => blkq_emb I 23 _ _ rfl y)) $$ H3
  iintro H3
  iapply wp_qld $$ H8
  iintro %_ H8
  iapply (wp_qst 23 rfl (blkq_tr I 23 (by decide) _ rfl)) $$ H8
  iintro H8
  iapply (ld3 (fun _ => Finset.mem_univ _) (blkq I 24) (fun y => blkq_emb I 24 _ _ rfl y)) $$ H3
  iintro H3
  iapply wp_qld $$ H8
  iintro %_ H8
  iapply (wp_qst 24 rfl (blkq_tr I 24 (by decide) _ rfl)) $$ H8
  iintro H8
  iapply (ld3 (fun _ => Finset.mem_univ _) (blkq I 25) (fun y => blkq_emb I 25 _ _ rfl y)) $$ H3
  iintro H3
  iapply wp_qld $$ H8
  iintro %_ H8
  iapply (wp_qst 25 rfl (blkq_tr I 25 (by decide) _ rfl)) $$ H8
  iintro H8
  iapply (ld3 (fun _ => Finset.mem_univ _) (blkq I 26) (fun y => blkq_emb I 26 _ _ rfl y)) $$ H3
  iintro H3
  iapply wp_qld $$ H8
  iintro %_ H8
  iapply (wp_qst 26 rfl (blkq_tr I 26 (by decide) _ rfl)) $$ H8
  iintro H8
  iapply (ld3 (fun _ => Finset.mem_univ _) (blkq I 27) (fun y => blkq_emb I 27 _ _ rfl y)) $$ H3
  iintro H3
  iapply wp_done
  iapply Hk
  isplitr
  · ipureintro; rfl
  isplitl [H3]; · iexact H3
  iexact H8

end

section
variable (I : Inp F) (c : Dev nD) (d : Vec F S172032x128 .bf16)

/-- What the body keeps once the last document is through. -/
def Fin0 : sProp 𝕄 :=
  iprop(semVal ((c : Thread nD τ), .dma oS) 0 ∗ ((c : Thread nD τ).loc cc0_scratch4 ↦[Finset.univ]{fullShare} STG I 335) ∗ semVal ((c : Thread nD τ), .dma zS) 0 ∗ ((c : Thread nD τ).loc cc0_scratch6 ↦[Finset.univ]{fullShare} zv) ∗ ((c : Thread nD τ).loc main_v15_1 ↦[Finset.univ]{fullShare} GG I))
/-- The same with all the rest. -/
def Fin1 : sProp 𝕄 :=
  iprop(Tab I c ∗ Free I c 336 336 ∗ Free I c 335 336 ∗ ((c : Thread nD τ).loc cc0_scratch3 ↦[Finset.univ]{fullShare} DQ I 336) ∗ ((c : Thread nD τ).loc cc0_scratch5 ↦[Finset.univ]{fullShare} CA I 336) ∗ Fin0 I c)
/-- What the body holds before document `t`. -/
def St (t : ℕ) : sProp 𝕄 :=
  iprop(Ow c ∗ (∃ P : Vec F S640x3584 .bf16, ((c : Thread nD τ).loc cc0_scratch2 ↦[Finset.univ]{fullShare} P))
    ∗ (if t < 336 then iprop((if t = 0 then Raw I c d else B1 I c d t) ∗ OutS I c d t) else Fin1 I c))
end

section
variable (a2 : Memref sig .tc .vmem S1x28x128 .i32) (h2 : a2.IsWhole) (a3 : Memref sig .tc .vmem S1x28x128 .f32) (h3 : a3.IsWhole) (a4 : Memref sig .tc .vmem S3584x128 .fp8e4m3) (h4 : a4.IsWhole) (a5 : Memref sig .tc .vmem S3584x128 .f32) (h5 : a5.IsWhole) (a8 : Memref sig .tc .vmem S3584x128 .bf16) (h8 : a8.IsWhole)
variable {I : Inp F} (ok : I.Ok) (c : Dev nD) (d : Vec F S172032x128 .bf16) (i : grid0.Coords)

/-- The windows, before and after. -/
def Wn (I : Inp F) (t : ℕ) (X : Vec F S3584x128 .bf16) : sProp 𝕄 :=
  iprop(owns (c : Thread nD τ) a2 fullShare (I.idx t) ∗ owns (c : Thread nD τ) a3 fullShare (I.w t) ∗ owns (c : Thread nD τ) a4 fullShare I.qc ∗ owns (c : Thread nD τ) a5 fullShare I.qs
    ∗ owns (c : Thread nD τ) a8 fullShare X)

theorem St_next (t : ℕ) (ht : t < 336) (P : Vec F S640x3584 .bf16) :
    iprop(Ow c ∗ Tab I c ∗ ((c : Thread nD τ).loc cc0_scratch3 ↦[Finset.univ]{fullShare} DQ I (t + 1)) ∗ (if t = 335 then Fin0 I c else iprop(OutS I c d (t + 1) ∗ Zs I c d)) ∗ ((c : Thread nD τ).loc cc0_scratch2 ↦[Finset.univ]{fullShare} P)
      ∗ Nx I c t ∗ Free I c t (t + 1) ∗ ((c : Thread nD τ).loc cc0_scratch5 ↦[Finset.univ]{fullShare} CA I (t + 1))) ⊢ St I c d (t + 1) := by
  unfold St Nx
  by_cases h335 : t = 335
  · subst h335
    rw [if_pos rfl, if_neg (by decide), if_neg (by decide)]
    unfold Fin1
    iintro ⟨HO, HT, H3, HX, H2, HN, HF, H5⟩
    isplitl [HO]; · iexact HO
    isplitl [H2]; · iexists P; iexact H2
    isplitl [HT]; · iexact HT
    isplitl [HN]; · iexact HN
    isplitl [HF]; · iexact HF
    isplitl [H3]; · iexact H3
    isplitl [H5]; · iexact H5
    iexact HX
  · rw [if_neg h335, if_pos (show t + 1 < 336 by omega), if_pos (show t + 1 < 336 by omega), if_neg (show ¬ t + 1 = 0 by omega)]
    unfold B1 Fl
    rw [Free_mod I c (t + 1 + 1) t (t + 1) (by omega)]
    iintro ⟨HO, HT, H3, ⟨HOS, HZ⟩, H2, ⟨N1, N2⟩, HF, H5⟩
    isplitl [HO]; · iexact HO
    isplitl [H2]; · iexists P; iexact H2
    isplitr [HOS]
    · isplitl [HT N1 N2]
      · isplitl [HT]; · iexact HT
        isplitl [N1]; · iexact N1
        iexact N2
      isplitl [HF]; · iexact HF
      isplitl [H3]; · iexact H3
      isplitl [H5]; · iexact H5
      iexact HZ
    iexact HOS

include ok in
theorem body_spec (t : ℕ) (ht : (i 0).val = t) (ht' : t < 336) (X : Vec F S3584x128 .bf16) :
    iprop(St I c d t ∗ Wn a2 a3 a4 a5 a8 c I t X)
     ⊢ WP c (cc0_maxsim_bwd i (Memref.whole main_v2) (Memref.isWhole_whole _) a2 h2 a3 h3 a4 h4 a5 h5 (Memref.whole main_arg2) (Memref.isWhole_whole _) (Memref.whole main_v14) (Memref.isWhole_whole _) a8 h8 (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) (fun _ => iprop(St I c d (t + 1) ∗ Wn a2 a3 a4 a5 a8 c I t (if t = 335 then GQ I else X))) := by
  subst ht
  have hmo : I.st (i 0).val ≤ I.st ((i 0).val + 1) := ok.mono _ ht'
  have hT : I.c0 (i 0).val + I.full (i 0).val ≤ I.tail0 := by
    have h1 := c0_succ ok (i 0).val ht'
    have h2 := c0_le ok ((i 0).val + 1) 336 (by omega) le_rfl
    have h3 := c0_tail ok
    omega
  simp only [Gen.cc0_maxsim_bwd_eq_skeleton]
  unfold Gen.cc0_maxsim_bwd_skel
  unfold Wn
  have hSt : St I c d (i 0).val ⊢ iprop(Ow c ∗ (∃ P : Vec F S640x3584 .bf16, ((c : Thread nD τ).loc cc0_scratch2 ↦[Finset.univ]{fullShare} P)) ∗ (if (i 0).val = 0 then Raw I c d else B1 I c d (i 0).val) ∗ OutS I c d (i 0).val) := by
    unfold St; rw [if_pos ht']
  iintro ⟨HSt, W2, W3, W4, W5, W8⟩
  ihave HSt := hSt $$ HSt
  icases HSt with ⟨HO, ⟨%P0, H2⟩, HB, HOS⟩
  iapply wp_seq
  iapply (part9_spec a2 h2 a3 h3 a4 h4 a5 h5 a8 h8 ok c d i (i 0).val rfl ht') $$ HB
  iintro %r ⟨%hr, HB⟩
  obtain ⟨arg0, v0, k0_hw6, v19, v23, v29, c128, v30, v35, c0⟩ := r
  dsimp only at hr ⊢
  obtain ⟨rfl, rfl⟩ := hr
  unfold B2 Fl
  icases HB with ⟨⟨HT, HC, HS⟩, HN, H3, H5, HZ⟩
  iapply wp_seq
  iapply (part10_spec a2 h2 a3 h3 a4 h4 a5 h5 a8 h8 ok c i ht' _ _ _ _ _) $$ [HT HO HC HS]
  · unfold Wt
    isplitl [HT]; · iexact HT
    isplitl [HO]; · iexact HO
    isplitl [HC]; · iexact HC
    iexact HS
  iintro %r ⟨%hr, HF⟩
  obtain ⟨v49, v70⟩ := r
  dsimp only at hr ⊢
  subst hr
  iapply wp_seq
  iapply (part11_spec a2 h2 a3 h3 a4 h4 a5 h5 a8 h8 ok c i ht' _ _) $$ [HF W2]
  · isplitl [HF]; · iexact HF
    iexact W2
  iintro %r ⟨%hr, HF, W2⟩
  obtain ⟨v87, v104, v112⟩ := r
  dsimp only at hr ⊢
  obtain ⟨rfl, rfl⟩ := hr
  unfold Wt
  icases HF with ⟨HT, HO, HC, HS⟩
  imod (Free_collect I c (i 0).val) $$ [HC HS] with HFr
  · isplitl [HC]; · iexact HC
    iexact HS
  unfold Free
  icases HFr with ⟨F1, F2, F3, F4, F5, F6⟩
  ihave HP := (PB_start (c := c) (P := Pm I (i 0).val)) $$ H2
  iapply wp_seq
  iapply (part12_spec a2 h2 a3 h3 a4 h4 a5 h5 a8 h8 c i (i 0).val) $$ [HP W3]
  · isplitl [HP]; · iexact HP
    iexact W3
  iintro %r ⟨%hr, HP, W3⟩
  obtain ⟨v114, v115, v159⟩ := r
  dsimp only at hr ⊢
  obtain ⟨rfl, rfl, rfl⟩ := hr
  iapply wp_seq
  iapply (part13_spec a2 h2 a3 h3 a4 h4 a5 h5 a8 h8 c i (i 0).val) $$ HP
  iintro %r ⟨%hr, HP⟩
  obtain ⟨v202, v203, cst⟩ := r
  dsimp only at hr ⊢
  obtain ⟨rfl, rfl, rfl⟩ := hr
  iapply wp_seq
  iapply (part14_spec a2 h2 a3 h3 a4 h4 a5 h5 a8 h8 c i (i 0).val) $$ HP
  iintro %r ⟨%hr, HP⟩
  subst hr
  iapply wp_seq
  iapply (part15_spec a2 h2 a3 h3 a4 h4 a5 h5 a8 h8 c i (i 0).val) $$ HP
  iintro %r ⟨%hr, HP⟩
  obtain ⟨v292, v293⟩ := r
  dsimp only at hr ⊢
  subst hr
  iapply wp_seq
  iapply (part16_spec a2 h2 a3 h3 a4 h4 a5 h5 a8 h8 c i (i 0).val _) $$ HP
  iintro %r ⟨%hr, HP⟩
  subst hr
  iapply wp_seq
  iapply (part17_spec a2 h2 a3 h3 a4 h4 a5 h5 a8 h8 c i (i 0).val) $$ HP
  iintro %r ⟨%hr, HP⟩
  obtain ⟨v382, v383, cst⟩ := r
  dsimp only at hr ⊢
  obtain ⟨rfl, rfl, rfl⟩ := hr
  iapply wp_seq
  iapply (part18_spec a2 h2 a3 h3 a4 h4 a5 h5 a8 h8 c i (i 0).val) $$ HP
  iintro %r ⟨%hr, HP⟩
  subst hr
  iapply wp_seq
  iapply (part19_spec a2 h2 a3 h3 a4 h4 a5 h5 a8 h8 c i (i 0).val rfl _) $$ [HP F3 F4]
  · isplitl [HP]; · iexact HP
    isplitl [F3]; · iexact F3
    iexact F4
  iintro %r ⟨%hr, H2, F3, F4⟩
  obtain ⟨v452, v474⟩ := r
  dsimp only at hr ⊢
  obtain ⟨rfl, rfl⟩ := hr
  iapply wp_seq
  iapply (part20_spec a2 h2 a3 h3 a4 h4 a5 h5 a8 h8 c i (i 0).val rfl ht' _) $$ [H3 W4 W5 HT]
  · isplitl [H3]; · iexact H3
    isplitl [W4]; · iexact W4
    isplitl [W5]; · iexact W5
    iexact HT
  iintro %r ⟨%hr, H3, W4, W5, HT⟩
  obtain ⟨v490, v494, v511, v512⟩ := r
  dsimp only at hr ⊢
  obtain ⟨rfl, rfl⟩ := hr
  iapply wp_seq
  iapply (part21_spec a2 h2 a3 h3 a4 h4 a5 h5 a8 h8 ok c d i (i 0).val rfl ht' _ _) $$ [HT HO HOS H5]
  · isplitl [HT]; · iexact HT
    isplitl [HO]; · iexact HO
    isplitl [HOS]; · iexact HOS
    iexact H5
  iintro %r ⟨%hr, HT, HO, HV, H4, Hd, HG, H5⟩
  obtain ⟨v546, v547⟩ := r
  dsimp only at hr ⊢
  obtain ⟨rfl, rfl⟩ := hr
  iapply wp_seq
  iapply (part22_spec a2 h2 a3 h3 a4 h4 a5 h5 a8 h8 ok c i (i 0).val rfl ht' _ _) $$ [HT H4 H5]
  · isplitl [HT]; · iexact HT
    isplitl [H4]; · iexact H4
    iexact H5
  iintro %r ⟨%hr, HT, H4, H5⟩
  obtain ⟨v554, k0_hw18, v572, v583, c1, c2, c3⟩ := r
  dsimp only at hr ⊢
  subst hr
  imod (Out_alloc c (GG I) d I.tail0 (I.full (i 0).val) (I.c0 (i 0).val) 0 (STG I (i 0).val)) $$ [HV H4 Hd] with H
  · isplitl [HV]; · iexact HV
    isplitl [H4]; · iexact H4
    iexact Hd
  iapply (t5_wp a2 h2 a3 h3 a4 h4 a5 h5 a8 h8 ok c d i (i 0).val rfl ht' k0_hw18) $$ H
  iintro H
  iapply (wp_loop0 (t6_trips _ _))
  iapply (wp_guard iprop(Ow c ∗ Tab I c ∗ OutS I c d ((i 0).val + 1) ∗ Zs I c d ∗ ((c : Thread nD τ).loc cc0_scratch3 ↦[Finset.univ]{fullShare} DQ I ((i 0).val + 1)) ∗ owns (c : Thread nD τ) a8 fullShare X)
      iprop(Ow c ∗ Tab I c ∗ ((c : Thread nD τ).loc cc0_scratch3 ↦[Finset.univ]{fullShare} DQ I ((i 0).val + 1)) ∗ owns (c : Thread nD τ) a8 fullShare (if (i 0).val = 335 then GQ I else X)
        ∗ (if (i 0).val = 335 then Fin0 I c else iprop(OutS I c d ((i 0).val + 1) ∗ Zs I c d))) (fun h18 => ?_) (fun h18 => ?_)) $$ [HO HT H HG HZ H3 W8]
  · have h335 : (i 0).val = 335 := (cond18_iff i).1 h18
    clear hT hmo ht'
    rw [if_pos h335, if_pos h335]
    revert k0_hw18
    rw [h335]
    intro k0_hw18
    iintro ⟨HO, HT, HOS, HZ, H3, W8⟩ Hk
    iapply wp_seq
    iapply (part4_spec a2 h2 a3 h3 a4 h4 a5 h5 a8 h8 ok c d i v19 _ _ k0_hw6 k0_hw18 h18 X) $$ [HO HT HOS HZ H3 W8]
    · isplitl [HO]; · iexact HO
      isplitl [HT]; · iexact HT
      isplitl [HOS]; · iexact HOS
      isplitl [HZ]; · iexact HZ
      isplitl [H3]; · iexact H3
      iexact W8
    iintro %r ⟨%hr, HO, HT, K1, K2, K3, K4, K5, H3, H8⟩
    subst hr
    have hQ : iprop(((c : Thread nD τ).loc cc0_scratch3 ↦[Finset.univ]{fullShare} DQ I 336) ∗ OQ c a8 (GQ I) 0) ⊢ QS (I := I) a8 c 0 := by unfold QS; exact .rfl
    ihave HQ := hQ $$ [H3 H8]
    · isplitl [H3]; · iexact H3
      iexact H8
    iapply wp_seq
    iapply (part5_spec a2 h2 a3 h3 a4 h4 a5 h5 a8 h8 c i) $$ HQ
    iintro %r ⟨%hr, HQ⟩
    subst hr
    iapply wp_seq
    iapply (part6_spec a2 h2 a3 h3 a4 h4 a5 h5 a8 h8 c i) $$ HQ
    iintro %r ⟨%_, HQ⟩
    iapply wp_seq
    iapply (part7_spec a2 h2 a3 h3 a4 h4 a5 h5 a8 h8 c i) $$ HQ
    iintro %r ⟨%hr, HQ⟩
    subst hr
    iapply wp_seq
    iapply (part8_spec a2 h2 a3 h3 a4 h4 a5 h5 a8 h8 c i) $$ HQ
    iintro %r ⟨%hr, HQ⟩
    subst hr
    unfold QS
    icases HQ with ⟨H3, H8⟩
    iapply wp_qld $$ H8
    iintro %_ H8
    iapply (wp_qst 27 rfl (blkq_tr I 27 (by decide) _ rfl)) $$ H8
    iintro H8
    iapply Hk
    ihave W8 := OQ_end $$ H8
    isplitl [HO]; · iexact HO
    isplitl [HT]; · iexact HT
    isplitl [H3]; · iexact H3
    isplitl [W8]; · iexact W8
    unfold Fin0
    isplitl [K1]; · iexact K1
    isplitl [K2]; · iexact K2
    isplitl [K3]; · iexact K3
    isplitl [K4]; · iexact K4
    iexact K5
  · have h335 : ¬ (i 0).val = 335 := fun h => h18 ((cond18_iff i).2 h)
    rw [if_neg h335, if_neg h335]
    iintro ⟨HO, HT, HOS, HZ, H3, W8⟩
    isplitl [HO]; · iexact HO
    isplitl [HT]; · iexact HT
    isplitl [H3]; · iexact H3
    isplitl [W8]; · iexact W8
    isplitl [HOS]; · iexact HOS
    iexact HZ
  · isplitl [HO]; · iexact HO
    isplitl [HT]; · iexact HT
    isplitl [H HG]
    · unfold OutS
      isplitl [H]; · iexact H
      iexact HG
    isplitl [HZ]; · iexact HZ
    isplitl [H3]; · iexact H3
    iexact W8
  iintro ⟨HO, HT, H3, W8, HX⟩
  iapply wp_done
  isplitr [W2 W3 W4 W5 W8]
  · iapply (St_next c d (i 0).val ht')
    isplitl [HO]; · iexact HO
    isplitl [HT]; · iexact HT
    isplitl [H3]; · iexact H3
    isplitl [HX]; · iexact HX
    isplitl [H2]; · iexact H2
    isplitl [HN]; · iexact HN
    isplitl [F1 F2 F3 F4 F5 F6]
    · unfold Free
      isplitl [F1]; · iexact F1
      isplitl [F2]; · iexact F2
      isplitl [F3]; · iexact F3
      isplitl [F4]; · iexact F4
      isplitl [F5]; · iexact F5
      iexact F6
    iexact H5
  isplitl [W2]; · iexact W2
  isplitl [W3]; · iexact W3
  isplitl [W4]; · iexact W4
  isplitl [W5]; · iexact W5
  iexact W8
end

end Cert.KernelIdeal.Hand
-- ==== Proof.Around.lean ====
module

public import proofs.«01_k».proof.Proof.Body
public import Idealize.ShloMosaic.Lib.Pipeline.FrameValue

@[expose] public section

/-! # The kernel between the region's entry and its exit -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

/-- The kernel's own semaphores. -/
def osem : Fin 6 → SemLoc sig := ![.dma (inS 0), .dma (scS 0), .dma (inS 1), .dma (scS 1), .dma oS, .dma zS]
theorem ownSem : Pipeline.OwnSemFacts spec0 osem := by decide +kernel

/-- The buffers the kernel reads where they lie, and the one it writes where it lies. -/
def HR : Finset (Ref sig .tc) := {main_arg2, main_v14}
def RR : Finset (Ref sig .tc) := {main_v15_1}
theorem HR_sub : HR ⊆ Pipeline.restRefsP sig pre0 spec0 := by decide +kernel
theorem RR_sub : RR ⊆ Pipeline.restRefsP sig pre0 spec0 \ HR := by decide +kernel

variable {I : Inp F} (c : Dev nD)

theorem HR_eq (Φ : Ref sig .tc → sProp 𝕄) : bigSep HR Φ = iprop(Φ main_arg2 ∗ Φ main_v14) :=
  bigSep_eq_bigSepL_of_eq [main_arg2, main_v14] (by decide +kernel) (by decide +kernel) Φ
theorem RR_eq (Φ : Ref sig .tc → sProp 𝕄) : bigSep RR Φ = Φ main_v15_1 :=
  bigSep_eq_bigSepL_of_eq [main_v15_1] (by decide +kernel) (by decide +kernel) Φ
theorem osem_eq : (ownSems0 (Ix := Unit) (Name := ℕ) (U := UD sig nD τ) (Lvl := ℕ) (Val := Elt F) (τ := τ) osem c : sProp 𝕄)
    = iprop(semVal ((c : Thread nD τ), .dma (inS 0)) 0 ∗ semVal ((c : Thread nD τ), .dma (scS 0)) 0 ∗ semVal ((c : Thread nD τ), .dma (inS 1)) 0 ∗ semVal ((c : Thread nD τ), .dma (scS 1)) 0
        ∗ semVal ((c : Thread nD τ), .dma oS) 0 ∗ semVal ((c : Thread nD τ), .dma zS) 0) :=
  bigSep_univ_eq_bigSepL [(0 : Fin 6), 1, 2, 3, 4, 5] (by decide) (by decide) _
theorem pre_eq (v : pre0.Contents (Elt F)) : (ΦT (U := UD sig nD τ) pre0 v c : sProp 𝕄)
    = ((c : Thread nD τ).loc main_v2 ↦[Finset.univ]{PosShare.right fullShare} v 0) :=
  bigSep_univ_eq_bigSepL [(0 : Fin 1)] (by decide) (by decide) _

variable [Facts]

/-- The kernel's state before a step, but for what it owes. -/
def StO (I : Inp F) (c : Dev nD) (d : Vec F S172032x128 .bf16) (t : ℕ) : sProp 𝕄 :=
  iprop((∃ P : Vec F S640x3584 .bf16, ((c : Thread nD τ).loc cc0_scratch2 ↦[Finset.univ]{fullShare} P))
    ∗ (if t < 336 then iprop((if t = 0 then Raw I c d else B1 I c d t) ∗ OutS I c d t) else Fin1 I c))

theorem St_eq (d : Vec F S172032x128 .bf16) (t : ℕ) : St I c d t = iprop(Ow c ∗ StO I c d t) := rfl

theorem enter (ok : I.Ok) (V : (c : Dev nD) → (b : Ref sig .tc) → Buf (Elt F) ((c.tc : Thread nD τ).loc b)) (v : pre0.Contents (Elt F))
    (hv : v 0 = I.tab) (h2 : V c main_arg2 = I.codes) (h14 : V c main_v14 = I.scl) :
    iprop(ΦDRG osem spec0 HR RR V V c ∗ ΦT (U := UD sig nD τ) pre0 v c) ⊢ iprop((∃ r, prngReg c r) ∗ StO I c (V c main_v15_1) 0 : sProp 𝕄) := by
  rw [ΦDRG_eq, pre_eq, osem_eq, Gen.scopedRest0_eq, HR_eq, hv, h2, h14]
  unfold routed
  rw [RR_eq]
  unfold StO
  rw [if_pos (show 0 < 336 by omega), if_pos rfl]
  unfold Raw OutS Tab
  have hs : ((c : Thread nD τ).loc main_v15_1 ↦[Finset.univ]{fullShare} V c main_v15_1 : sProp 𝕄)
      ⊣⊢ iprop(((c : Thread nD τ).loc main_v15_1 ↦[rge 0 I.tail0]{fullShare} V c main_v15_1) ∗ ((c : Thread nD τ).loc main_v15_1 ↦[rge I.tail0 1344]{fullShare} V c main_v15_1)) :=
    univ_split2 _ _ (by
      ext x; have l : ((x : S172032x128.Idx) 0).val < 172032 := (x 0).isLt
      simp only [rge, Finset.mem_filter, Finset.mem_univ, true_and, Finset.mem_sdiff]; omega)
  have he : (emp : sProp 𝕄) ⊢ ((c : Thread nD τ).loc main_v15_1 ↦[rge 0 0]{fullShare} GG I) := by
    rw [show rge 0 0 = ∅ from by
      ext x; simp only [rge, Finset.mem_filter, Finset.mem_univ, _root_.true_and, Finset.notMem_empty, iff_false]; omega, pointsTo_empty]
  iintro ⟨⟨⟨⟨%f0, H0⟩, ⟨%f1, H1⟩, ⟨%f2, H2⟩, ⟨%f3, H3⟩, ⟨%f4, H4⟩, ⟨%f5, H5⟩, ⟨%f6, H6⟩⟩, HP, ⟨Sa, Sb, Sc, Sd, So, Sz⟩, ⟨Ha, Hb⟩, HD⟩, HT⟩
  isplitl [HP]; · iexact HP
  isplitl [H2]; · iexists f2; iexact H2
  ihave HD := hs.1 $$ HD
  icases HD with ⟨HD1, HD2⟩
  isplitr [So H4 HD1]
  · isplitl [HT]; · iexact HT
    isplitl [Sa Sb Sc Sd]
    · isplitl [Sa]; · iexact Sa
      isplitl [Sb]; · iexact Sb
      isplitl [Sc]; · iexact Sc
      iexact Sd
    isplitl [H0]; · iexists f0; iexact H0
    isplitl [H1]; · iexists f1; iexact H1
    isplitl [H3]; · iexists f3; iexact H3
    isplitl [H5]; · iexists f5; iexact H5
    isplitl [H6]; · iexists f6; iexact H6
    isplitl [Sz]; · iexact Sz
    isplitl [HD2]; · iexact HD2
    isplitl [Ha]; · iexact Ha
    iexact Hb
  · iexists f4
    isplitl [So]; · iexact So
    isplitl [H4]; · iexact H4
    isplitl [HD1]; · iexact HD1
    iapply he; iempintro

theorem leave (V G : (c : Dev nD) → (b : Ref sig .tc) → Buf (Elt F) ((c.tc : Thread nD τ).loc b)) (d : Vec F S172032x128 .bf16)
    (h2 : V c main_arg2 = I.codes) (h14 : V c main_v14 = I.scl) (hG : G c main_v15_1 = GG I) :
    iprop((∃ r, prngReg c r) ∗ StO I c d 336) ⊢ (ΦDRG osem spec0 HR RR V G c : sProp 𝕄) := by
  rw [ΦDRG_eq, osem_eq, Gen.scopedRest0_eq, HR_eq, h2, h14]
  unfold routed
  rw [RR_eq, hG]
  unfold StO
  rw [if_neg (show ¬ 336 < 336 by omega)]
  unfold Fin1 Fin0
  rw [Free_mod I c 336 0 336 (by omega), Free_mod I c 335 1 336 (by omega)]
  iintro ⟨HP, ⟨%f2, H2⟩, -, F0, F1, H3, H5, So, H4, Sz, H6, HD⟩
  ihave HF := (Free_both I c 336).1 $$ [F0 F1]
  · isplitl [F0]; · iexact F0
    iexact F1
  icases HF with ⟨⟨Sa, Sb, Sc, Sd⟩, H0, H1, Ha, Hb⟩
  isplitl [H0 H1 H2 H3 H4 H5 H6]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6
  isplitl [HP]; · iexact HP
  isplitl [Sa Sb Sc Sd So Sz]
  · isplitl [Sa]; · iexact Sa
    isplitl [Sb]; · iexact Sb
    isplitl [Sc]; · iexact Sc
    isplitl [Sd]; · iexact Sd
    isplitl [So]; · iexact So
    iexact Sz
  isplitl [Ha Hb]
  · isplitl [Ha]; · iexact Ha
    iexact Hb
  iexact HD

end Cert.KernelIdeal.Hand

end
-- ==== Proof.Run.lean ====
module

public import proofs.«01_k».proof.Proof.Around
public import Idealize.ShloMosaic.Lib.Pipeline.ValueKit.Geometry

@[expose] public section

/-! # The run of the whole program -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The buffers of core `c` when the kernel starts. -/
abbrev V0 (c : Dev nD) : Valuation τ sig (Elt F) := StableHlo.after (List.flatten [Gen.hostOps0, Gen.hostOps0_1]) (fun b => m (c, b))
/-- The same read at a reference. -/
abbrev V (c : Dev nD) (b : Ref sig .tc) : Buf (Elt F) ((c : Thread nD τ).loc b) := V0 m c (Proc.devRef .tc b)

theorem hostOps0_fresh : (Gen.hostOps0 : List (HloOp τ sig (Elt F))).Forall fun op => op.fresh = ∅ := by
  simp only [List.Forall]; repeat' constructor
theorem hostOps0_1_fresh : (Gen.hostOps0_1 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UD sig nD τ) (Lvl := ℕ) pcfgs 0 defs₀ 𝒱₀ m (main (F := F)) (V m) :=
  Pipeline.hmainP_prefixes pcfgs 0 defs₀ 𝒱₀ m main [Gen.hostOps0, Gen.hostOps0_1] (by simp only [List.Forall]; exact ⟨Gen.hostOps0_sub, Gen.hostOps0_1_sub⟩)
    (by simp only [List.Forall]; exact ⟨hostOps0_fresh, hostOps0_1_fresh⟩) Gen.main_chain

theorem V_arg0 (c : Dev nD) : V m c main_arg0 = m ((c : Thread nD τ).loc main_arg0) :=
  StableHlo.after_of_forall_not_mem (b := Proc.devRef .tc main_arg0) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [Gen.hostOps0, Gen.hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The table of the starts as the kernel finds it. -/
def adm : (p : Fin 1) → (pcfgs (F := F) p).Adm := fun _ => ⟨fun k => V m 0 (pre0.ref k), trivial⟩

/-- The multi-index of three coordinates. -/
def j3 (t : ℕ) (r : Fin 28) (k : Fin 128) : S336x28x128.Idx :=
  Fin.cons (⟨t % 336, Nat.mod_lt _ (by decide)⟩ : Fin 336) (Fin.cons r (Fin.cons k (fun a => a.elim0)))

/-- What the kernel reads. -/
def inp (c : Dev nD) : Inp F where
  tab := V m c main_v2
  codes := V m c main_arg2
  scl := V m c main_v14
  idx t x := V m c main_v4 (j3 t (x 1) (x 2))
  w t x := V m c main_v9 (j3 t (x 1) (x 2))
  qc := V m c main_v10
  qs := V m c main_v13

/-- Window `w`'s block at point `t`. -/
def iblk (c : Dev nD) (w : Fin (cfg0 (adm m 0)).W) (t : Fin (cfg0 (adm m 0)).N) : (((cfg0 (adm m 0)).win w).xblock ((cfg0 (adm m 0)).grid.coords t)).Idx → Elt F ((cfg0 (adm m 0)).win w).elt :=
  (((cfg0 (adm m 0)).win w).blk t).view.read (Elt F) (V m c (Pipeline.arrRef spec0 w))

theorem cv (t : Fin grid0.N) : (grid0.coords t 0).val = t.val := by
  have ht : t.val < 336 := lt_of_lt_of_eq t.isLt Gen.N_0
  rw [Grid.coords_val t 0 (S := 1) (B := 336) (by decide) rfl, Nat.div_one, Nat.mod_eq_of_lt ht]

theorem tr3 (t : ℕ) (ht : t < 336) (a : Fin 3) : (![(BitVec.ofNat 32 t).toNat, (0#32 : BitVec 32).toNat, (0#32 : BitVec 32).toNat] : Fin 3 → ℕ) a = (![t, 0, 0] : Fin 3 → ℕ) a := by
  fin_cases a
  · show (BitVec.ofNat 32 t).toNat = t
    rw [BitVec.toNat_ofNat, Nat.mod_eq_of_lt (by omega)]
  · rfl
  · rfl
theorem j3_val (t : ℕ) (ht : t < 336) (x : S1x28x128.Idx) (a : Fin 3) : (![t, 0, 0] : Fin 3 → ℕ) a * S1x28x128.size a + (x a).val = (j3 t (x 1) (x 2) a).val := by
  have l0 : ((x : S1x28x128.Idx) 0).val < 1 := (x 0).isLt
  fin_cases a
  · show t * 1 + (x 0).val = t % 336
    rw [Nat.mod_eq_of_lt ht]; omega
  · show 0 * 28 + (x 1).val = (x 1).val
    omega
  · show 0 * 128 + (x 2).val = (x 2).val
    omega

theorem wemb0 (t : Fin (cfg0 (adm m 0)).N) (x : S1x28x128.Idx) : (((cfg0 (adm m 0)).win 0).rect t).emb x = j3 t.val (x 1) (x 2) := by
  have ht : t.val < 336 := lt_of_lt_of_eq t.isLt Gen.N_0
  funext a
  apply Fin.ext
  refine (Window.rect_emb_val _ _ _ _).trans ?_
  have e : cc0_transform_0 (grid0.coords t) a = (![t.val, 0, 0] : Fin 3 → ℕ) a := by
    unfold cc0_transform_0
    rw [cv]
    exact tr3 t.val ht a
  show cc0_transform_0 (grid0.coords t) a * S1x28x128.size a + (x a).val = _
  rw [e]
  exact j3_val t.val ht x a
theorem wblk0 (c : Dev nD) (t : Fin (cfg0 (adm m 0)).N) : iblk m c 0 t = (inp m c).idx t.val := by
  unfold iblk inp
  exact funext fun x => congrArg (V m c main_v4) (wemb0 m t x)

theorem wemb1 (t : Fin (cfg0 (adm m 0)).N) (x : S1x28x128.Idx) : (((cfg0 (adm m 0)).win 1).rect t).emb x = j3 t.val (x 1) (x 2) := by
  have ht : t.val < 336 := lt_of_lt_of_eq t.isLt Gen.N_0
  funext a
  apply Fin.ext
  refine (Window.rect_emb_val _ _ _ _).trans ?_
  have e : cc0_transform_1 (grid0.coords t) a = (![t.val, 0, 0] : Fin 3 → ℕ) a := by
    unfold cc0_transform_1
    rw [cv]
    exact tr3 t.val ht a
  show cc0_transform_1 (grid0.coords t) a * S1x28x128.size a + (x a).val = _
  rw [e]
  exact j3_val t.val ht x a
theorem wblk1 (c : Dev nD) (t : Fin (cfg0 (adm m 0)).N) : iblk m c 1 t = (inp m c).w t.val := by
  unfold iblk inp
  exact funext fun x => congrArg (V m c main_v9) (wemb1 m t x)

theorem wemb2 (t : Fin (cfg0 (adm m 0)).N) (x : S3584x128.Idx) : (((cfg0 (adm m 0)).win 2).rect t).emb x = x := by
  funext a
  apply Fin.ext
  refine Window.rect_emb_val_of_index_zero _ _ _ ?_ _
  show cc0_transform_2 (grid0.coords t) a = 0
  unfold cc0_transform_2
  have : ∀ a : Fin 2, (![(0#32 : BitVec 32).toNat, (0#32 : BitVec 32).toNat] : Fin 2 → ℕ) a = 0 := by decide
  exact this a
theorem wblk2 (c : Dev nD) (t : Fin (cfg0 (adm m 0)).N) : iblk m c 2 t = (inp m c).qc := by
  unfold iblk inp
  exact funext fun x => congrArg (V m c main_v10) (wemb2 m t x)

theorem wemb3 (t : Fin (cfg0 (adm m 0)).N) (x : S3584x128.Idx) : (((cfg0 (adm m 0)).win 3).rect t).emb x = x := by
  funext a
  apply Fin.ext
  refine Window.rect_emb_val_of_index_zero _ _ _ ?_ _
  show cc0_transform_3 (grid0.coords t) a = 0
  unfold cc0_transform_3
  have : ∀ a : Fin 2, (![(0#32 : BitVec 32).toNat, (0#32 : BitVec 32).toNat] : Fin 2 → ℕ) a = 0 := by decide
  exact this a
theorem wblk3 (c : Dev nD) (t : Fin (cfg0 (adm m 0)).N) : iblk m c 3 t = (inp m c).qs := by
  unfold iblk inp
  exact funext fun x => congrArg (V m c main_v13) (wemb3 m t x)

/-- The pipeline's proof data. -/
def dats (p : Fin 1) (c : Dev nD) : Dat τ (Elt F) Unit ℕ (UD sig nD τ) ℕ (Pipeline.pin pcfgs (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => GQ (inp m c)
  Φ t := iprop((∃ r, prngReg c r) ∗ StO (inp m c) c (V m c main_v15_1) t.val)
  q _ := fullShare
  owed _ := 0

theorem A_eq (c : Dev nD) (w : Fin (cfg0 (adm m 0)).W) : (dats m 0 c).A w = V m c (Pipeline.arrRef spec0 w) := by
  dsimp only [dats]
theorem after0 (c : Dev nD) (t : Fin (cfg0 (adm m 0)).N) : (dats m 0 c).after 0 t = iblk m c 0 t := by dsimp only [dats]; rfl
theorem after1 (c : Dev nD) (t : Fin (cfg0 (adm m 0)).N) : (dats m 0 c).after 1 t = iblk m c 1 t := by dsimp only [dats]; rfl
theorem after2 (c : Dev nD) (t : Fin (cfg0 (adm m 0)).N) : (dats m 0 c).after 2 t = iblk m c 2 t := by dsimp only [dats]; rfl
theorem after3 (c : Dev nD) (t : Fin (cfg0 (adm m 0)).N) : (dats m 0 c).after 3 t = iblk m c 3 t := by dsimp only [dats]; rfl
theorem after4 (c : Dev nD) (t : Fin (cfg0 (adm m 0)).N) : (dats m 0 c).after 4 t = GQ (inp m c) := by dsimp only [dats]; rfl
theorem before0 (c : Dev nD) (t : Fin (cfg0 (adm m 0)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (adm m 0)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (adm m 0)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (adm m 0)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Window 4's block is the whole array at every point. -/
theorem index4 (t : Fin (cfg0 (adm m 0)).N) : ((cfg0 (adm m 0)).win 4).index t = ![0, 0] := by
  show cc0_transform_6 (grid0.coords t) = _
  unfold cc0_transform_6
  rfl
theorem flush4 (t : Fin (cfg0 (adm m 0)).N) : Iff (((cfg0 (adm m 0)).win 4).flush t = true) (t.val = 335) := by
  have hN : (cfg0 (adm m 0)).N = 336 := Gen.N_0
  have ht : t.val < 336 := lt_of_lt_of_eq t.isLt Gen.N_0
  unfold Window.flush
  rw [show ((cfg0 (adm m 0)).win 4).isOut = true from rfl, Bool.true_and, Bool.or_eq_true, decide_eq_true_iff, decide_eq_true_iff]
  constructor
  · rintro (h | ⟨h, hne⟩)
    · have : t.val + 1 = 336 := h.trans Gen.N_0
      omega
    · exact absurd ((index4 m _).trans (index4 m t).symm) hne
  · intro h; left
    show t.val + 1 = grid0.N
    rw [Gen.N_0, h]
theorem idle4 (t : Fin (cfg0 (adm m 0)).N) : (cfg0 (adm m 0)).idle 4 ((cfg0 (adm m 0)).grid.coords t) = !decide (t.val = 335) := by
  show (!(k0_cond18 (grid0.coords t) == 1#1)) = _
  congr 1
  have := cond18_iff (grid0.coords t)
  rw [cv] at this
  by_cases h : t.val = 335
  · rw [decide_eq_true h, beq_iff_eq]; exact this.2 h
  · rw [decide_eq_false h, beq_eq_false_iff_ne]; exact fun h' => h (this.1 h')

open Facts₀

/-- The table is the same on every core. -/
theorem V_pre (c : Dev nD) (k : Fin pre0.K) : V m c (pre0.ref k) = (adm m 0).1 k := by
  obtain rfl : c = 0 := Subsingleton.elim _ _
  rfl

/-- The body at a point, on the point's stages. -/
abbrev bodyAt (t : Fin (cfg0 (adm m 0)).N) : Prog (TpuEff nD τ sig (Elt F) Λ₀ .tc) PUnit :=
  defs₀ .tc (cfg0 (adm m 0)).body ((cfg0 (adm m 0)).bodyArgs t ((cfg0 (adm m 0)).slots t))

theorem row (t : Fin (cfg0 (adm m 0)).N) : bodyAt m t = cc0_maxsim_bwd (grid0.coords t) (Memref.whole main_v2) (Memref.isWhole_whole _) (((cfg0 (adm m 0)).win 0).stage ((cfg0 (adm m 0)).slots t 0)) (hstage0_0 (((cfg0 (adm m 0)).slots t 0).cast nbuf0_0)) (((cfg0 (adm m 0)).win 1).stage ((cfg0 (adm m 0)).slots t 1)) (hstage0_1 (((cfg0 (adm m 0)).slots t 1).cast nbuf0_1)) (((cfg0 (adm m 0)).win 2).stage ((cfg0 (adm m 0)).slots t 2)) (hstage0_2 (((cfg0 (adm m 0)).slots t 2).cast nbuf0_2)) (((cfg0 (adm m 0)).win 3).stage ((cfg0 (adm m 0)).slots t 3)) (hstage0_3 (((cfg0 (adm m 0)).slots t 3).cast nbuf0_3)) (Memref.whole main_arg2) (Memref.isWhole_whole _) (Memref.whole main_v14) (Memref.isWhole_whole _) (((cfg0 (adm m 0)).win 4).stage ((cfg0 (adm m 0)).slots t 4)) (hstage0_4 (((cfg0 (adm m 0)).slots t 4).cast nbuf0_4)) (Memref.whole main_v15_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 := by
  unfold bodyAt defs₀; rw [Defs.onTc_tc]; rfl

theorem body_at (ok : ∀ c, (inp m c).Ok) (c : Dev nD) (t : Fin (cfg0 (adm m 0)).N) (X : Vec F S3584x128 .bf16) :
    iprop(StO (inp m c) c (V m c main_v15_1) t.val ∗ Ow c
      ∗ owns (c : Thread nD τ) (((cfg0 (adm m 0)).win 0).stage ((cfg0 (adm m 0)).slots t 0)) fullShare (iblk m c 0 t)
      ∗ owns (c : Thread nD τ) (((cfg0 (adm m 0)).win 1).stage ((cfg0 (adm m 0)).slots t 1)) fullShare (iblk m c 1 t)
      ∗ owns (c : Thread nD τ) (((cfg0 (adm m 0)).win 2).stage ((cfg0 (adm m 0)).slots t 2)) fullShare (iblk m c 2 t)
      ∗ owns (c : Thread nD τ) (((cfg0 (adm m 0)).win 3).stage ((cfg0 (adm m 0)).slots t 3)) fullShare (iblk m c 3 t)
      ∗ owns (c : Thread nD τ) (((cfg0 (adm m 0)).win 4).stage ((cfg0 (adm m 0)).slots t 4)) fullShare X)
    ⊢ wp frame (wpE (defs₀ (F := F)) Variants.none c none) Set.univ (bodyAt m t) (fun _ =>
      iprop(StO (inp m c) c (V m c main_v15_1) (t.val + 1) ∗ Ow c
      ∗ owns (c : Thread nD τ) (((cfg0 (adm m 0)).win 0).stage ((cfg0 (adm m 0)).slots t 0)) fullShare (iblk m c 0 t)
      ∗ owns (c : Thread nD τ) (((cfg0 (adm m 0)).win 1).stage ((cfg0 (adm m 0)).slots t 1)) fullShare (iblk m c 1 t)
      ∗ owns (c : Thread nD τ) (((cfg0 (adm m 0)).win 2).stage ((cfg0 (adm m 0)).slots t 2)) fullShare (iblk m c 2 t)
      ∗ owns (c : Thread nD τ) (((cfg0 (adm m 0)).win 3).stage ((cfg0 (adm m 0)).slots t 3)) fullShare (iblk m c 3 t)
      ∗ owns (c : Thread nD τ) (((cfg0 (adm m 0)).win 4).stage ((cfg0 (adm m 0)).slots t 4)) fullShare (if t.val = 335 then GQ (inp m c) else X))) := by
  have ht : t.val < 336 := lt_of_lt_of_eq t.isLt Gen.N_0
  rw [wblk0, wblk1, wblk2, wblk3]
  refine triple_restated (body_spec
    (((cfg0 (adm m 0)).win 0).stage ((cfg0 (adm m 0)).slots t 0)) (hstage0_0 (((cfg0 (adm m 0)).slots t 0).cast nbuf0_0))
    (((cfg0 (adm m 0)).win 1).stage ((cfg0 (adm m 0)).slots t 1)) (hstage0_1 (((cfg0 (adm m 0)).slots t 1).cast nbuf0_1))
    (((cfg0 (adm m 0)).win 2).stage ((cfg0 (adm m 0)).slots t 2)) (hstage0_2 (((cfg0 (adm m 0)).slots t 2).cast nbuf0_2))
    (((cfg0 (adm m 0)).win 3).stage ((cfg0 (adm m 0)).slots t 3)) (hstage0_3 (((cfg0 (adm m 0)).slots t 3).cast nbuf0_3))
    (((cfg0 (adm m 0)).win 4).stage ((cfg0 (adm m 0)).slots t 4)) (hstage0_4 (((cfg0 (adm m 0)).slots t 4).cast nbuf0_4))
    (ok c) c (V m c main_v15_1) (grid0.coords t) t.val (cv t) ht X) ?_ ?_ fun _ => ?_
  · exact congrArg (fun p => wp frame (wpE (defs₀ (F := F)) Variants.none c none) Set.univ p) (row m t).symm
  · rw [St_eq]; unfold Wn
    iintro ⟨HS, HO, HW⟩
    isplitl [HS HO]
    · isplitl [HO]; · iexact HO
      iexact HS
    iexact HW
  · rw [St_eq]; unfold Wn
    iintro ⟨⟨HO, HS⟩, HW⟩
    isplitl [HS]; · iexact HS
    isplitl [HO]; · iexact HO
    iexact HW

theorem body_obligation (ok : ∀ c, (inp m c).Ok) (c : Dev nD) : BodyObligationLoose (dats m 0 c) (defs₀ (F := F)) Variants.none () Set.univ := fun t => by
  rw [Gen.bigSep_W0, Gen.bigSep_W0]
  have hO1 : (dats m 0 c).owesAt () t.castSucc ⊢ (Ow c : sProp 𝕄) := by
    unfold Ow
    iintro ⟨%W, -, H⟩
    iexists W; iexact H
  have hO2 : (Ow c : sProp 𝕄) ⊢ (dats m 0 c).owesAt () t.succ := by
    unfold Ow
    iintro ⟨%W, H⟩
    iexists W
    isplitr
    · ipureintro; exact fun _ _ => Or.inl trivial
    iexact H
  have key : ∀ X Y : Vec F S3584x128 .bf16, (if t.val = 335 then GQ (inp m c) else X) = Y → iprop((dats m 0 c).Φ t.castSucc ∗ (dats m 0 c).owesAt () t.castSucc
      ∗ owns (c : Thread nD τ) (((cfg0 (adm m 0)).win 0).stage ((cfg0 (adm m 0)).slots t 0)) fullShare (iblk m c 0 t)
      ∗ owns (c : Thread nD τ) (((cfg0 (adm m 0)).win 1).stage ((cfg0 (adm m 0)).slots t 1)) fullShare (iblk m c 1 t)
      ∗ owns (c : Thread nD τ) (((cfg0 (adm m 0)).win 2).stage ((cfg0 (adm m 0)).slots t 2)) fullShare (iblk m c 2 t)
      ∗ owns (c : Thread nD τ) (((cfg0 (adm m 0)).win 3).stage ((cfg0 (adm m 0)).slots t 3)) fullShare (iblk m c 3 t)
      ∗ owns (c : Thread nD τ) (((cfg0 (adm m 0)).win 4).stage ((cfg0 (adm m 0)).slots t 4)) fullShare X)
    ⊢ wp frame (wpE (defs₀ (F := F)) Variants.none c none) Set.univ (bodyAt m t) (fun _ =>
      iprop((dats m 0 c).Φ t.succ ∗ (dats m 0 c).owesAt () t.succ
      ∗ owns (c : Thread nD τ) (((cfg0 (adm m 0)).win 0).stage ((cfg0 (adm m 0)).slots t 0)) fullShare (iblk m c 0 t)
      ∗ owns (c : Thread nD τ) (((cfg0 (adm m 0)).win 1).stage ((cfg0 (adm m 0)).slots t 1)) fullShare (iblk m c 1 t)
      ∗ owns (c : Thread nD τ) (((cfg0 (adm m 0)).win 2).stage ((cfg0 (adm m 0)).slots t 2)) fullShare (iblk m c 2 t)
      ∗ owns (c : Thread nD τ) (((cfg0 (adm m 0)).win 3).stage ((cfg0 (adm m 0)).slots t 3)) fullShare (iblk m c 3 t)
      ∗ owns (c : Thread nD τ) (((cfg0 (adm m 0)).win 4).stage ((cfg0 (adm m 0)).slots t 4)) fullShare Y)) := by
    intro X Y hY
    subst hY
    have hΦ : ∀ u : Fin ((cfg0 (adm m 0)).N + 1), (dats m 0 c).Φ u = iprop((∃ r, prngReg c r) ∗ StO (inp m c) c (V m c main_v15_1) u.val) := fun u => by dsimp only [dats]
    rw [hΦ, hΦ]
    refine triple_restated ((sep_mono .rfl (body_at m ok c t X)).trans (wp_frame_l frame (wpE (defs₀ (F := F)) Variants.none c none) Set.univ (R := iprop(∃ r, prngReg c r)))) rfl ?_ fun _ => ?_
    · iintro ⟨⟨HP, HS⟩, HO, HW⟩
      isplitl [HP]; · iexact HP
      isplitl [HS]; · iexact HS
      isplitl [HO]; · iapply hO1; iexact HO
      iexact HW
    · iintro ⟨HP, HS, HO, HW⟩
      isplitl [HP HS]
      · isplitl [HP]; · iexact HP
        iexact HS
      isplitl [HO]; · iapply hO2; iexact HO
      iexact HW
  have pre4 : iprop((dats m 0 c).Φ t.castSucc ∗ (dats m 0 c).owesAt () t.castSucc
      ∗ (∃ d, owns (c : Thread nD τ) (((cfg0 (adm m 0)).win 0).stage ((cfg0 (adm m 0)).slots t 0)) fullShare ((dats m 0 c).before 0 t d))
      ∗ (∃ d, owns (c : Thread nD τ) (((cfg0 (adm m 0)).win 1).stage ((cfg0 (adm m 0)).slots t 1)) fullShare ((dats m 0 c).before 1 t d))
      ∗ (∃ d, owns (c : Thread nD τ) (((cfg0 (adm m 0)).win 2).stage ((cfg0 (adm m 0)).slots t 2)) fullShare ((dats m 0 c).before 2 t d))
      ∗ (∃ d, owns (c : Thread nD τ) (((cfg0 (adm m 0)).win 3).stage ((cfg0 (adm m 0)).slots t 3)) fullShare ((dats m 0 c).before 3 t d))
      ∗ (∃ d, owns (c : Thread nD τ) (((cfg0 (adm m 0)).win 4).stage ((cfg0 (adm m 0)).slots t 4)) fullShare ((dats m 0 c).before 4 t d)))
    ⊢ wp frame (wpE (defs₀ (F := F)) Variants.none c none) Set.univ (bodyAt m t) (fun _ =>
      iprop((dats m 0 c).Φ t.succ ∗ (dats m 0 c).owesAt () t.succ
      ∗ owns (c : Thread nD τ) (((cfg0 (adm m 0)).win 0).stage ((cfg0 (adm m 0)).slots t 0)) fullShare ((dats m 0 c).after 0 t)
      ∗ owns (c : Thread nD τ) (((cfg0 (adm m 0)).win 1).stage ((cfg0 (adm m 0)).slots t 1)) fullShare ((dats m 0 c).after 1 t)
      ∗ owns (c : Thread nD τ) (((cfg0 (adm m 0)).win 2).stage ((cfg0 (adm m 0)).slots t 2)) fullShare ((dats m 0 c).after 2 t)
      ∗ owns (c : Thread nD τ) (((cfg0 (adm m 0)).win 3).stage ((cfg0 (adm m 0)).slots t 3)) fullShare ((dats m 0 c).after 3 t)
      ∗ (if t.val = 335 then owns (c : Thread nD τ) (((cfg0 (adm m 0)).win 4).stage ((cfg0 (adm m 0)).slots t 4)) fullShare ((dats m 0 c).after 4 t)
         else iprop(∃ d, owns (c : Thread nD τ) (((cfg0 (adm m 0)).win 4).stage ((cfg0 (adm m 0)).slots t 4)) fullShare ((dats m 0 c).before 4 t d))))) := by
    simp only [before0, before1, before2, before3]
    rw [after0, after1, after2, after3, after4]
    iintro ⟨HΦ, HO, ⟨%d0, H0⟩, ⟨%d1, H1⟩, ⟨%d2, H2⟩, ⟨%d3, H3⟩, ⟨%d4, H4⟩⟩
    by_cases h : t.val = 335
    · rw [if_pos h]
      iapply (triple_restated (key ((dats m 0 c).before 4 t d4) (GQ (inp m c)) (if_pos h)) rfl .rfl fun _ => ?_)
      · iintro ⟨HΦ, HO, H0, H1, H2, H3, H4⟩
        isplitl [HΦ]; · iexact HΦ
        isplitl [HO]; · iexact HO
        isplitl [H0]; · iexact H0
        isplitl [H1]; · iexact H1
        isplitl [H2]; · iexact H2
        isplitl [H3]; · iexact H3
        iexact H4
      isplitl [HΦ]; · iexact HΦ
      isplitl [HO]; · iexact HO
      isplitl [H0]; · iexact H0
      isplitl [H1]; · iexact H1
      isplitl [H2]; · iexact H2
      isplitl [H3]; · iexact H3
      iexact H4
    · rw [if_neg h]
      iapply (triple_restated (key ((dats m 0 c).before 4 t d4) ((dats m 0 c).before 4 t d4) (if_neg h)) rfl .rfl fun _ => ?_)
      · iintro ⟨HΦ, HO, H0, H1, H2, H3, H4⟩
        isplitl [HΦ]; · iexact HΦ
        isplitl [HO]; · iexact HO
        isplitl [H0]; · iexact H0
        isplitl [H1]; · iexact H1
        isplitl [H2]; · iexact H2
        isplitl [H3]; · iexact H3
        iexists d4; iexact H4
      isplitl [HΦ]; · iexact HΦ
      isplitl [HO]; · iexact HO
      isplitl [H0]; · iexact H0
      isplitl [H1]; · iexact H1
      isplitl [H2]; · iexact H2
      isplitl [H3]; · iexact H3
      iexact H4
  refine triple_restated pre4 rfl .rfl fun _ => ?_
  clear pre4 key hO1 hO2
  by_cases h : t.val = 335
  · rw [if_pos h]
    have i4 : (Pipeline.pin pcfgs (adm m) 0).idle 4 ((Pipeline.pin pcfgs (adm m) 0).grid.coords t) = false := by
      refine (idle4 m t).trans ?_; rw [decide_eq_true h]; rfl
    refine sep_mono .rfl (sep_mono .rfl (sep_mono .rfl (sep_mono .rfl (sep_mono .rfl (sep_mono .rfl ?_)))))
    dsimp only
    split
    · rename_i e; exact absurd (e.symm.trans i4) (by decide)
    · exact .rfl
  · rw [if_neg h]
    have i4 : (Pipeline.pin pcfgs (adm m) 0).idle 4 ((Pipeline.pin pcfgs (adm m) 0).grid.coords t) = true := by
      refine (idle4 m t).trans ?_; rw [decide_eq_false h]; rfl
    have f4 : ((Pipeline.pin pcfgs (adm m) 0).win 4).flush t = false := by
      rw [← Bool.not_eq_true]; exact fun h' => h ((flush4 m t).1 h')
    refine sep_mono .rfl (sep_mono .rfl (sep_mono .rfl (sep_mono .rfl (sep_mono .rfl (sep_mono .rfl ?_)))))
    dsimp only
    split
    · split
      · exact .rfl
      · rename_i e; exact absurd (e.symm.trans f4) (by decide)
    · rename_i e; exact absurd (e.symm.trans i4) (by decide)

/-- What the buffers written where they lie hold at the end. -/
def Gd (c : Dev nD) (b : Ref sig .tc) : Buf (Elt F) ((c.tc : Thread nD τ).loc b) :=
  if h : b = main_v15_1 then h ▸ (GG (inp m c) : Buf (Elt F) ((c.tc : Thread nD τ).loc main_v15_1)) else V m c b
theorem Gd_eq (c : Dev nD) : Gd m c main_v15_1 = GG (inp m c) := by unfold Gd; rw [dif_pos rfl]

set_option backward.isDefEq.respectTransparency.types false in
set_option maxHeartbeats 1600000 in
theorem run_main (ok : ∀ c, (inp m c).Ok) : θ_run defs (onTc (τ := τ) (main (F := F))) (s₀ m ρ)
    (fun r => FramePostRG (Pipeline.pin pcfgs (adm m)) (dats m) 0 RR (V m) (Gd m) r ∧ r.2.sem = fun _ => 0) :=
  Pipeline.θ_run_frameP_dmaRG (Q' := _) pcfgs (adm m) (dats m) (0 : Fin 1) Gen.launch0 osem defs₀ Variants.none ownSem HR RR HR_sub RR_sub m ρ main
    (hbody := body_obligation m ok) (hshare := fun c => (dats m 0 c).share_full fun _ => rfl)
    (howed := fun _ _ => rfl) (V := V m) (hmain := hmain m Variants.none) (hA := A_eq m) (hpf := V_pre m) (G := Gd m)
    (hin := fun c => enter c (ok c) (V m) (adm m 0).1 (V_pre m c 0).symm rfl rfl)
    (hout := fun c => (leave c (V m) (Gd m) (V m c main_v15_1) rfl rfl (Gd_eq m c)))

/-- The windowed result is written back once, whole. -/
theorem arr4 (c : Dev nD) : (dats m 0 c).arrAt 4 (cfg0 (adm m 0)).N = GQ (inp m c) := by
  have hN : (cfg0 (adm m 0)).N = 336 := Gen.N_0
  refine (dats m 0 c).arrAt_eq_of_after_last 4 ⟨335, by rw [hN]; decide⟩ ⟨(flush4 m _).2 rfl, fun t ht => Fin.ext ((flush4 m t).1 ht), fun a => ⟨?_, ?_⟩⟩ _ fun j => ?_
  · rw [index4]
    have : ∀ a : Fin 2, (![0, 0] : Fin 2 → ℕ) a = 0 := by decide
    exact this a
  · rfl
  · rw [after4]; rfl

theorem rest0 : main_arg0 ∈ restRefs sig spec0 \ RR := by decide +kernel
theorem rest1 : main_arg1 ∈ restRefs sig spec0 \ RR := by decide +kernel
theorem rest2 : main_arg2 ∈ restRefs sig spec0 \ RR := by decide +kernel
theorem rest3 : main_arg3 ∈ restRefs sig spec0 \ RR := by decide +kernel
theorem rest4 : main_arg4 ∈ restRefs sig spec0 \ RR := by decide +kernel
theorem rest5 : main_arg5 ∈ restRefs sig spec0 \ RR := by decide +kernel
theorem rest6 : main_arg6 ∈ restRefs sig spec0 \ RR := by decide +kernel
/-- Both results, the arguments and the counters. -/
theorem run_value (ok : ∀ c, (inp m c).Ok) : θ_run defs (onTc (τ := τ) (main (F := F))) ⟨m, fun _ => 0, ρ⟩ (fun r => (∀ c : Dev nD,
      r.2.mem ((c.tc : Thread nD τ).loc main_v15_0) = GQ (inp m c)
      ∧ r.2.mem ((c.tc : Thread nD τ).loc main_v15_1) = GG (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1.1 c).1 4).trans (arr4 m c), (h.1.2 c main_v15_1 (Finset.mem_singleton_self _)).trans (Gd_eq m c),
      ((h.1.1 c).2 main_arg0 rest0).trans (V_arg0 m c), ((h.1.1 c).2 main_arg1 rest1).trans (V_arg1 m c),
      ((h.1.1 c).2 main_arg2 rest2).trans (V_arg2 m c), ((h.1.1 c).2 main_arg3 rest3).trans (V_arg3 m c),
      ((h.1.1 c).2 main_arg4 rest4).trans (V_arg4 m c), ((h.1.1 c).2 main_arg5 rest5).trans (V_arg5 m c),
      ((h.1.1 c).2 main_arg6 rest6).trans (V_arg6 m c)⟩, h.2⟩) (run_main m ρ ok)

end Cert.KernelIdeal.Hand

end
-- ==== Proof.Host.lean ====
module

public import proofs.«01_k».proof.Proof.Run
public import Idealize.ShloMosaic.Lib.Routing.OpsOne
public import Idealize.ShloMosaic.Lib.Pointwise.SelectCore

@[expose] public section

/-! # What the host operations before the kernel leave -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable (m : (ℓ : Loc nD τ sig) → Buf (Elt F) ℓ)
open Facts₀

/-- The document lengths. -/
abbrev lens (c : Dev nD) : IVec S336 32 := m ((c : Thread nD τ).loc main_arg4)

theorem V_v2 (c : Dev nD) : V m c main_v2 = concatenate S337 0 [⟨S1, broadcastInDim S1 ![] bcast_S_S1 (constantI S_ 32 0#32)⟩,
    ⟨S336, Host.reduceWindow IntOp.addi ![336] ![1] ![335] ![0] (lens m c) (broadcastInDim S_ ![] bcast_S_S_ (constantI S_ 32 0#32)) reduceWindows_S336_S336_w336s1p335_0 h_S_⟩] concatenates_S1_S336_S337_d0 := by
  show StableHlo.after (List.flatten [Gen.hostOps0, Gen.hostOps0_1]) (fun b => m (c, b)) (Proc.devRef .tc main_v2) = _
  simp only [Gen.hostOps0, Gen.hostOps0_1, List.flatten_cons, List.flatten_nil, List.append_nil, List.cons_append, List.nil_append]
  after_results
  all_goals chain_rfl
theorem V_v4 (c : Dev nD) : V m c main_v4 = shapeCast S336x28x128 (transpose S336x112x32 [1, 0, 2] (m ((c : Thread nD τ).loc main_arg5)) transposes_S112x336x32_S336x112x32_1_0_2) shapeCasts_S336x112x32_S336x28x128 := by
  show StableHlo.after (List.flatten [Gen.hostOps0, Gen.hostOps0_1]) (fun b => m (c, b)) (Proc.devRef .tc main_v4) = _
  simp only [Gen.hostOps0, Gen.hostOps0_1, List.flatten_cons, List.flatten_nil, List.append_nil, List.cons_append, List.nil_append]
  after_results
  all_goals chain_rfl

theorem sum_step (f : ℕ → ℕ) (j : ℕ) : ((List.range (j + 1)).map f).sum = ((List.range j).map f).sum + f j := by
  rw [List.range_succ, List.map_append, List.sum_append, List.map_singleton, List.sum_singleton]

theorem i1_eq {k : ℕ} [NeZero k] (x : (⟨1, ![k]⟩ : Shape).Idx) (r : ℕ) (h : (x 0).val = r) : i1 r = x := by
  funext a; apply Fin.ext
  have l : (x 0).val < k := (x 0).isLt
  fin_cases a
  show r % k = (x 0).val
  rw [← h, Nat.mod_eq_of_lt l]

/-- The length of document `i`. -/
def ln (c : Dev nD) (i : ℕ) : ℕ := if h : i < 336 then (lens m c (i1 i)).toNat else 0
/-- The lengths before document `t` summed. -/
def sm (c : Dev nD) (t : ℕ) : ℕ := ((List.range t).map (ln m c)).sum

variable {m} in
theorem sm_succ (c : Dev nD) (t : ℕ) : sm m c (t + 1) = sm m c t + ln m c t := sum_step _ _
variable {m} in
theorem sm_le {c : Dev nD} (h : ∀ i, ln m c i ≤ 512) : ∀ t, sm m c t ≤ 512 * t
  | 0 => le_rfl
  | t + 1 => by have := sm_le h t; have := h t; rw [sm_succ]; omega

/-- The table's entry `t` is the sum of the lengths before document `t`. -/
theorem tab_eq (c : Dev nD) (t : ℕ) (ht : t ≤ 336) : (inp m c).stw t = BitVec.ofNat 32 (sm m c t) := by
  show V m c main_v2 (i1 t) = _
  rw [V_v2]
  erw [concatenate_pair_apply]
  have e : ((i1 t : S337.Idx) 0).val = t := Nat.mod_eq_of_lt (by omega : t < 337)
  split
  · next h =>
    have h' : ((i1 t : S337.Idx) 0).val < 1 := h
    have : t = 0 := by omega
    subst this
    rfl
  · next h =>
    have h' : ¬ ((i1 t : S337.Idx) 0).val < 1 := h
    have hj : t - 1 < 336 := by omega
    have := Routing.cumsum1 (N := 336) (Nm1 := 335) rfl (lens m c) (ln m c) (fun i => by
      unfold ln; rw [dif_pos i.isLt, BitVec.ofNat_toNat, BitVec.setWidth_eq]; exact congrArg (lens m c) (i1_eq _ _ rfl).symm) (broadcastInDim S_ ![] bcast_S_S_ (constantI S_ 32 0#32)) rfl reduceWindows_S336_S336_w336s1p335_0 h_S_ ⟨t - 1, hj⟩
    refine Eq.trans ?_ (this.trans ?_)
    · congr 1
      funext a
      apply Fin.ext
      fin_cases a
      show ((i1 t : S337.Idx) 0).val - 1 = t - 1
      rw [e]
    · show BitVec.ofNat 32 (sm m c (t - 1 + 1)) = _
      rw [show t - 1 + 1 = t by omega]

/-- Lengths of at most 512 give starts that rise by at most 512. -/
theorem inp_ok (c : Dev nD) (h : ∀ i, ln m c i ≤ 512) : (inp m c).Ok := by
  have e : ∀ t, t ≤ 336 → (inp m c).st t = sm m c t := fun t ht => by
    unfold Inp.st
    rw [tab_eq m c t ht, BitVec.toNat_ofNat]
    have := sm_le h t
    omega
  refine ⟨(e 0 (by omega)).trans rfl, fun t ht => ?_, fun t ht => ?_⟩
  · rw [e t (by omega), e (t + 1) (by omega), sm_succ]; omega
  · have := h t; rw [e t (by omega), e (t + 1) (by omega), sm_succ]; omega

theorem word_le (x : BitVec 32) (a : IntOp.cmpi .sge x 0#32 = 1#1) (b : IntOp.cmpi .sle x 512#32 = 1#1) : x.toNat ≤ 512 := by
  unfold IntOp.cmpi at a b
  have a' := (StableHlo.Predicate.ofBool_eq_one_iff _).1 a
  have b' := (StableHlo.Predicate.ofBool_eq_one_iff _).1 b
  simp only [BitVec.sle_eq_decide, decide_eq_true_eq] at a' b'
  have e0 : (0#32).toInt = 0 := rfl
  have e1 : (512#32).toInt = 512 := rfl
  rw [e0] at a'; rw [e1] at b'
  rw [BitVec.toInt_eq_toNat_cond] at a' b'
  split at a' <;> omega

end Cert.KernelIdeal.Hand

end
-- ==== Proof.Frames.lean ====
module

public import proofs.«01_k».proof.Proof.Host
public import proofs.«01_k».proof.Defs
public import proofs.«01_k».proof.Proof.Gen.Kernel

@[expose] public section

/-! # The frames -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable {F : FTy → Type} [FloatOps F]

local notation "𝕄" => MT nD τ sig Unit (Elt F) ℕ (UD sig nD τ) ℕ

variable (m : (ℓ : Loc nD τ sig) → Buf (Elt F) ℓ) (ρ : Dev nD → PrngReg)

instance preLens : Cert.Pre_lens_fit.Facts := ⟨by decide⟩

theorem andi_one {a b : BitVec 1} (h : IntOp.andi a b = 1#1) : a = 1#1 ∧ b = 1#1 := by
  revert h; unfold IntOp.andi; revert a b; decide

theorem lens_le (c : Dev nD) (h : Cert.Pre_lens_fit.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1) (i : ℕ) : ln m c i ≤ 512 := by
  unfold ln
  split
  · have := andi_one (congrFun h (i1 i))
    exact word_le _ this.1 this.2
  · omega

theorem frame (h : ∀ c i, ln m c i ≤ 512) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2.2, h.2⟩) (run_value m ρ fun c => inp_ok m c (h c))

theorem quiescent : Cert.quiescent_KernelIdeal := fun m g pre => frame m g fun c i => lens_le m c (pre c) i

/-- The frame at any reading of the floats. -/
def FrameAt (F : FTy → Type) [FloatOps F] : Prop := ∀ (m : (ℓ : Loc nD τ sig) → Buf (Elt F) ℓ) (g : Dev nD → PrngReg),
  (∀ c : Dev nD, Cert.Pre_lens_fit.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1) →
  θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frameAt : FrameAt F := fun m g pre => frame m g fun c i => lens_le m c (pre c) i

/-- The program as printed is the same program. -/
theorem same : FrameAt Bits = Cert.quiescent_Kernel := by chain_rfl

theorem quiescentKernel : Cert.quiescent_Kernel := same.mp frameAt

end Cert.KernelIdeal.Hand

end
-- ==== Proof.Sums.lean ====
module

public import proofs.«01_k».proof.Proof.State

@[expose] public section

/-! # The two gradients as sums over documents and hits -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

/-- The arguments: the queries' codes and scales, the documents' codes and scales, the lengths, the positions of the
hits and their weights. -/
structure Args where
  a0 : (⟨3, ![112, 32, 128]⟩ : Shape).Idx → EReal
  a1 : (⟨3, ![112, 32, 4]⟩ : Shape).Idx → EReal
  a2 : (⟨2, ![172032, 128]⟩ : Shape).Idx → EReal
  a3 : (⟨2, ![172032, 4]⟩ : Shape).Idx → EReal
  a4 : (⟨1, ![336]⟩ : Shape).Idx → BitVec 32
  a5 : (⟨3, ![112, 336, 32]⟩ : Shape).Idx → BitVec 32
  a6 : (⟨2, ![112, 336]⟩ : Shape).Idx → EReal

variable (A : Args)
/-- The length of document `i`. -/
def Args.len (i : ℕ) : ℕ := if h : i < 336 then (A.a4 (i1 i)).toNat else 0
/-- The lengths before document `t` summed. -/
def Args.sm (t : ℕ) : ℕ := ((List.range t).map A.len).sum
/-- The row that query `b`'s hit `q` in document `t` names. -/
def Args.row (b t q : ℕ) : ℕ := A.sm t + (A.a5 (i3 b t q)).toNat
/-- A document entry, scaled. -/
def Args.doc (r k : ℕ) : EReal := A.a2 (i2 r k) * A.a3 (i2 r (k / 32))
/-- A query entry, scaled. -/
def Args.qry (b q k : ℕ) : EReal := A.a0 (i3 b q k) * A.a1 (i3 b q (k / 32))
/-- The queries' gradient. -/
def Args.dq (b q k : ℕ) : EReal := ∑ t ∈ Finset.range 336, A.doc (A.row b t q) k * A.a6 (i2 b t)
/-- The documents' gradient. -/
def Args.dd (x k : ℕ) : EReal := ∑ t ∈ Finset.range 336, ∑ h : Fin 3584, if x = A.row (h.val / 32) t (h.val % 32) then A.a6 (i2 (h.val / 32) t) * A.qry (h.val / 32) (h.val % 32) k else 0
/-- Every hit lies in its document, and no document is longer than 512 rows. -/
structure Args.Hits : Prop where
  lt : ∀ b, b < 112 → ∀ t, t < 336 → ∀ q, q < 32 → (A.a5 (i3 b t q)).toNat < A.len t
  le : ∀ t, A.len t ≤ 512

variable {A}
theorem Args.sm_succ (t : ℕ) : A.sm (t + 1) = A.sm t + A.len t := by
  unfold Args.sm
  rw [List.range_succ, List.map_append, List.sum_append, List.map_singleton, List.sum_singleton]
theorem Args.sm_le (h : A.Hits) : ∀ t, A.sm t ≤ 512 * t
  | 0 => le_rfl
  | t + 1 => by have := Args.sm_le h t; have := h.le t; rw [Args.sm_succ]; omega
theorem Args.row_lt (h : A.Hits) (b t q : ℕ) (hb : b < 112) (ht : t < 336) (hq : q < 32) : A.row b t q < 172032 := by
  have := Args.sm_le h t
  have := h.lt b hb t ht q hq
  have := h.le t
  unfold Args.row
  omega

end Cert.KernelIdeal.Hand

end
-- ==== Proof.Pay.lean ====
module

public import proofs.«01_k».proof.Proof.State
public import Idealize.ShloMosaic.Lib.Pointwise

@[expose] public section

/-! # The kernel's products over the extended reals -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable [Facts]

theorem pay3_apply (j : S128x3584.Idx) : (Gen.k0_pay3 (F := Ideal)) j = (0 : EReal) := by
  pointwise [Gen.k0_pay3]
theorem pay4_apply (j : S128x128.Idx) : (Gen.k0_pay4 (F := Ideal)) j = (0 : EReal) := by
  pointwise [Gen.k0_pay4]
theorem pay73_apply (a : Vec Ideal S1x640x128 .fp8e4m3) (b : Vec Ideal S1x4x640 .f32) (r : Fin 128) (l : Fin 640) :
    (Gen.k0_pay73 (F := Ideal) a b (ix2 r l) : EReal) = (a (ix3 0 l r) : EReal) * (b (ix3 0 ⟨r.val / 32, by omega⟩ l) : EReal) := by
  pointwise [Gen.k0_pay73]
  have e : ∀ q : Fin 4, q.val = r.val / 32 → b (ix3 0 q l) = b (ix3 0 ⟨r.val / 32, by omega⟩ l) := fun q h => by
    rw [show q = ⟨r.val / 32, by omega⟩ from Fin.ext h]
  congr 1
  split_ifs
  · exact e 0 (by show 0 = _; omega)
  · exact e 1 (by show 1 = _; omega)
  · exact e 2 (by show 2 = _; omega)
  · exact e 3 (by show 3 = _; omega)
theorem pay74_apply (P : Vec Ideal S640x3584 .bf16) (D : FVec Ideal S128x640 .f32) (A : Vec Ideal S128x3584 .f32) (r : Fin 128) (l : Fin 3584) :
    (Gen.k0_pay74 (F := Ideal) P D A (ix2 r l) : EReal) = (A (ix2 r l) : EReal) + ∑ k : Fin 640, (D (ix2 r k) : EReal) * (P (ix2 k l) : EReal) := by
  pointwise [Gen.k0_pay74]
theorem pay75_apply (P : Vec Ideal S640x3584 .bf16) (qc : Vec Ideal S3584x128 .fp8e4m3) (qs : Vec Ideal S3584x128 .f32) (r : Fin 640) (l : Fin 128) :
    (Gen.k0_pay75 (F := Ideal) P qc qs (ix2 r l) : EReal) = ∑ h : Fin 3584, (P (ix2 r h) : EReal) * ((qc (ix2 h l) : EReal) * (qs (ix2 h l) : EReal)) := by
  pointwise [Gen.k0_pay75]
theorem pay76_eq (a : FVec Ideal S640x128 .bf16) : Gen.k0_pay76 a = a := by
  unfold Gen.k0_pay76; exact shapeCast_id _ _
theorem pay78_apply (a : FVec Ideal S640x128 .bf16) (b : Vec Ideal S128x128 .bf16) (r l : Fin 128) :
    (Gen.k0_pay78 (Gen.k0_pay77 a) b (ix2 r l) : EReal) = (a (ix2 ⟨r.val, by omega⟩ l) : EReal) + (b (ix2 r l) : EReal) := by
  pointwise [Gen.k0_pay77, Gen.k0_pay78]
theorem pay79_eq (a : Vec Ideal S128x128 .bf16) : Gen.k0_pay79 a = a := by
  unfold Gen.k0_pay79; exact shapeCast_id _ _
theorem pay35_apply (a : Vec Ideal S1x28x128 .f32) (r : Fin 28) (l : Fin 128) : Gen.k0_pay35 a (ix2 r l) = a (ix3 0 r l) := by
  pointwise [Gen.k0_pay35]
theorem pay34_apply (v : BitVec 32) (a : Vec Ideal S1x28x128 .i32) (r : Fin 28) (l : Fin 128) :
    Gen.k0_pay34 (F := Ideal) v v a (ix2 r l) = a (ix3 0 r l) + (v - fd v * 128#32) := by
  have e : Gen.k0_pay34 (F := Ideal) v v a = addi (shapeCast S28x128 a Facts₀.shapeCasts_S1x28x128_S28x128) (broadcast S28x128 (v - fd v * 128#32)) := rfl
  rw [e]
  pointwise
  rfl
theorem pel_apply (a b : BitVec 32) (w : EReal) : (pel (F := Ideal) a b w : EReal) = if a = b then w else 0 := by
  unfold pel
  show (if a = b then w else (Ideal.ofBits .f32 0x00000000#32 : EReal)) = _
  rw [Ideal.ofBits_zero_f32]

end Cert.KernelIdeal.Hand

end
-- ==== Proof.Meaning.lean ====
module

public import proofs.«01_k».proof.Proof.Pay

@[expose] public section

/-! # The meaning of what the kernel leaves, over the extended reals -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable [Facts]
variable (I : Inp Ideal)

/-- Hit `h`'s position in document `t`. -/
def Inp.pos (t h : ℕ) : ℕ := (I.idx t (i3 0 (h / 128) (h % 128)) : BitVec 32).toNat
/-- Hit `h`'s weight for document `t`. -/
def Inp.wt (t h : ℕ) : EReal := I.w t (i3 0 (h / 128) (h % 128))
/-- The row hit `h` of document `t` names. -/
def Inp.tgt (t h : ℕ) : ℕ := I.st t + I.pos t h
/-- The query entries. -/
def Inp.q (h k : ℕ) : EReal := (I.qc (i2 h k) : EReal) * (I.qs (i2 h k) : EReal)
/-- The document entries. -/
def Inp.g (r k : ℕ) : EReal := (I.codes (i2 r k) : EReal) * (I.scl (i2 (k / 32) r) : EReal)
/-- Every hit lies in its document. -/
def Inp.Hits : Prop := ∀ t, t < 336 → ∀ h, h < 3584 → I.tgt t h < I.st (t + 1)
/-- What document `t`'s hits add to row `x`. -/
def Inp.C (t x k : ℕ) : EReal := ∑ h : Fin 3584, if x = I.tgt t h.val then I.wt t h.val * I.q h.val k else 0

variable {I}

theorem ite_mul_ereal (c : Prop) [Decidable c] (a b : EReal) : (if c then a else 0) * b = if c then a * b else 0 := by
  split
  · rfl
  · exact zero_mul b
theorem mul_ite_ereal (c : Prop) [Decidable c] (a b : EReal) : b * (if c then a else 0) = if c then b * a else 0 := by
  split
  · rfl
  · exact mul_zero b

theorem off_toNat (ok : I.Ok) (t : ℕ) (ht : t < 336) : (I.stw t - fd (I.stw t) * 128#32).toNat = I.st t - 128 * I.c0 t := by
  have h1 : (I.stw t).toNat ≤ 172032 := ok.lt t ht.le
  have h2 := fd_toNat (I.stw t) (by omega)
  have h3 : (fd (I.stw t) * 128#32).toNat = 128 * ((I.stw t).toNat / 128) := by
    rw [BitVec.toNat_mul, h2]
    show (_ * 128) % _ = _
    omega
  rw [sub_toNat _ _ (by rw [h3]; omega), h3]
  rfl

theorem Pm_apply (ok : I.Ok) (hit : I.Hits) (t : ℕ) (ht : t < 336) (r : Fin 640) (h : Fin 3584) :
    (Pm I t (ix2 r h) : EReal) = if 128 * I.c0 t + r.val = I.tgt t h.val then I.wt t h.val else 0 := by
  have e2 : (i2 (h.val / 128) (h.val % 128) : S28x128.Idx) = ix2 ⟨h.val / 128, by omega⟩ ⟨h.val % 128, by omega⟩ := i2_eq _ _ _ rfl rfl
  have e3 : (i3 0 (h.val / 128) (h.val % 128) : S1x28x128.Idx) = ix3 0 ⟨h.val / 128, by omega⟩ ⟨h.val % 128, by omega⟩ := i3_eq _ _ _ _ rfl rfl rfl
  have ew : (HW I t (i2 (h.val / 128) (h.val % 128)) : EReal) = I.wt t h.val := by
    unfold HW Inp.wt
    rw [e2, e3]; exact pay35_apply _ _ _
  have ex : HX I t (i2 (h.val / 128) (h.val % 128)) = I.idx t (i3 0 (h.val / 128) (h.val % 128)) + (I.stw t - fd (I.stw t) * 128#32) := by
    unfold HX
    rw [e2, e3]; exact pay34_apply _ _ _ _
  have hh := hit t ht h.val h.isLt
  have hl := ok.len t ht
  have h1 := ok.lt (t + 1) (by omega)
  have ho := off_toNat ok t ht
  have hc : I.c0 t = I.st t / 128 := rfl
  show (pel (F := Ideal) (BitVec.ofNat 32 r.val) (HX I t (i2 (h.val / 128) (h.val % 128))) (HW I t (i2 (h.val / 128) (h.val % 128))) : EReal) = _
  rw [pel_apply, ew, ex]
  have hi : Iff (BitVec.ofNat 32 r.val = I.idx t (i3 0 (h.val / 128) (h.val % 128)) + (I.stw t - fd (I.stw t) * 128#32)) (128 * I.c0 t + r.val = I.tgt t h.val) := by
    have hp : (I.idx t (i3 0 (h.val / 128) (h.val % 128)) : BitVec 32).toNat = I.pos t h.val := rfl
    have hr := r.isLt
    unfold Inp.tgt at *
    rw [← BitVec.toNat_inj, BitVec.toNat_add, ho, hp, BitVec.toNat_ofNat, Nat.mod_eq_of_lt (by omega : r.val < 2 ^ 32), Nat.mod_eq_of_lt (by omega)]
    constructor <;> intro <;> omega
  by_cases hd : 128 * I.c0 t + r.val = I.tgt t h.val
  · rw [if_pos hd, if_pos (hi.2 hd)]
  · rw [if_neg hd, if_neg (fun h => hd (hi.1 h))]

theorem WC_apply (t : ℕ) (r : Fin 640) (k : Fin 128) (hr : r.val < 128 * I.n t) : (WC I t (ix3 0 r k) : EReal) = I.codes (i2 (128 * I.c0 t + r.val) k.val) := by
  have e0 : ((i3 (t % 2) r.val k.val : S2x640x128.Idx) 0).val = t % 2 := Nat.mod_eq_of_lt (by omega : t % 2 < 2)
  have e1 : ((i3 (t % 2) r.val k.val : S2x640x128.Idx) 1).val = r.val := Nat.mod_eq_of_lt r.isLt
  have e2 : ((i3 (t % 2) r.val k.val : S2x640x128.Idx) 2).val = k.val := Nat.mod_eq_of_lt k.isLt
  show dbf I (t + 1) (i3 (t % 2) r.val k.val) = _
  unfold dbf
  rw [if_pos ⟨e0, by rw [e1]; exact hr⟩, e1, e2]

theorem WS_apply (t : ℕ) (r : Fin 640) (k : Fin 4) (hr : r.val < 128 * I.n t) : (WS I t (ix3 0 k r) : EReal) = I.scl (i2 k.val (128 * I.c0 t + r.val)) := by
  have e0 : ((i3 (t % 2) k.val r.val : S2x4x640.Idx) 0).val = t % 2 := Nat.mod_eq_of_lt (by omega : t % 2 < 2)
  have e1 : ((i3 (t % 2) k.val r.val : S2x4x640.Idx) 1).val = k.val := Nat.mod_eq_of_lt k.isLt
  have e2 : ((i3 (t % 2) k.val r.val : S2x4x640.Idx) 2).val = r.val := Nat.mod_eq_of_lt r.isLt
  show sbf I (t + 1) (i3 (t % 2) k.val r.val) = _
  unfold sbf
  rw [if_pos ⟨e0, by rw [e2]; exact hr⟩, e1, e2]

theorem DQ_apply (ok : I.Ok) (hit : I.Hits) (k : Fin 128) (h : Fin 3584) : ∀ T, T ≤ 336 →
    (DQ I T (ix2 k h) : EReal) = ∑ t ∈ Finset.range T, I.g (I.tgt t h.val) k.val * I.wt t h.val
  | 0, _ => by rw [Finset.range_zero, Finset.sum_empty]; exact pay3_apply _
  | T + 1, hT => by
    have ht : T < 336 := by omega
    have hh := hit T ht h.val h.isLt
    have hl := ok.len T ht
    have hge : I.st T ≤ I.tgt T h.val := Nat.le_add_right _ _
    have hn : I.n T = (I.st (T + 1) + 127 - 128 * (I.st T / 128)) / 128 := rfl
    have hc : I.c0 T = I.st T / 128 := rfl
    have hr0 : I.tgt T h.val - 128 * I.c0 T < 640 := by omega
    rw [Finset.sum_range_succ, ← DQ_apply ok hit k h T (by omega)]
    refine (pay74_apply _ _ _ _ _).trans (congrArg _ ?_)
    rw [Finset.sum_eq_single (⟨I.tgt T h.val - 128 * I.c0 T, hr0⟩ : Fin 640)]
    · rw [Pm_apply ok hit T ht, if_pos (by show 128 * I.c0 T + (I.tgt T h.val - 128 * I.c0 T) = _; omega), pay73_apply, WC_apply, WS_apply]
      · unfold Inp.g
        rw [show 128 * I.c0 T + (I.tgt T h.val - 128 * I.c0 T) = I.tgt T h.val by omega]
      all_goals (show I.tgt T h.val - 128 * I.c0 T < _; omega)
    · intro b _ hb
      rw [Pm_apply ok hit T ht, if_neg, mul_zero]
      intro he
      exact hb (Fin.ext (by show b.val = I.tgt T h.val - 128 * I.c0 T; omega))
    · intro hb; exact absurd (Finset.mem_univ _) hb

theorem RES_apply (ok : I.Ok) (hit : I.Hits) (t : ℕ) (ht : t < 336) (r : Fin 640) (k : Fin 128) :
    (RES I t (ix2 r k) : EReal) = I.C t (128 * I.c0 t + r.val) k.val := by
  unfold RES Inp.C
  refine (pay75_apply _ _ _ _ _).trans (Finset.sum_congr rfl fun h _ => ?_)
  rw [Pm_apply ok hit t ht, ite_mul_ereal]
  unfold Inp.q
  rw [i2_eq (ix2 h k : S3584x128.Idx) h.val k.val rfl rfl]

/-- A document's hits add nothing outside its rows. -/
theorem C_zero (hit : I.Hits) (t : ℕ) (ht : t < 336) (x k : ℕ) (hx : x < I.st t ∨ I.st (t + 1) ≤ x) : I.C t x k = 0 := by
  unfold Inp.C
  refine Finset.sum_eq_zero fun h _ => if_neg fun e => ?_
  have := hit t ht h.val h.isLt
  have hge : I.st t ≤ I.tgt t h.val := Nat.le_add_right _ _
  omega

theorem st_le (ok : I.Ok) : ∀ a b, a ≤ b → b ≤ 336 → I.st a ≤ I.st b := by
  intro a b hab hb
  induction b, hab using Nat.le_induction with
  | base => exact le_rfl
  | succ n hn ih => exact (ih (by omega)).trans (ok.mono n (by omega))

theorem STG_apply (ok : I.Ok) (hit : I.Hits) (k : Fin 128) : ∀ t, t < 336 → ∀ r : Fin 640,
    (STG I t (ix2 r k) : EReal) = ∑ s ∈ Finset.range (t + 1), I.C s (128 * I.c0 t + r.val) k.val := by
  have hca : ∀ t, t < 336 → (∀ r : Fin 128, (CA I t (ix2 r k) : EReal) = ∑ s ∈ Finset.range t, I.C s (128 * I.c0 t + r.val) k.val) →
      ∀ r : Fin 640, (STG I t (ix2 r k) : EReal) = ∑ s ∈ Finset.range (t + 1), I.C s (128 * I.c0 t + r.val) k.val := by
    intro t ht h r
    have hc : I.c0 t = I.st t / 128 := rfl
    show (stgOf I t (CA I t) (ix2 r k) : EReal) = _
    unfold stgOf
    by_cases hr : r.val < 128
    · rw [if_pos (by exact hr), Finset.sum_range_succ, ← RES_apply ok hit t ht, ← h ⟨r.val, hr⟩, add_comm]
      rw [show (i2 ((ix2 r k : S640x128.Idx) 0).val ((ix2 r k : S640x128.Idx) 1).val : S128x128.Idx) = ix2 ⟨r.val, hr⟩ k from i2_eq _ _ _ rfl rfl]
      exact pay78_apply _ _ _ _
    · rw [if_neg (by exact hr), pay76_eq, RES_apply ok hit t ht, Finset.sum_range_succ, Finset.sum_eq_zero, zero_add]
      intro s hs
      have hs' : s < t := Finset.mem_range.1 hs
      refine C_zero hit s (by omega) _ _ (Or.inr ?_)
      have := st_le ok (s + 1) t (by omega) (by omega)
      omega
  intro t
  induction t with
  | zero =>
    intro ht
    refine hca 0 ht fun r => ?_
    rw [Finset.range_zero, Finset.sum_empty]; exact pay4_apply _
  | succ t ih =>
    intro ht
    refine hca (t + 1) ht fun r => ?_
    have hf := ok.full_le t (by omega)
    have hs := c0_succ ok t (by omega)
    have hlt : 128 * I.full t + r.val < 640 := by omega
    show (Gen.k0_pay79 (fun y => stgOf I t (CA I t) (i2 (128 * I.full t + (y 0).val) (y 1).val)) (ix2 r k) : EReal) = _
    rw [pay79_eq]
    have e : (i2 (128 * I.full t + r.val) k.val : S640x128.Idx) = ix2 ⟨128 * I.full t + r.val, hlt⟩ k := i2_eq _ _ _ rfl rfl
    refine Eq.trans (congrArg (STG I t) e) ((ih (by omega) _).trans ?_)
    refine Finset.sum_congr rfl fun s _ => ?_
    rw [← hs]
    congr 1
    show 128 * I.c0 t + (128 * I.full t + r.val) = _
    omega

/-- The documents' gradient: every document's hits added at the rows they name. -/
theorem GG_apply (ok : I.Ok) (hit : I.Hits) (x : Fin 172032) (k : Fin 128) :
    (GG I (ix2 x k) : EReal) = ∑ t ∈ Finset.range 336, I.C t x.val k.val := by
  have htl : I.tail0 = (I.st 336 + 127) / 128 := rfl
  by_cases hx : x.val / 128 < I.tail0
  · have hz := c0_zero ok
    set o := own I (x.val / 128) with ho
    have ho1 : I.c0 o ≤ x.val / 128 := Nat.findGreatest_spec (P := fun t => I.c0 t ≤ x.val / 128) (Nat.zero_le 335) (by rw [hz]; omega)
    have ho2 : o ≤ 335 := Nat.findGreatest_le 335
    have ho3 : ∀ n, o < n → n ≤ 335 → ¬ I.c0 n ≤ x.val / 128 := fun n h1 h2 => Nat.findGreatest_is_greatest (P := fun t => I.c0 t ≤ x.val / 128) h1 h2
    have hr : x.val - 128 * I.c0 o < 640 := by
      have hco : I.c0 o = I.st o / 128 := rfl
      have hl := ok.len o (by omega)
      rcases Nat.lt_or_ge o 335 with h | h
      · have := ho3 (o + 1) (by omega) (by omega)
        have hc1 : I.c0 (o + 1) = I.st (o + 1) / 128 := rfl
        omega
      · have he : o = 335 := by omega
        rw [he] at hl hco ⊢
        norm_num at hl
        omega
    have e : GG I (ix2 x k) = STG I o (ix2 ⟨x.val - 128 * I.c0 o, hr⟩ k) := by
      unfold GG
      rw [if_pos (by exact hx)]
      exact congrArg (STG I o) (i2_eq _ _ _ rfl rfl)
    rw [e, STG_apply ok hit k o (by omega)]
    have e2 : 128 * I.c0 o + (x.val - 128 * I.c0 o) = x.val := by omega
    show ∑ s ∈ Finset.range (o + 1), I.C s (128 * I.c0 o + (x.val - 128 * I.c0 o)) k.val = _
    rw [e2]
    refine Finset.sum_subset (Finset.range_mono (by omega)) fun t h1 h2 => ?_
    have h1' := Finset.mem_range.1 h1
    have h2' : ¬ t < o + 1 := fun h => h2 (Finset.mem_range.2 h)
    refine C_zero hit t h1' _ _ (Or.inl ?_)
    have := ho3 t (by omega) (by omega)
    have hc1 : I.c0 t = I.st t / 128 := rfl
    omega
  · have e : (GG I (ix2 x k) : EReal) = 0 := by
      rw [GG_zero _ (by show 128 * I.tail0 ≤ x.val; omega)]
      exact Ideal.ofBits_zero_bf16
    rw [e, Finset.sum_eq_zero]
    intro t ht
    have ht' := Finset.mem_range.1 ht
    refine C_zero hit t ht' _ _ (Or.inr ?_)
    have := st_le ok (t + 1) 336 (by omega) le_rfl
    omega

/-- The queries' gradient. -/
theorem GQ_apply (ok : I.Ok) (hit : I.Hits) (h : Fin 3584) (k : Fin 128) :
    (GQ I (ix2 h k) : EReal) = ∑ t ∈ Finset.range 336, I.g (I.tgt t h.val) k.val * I.wt t h.val := by
  rw [← DQ_apply ok hit k h 336 le_rfl]
  exact congrArg (DQ I 336) (i2_eq _ _ _ rfl rfl)

end Cert.KernelIdeal.Hand

end
-- ==== Proof.Entries.lean ====
module

public import proofs.«01_k».proof.Proof.Host
public import proofs.«01_k».proof.Proof.Meaning
public import Idealize.ShloMosaic.Lib.Pointwise

@[expose] public section

/-! # What the host operations feed the kernel, entry by entry -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable (m : (ℓ : Loc nD τ sig) → Buf (Elt Ideal) ℓ)
open Facts₀

theorem V_v9 (c : Dev nD) : V m c main_v9 = shapeCast S336x28x128 (broadcastInDim S336x112x32 ![0, 1, 2] bcast_S336x112x1_S336x112x32_0_1_2 (broadcastInDim S336x112x1 ![0, 1] bcast_S336x112_S336x112x1_0_1 (transpose S336x112 [1, 0] (extf .f32 (F := Ideal) (φ := .bf16) (m ((c : Thread nD τ).loc main_arg6)) bitsLt_bf16_f32) transposes_S112x336_S336x112_1_0))) shapeCasts_S336x112x32_S336x28x128 := by
  show StableHlo.after (List.flatten [Gen.hostOps0, Gen.hostOps0_1]) (fun b => m (c, b)) (Proc.devRef .tc main_v9) = _
  simp only [Gen.hostOps0, Gen.hostOps0_1, List.flatten_cons, List.flatten_nil, List.append_nil, List.cons_append, List.nil_append]
  after_results
  all_goals chain_rfl
theorem V_v10 (c : Dev nD) : V m c main_v10 = shapeCast S3584x128 (m ((c : Thread nD τ).loc main_arg0)) shapeCasts_S112x32x128_S3584x128 := by
  show StableHlo.after (List.flatten [Gen.hostOps0, Gen.hostOps0_1]) (fun b => m (c, b)) (Proc.devRef .tc main_v10) = _
  simp only [Gen.hostOps0, Gen.hostOps0_1, List.flatten_cons, List.flatten_nil, List.append_nil, List.cons_append, List.nil_append]
  after_results
  all_goals chain_rfl
theorem V_v13 (c : Dev nD) : V m c main_v13 = shapeCast S3584x128 (broadcastInDim S3584x4x32 ![0, 1, 2] bcast_S3584x4x1_S3584x4x32_0_1_2 (shapeCast S3584x4x1 (m ((c : Thread nD τ).loc main_arg1)) shapeCasts_S112x32x4_S3584x4x1)) shapeCasts_S3584x4x32_S3584x128 := by
  show StableHlo.after (List.flatten [Gen.hostOps0, Gen.hostOps0_1]) (fun b => m (c, b)) (Proc.devRef .tc main_v13) = _
  simp only [Gen.hostOps0, Gen.hostOps0_1, List.flatten_cons, List.flatten_nil, List.append_nil, List.cons_append, List.nil_append]
  after_results
  all_goals chain_rfl
theorem V_v14 (c : Dev nD) : V m c main_v14 = transpose S4x172032 [1, 0] (m ((c : Thread nD τ).loc main_arg3)) transposes_S172032x4_S4x172032_1_0 := by
  show StableHlo.after (List.flatten [Gen.hostOps0, Gen.hostOps0_1]) (fun b => m (c, b)) (Proc.devRef .tc main_v14) = _
  simp only [Gen.hostOps0, Gen.hostOps0_1, List.flatten_cons, List.flatten_nil, List.append_nil, List.cons_append, List.nil_append]
  after_results
  all_goals chain_rfl

theorem idx_at (c : Dev nD) (t : Fin 336) (u : Fin 28) (l : Fin 128) : V m c main_v4 (ix3 t u l) = m ((c : Thread nD τ).loc main_arg5) (i3 ((128 * u.val + l.val) / 32) t.val ((128 * u.val + l.val) % 32)) := by
  rw [V_v4]
  pointwise
  exact congrArg _ (i3_eq _ _ _ _ (by show u.val * 4 + l.val / 32 = _; omega) rfl (by show l.val % 32 = _; omega)).symm
theorem w_at (c : Dev nD) (t : Fin 336) (u : Fin 28) (l : Fin 128) : V m c main_v9 (ix3 t u l) = m ((c : Thread nD τ).loc main_arg6) (i2 ((128 * u.val + l.val) / 32) t.val) := by
  rw [V_v9]
  pointwise
  exact congrArg _ (i2_eq _ _ _ (by show u.val * 4 + l.val / 32 = _; omega) rfl).symm
theorem qc_at (c : Dev nD) (h : Fin 3584) (k : Fin 128) : V m c main_v10 (ix2 h k) = m ((c : Thread nD τ).loc main_arg0) (i3 (h.val / 32) (h.val % 32) k.val) := by
  rw [V_v10, shapeCast_apply _ _ (ix2 h k) (ix3 ⟨h.val / 32, by omega⟩ ⟨h.val % 32, by omega⟩ k)]
  · exact congrArg _ (i3_eq _ _ _ _ rfl rfl rfl).symm
  · rw [Shape.rowMajor_val_three, Shape.rowMajor_val_two]
    show (h.val / 32 * 32 + h.val % 32) * 128 + k.val = h.val * 128 + k.val
    omega
theorem qs_at (c : Dev nD) (h : Fin 3584) (k : Fin 128) : V m c main_v13 (ix2 h k) = m ((c : Thread nD τ).loc main_arg1) (i3 (h.val / 32) (h.val % 32) (k.val / 32)) := by
  rw [V_v13, shapeCast_apply _ _ (ix2 h k) (ix3 h ⟨k.val / 32, by omega⟩ ⟨k.val % 32, by omega⟩),
    broadcastInDim_apply _ _ _ (ix3 h ⟨k.val / 32, by omega⟩ ⟨k.val % 32, by omega⟩) (ix3 h ⟨k.val / 32, by omega⟩ 0),
    shapeCast_apply _ _ (ix3 h ⟨k.val / 32, by omega⟩ 0) (ix3 ⟨h.val / 32, by omega⟩ ⟨h.val % 32, by omega⟩ ⟨k.val / 32, by omega⟩)]
  · exact congrArg _ (i3_eq _ _ _ _ rfl rfl rfl).symm
  · rw [Shape.rowMajor_val_three, Shape.rowMajor_val_three]
    show (h.val / 32 * 32 + h.val % 32) * 4 + k.val / 32 = (h.val * 4 + k.val / 32) * 1 + 0
    omega
  · intro a
    fin_cases a <;> rfl
  · rw [Shape.rowMajor_val_three, Shape.rowMajor_val_two]
    show (h.val * 4 + k.val / 32) * 32 + k.val % 32 = h.val * 128 + k.val
    omega
theorem scl_at (c : Dev nD) (g : Fin 4) (x : Fin 172032) : V m c main_v14 (ix2 g x) = m ((c : Thread nD τ).loc main_arg3) (i2 x.val g.val) := by
  rw [V_v14]
  pointwise
  exact congrArg _ (i2_eq _ _ _ rfl rfl).symm

end Cert.KernelIdeal.Hand

end
-- ==== Proof.KernelSums.lean ====
module

public import proofs.«01_k».proof.Proof.Sums
public import proofs.«01_k».proof.Proof.Entries
public import proofs.«01_k».proof.Defs

@[expose] public section

/-! # What the kernel leaves, as those sums -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable (m : (ℓ : Loc nD τ sig) → Buf (Elt Ideal) ℓ)

/-- The arguments as the kernel is given them. -/
def args (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)

variable {m}
theorem st_sm (c : Dev nD) (H : (args m c).Hits) (t : ℕ) (ht : t ≤ 336) : (inp m c).st t = (args m c).sm t := by
  unfold Inp.st
  rw [tab_eq m c t ht, BitVec.toNat_ofNat]
  have := Args.sm_le H t
  exact Nat.mod_eq_of_lt (by change (args m c).sm t < _; omega)

theorem j3_ix (t : ℕ) (ht : t < 336) (u : Fin 28) (l : Fin 128) : j3 t u l = ix3 (⟨t, ht⟩ : Fin 336) u l := by
  funext a
  apply Fin.ext
  fin_cases a
  · exact Nat.mod_eq_of_lt ht
  · rfl
  · rfl

theorem pos_eq (c : Dev nD) (t : ℕ) (ht : t < 336) (h : Fin 3584) : (inp m c).pos t h.val = ((args m c).a5 (i3 (h.val / 32) t (h.val % 32))).toNat := by
  have e3 : (i3 0 (h.val / 128) (h.val % 128) : S1x28x128.Idx) = ix3 0 ⟨h.val / 128, by omega⟩ ⟨h.val % 128, by omega⟩ := i3_eq _ _ _ _ rfl rfl rfl
  unfold Inp.pos
  rw [e3]
  show (V m c main_v4 (j3 t (⟨h.val / 128, by omega⟩ : Fin 28) (⟨h.val % 128, by omega⟩ : Fin 128)) : BitVec 32).toNat = _
  rw [j3_ix t ht, idx_at]
  show (m ((c : Thread nD τ).loc main_arg5) (i3 ((128 * (h.val / 128) + h.val % 128) / 32) t ((128 * (h.val / 128) + h.val % 128) % 32)) : BitVec 32).toNat = _
  rw [Nat.div_add_mod]
  rfl

theorem wt_eq (c : Dev nD) (t : ℕ) (ht : t < 336) (h : Fin 3584) : (inp m c).wt t h.val = (args m c).a6 (i2 (h.val / 32) t) := by
  have e3 : (i3 0 (h.val / 128) (h.val % 128) : S1x28x128.Idx) = ix3 0 ⟨h.val / 128, by omega⟩ ⟨h.val % 128, by omega⟩ := i3_eq _ _ _ _ rfl rfl rfl
  unfold Inp.wt
  rw [e3]
  show (V m c main_v9 (j3 t (⟨h.val / 128, by omega⟩ : Fin 28) (⟨h.val % 128, by omega⟩ : Fin 128)) : EReal) = _
  rw [j3_ix t ht, w_at]
  show (m ((c : Thread nD τ).loc main_arg6) (i2 ((128 * (h.val / 128) + h.val % 128) / 32) t) : EReal) = _
  rw [Nat.div_add_mod]
  rfl

theorem tgt_eq (c : Dev nD) (H : (args m c).Hits) (t : ℕ) (ht : t < 336) (h : Fin 3584) : (inp m c).tgt t h.val = (args m c).row (h.val / 32) t (h.val % 32) := by
  unfold Inp.tgt Args.row
  rw [pos_eq c t ht, st_sm c H t ht.le]

theorem q_eq (c : Dev nD) (h : Fin 3584) (k : Fin 128) : (inp m c).q h.val k.val = (args m c).qry (h.val / 32) (h.val % 32) k.val := by
  unfold Inp.q Args.qry
  have e2 : (i2 h.val k.val : S3584x128.Idx) = ix2 h k := i2_eq _ _ _ rfl rfl
  rw [e2]
  exact congrArg₂ (fun a b : EReal => a * b) (qc_at m c h k) (qs_at m c h k)

theorem g_eq (c : Dev nD) (r : ℕ) (hr : r < 172032) (k : Fin 128) : (inp m c).g r k.val = (args m c).doc r k.val := by
  unfold Inp.g Args.doc
  have e2 : (i2 (k.val / 32) r : S4x172032.Idx) = ix2 ⟨k.val / 32, by omega⟩ ⟨r, hr⟩ := i2_eq _ _ _ rfl rfl
  rw [e2]
  exact congrArg₂ (fun a b : EReal => a * b) (congrFun (V_arg2 m c) _) (scl_at m c ⟨k.val / 32, by omega⟩ ⟨r, hr⟩)

theorem ok_of (c : Dev nD) (H : (args m c).Hits) : (inp m c).Ok := inp_ok m c H.le

theorem hits_of (c : Dev nD) (H : (args m c).Hits) : (inp m c).Hits := fun t ht h hh => by
  rw [tgt_eq c H t ht ⟨h, hh⟩, st_sm c H (t + 1) (by omega), Args.sm_succ]
  have := H.lt (h / 32) (by omega) t ht (h % 32) (by omega)
  show (args m c).sm t + ((args m c).a5 (i3 (h / 32) t (h % 32))).toNat < _
  omega

theorem GQ_eq (c : Dev nD) (H : (args m c).Hits) (h : Fin 3584) (k : Fin 128) : (GQ (inp m c) (ix2 h k) : EReal) = (args m c).dq (h.val / 32) (h.val % 32) k.val := by
  rw [GQ_apply (ok_of c H) (hits_of c H)]
  unfold Args.dq
  refine Finset.sum_congr rfl fun t ht => ?_
  have ht' := Finset.mem_range.1 ht
  rw [tgt_eq c H t ht', wt_eq c t ht', g_eq c _ (Args.row_lt H _ _ _ (by omega) ht' (by omega))]

theorem GG_eq (c : Dev nD) (H : (args m c).Hits) (x : Fin 172032) (k : Fin 128) : (GG (inp m c) (ix2 x k) : EReal) = (args m c).dd x.val k.val := by
  rw [GG_apply (ok_of c H) (hits_of c H)]
  unfold Args.dd Inp.C
  refine Finset.sum_congr rfl fun t ht => Finset.sum_congr rfl fun h _ => ?_
  have ht' := Finset.mem_range.1 ht
  rw [tgt_eq c H t ht', wt_eq c t ht', q_eq c]

instance preHits : Cert.Pre_hits_fit.Facts := ⟨by decide, by decide, by decide, by decide⟩

theorem word_hit (x l : BitVec 32) (a : IntOp.cmpi .sge x 0#32 = 1#1) (b : IntOp.cmpi .slt x l = 1#1) (d : IntOp.cmpi .sle l 512#32 = 1#1) : x.toNat < l.toNat ∧ l.toNat ≤ 512 := by
  unfold IntOp.cmpi at a b d
  have a' := (StableHlo.Predicate.ofBool_eq_one_iff _).1 a
  have b' := (StableHlo.Predicate.ofBool_eq_one_iff _).1 b
  have d' := (StableHlo.Predicate.ofBool_eq_one_iff _).1 d
  simp only [BitVec.sle_eq_decide, BitVec.slt_eq_decide, decide_eq_true_eq] at a' b' d'
  have e0 : (0#32).toInt = 0 := rfl
  have e1 : (512#32).toInt = 512 := rfl
  rw [e0] at a'; rw [e1] at d'
  have hx := BitVec.toInt_eq_toNat_cond x
  have hl := BitVec.toInt_eq_toNat_cond l
  split at hx <;> split at hl <;> omega

theorem andi_both {a b : BitVec 1} (h : IntOp.andi a b = 1#1) : a = 1#1 ∧ b = 1#1 := by
  revert h; unfold IntOp.andi; revert a b; decide

theorem hits_at (c : Dev nD) (h : Cert.Pre_hits_fit.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1)
    (b : Fin 112) (t : Fin 336) (q : Fin 32) : ((args m c).a5 (ix3 b t q)).toNat < ((args m c).a4 (ix1 t)).toNat ∧ ((args m c).a4 (ix1 t)).toNat ≤ 512 := by
  have e := congrFun h (ix3 b t q)
  unfold Cert.Pre_hits_fit.fn at e
  have e1 := andi_both e
  have e2 := andi_both e1.1
  have sb : ∀ v : IVec Cert.Pre_hits_fit.S1x336x1 32, broadcastInDim Cert.Pre_hits_fit.S112x336x32 ![0, 1, 2] preHits.bcast_S1x336x1_S112x336x32_0_1_2 v (ix3 b t q) = v (ix3 0 t 0) := fun v =>
    broadcastInDim_apply _ _ _ _ _ (fun a => by fin_cases a <;> rfl)
  have sb' : ∀ v : IVec Cert.Pre_hits_fit.S1x336x1 1, broadcastInDim Cert.Pre_hits_fit.S112x336x32 ![0, 1, 2] preHits.bcast_S1x336x1_S112x336x32_0_1_2 v (ix3 b t q) = v (ix3 0 t 0) := fun v =>
    broadcastInDim_apply _ _ _ _ _ (fun a => by fin_cases a <;> rfl)
  have sa : broadcastInDim Cert.Pre_hits_fit.S1x336x1 ![1] preHits.bcast_S336_S1x336x1_1 (args m c).a4 (ix3 0 t 0) = (args m c).a4 (ix1 t) :=
    broadcastInDim_apply _ _ _ _ _ (fun a => by fin_cases a; rfl)
  have l : IntOp.cmpi .slt ((args m c).a5 (ix3 b t q)) (broadcastInDim Cert.Pre_hits_fit.S112x336x32 ![0, 1, 2] preHits.bcast_S1x336x1_S112x336x32_0_1_2
    (broadcastInDim Cert.Pre_hits_fit.S1x336x1 ![1] preHits.bcast_S336_S1x336x1_1 (args m c).a4) (ix3 b t q)) = 1#1 := e2.2
  have d := e1.2
  rw [sb, sa] at l
  rw [sb'] at d
  have d' : IntOp.cmpi .sle (broadcastInDim Cert.Pre_hits_fit.S1x336x1 ![1] preHits.bcast_S336_S1x336x1_1 (args m c).a4 (ix3 0 t 0)) 512#32 = 1#1 := d
  rw [sa] at d'
  exact word_hit _ _ e2.1 l d'

theorem hits_pre (c : Dev nD) (h : Cert.Pre_hits_fit.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1) : (args m c).Hits := by
  have e1 : ∀ t (ht : t < 336), (args m c).len t = ((args m c).a4 (ix1 ⟨t, ht⟩)).toNat := fun t ht => by
    unfold Args.len
    rw [dif_pos ht]
    exact congrArg (fun y => ((args m c).a4 y).toNat) (i1_eq _ _ rfl)
  refine ⟨fun b hb t ht q hq => ?_, fun t => ?_⟩
  · rw [e1 t ht, i3_eq (ix3 (⟨b, hb⟩ : Fin 112) (⟨t, ht⟩ : Fin 336) (⟨q, hq⟩ : Fin 32)) b t q rfl rfl rfl]
    exact (hits_at c h ⟨b, hb⟩ ⟨t, ht⟩ ⟨q, hq⟩).1
  · by_cases ht : t < 336
    · rw [e1 t ht]
      exact (hits_at c h 0 ⟨t, ht⟩ 0).2
    · unfold Args.len
      rw [dif_neg ht]
      omega

end Cert.KernelIdeal.Hand

end
-- ==== Proof.RefRows.lean ====
module

public import proofs.«01_k».proof.Proof.Gen.ReferenceIdeal.Frame
public import Idealize.ShloMosaic.Lib.Pointwise
public import Idealize.ShloMosaic.Lib.Routing.OpsPair

@[expose] public section

/-! # Rows read by number, and added by number -/

set_option maxRecDepth 16384
set_option pp.maxSteps 300

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.ReferenceIdeal

theorem fin2_one : ¬ (1 : Fin 2) = 0 := by decide

/-- The rows of a table read at row numbers in a rank-3 array. -/
def rowsDims (N C B T Q : Nat) (wf : GatherDims.WF ⟨2, ![N, C]⟩ ⟨4, ![B, T, Q, 1]⟩ ⟨4, ![B, T, Q, C]⟩ [3] [0] [] [0] [] 3 ![1, C]) :
    GatherDims ⟨2, ![N, C]⟩ ⟨4, ![B, T, Q, 1]⟩ ⟨4, ![B, T, Q, C]⟩ where
  offsetDims := [3]
  collapsedSliceDims := [0]
  operandBatchingDims := []
  startIndicesBatchingDims := []
  startIndexMap := [0]
  indexVectorDim := 3
  sliceSizes := ![1, C]
  wf := wf

theorem rows_apply {α : Type} {N C B T Q : Nat} (wf : GatherDims.WF ⟨2, ![N, C]⟩ ⟨4, ![B, T, Q, 1]⟩ ⟨4, ![B, T, Q, C]⟩ [3] [0] [] [0] [] 3 ![1, C])
    (x : (⟨2, ![N, C]⟩ : Shape).Idx → α) (idx : IVec ⟨4, ![B, T, Q, 1]⟩ 32) (b : Fin B) (t : Fin T) (q : Fin Q) (k : Fin C) (r : Fin N)
    (hr : min (idx (ix4 b t q 0)).toInt.toNat (N - 1) = r.val) :
    Host.gather (rowsDims N C B T Q wf) x idx (ix4 b t q k) = x (ix2 r k) := by
  unfold Host.gather
  refine congrArg x (funext fun a => Fin.ext ?_)
  show (rowsDims N C B T Q wf).start (ix4 b t q k) idx a + (rowsDims N C B T Q wf).batchCoord (ix4 b t q k) a
      + (rowsDims N C B T Q wf).offCoord (ix4 b t q k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B T Q wf).startIndexMap from List.mem_singleton.mpr rfl)]
    have hsi : (rowsDims N C B T Q wf).siIdx (ix4 b t q k) ⟨List.idxOf (0 : Fin 2) (rowsDims N C B T Q wf).startIndexMap,
        List.idxOf_lt_length_iff.2 (List.mem_singleton.mpr rfl)⟩ = ix4 b t q 0 := by
      funext e; refine Fin.ext ?_
      match e with
      | ⟨0, _⟩ => rfl
      | ⟨1, _⟩ => rfl
      | ⟨2, _⟩ => rfl
      | ⟨3, _⟩ => rfl
    rw [hsi]
    exact hr
  · have hs : (rowsDims N C B T Q wf).start (ix4 b t q k) idx 1 = 0 := by
      unfold GatherDims.start
      exact dif_neg (fun h => absurd (List.mem_singleton.mp h) fin2_one)
    rw [hs]
    simp only [Nat.zero_add, Nat.add_zero]
    unfold GatherDims.offCoord
    rw [dif_pos ((GatherDims.mem_sKept _ _).mpr ⟨fun h => absurd (List.mem_singleton.mp h) fin2_one, List.not_mem_nil⟩)]
    rfl

/-- Rows added to a table at row numbers in a column. -/
def scatDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem scat_lands {N M C : Nat} (wf : ScatterDims.WF ⟨2, ![N, C]⟩ ⟨2, ![M, 1]⟩ ⟨2, ![M, C]⟩ [1] [0] [0] 1) (idx : IVec ⟨2, ![M, 1]⟩ 32)
    (f : Fin M) (k' : Fin C) (r : Fin N) (k : Fin C) :
    Iff ((scatDims N M C wf).resultIdx? (ix2 f k') idx = some (ix2 r k)) ((idx (ix2 f 0)).toInt = (r.val : Int) ∧ k' = k) := by
  rw [Routing.resultIdx?_eq_some]
  have s0 : (scatDims N M C wf).start (ix2 f k') idx 0 = (idx (ix2 f 0)).toInt := by
    unfold ScatterDims.start
    rw [dif_pos (show (0 : Fin 2) ∈ (scatDims N M C wf).scatterDimsToOperandDims from List.mem_singleton.mpr rfl)]
    congr 2
    funext e; refine Fin.ext ?_
    match e with
    | ⟨0, _⟩ => rfl
    | ⟨1, _⟩ => rfl
  have s1 : (scatDims N M C wf).start (ix2 f k') idx 1 = 0 := by
    unfold ScatterDims.start
    exact dif_neg (fun h => absurd (List.mem_singleton.mp h) fin2_one)
  have w0 : (scatDims N M C wf).window (ix2 f k') 0 = 0 := rfl
  have w1 : (scatDims N M C wf).window (ix2 f k') 1 = k'.val := rfl
  constructor
  · intro h
    have h0 := h 0
    have h1 := h 1
    rw [s0, w0] at h0
    rw [s1, w1] at h1
    refine ⟨?_, Fin.ext ?_⟩
    · change _ = (r.val : Int) at h0; omega
    · change _ = (k.val : Int) at h1; omega
  · rintro ⟨h0, rfl⟩ a
    match a with
    | ⟨0, _⟩ =>
      show (scatDims N M C wf).start (ix2 f k') idx 0 + ((scatDims N M C wf).window (ix2 f k') 0 : Int) = (r.val : Int)
      rw [s0, w0, h0]; rfl
    | ⟨1, _⟩ =>
      show (scatDims N M C wf).start (ix2 f k') idx 1 + ((scatDims N M C wf).window (ix2 f k') 1 : Int) = (k'.val : Int)
      rw [s1, w1]; omega

theorem scat_apply {N M C : Nat} (wf : ScatterDims.WF ⟨2, ![N, C]⟩ ⟨2, ![M, 1]⟩ ⟨2, ![M, C]⟩ [1] [0] [0] 1) (idx : IVec ⟨2, ![M, 1]⟩ 32)
    (x : (⟨2, ![N, C]⟩ : Shape).Idx → EReal) (upd : (⟨2, ![M, C]⟩ : Shape).Idx → EReal) (r : Fin N) (k : Fin C) :
    (Host.scatterAdd (F := Ideal) (φ := .f32) (scatDims N M C wf) x idx upd (ix2 r k) : EReal) = x (ix2 r k) + ∑ f : Fin M, if (idx (ix2 f 0)).toInt = (r.val : Int) then upd (ix2 f k) else 0 := by
  unfold Host.scatterAdd
  rw [Ideal.hostScatterAdd_def]
  unfold Ideal.hostScatterAdd
  refine congrArg (fun z : EReal => x (ix2 r k) + z) ?_
  rw [Finset.sum_filter, sum_idx2]
  refine Finset.sum_congr rfl fun f _ => ?_
  rw [Finset.sum_eq_single k]
  · by_cases h : (idx (ix2 f 0)).toInt = (r.val : Int)
    · rw [if_pos h, if_pos ((scat_lands wf idx f k r k).2 ⟨h, rfl⟩)]
    · rw [if_neg h, if_neg (fun h' => h ((scat_lands wf idx f k r k).1 h').1)]
  · intro k' _ hk
    exact if_neg (fun h' => hk ((scat_lands wf idx f k' r k).1 h').2)
  · intro h; exact absurd (Finset.mem_univ _) h

/-- A sum over a flattened table of three coordinates. -/
theorem sum_flat {A B C : Nat} (f : Fin (A * B * C) → EReal) :
    ∑ i, f i = ∑ a : Fin A, ∑ b : Fin B, ∑ c : Fin C, f (finProdFinEquiv (finProdFinEquiv (a, b), c)) := by
  rw [← finProdFinEquiv.sum_comp, Fintype.sum_prod_type, ← finProdFinEquiv.sum_comp, Fintype.sum_prod_type]

end Cert.ReferenceIdeal.Hand

end
-- ==== Proof.RefRun.lean ====
module

public import proofs.«01_k».proof.Proof.RefRows
public import Idealize.ShloMosaic.Lib.Pipeline.ValueKit

@[expose] public section

/-! # What the reference leaves -/

set_option maxRecDepth 16384
set_option pp.maxSteps 300

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.ReferenceIdeal

variable {F : FTy → Type} [FloatOps F]

variable (m : (ℓ : Loc nD τ sig) → Buf (Elt F) ℓ) (ρ : Dev nD → PrngReg)
open Facts₀

/-- The row numbers, counted from the end where negative, as a gather takes them. -/
def wrap (v4 : IVec S112x336x32 32) : IVec S112x336x32x1 32 :=
  broadcastInDim S112x336x32x1 ![0, 1, 2] bcast_S112x336x32_S112x336x32x1_0_1_2
    (select (cmpi .slt v4 (broadcastInDim S112x336x32 ![] bcast_S_S112x336x32 (constantI S_ 32 0#32)))
      (addi v4 (broadcastInDim S112x336x32 ![] bcast_S_S112x336x32 (constantI S_ 32 172032#32))) v4)

/-- The documents' rows the hits name, scaled. -/
def docs (v4 : IVec S112x336x32 32) (x : FVec F S172032x128 .bf16) (a3 : FVec F S172032x4 .f32) : FVec F S112x336x32x128 .bf16 :=
  shapeCast S112x336x32x128 (mulf
    (shapeCast S112x336x32x4x32 (Host.gather gather_S172032x128_S112x336x32x1_S112x336x32x128_3_0_n_n_0_3_1128 x (wrap v4)) shapeCasts_S112x336x32x128_S112x336x32x4x32)
    (broadcastInDim S112x336x32x4x32 ![0, 1, 2, 3, 4] bcast_S112x336x32x4x1_S112x336x32x4x32_0_1_2_3_4
      (broadcastInDim S112x336x32x4x1 ![0, 1, 2, 3] bcast_S112x336x32x4_S112x336x32x4x1_0_1_2_3
        (truncf .bf16 (Host.gather gather_S172032x4_S112x336x32x1_S112x336x32x4_3_0_n_n_0_3_14 a3 (wrap v4)) bitsLt_bf16_f32)))) shapeCasts_S112x336x32x4x32_S112x336x32x128

/-- The queries, scaled. -/
def qrys (x : FVec F S112x32x128 .f32) (a1 : FVec F S112x32x4 .f32) : FVec F S112x32x128 .f32 :=
  shapeCast S112x32x128 (mulf (shapeCast S112x32x4x32 x shapeCasts_S112x32x128_S112x32x4x32)
    (broadcastInDim S112x32x4x32 ![0, 1, 2, 3] bcast_S112x32x4x1_S112x32x4x32_0_1_2_3
      (broadcastInDim S112x32x4x1 ![0, 1, 2] bcast_S112x32x4_S112x32x4x1_0_1_2 a1))) shapeCasts_S112x32x4x32_S112x32x128

/-- The queries' gradient. -/
def dqR (v4 : IVec S112x336x32 32) (x : FVec F S172032x128 .bf16) (a3 : FVec F S172032x4 .f32) (a6 : FVec F S112x336 .bf16) : FVec F S3584x128 .bf16 :=
  shapeCast S3584x128 (truncf .bf16 (Host.dotGeneral dot_S112x336_S112x336x32x128_S112x32x128_1_1_n_23_0_0 none a6 (docs v4 x a3) : FVec F S112x32x128 .f32) bitsLt_bf16_f32) shapeCasts_S112x32x128_S3584x128

/-- What every hit adds to the row it names. -/
def upds (x : FVec F S112x32x128 .f32) (a1 : FVec F S112x32x4 .f32) (a6 : FVec F S112x336 .bf16) : FVec F S112x336x32x128 .f32 :=
  mulf (broadcastInDim S112x336x32x128 ![0, 1, 2, 3] bcast_S112x336x1x1_S112x336x32x128_0_1_2_3
      (broadcastInDim S112x336x1x1 ![0, 1] bcast_S112x336_S112x336x1x1_0_1 (extf .f32 a6 bitsLt_bf16_f32)))
    (broadcastInDim S112x336x32x128 ![0, 1, 2, 3] bcast_S112x1x32x128_S112x336x32x128_0_1_2_3
      (broadcastInDim S112x1x32x128 ![0, 2, 3] bcast_S112x32x128_S112x1x32x128_0_2_3 (qrys x a1)))

/-- The row numbers in one column. -/
def wrapF (v4 : IVec S112x336x32 32) : IVec S1204224x1 32 :=
  broadcastInDim S1204224x1 ![0] bcast_S1204224_S1204224x1_0
    (select (cmpi .slt (shapeCast S1204224 v4 shapeCasts_S112x336x32_S1204224) (broadcastInDim S1204224 ![] bcast_S_S1204224 (constantI S_ 32 0#32)))
      (addi (shapeCast S1204224 v4 shapeCasts_S112x336x32_S1204224) (broadcastInDim S1204224 ![] bcast_S_S1204224 (constantI S_ 32 172032#32)))
      (shapeCast S1204224 v4 shapeCasts_S112x336x32_S1204224))

/-- The documents' gradient. -/
def ddR (v4 : IVec S112x336x32 32) (x : FVec F S112x32x128 .f32) (a1 : FVec F S112x32x4 .f32) (a6 : FVec F S112x336 .bf16) : FVec F S172032x128 .bf16 :=
  truncf .bf16 (Host.scatterAdd scatter_S172032x128_S1204224x1_S1204224x128_1_0_0_1
    (broadcastInDim S172032x128 ![] bcast_S_S172032x128 (constant S_ .f32 0x00000000#32)) (wrapF v4)
    (shapeCast S1204224x128 (upds x a1 a6) shapeCasts_S112x336x32x128_S1204224x128) : FVec F S172032x128 .f32) bitsLt_bf16_f32

/-- The row numbers. -/
def rowsR (a4 : IVec S336 32) (a5 : IVec S112x336x32 32) : IVec S112x336x32 32 :=
  addi (broadcastInDim S112x336x32 ![0, 1, 2] bcast_S1x336x1_S112x336x32_0_1_2 (broadcastInDim S1x336x1 ![1] bcast_S336_S1x336x1_1
    (subi (Host.reduceWindow IntOp.addi ![336] ![1] ![335] ![0] a4 (broadcastInDim S_ ![] bcast_S_S_ (constantI S_ 32 0#32)) reduceWindows_S336_S336_w336s1p335_0 h_S_) a4))) a5

open Cert.ReferenceIdeal.Gen

theorem V_v4 (c : Dev nD) : V m c main_v4 = rowsR (m ((c : Thread nD τ).loc main_arg4)) (m ((c : Thread nD τ).loc main_arg5)) := by
  show StableHlo.after (List.flatten [Gen.hostOps0, Gen.hostOps0_1]) (fun b => m (c, b)) (Proc.devRef .tc main_v4) = _
  simp only [Gen.hostOps0, Gen.hostOps0_1, List.flatten_cons, List.flatten_nil, List.append_nil, List.cons_append, List.nil_append]
  after_results
  all_goals chain_rfl

theorem W_v50 (W : Valuation τ sig (Elt F)) : StableHlo.after (List.flatten [hostOps1]) W (Proc.devRef .tc main_v50)
    = dqR (W (Proc.devRef .tc main_v4)) (W (Proc.devRef .tc main_v5_0)) (W (Proc.devRef .tc main_arg3)) (W (Proc.devRef .tc main_arg6)) := by
  simp only [Gen.hostOps1, List.flatten_cons, List.flatten_nil, List.append_nil, List.cons_append, List.nil_append]
  after_results
  all_goals chain_rfl

theorem W_v49 (W : Valuation τ sig (Elt F)) : StableHlo.after (List.flatten [hostOps1]) W (Proc.devRef .tc main_v49)
    = ddR (W (Proc.devRef .tc main_v4)) (W (Proc.devRef .tc main_v5_1)) (W (Proc.devRef .tc main_arg1)) (W (Proc.devRef .tc main_arg6)) := by
  simp only [Gen.hostOps1, List.flatten_cons, List.flatten_nil, List.append_nil, List.cons_append, List.nil_append]
  after_results
  all_goals chain_rfl

theorem in0 (c : Dev nD) (t : Fin cfg0.N) : iblk m c 0 t = m ((c : Thread nD τ).loc main_arg2) := by
  rw [← V_main_arg2 m c]
  funext y
  show V m c main_arg2 _ = V m c main_arg2 y
  congr 1
  funext a
  apply Fin.ext
  fin_cases a
  · show 0 * 172032 + 1 * (y 0).val = (y 0).val; omega
  · show 0 * 128 + 1 * (y 1).val = (y 1).val; omega
theorem in1 (c : Dev nD) (t : Fin cfg0.N) : iblk m c 1 t = m ((c : Thread nD τ).loc main_arg0) := by
  rw [← V_main_arg0 m c]
  funext y
  show V m c main_arg0 _ = V m c main_arg0 y
  congr 1
  funext a
  apply Fin.ext
  fin_cases a
  · show 0 * 112 + 1 * (y 0).val = (y 0).val; omega
  · show 0 * 32 + 1 * (y 1).val = (y 1).val; omega
  · show 0 * 128 + 1 * (y 2).val = (y 2).val; omega

theorem z2 : (![0, 0] : Fin 2 → ℕ) = fun _ => 0 := by decide
theorem z3 : (![0, 0, 0] : Fin 3 → ℕ) = fun _ => 0 := by decide
theorem out2 (x0 : Vec F S172032x128 .fp8e4m3) (x1 : Vec F S112x32x128 .fp8e4m3) : out0_2 x0 x1 = Gen.k0_pay1 x0 := by
  unfold out0_2
  rw [View.canon_unit_zero z2, View.ld_unit_zero z2]
theorem out3 (x0 : Vec F S172032x128 .fp8e4m3) (x1 : Vec F S112x32x128 .fp8e4m3) : out0_3 x0 x1 = Gen.k0_pay2 x1 := by
  unfold out0_3
  rw [View.canon_unit_zero z3, View.ld_unit_zero z3]

theorem arr2 (c : Dev nD) : (dats m 0 c).arrAt 2 cfg0.N = Gen.k0_pay1 (m ((c : Thread nD τ).loc main_arg2)) := by
  refine (dats m 0 c).arrAt_eq_of_after_last 2 ⟨0, by decide⟩ (by decide +kernel) _ fun j => ?_
  rw [after0_2, out2, in0]
  rfl
theorem arr3 (c : Dev nD) : (dats m 0 c).arrAt 3 cfg0.N = Gen.k0_pay2 (m ((c : Thread nD τ).loc main_arg0)) := by
  refine (dats m 0 c).arrAt_eq_of_after_last 3 ⟨0, by decide⟩ (by decide +kernel) _ fun j => ?_
  rw [after0_3, out3, in1]
  rfl

/-- The valuation the lines after the region start from. -/
abbrev W (c : Dev nD) : Valuation τ sig (Elt F) := Pipeline.withArrays (cfgs 0).spec c (V0 m c) fun w => (dats m 0 c).arrAt w (cfgs 0).N

theorem inj0 : Function.Injective (arrRef spec0) := by decide
theorem W_ne (c : Dev nD) (b : Ref sig .tc) (hb : ∀ w, arrRef spec0 w ≠ b) : W m c (Proc.devRef .tc b) = V m c b := Pipeline.withArrays_of_ne _ c (V0 m c) _ b hb
theorem W_0 (c : Dev nD) : W m c (Proc.devRef .tc main_v5_0) = Gen.k0_pay1 (m ((c : Thread nD τ).loc main_arg2)) := (Pipeline.withArrays_arr spec0 inj0 c (V0 m c) _ 2).trans (arr2 m c)
theorem W_1 (c : Dev nD) : W m c (Proc.devRef .tc main_v5_1) = Gen.k0_pay2 (m ((c : Thread nD τ).loc main_arg0)) := (Pipeline.withArrays_arr spec0 inj0 c (V0 m c) _ 3).trans (arr3 m c)

theorem end50 (c : Dev nD) : Pipeline.afterTail₀ cfgs (dats m) 0 (V0 m) [hostOps1] c main_v50 = dqR (rowsR (m ((c : Thread nD τ).loc main_arg4)) (m ((c : Thread nD τ).loc main_arg5)))
    (Gen.k0_pay1 (m ((c : Thread nD τ).loc main_arg2))) (m ((c : Thread nD τ).loc main_arg3)) (m ((c : Thread nD τ).loc main_arg6)) := by
  refine (W_v50 (W m c)).trans ?_
  rw [W_0, W_ne m c main_v4 (by decide), W_ne m c main_arg3 (by decide), W_ne m c main_arg6 (by decide), V_v4, V_main_arg3, V_main_arg6]
theorem end49 (c : Dev nD) : Pipeline.afterTail₀ cfgs (dats m) 0 (V0 m) [hostOps1] c main_v49 = ddR (rowsR (m ((c : Thread nD τ).loc main_arg4)) (m ((c : Thread nD τ).loc main_arg5)))
    (Gen.k0_pay2 (m ((c : Thread nD τ).loc main_arg0))) (m ((c : Thread nD τ).loc main_arg1)) (m ((c : Thread nD τ).loc main_arg6)) := by
  refine (W_v49 (W m c)).trans ?_
  rw [W_1, W_ne m c main_v4 (by decide), W_ne m c main_arg1 (by decide), W_ne m c main_arg6 (by decide), V_v4, V_main_arg1, V_main_arg6]

theorem rest49 : main_v49 ∈ restRefs sig spec0 := by decide +kernel
theorem rest50 : main_v50 ∈ restRefs sig spec0 := by decide +kernel

/-- Both results. -/
theorem run_results : θ_run defs (onTc (τ := τ) (main (F := F))) ⟨m, fun _ => 0, ρ⟩ (fun r => ∀ c : Dev nD,
      r.2.mem ((c.tc : Thread nD τ).loc main_v50) = dqR (rowsR (m ((c : Thread nD τ).loc main_arg4)) (m ((c : Thread nD τ).loc main_arg5)))
        (Gen.k0_pay1 (m ((c : Thread nD τ).loc main_arg2))) (m ((c : Thread nD τ).loc main_arg3)) (m ((c : Thread nD τ).loc main_arg6))
      ∧ r.2.mem ((c.tc : Thread nD τ).loc main_v49) = ddR (rowsR (m ((c : Thread nD τ).loc main_arg4)) (m ((c : Thread nD τ).loc main_arg5)))
        (Gen.k0_pay2 (m ((c : Thread nD τ).loc main_arg0))) (m ((c : Thread nD τ).loc main_arg1)) (m ((c : Thread nD τ).loc main_arg6))) :=
  (θ_run defs _ _).mono (fun r h c => ⟨((h.1 c).2 main_v50 rest50).trans (end50 m c), ((h.1 c).2 main_v49 rest49).trans (end49 m c)⟩) (run_main_quiescent m ρ)

end Cert.ReferenceIdeal.Hand

end
-- ==== Proof.RefSums.lean ====
module

public import proofs.«01_k».proof.Proof.RefRun
public import proofs.«01_k».proof.Proof.Sums
public import Idealize.ShloMosaic.Lib.Routing.OpsOne

@[expose] public section

/-! # What the reference leaves, as the same sums -/

set_option maxRecDepth 16384
set_option pp.maxSteps 300

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.ReferenceIdeal

open Facts₀
open Cert.KernelIdeal.Hand (Args i1 i2 i3 i2_eq i3_eq)

variable {A : Args}

theorem word_add {a b : BitVec 32} {x y : ℕ} (ha : a.toNat = x) (hb : b.toNat = y) (h : x + y < 2 ^ 32) : (a + b).toNat = x + y := by
  rw [BitVec.toNat_add, ha, hb, Nat.mod_eq_of_lt h]

theorem i1_ix {k : ℕ} [NeZero k] (x : Fin k) : (i1 x.val : (⟨1, ![k]⟩ : Shape).Idx) = ix1 x := by
  funext a
  apply Fin.ext
  match a with
  | ⟨0, _⟩ => exact Nat.mod_eq_of_lt x.isLt

theorem ix2_i2 {m n : ℕ} [NeZero m] [NeZero n] (x : Fin m) (y : Fin n) : (ix2 x y : (⟨2, ![m, n]⟩ : Shape).Idx) = i2 x.val y.val := (i2_eq _ _ _ rfl rfl).symm

theorem ix3_i3 {l m n : ℕ} [NeZero l] [NeZero m] [NeZero n] (x : Fin l) (y : Fin m) (z : Fin n) : (ix3 x y z : (⟨3, ![l, m, n]⟩ : Shape).Idx) = i3 x.val y.val z.val := (i3_eq _ _ _ _ rfl rfl rfl).symm

/-- The row number of a hit. -/
theorem rowsR_apply (H : A.Hits) (b : Fin 112) (t : Fin 336) (q : Fin 32) : (rowsR A.a4 A.a5 (ix3 b t q)).toNat = A.row b.val t.val q.val := by
  have hr := Args.row_lt H b.val t.val q.val b.isLt t.isLt q.isLt
  have hs := Args.sm_succ (A := A) t.val
  have hl := Args.sm_le H (t.val + 1)
  have ht := t.isLt
  have el : A.len t.val = (A.a4 (ix1 t)).toNat := by
    unfold Args.len
    rw [dif_pos t.isLt, i1_ix]
  have hc : Host.reduceWindow IntOp.addi ![336] ![1] ![335] ![0] A.a4 (broadcastInDim S_ ![] bcast_S_S_ (constantI S_ 32 0#32)) reduceWindows_S336_S336_w336s1p335_0 h_S_ (ix1 t) = BitVec.ofNat 32 (A.sm (t.val + 1)) :=
    Routing.cumsum1 (N := 336) (Nm1 := 335) rfl A.a4 A.len (fun i => by
      unfold Args.len; rw [dif_pos i.isLt, BitVec.ofNat_toNat, BitVec.setWidth_eq, i1_ix]; rfl) (broadcastInDim S_ ![] bcast_S_S_ (constantI S_ 32 0#32)) rfl reduceWindows_S336_S336_w336s1p335_0 h_S_ t
  have e : rowsR A.a4 A.a5 (ix3 b t q) = (BitVec.ofNat 32 (A.sm (t.val + 1)) - A.a4 (ix1 t)) + A.a5 (ix3 b t q) := by
    unfold rowsR
    show IntOp.addi (broadcastInDim S112x336x32 ![0, 1, 2] bcast_S1x336x1_S112x336x32_0_1_2 (broadcastInDim S1x336x1 ![1] bcast_S336_S1x336x1_1 (subi (Host.reduceWindow IntOp.addi ![336] ![1] ![335] ![0] A.a4 (broadcastInDim S_ ![] bcast_S_S_ (constantI S_ 32 0#32)) reduceWindows_S336_S336_w336s1p335_0 h_S_) A.a4)) (ix3 b t q)) (A.a5 (ix3 b t q)) = _
    rw [broadcastInDim_apply _ _ _ (ix3 b t q) (ix3 0 t 0) (fun a => by fin_cases a <;> rfl), broadcastInDim_apply _ _ _ (ix3 0 t 0) (ix1 t) (fun a => by fin_cases a; rfl)]
    show (Host.reduceWindow IntOp.addi ![336] ![1] ![335] ![0] A.a4 (broadcastInDim S_ ![] bcast_S_S_ (constantI S_ 32 0#32)) reduceWindows_S336_S336_w336s1p335_0 h_S_ (ix1 t) - A.a4 (ix1 t)) + A.a5 (ix3 b t q) = _
    rw [hc]
  rw [e]
  have e5 : (A.a5 (ix3 b t q)).toNat = (A.a5 (i3 b.val t.val q.val)).toNat := by rw [i3_eq (ix3 b t q) b.val t.val q.val rfl rfl rfl]
  unfold Args.row at hr ⊢
  refine word_add ?_ e5 (by omega)
  have hx : (BitVec.ofNat 32 (A.sm (t.val + 1))).toNat = A.sm (t.val + 1) := by
    rw [BitVec.toNat_ofNat]; exact Nat.mod_eq_of_lt (by omega)
  rw [Cert.KernelIdeal.Hand.sub_toNat _ _ (by rw [hx, ← el]; omega), hx, ← el]
  omega

theorem toInt_small (x : BitVec 32) (h : x.toNat < 172032) : x.toInt = (x.toNat : Int) := by
  rw [BitVec.toInt_eq_toNat_cond, if_pos (by omega)]

theorem wrap_apply (v4 : IVec S112x336x32 32) (b : Fin 112) (t : Fin 336) (q : Fin 32) (h : (v4 (ix3 b t q)).toNat < 172032) : wrap v4 (ix4 b t q 0) = v4 (ix3 b t q) := by
  unfold wrap
  rw [broadcastInDim_apply _ _ _ (ix4 b t q 0) (ix3 b t q) (fun a => by fin_cases a <;> rfl)]
  exact Routing.wrap_of_lt _ _ (by show _ < 2 ^ 31; omega)

theorem wrapF_apply (v4 : IVec S112x336x32 32) (b : Fin 112) (t : Fin 336) (q : Fin 32) (f : Fin 1204224) (hf : f.val = q.val + 32 * (t.val + 336 * b.val)) (h : (v4 (ix3 b t q)).toNat < 172032) : wrapF v4 (ix2 f 0) = v4 (ix3 b t q) := by
  have e : shapeCast S1204224 v4 shapeCasts_S112x336x32_S1204224 (ix1 f) = v4 (ix3 b t q) := shapeCast_apply _ _ _ _ (by
    rw [Shape.rowMajor_val_three, Shape.rowMajor_val_one]
    show (b.val * 336 + t.val) * 32 + q.val = f.val
    omega)
  unfold wrapF
  rw [broadcastInDim_apply _ _ _ (ix2 f 0) (ix1 f) (fun a => by fin_cases a; rfl)]
  rw [← e] at h ⊢
  exact Routing.wrap_of_lt _ _ (by show _ < 2 ^ 31; omega)

theorem docs_apply (v4 : IVec S112x336x32 32) (x : FVec Ideal S172032x128 .bf16) (a3 : FVec Ideal S172032x4 .f32) (b : Fin 112) (t : Fin 336) (q : Fin 32) (k : Fin 128) (r : Fin 172032) (h : (v4 (ix3 b t q)).toNat = r.val) :
    (docs v4 x a3 (ix4 b t q k) : EReal) = (x (ix2 r k) : EReal) * (a3 (ix2 r ⟨k.val / 32, by omega⟩) : EReal) := by
  have hw : min (wrap v4 (ix4 b t q 0)).toInt.toNat (172032 - 1) = r.val := by
    have := r.isLt
    rw [wrap_apply v4 b t q (by omega), toInt_small _ (by omega), h]
    omega
  unfold docs
  rw [shapeCast_apply _ _ (ix4 b t q k) (ix5 b t q (⟨k.val / 32, by omega⟩ : Fin 4) (⟨k.val % 32, by omega⟩ : Fin 32)) (by
    rw [Shape.rowMajor_val_five, Shape.rowMajor_val_four]
    show (((b.val * 336 + t.val) * 32 + q.val) * 4 + k.val / 32) * 32 + k.val % 32 = ((b.val * 336 + t.val) * 32 + q.val) * 128 + k.val
    omega)]
  refine congrArg₂ (fun u v : EReal => u * v) ?_ ?_
  · rw [shapeCast_apply _ _ (ix5 b t q (⟨k.val / 32, by omega⟩ : Fin 4) (⟨k.val % 32, by omega⟩ : Fin 32)) (ix4 b t q k) (by
      rw [Shape.rowMajor_val_five, Shape.rowMajor_val_four]
      show ((b.val * 336 + t.val) * 32 + q.val) * 128 + k.val = (((b.val * 336 + t.val) * 32 + q.val) * 4 + k.val / 32) * 32 + k.val % 32
      omega)]
    exact rows_apply gather_S172032x128_S112x336x32x1_S112x336x32x128_3_0_n_n_0_3_1128_wf x (wrap v4) b t q k r hw
  · rw [broadcastInDim_apply _ _ _ (ix5 b t q (⟨k.val / 32, by omega⟩ : Fin 4) (⟨k.val % 32, by omega⟩ : Fin 32)) (ix5 b t q (⟨k.val / 32, by omega⟩ : Fin 4) 0) (fun a => by fin_cases a <;> rfl),
      broadcastInDim_apply _ _ _ (ix5 b t q (⟨k.val / 32, by omega⟩ : Fin 4) 0) (ix4 b t q (⟨k.val / 32, by omega⟩ : Fin 4)) (fun a => by fin_cases a <;> rfl)]
    exact rows_apply gather_S172032x4_S112x336x32x1_S112x336x32x4_3_0_n_n_0_3_14_wf a3 (wrap v4) b t q (⟨k.val / 32, by omega⟩ : Fin 4) r hw

theorem qrys_apply (x : FVec Ideal S112x32x128 .f32) (a1 : FVec Ideal S112x32x4 .f32) (b : Fin 112) (q : Fin 32) (k : Fin 128) :
    (qrys x a1 (ix3 b q k) : EReal) = (x (ix3 b q k) : EReal) * (a1 (ix3 b q ⟨k.val / 32, by omega⟩) : EReal) := by
  unfold qrys
  rw [shapeCast_apply _ _ (ix3 b q k) (ix4 b q (⟨k.val / 32, by omega⟩ : Fin 4) (⟨k.val % 32, by omega⟩ : Fin 32)) (by
    rw [Shape.rowMajor_val_four, Shape.rowMajor_val_three]
    show ((b.val * 32 + q.val) * 4 + k.val / 32) * 32 + k.val % 32 = (b.val * 32 + q.val) * 128 + k.val
    omega)]
  refine congrArg₂ (fun u v : EReal => u * v) ?_ ?_
  · exact shapeCast_apply _ _ _ _ (by
      rw [Shape.rowMajor_val_four, Shape.rowMajor_val_three]
      show (b.val * 32 + q.val) * 128 + k.val = ((b.val * 32 + q.val) * 4 + k.val / 32) * 32 + k.val % 32
      omega)
  · rw [broadcastInDim_apply _ _ _ (ix4 b q (⟨k.val / 32, by omega⟩ : Fin 4) (⟨k.val % 32, by omega⟩ : Fin 32)) (ix4 b q (⟨k.val / 32, by omega⟩ : Fin 4) 0) (fun a => by fin_cases a <;> rfl)]
    exact broadcastInDim_apply _ _ _ _ _ (fun a => by fin_cases a <;> rfl)

theorem upds_apply (x : FVec Ideal S112x32x128 .f32) (a1 : FVec Ideal S112x32x4 .f32) (a6 : FVec Ideal S112x336 .bf16) (b : Fin 112) (t : Fin 336) (q : Fin 32) (k : Fin 128) :
    (upds x a1 a6 (ix4 b t q k) : EReal) = (a6 (ix2 b t) : EReal) * (qrys x a1 (ix3 b q k) : EReal) := by
  unfold upds
  refine congrArg₂ (fun u v : EReal => u * v) ?_ ?_
  · rw [broadcastInDim_apply _ _ _ (ix4 b t q k) (ix4 b t 0 0) (fun a => by fin_cases a <;> rfl)]
    exact broadcastInDim_apply _ _ _ (ix4 b t 0 0) (ix2 b t) (fun a => by fin_cases a <;> rfl)
  · rw [broadcastInDim_apply _ _ _ (ix4 b t q k) (ix4 b 0 q k) (fun a => by fin_cases a <;> rfl)]
    exact broadcastInDim_apply _ _ _ (ix4 b 0 q k) (ix3 b q k) (fun a => by fin_cases a <;> rfl)

theorem dot_apply (a6 : FVec Ideal S112x336 .bf16) (D : FVec Ideal S112x336x32x128 .bf16) (b : Fin 112) (q : Fin 32) (k : Fin 128) :
    ((Host.dotGeneral dot_S112x336_S112x336x32x128_S112x32x128_1_1_n_23_0_0 none a6 D : FVec Ideal S112x32x128 .f32) (ix3 b q k) : EReal)
      = ∑ t : Fin 336, (a6 (ix2 b t) : EReal) * (D (ix4 b t q k) : EReal) := by
  pointwise
  done

theorem dqR_apply (H : A.Hits) (h : Fin 3584) (k : Fin 128) : (dqR (F := Ideal) (rowsR A.a4 A.a5) A.a2 A.a3 A.a6 (ix2 h k) : EReal) = A.dq (h.val / 32) (h.val % 32) k.val := by
  unfold dqR
  rw [shapeCast_apply _ _ (ix2 h k) (ix3 (⟨h.val / 32, by omega⟩ : Fin 112) (⟨h.val % 32, by omega⟩ : Fin 32) k) (by
    rw [Shape.rowMajor_val_three, Shape.rowMajor_val_two]
    show (h.val / 32 * 32 + h.val % 32) * 128 + k.val = h.val * 128 + k.val
    omega)]
  refine (dot_apply _ _ _ _ _).trans ?_
  unfold Args.dq
  rw [Finset.sum_range]
  refine Finset.sum_congr rfl fun t _ => ?_
  have hr := Args.row_lt H (h.val / 32) t.val (h.val % 32) (by omega) t.isLt (by omega)
  rw [docs_apply _ _ _ _ t _ k ⟨_, hr⟩ (rowsR_apply H _ _ _), mul_comm]
  unfold Args.doc
  simp only [ix2_i2]

theorem sum_hits (f : Fin 3584 → EReal) : ∑ h, f h = ∑ b : Fin 112, ∑ q : Fin 32, f (finProdFinEquiv (m := 112) (n := 32) (b, q)) := by
  rw [← (finProdFinEquiv (m := 112) (n := 32)).sum_comp, Fintype.sum_prod_type]

theorem ddR_apply (H : A.Hits) (x : Fin 172032) (k : Fin 128) : (ddR (F := Ideal) (rowsR A.a4 A.a5) A.a0 A.a1 A.a6 (ix2 x k) : EReal) = A.dd x.val k.val := by
  unfold ddR
  refine (scat_apply scatter_S172032x128_S1204224x1_S1204224x128_1_0_0_1_wf _ _ _ x k).trans ?_
  have hz : ((broadcastInDim S172032x128 ![] bcast_S_S172032x128 (constant (F := Ideal) S_ .f32 0x00000000#32)) (ix2 x k) : EReal) = 0 := Ideal.ofBits_zero_f32
  rw [hz, zero_add]
  refine (sum_flat (A := 112) (B := 336) (C := 32) _).trans ?_
  unfold Args.dd
  rw [Finset.sum_range, Finset.sum_comm]
  refine Finset.sum_congr rfl fun t _ => ?_
  rw [sum_hits]
  refine Finset.sum_congr rfl fun b _ => Finset.sum_congr rfl fun q _ => ?_
  have hr := Args.row_lt H b.val t.val q.val b.isLt t.isLt q.isLt
  have hrow := rowsR_apply H b t q
  have hh : (finProdFinEquiv (m := 112) (n := 32) (b, q)).val = q.val + 32 * b.val := rfl
  have hf : (finProdFinEquiv (finProdFinEquiv (b, t), q)).val = q.val + 32 * (t.val + 336 * b.val) := rfl
  have hb : (q.val + 32 * b.val) / 32 = b.val := by omega
  have hq : (q.val + 32 * b.val) % 32 = q.val := by omega
  rw [hh, hb, hq, wrapF_apply _ b t q _ hf (by omega), toInt_small _ (by omega), hrow]
  have hu : ((shapeCast S1204224x128 (upds (F := Ideal) A.a0 A.a1 A.a6) shapeCasts_S112x336x32x128_S1204224x128) (ix2 (finProdFinEquiv (finProdFinEquiv (b, t), q)) k) : EReal) = A.a6 (i2 b.val t.val) * A.qry b.val q.val k.val := by
    rw [shapeCast_apply _ _ (ix2 _ k) (ix4 b t q k) (by
      rw [Shape.rowMajor_val_four, Shape.rowMajor_val_two]
      show ((b.val * 336 + t.val) * 32 + q.val) * 128 + k.val = (q.val + 32 * (t.val + 336 * b.val)) * 128 + k.val
      omega), upds_apply, qrys_apply]
    unfold Args.qry
    simp only [ix2_i2, ix3_i3]
  by_cases hx : A.row b.val t.val q.val = x.val
  · rw [if_pos (by rw [hx]), if_pos hx.symm]
    exact hu
  · rw [if_neg (fun h => hx (by exact_mod_cast h)), if_neg (fun h => hx h.symm)]

end Cert.ReferenceIdeal.Hand

end
-- ==== Proof.Algebraic.lean ====
module

public import proofs.«01_k».proof.Proof.KernelSums
public import proofs.«01_k».proof.Proof.RefSums
public import proofs.«01_k».proof.Proof.Frames

@[expose] public section

/-! # The kernel and the reference leave equal results -/

set_option maxRecDepth 16384
set_option pp.maxSteps 300

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.KernelIdeal

variable (m : (ℓ : Loc nD τ sig) → Buf (Elt Ideal) ℓ)

theorem eta2 {a b : ℕ} (x : (⟨2, ![a, b]⟩ : Shape).Idx) : x = ix2 (x 0) (x 1) := by
  funext i
  match i with
  | ⟨0, _⟩ => rfl
  | ⟨1, _⟩ => rfl

/-- The query gradient of the kernel is the reference's. -/
theorem same_dq (c : Dev nD) (H : (args m c).Hits) (x : (⟨2, ![3584, 128]⟩ : Shape).Idx) :
    (Cert.ReferenceIdeal.Hand.dqR (F := Ideal) (Cert.ReferenceIdeal.Hand.rowsR (args m c).a4 (args m c).a5) (args m c).a2 (args m c).a3 (args m c).a6 x : EReal) = (GQ (inp m c) x : EReal) := by
  rw [eta2 x]
  exact (Cert.ReferenceIdeal.Hand.dqR_apply H _ _).trans (GQ_eq c H _ _).symm

/-- The document gradient of the kernel is the reference's. -/
theorem same_dd (c : Dev nD) (H : (args m c).Hits) (x : (⟨2, ![172032, 128]⟩ : Shape).Idx) :
    (Cert.ReferenceIdeal.Hand.ddR (F := Ideal) (Cert.ReferenceIdeal.Hand.rowsR (args m c).a4 (args m c).a5) (args m c).a0 (args m c).a1 (args m c).a6 x : EReal) = (GG (inp m c) x : EReal) := by
  rw [eta2 x]
  exact (Cert.ReferenceIdeal.Hand.ddR_apply H _ _).trans (GG_eq c H _ _).symm

/-- The two runs end with equal results and unchanged arguments. -/
theorem algebraic : Cert.algebraic_KernelIdeal_ReferenceIdeal_pre_hits_fit := by
  intro m g m' g' pre agree
  have H := fun c => hits_pre c (pre c)
  refine ⟨fun c => GQ (inp m c), fun c => GG (inp m c), ?_, ?_⟩
  · exact (θ_run defs _ _).mono (fun r h => h.1) (run_value m g fun c => ok_of c (H c))
  · refine (θ_run Cert.ReferenceIdeal.defs _ _).mono ?_ (θ_run_and (Cert.ReferenceIdeal.Hand.run_results m' g') (Cert.ReferenceIdeal.Gen.unchanged m' g'))
    intro r h c
    obtain ⟨e0, e1, e2, e3, e4, e5, e6⟩ := agree c
    refine ⟨(h.1 c).1.trans ?_, (h.1 c).2.trans ?_, h.2 c⟩
    · rw [e2, e3, e4, e5, e6]
      exact funext fun x => same_dq m c (H c) x
    · rw [e0, e1, e4, e5, e6]
      exact funext fun x => same_dd m c (H c) x

theorem quiescentHits : Cert.quiescent_KernelIdeal_pre_hits_fit := fun m g pre => Cert.KernelIdeal.Hand.frame m g fun c i => (hits_pre c (pre c)).le i

theorem quiescentRefHits : Cert.quiescent_ReferenceIdeal_pre_hits_fit := fun m g _ => Cert.ReferenceIdeal.Gen.frame m g

end Cert.KernelIdeal.Hand

end
-- ==== Proof.lean ====
module

public import proofs.«01_k».proof.Defs
public import proofs.«01_k».proof.Proof.Gen.ReferenceIdeal
public import proofs.«01_k».proof.Proof.Gen.ReferenceIdeal.Frame
public import proofs.«01_k».proof.Proof.Gen.Kernel.Launch
public import proofs.«01_k».proof.Proof.Gen.Kernel.Skeleton
public import proofs.«01_k».proof.Proof.Gen.Kernel.Loops
public import proofs.«01_k».proof.Proof.Gen.KernelIdeal.Launch
public import proofs.«01_k».proof.Proof.Gen.KernelIdeal.Skeleton
public import proofs.«01_k».proof.Proof.Gen.KernelIdeal.Loops
public import proofs.«01_k».proof.Proof.Frames
public import proofs.«01_k».proof.Proof.Algebraic

@[expose] public section

namespace Cert.Proof

/-- Everything claimed. -/
theorem claim : Cert.Claim :=
  ⟨Cert.Kernel.Gen.facts, Cert.KernelIdeal.Gen.facts, Cert.ReferenceIdeal.Gen.facts, Cert.KernelIdeal.Hand.preLens, Cert.KernelIdeal.Hand.preHits,
    Cert.KernelIdeal.Hand.quiescentKernel, Cert.KernelIdeal.Hand.quiescent, Cert.KernelIdeal.Hand.quiescentHits,
    fun m ρ _ => Cert.ReferenceIdeal.Gen.frame m ρ, Cert.KernelIdeal.Hand.quiescentRefHits, trivial, Cert.KernelIdeal.Hand.algebraic⟩

end Cert.Proof
